-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_boxes_in_order [hPre_boxes_in_order : Cert.Pre_boxes_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_ReferenceIdeal_boxes_in_order [hPre_boxes_in_order : Cert.Pre_boxes_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_boxes_in_order [hKernelIdeal : Cert.KernelIdeal.Facts] [hPre_boxes_in_order : Cert.Pre_boxes_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_boxes_in_order [hReferenceIdeal : Cert.ReferenceIdeal.Facts] [hPre_boxes_in_order : Cert.Pre_boxes_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_v266) = v1 c
          ∧ r.2.mem ((c.tc : Thread Cert.ReferenceIdeal.nD Cert.ReferenceIdeal.τ).loc Cert.ReferenceIdeal.main_v267) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_KernelIdeal_ReferenceIdeal_on_third_result_pre_boxes_in_order [hKernelIdeal : Cert.KernelIdeal.Facts] [hReferenceIdeal : Cert.ReferenceIdeal.Facts] [hPre_boxes_in_order : Cert.Pre_boxes_in_order.Facts] [hOn_third_result : Cert.On_third_result.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1, 1]⟩ : Shape).Idx, (Cert.On_third_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v10_0) i = v0 c i)
          ∧ (∀ i : (⟨2, ![1, 1]⟩ : Shape).Idx, (Cert.On_third_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v10_1) i = v1 c i)
          ∧ (∀ i : (⟨2, ![1, 1]⟩ : Shape).Idx, (Cert.On_third_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.KernelIdeal.nD Cert.KernelIdeal.τ).loc Cert.KernelIdeal.main_v10_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1, 1]⟩ : Shape).Idx, (Cert.On_third_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v265) i = v0 c i)
          ∧ (∀ i : (⟨2, ![1, 1]⟩ : Shape).Idx, (Cert.On_third_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v266) i = v1 c i)
          ∧ (∀ i : (⟨2, ![1, 1]⟩ : Shape).Idx, (Cert.On_third_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.ReferenceIdeal.nD Cert.ReferenceIdeal.τ).loc Cert.ReferenceIdeal.main_v267) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_well_posed : Cert.Pre_well_posed.Facts) (hPre_boxes_in_order : Cert.Pre_boxes_in_order.Facts) (hOn_third_result : Cert.On_third_result.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_KernelIdeal_pre_boxes_in_order (hKernelIdeal := hKernelIdeal) (hPre_boxes_in_order := hPre_boxes_in_order)
    ∧ quiescent_ReferenceIdeal (hReferenceIdeal := hReferenceIdeal)
    ∧ quiescent_ReferenceIdeal_pre_well_posed (hReferenceIdeal := hReferenceIdeal) (hPre_well_posed := hPre_well_posed)
    ∧ quiescent_ReferenceIdeal_pre_boxes_in_order (hReferenceIdeal := hReferenceIdeal) (hPre_boxes_in_order := hPre_boxes_in_order)
    ∧ preserves_Kernel_KernelIdeal
    ∧ algebraic_KernelIdeal_ReferenceIdeal_pre_well_posed (hKernelIdeal := hKernelIdeal) (hReferenceIdeal := hReferenceIdeal) (hPre_well_posed := hPre_well_posed)
    ∧ algebraic_KernelIdeal_ReferenceIdeal_on_third_result_pre_boxes_in_order (hKernelIdeal := hKernelIdeal) (hReferenceIdeal := hReferenceIdeal) (hPre_boxes_in_order := hPre_boxes_in_order) (hOn_third_result := hOn_third_result)
-- ==== On_third_result.lean ====
abbrev S16x20000x4 : Shape := ⟨3, ![16, 20000, 4]⟩
abbrev S16x20000 : Shape := ⟨2, ![16, 20000]⟩
abbrev S20000x4 : Shape := ⟨2, ![20000, 4]⟩
abbrev S16x32x4 : Shape := ⟨3, ![16, 32, 4]⟩
abbrev S_ : Shape := ⟨0, ![]⟩
abbrev S1x1 : Shape := ⟨2, ![1, 1]⟩

class Facts : Prop where
  bcast_S_S1x1 : S_.BroadcastsInDim S1x1 (![] : Fin 0 → Fin S1x1.rank)

variable [Facts]

def fn {F : FTy → Type} [FloatOps F] (main_arg0 : FVec F S16x20000x4 .f32) (main_arg1 : FVec F S16x20000 .f32) (main_arg2 : FVec F S20000x4 .f32) (main_arg3 : FVec F S16x32x4 .f32) : IVec S1x1 1 × IVec S1x1 1 × IVec S1x1 1 :=
  let main_c : IVec S_ 1 := constantI S_ 1 0#1
  let main_v0 : IVec S1x1 1 := broadcastInDim S1x1 ![] bcast_S_S1x1 main_c
  let main_c_0 : IVec S_ 1 := constantI S_ 1 0#1
  let main_v1 : IVec S1x1 1 := broadcastInDim S1x1 ![] bcast_S_S1x1 main_c_0
  let main_c_1 : IVec S_ 1 := constantI S_ 1 1#1
  let main_v2 : IVec S1x1 1 := broadcastInDim S1x1 ![] bcast_S_S1x1 main_c_1
  (main_v0, main_v1, main_v2)
-- ==== Pre_boxes_in_order.lean ====
abbrev S16x20000x4 : Shape := ⟨3, ![16, 20000, 4]⟩
abbrev S16x20000 : Shape := ⟨2, ![16, 20000]⟩
abbrev S20000x4 : Shape := ⟨2, ![20000, 4]⟩
abbrev S16x32x4 : Shape := ⟨3, ![16, 32, 4]⟩
abbrev S_ : Shape := ⟨0, ![]⟩
abbrev S20000x1 : Shape := ⟨2, ![20000, 1]⟩
abbrev S20000 : Shape := ⟨1, ![20000]⟩
abbrev S16x32x1 : Shape := ⟨3, ![16, 32, 1]⟩
abbrev S16x32 : Shape := ⟨2, ![16, 32]⟩

class Facts : Prop where
  bcast_S_S20000x4 : S_.BroadcastsInDim S20000x4 (![] : Fin 0 → Fin S20000x4.rank)
  reducesTo_S20000x4_S_d0_1 : S20000x4.ReducesTo [0, 1] S_
  h_S_ : 0 < S_.numel
  slices_S20000x4_S20000x1_0_0 : S20000x4.Slices ![0, 0] S20000x1
  shapeCasts_S20000x1_S20000 : S20000x1.ShapeCasts S20000
  slices_S20000x4_S20000x1_0_2 : S20000x4.Slices ![0, 2] S20000x1
  reducesTo_S20000_S_d0 : S20000.ReducesTo [0] S_
  slices_S20000x4_S20000x1_0_1 : S20000x4.Slices ![0, 1] S20000x1
  slices_S20000x4_S20000x1_0_3 : S20000x4.Slices ![0, 3] S20000x1
  bcast_S_S16x32x4 : S_.BroadcastsInDim S16x32x4 (![] : Fin 0 → Fin S16x32x4.rank)
  reducesTo_S16x32x4_S_d0_1_2 : S16x32x4.ReducesTo [0, 1, 2] S_
  slices_S16x32x4_S16x32x1_0_0_0 : S16x32x4.Slices ![0, 0, 0] S16x32x1
  shapeCasts_S16x32x1_S16x32 : S16x32x1.ShapeCasts S16x32
  slices_S16x32x4_S16x32x1_0_0_2 : S16x32x4.Slices ![0, 0, 2] S16x32x1
  reducesTo_S16x32_S_d0_1 : S16x32.ReducesTo [0, 1] S_
  slices_S16x32x4_S16x32x1_0_0_1 : S16x32x4.Slices ![0, 0, 1] S16x32x1
  slices_S16x32x4_S16x32x1_0_0_3 : S16x32x4.Slices ![0, 0, 3] S16x32x1

variable [Facts]

def fn_part1 {F : FTy → Type} [FloatOps F] (main_arg3 : FVec F S16x32x4 .f32) (main_v17 : IVec S_ 1) (main_v18 : FVec F S16x32x4 .f32) (main_cst_2 : FVec F S_ .f32) : IVec S_ 1 :=
  let main_v19 : FVec F S16x32x4 .f32 := broadcastInDim S16x32x4 ![] bcast_S_S16x32x4 main_cst_2
  let main_v20 : IVec S16x32x4 1 := cmpf .olt main_v18 main_v19
  let main_c_3 : IVec S_ 1 := constantI S_ 1 1#1
  let main_v21 : IVec S_ 1 := (fun x v => Host.reduce IntOp.andi x v reducesTo_S16x32x4_S_d0_1_2 h_S_) main_v20 main_c_3
  let main_v22 : FVec F S16x32x1 .f32 := (extractStridedSlice S16x32x1 ![0, 0, 0] · slices_S16x32x4_S16x32x1_0_0_0) main_arg3
  let main_v23 : FVec F S16x32 .f32 := shapeCast S16x32 main_v22 shapeCasts_S16x32x1_S16x32
  let main_v24 : FVec F S16x32x1 .f32 := (extractStridedSlice S16x32x1 ![0, 0, 2] · slices_S16x32x4_S16x32x1_0_0_2) main_arg3
  let main_v25 : FVec F S16x32 .f32 := shapeCast S16x32 main_v24 shapeCasts_S16x32x1_S16x32
  let main_v26 : IVec S16x32 1 := cmpf .ole main_v23 main_v25
  let main_c_4 : IVec S_ 1 := constantI S_ 1 1#1
  let main_v27 : IVec S_ 1 := (fun x v => Host.reduce IntOp.andi x v reducesTo_S16x32_S_d0_1 h_S_) main_v26 main_c_4
  let main_v28 : IVec S_ 1 := andi main_v21 main_v27
  let main_v29 : FVec F S16x32x1 .f32 := (extractStridedSlice S16x32x1 ![0, 0, 1] · slices_S16x32x4_S16x32x1_0_0_1) main_arg3
  let main_v30 : FVec F S16x32 .f32 := shapeCast S16x32 main_v29 shapeCasts_S16x32x1_S16x32
  let main_v31 : FVec F S16x32x1 .f32 := (extractStridedSlice S16x32x1 ![0, 0, 3] · slices_S16x32x4_S16x32x1_0_0_3) main_arg3
  let main_v32 : FVec F S16x32 .f32 := shapeCast S16x32 main_v31 shapeCasts_S16x32x1_S16x32
  let main_v33 : IVec S16x32 1 := cmpf .ole main_v30 main_v32
  let main_c_5 : IVec S_ 1 := constantI S_ 1 1#1
  let main_v34 : IVec S_ 1 := (fun x v => Host.reduce IntOp.andi x v reducesTo_S16x32_S_d0_1 h_S_) main_v33 main_c_5
  let main_v35 : IVec S_ 1 := andi main_v28 main_v34
  let main_v36 : IVec S_ 1 := andi main_v17 main_v35
  main_v36

def fn {F : FTy → Type} [FloatOps F] (main_arg0 : FVec F S16x20000x4 .f32) (main_arg1 : FVec F S16x20000 .f32) (main_arg2 : FVec F S20000x4 .f32) (main_arg3 : FVec F S16x32x4 .f32) : IVec S_ 1 :=
  let main_v0 : FVec F S20000x4 .f32 := Host.absf main_arg2
  let main_cst : FVec F S_ .f32 := constant S_ .f32 0x7F800000#32
  let main_v1 : FVec F S20000x4 .f32 := broadcastInDim S20000x4 ![] bcast_S_S20000x4 main_cst
  let main_v2 : IVec S20000x4 1 := cmpf .olt main_v0 main_v1
  let main_c : IVec S_ 1 := constantI S_ 1 1#1
  let main_v3 : IVec S_ 1 := (fun x v => Host.reduce IntOp.andi x v reducesTo_S20000x4_S_d0_1 h_S_) main_v2 main_c
  let main_v4 : FVec F S20000x1 .f32 := (extractStridedSlice S20000x1 ![0, 0] · slices_S20000x4_S20000x1_0_0) main_arg2
  let main_v5 : FVec F S20000 .f32 := shapeCast S20000 main_v4 shapeCasts_S20000x1_S20000
  let main_v6 : FVec F S20000x1 .f32 := (extractStridedSlice S20000x1 ![0, 2] · slices_S20000x4_S20000x1_0_2) main_arg2
  let main_v7 : FVec F S20000 .f32 := shapeCast S20000 main_v6 shapeCasts_S20000x1_S20000
  let main_v8 : IVec S20000 1 := cmpf .ole main_v5 main_v7
  let main_c_0 : IVec S_ 1 := constantI S_ 1 1#1
  let main_v9 : IVec S_ 1 := (fun x v => Host.reduce IntOp.andi x v reducesTo_S20000_S_d0 h_S_) main_v8 main_c_0
  let main_v10 : IVec S_ 1 := andi main_v3 main_v9
  let main_v11 : FVec F S20000x1 .f32 := (extractStridedSlice S20000x1 ![0, 1] · slices_S20000x4_S20000x1_0_1) main_arg2
  let main_v12 : FVec F S20000 .f32 := shapeCast S20000 main_v11 shapeCasts_S20000x1_S20000
  let main_v13 : FVec F S20000x1 .f32 := (extractStridedSlice S20000x1 ![0, 3] · slices_S20000x4_S20000x1_0_3) main_arg2
  let main_v14 : FVec F S20000 .f32 := shapeCast S20000 main_v13 shapeCasts_S20000x1_S20000
  let main_v15 : IVec S20000 1 := cmpf .ole main_v12 main_v14
  let main_c_1 : IVec S_ 1 := constantI S_ 1 1#1
  let main_v16 : IVec S_ 1 := (fun x v => Host.reduce IntOp.andi x v reducesTo_S20000_S_d0 h_S_) main_v15 main_c_1
  let main_v17 : IVec S_ 1 := andi main_v10 main_v16
  let main_v18 : FVec F S16x32x4 .f32 := Host.absf main_arg3
  let main_cst_2 : FVec F S_ .f32 := constant S_ .f32 0x7F800000#32
  fn_part1 (F := F) main_arg3 main_v17 main_v18 main_cst_2
-- ==== Pre_well_posed.lean ====
abbrev S16x20000x4 : Shape := ⟨3, ![16, 20000, 4]⟩
abbrev S16x20000 : Shape := ⟨2, ![16, 20000]⟩
abbrev S20000x4 : Shape := ⟨2, ![20000, 4]⟩
abbrev S16x32x4 : Shape := ⟨3, ![16, 32, 4]⟩
abbrev S_ : Shape := ⟨0, ![]⟩
abbrev S20000x1 : Shape := ⟨2, ![20000, 1]⟩
abbrev S20000 : Shape := ⟨1, ![20000]⟩
abbrev S16x32x1 : Shape := ⟨3, ![16, 32, 1]⟩
abbrev S16x32 : Shape := ⟨2, ![16, 32]⟩

class Facts : Prop where
  bcast_S_S16x20000 : S_.BroadcastsInDim S16x20000 (![] : Fin 0 → Fin S16x20000.rank)
  reducesTo_S16x20000_S_d0_1 : S16x20000.ReducesTo [0, 1] S_
  h_S_ : 0 < S_.numel
  bcast_S_S20000x4 : S_.BroadcastsInDim S20000x4 (![] : Fin 0 → Fin S20000x4.rank)
  reducesTo_S20000x4_S_d0_1 : S20000x4.ReducesTo [0, 1] S_
  slices_S20000x4_S20000x1_0_0 : S20000x4.Slices ![0, 0] S20000x1
  shapeCasts_S20000x1_S20000 : S20000x1.ShapeCasts S20000
  slices_S20000x4_S20000x1_0_2 : S20000x4.Slices ![0, 2] S20000x1
  reducesTo_S20000_S_d0 : S20000.ReducesTo [0] S_
  slices_S20000x4_S20000x1_0_1 : S20000x4.Slices ![0, 1] S20000x1
  slices_S20000x4_S20000x1_0_3 : S20000x4.Slices ![0, 3] S20000x1
  bcast_S_S16x32x4 : S_.BroadcastsInDim S16x32x4 (![] : Fin 0 → Fin S16x32x4.rank)
  reducesTo_S16x32x4_S_d0_1_2 : S16x32x4.ReducesTo [0, 1, 2] S_
  slices_S16x32x4_S16x32x1_0_0_0 : S16x32x4.Slices ![0, 0, 0] S16x32x1
  shapeCasts_S16x32x1_S16x32 : S16x32x1.ShapeCasts S16x32
  slices_S16x32x4_S16x32x1_0_0_2 : S16x32x4.Slices ![0, 0, 2] S16x32x1
  reducesTo_S16x32_S_d0_1 : S16x32.ReducesTo [0, 1] S_
  slices_S16x32x4_S16x32x1_0_0_1 : S16x32x4.Slices ![0, 0, 1] S16x32x1
  slices_S16x32x4_S16x32x1_0_0_3 : S16x32x4.Slices ![0, 0, 3] S16x32x1

variable [Facts]

def fn_part2 {F : FTy → Type} [FloatOps F] (main_arg3 : FVec F S16x32x4 .f32) (main_v29 : IVec S_ 1) (main_v33 : IVec S_ 1) (main_v35 : FVec F S16x32 .f32) (main_v37 : FVec F S16x32 .f32) : IVec S_ 1 :=
  let main_v38 : IVec S16x32 1 := cmpf .ole main_v35 main_v37
  let main_c_8 : IVec S_ 1 := constantI S_ 1 1#1
  let main_v39 : IVec S_ 1 := (fun x v => Host.reduce IntOp.andi x v reducesTo_S16x32_S_d0_1 h_S_) main_v38 main_c_8
  let main_v40 : IVec S_ 1 := andi main_v33 main_v39
  let main_v41 : FVec F S16x32x1 .f32 := (extractStridedSlice S16x32x1 ![0, 0, 1] · slices_S16x32x4_S16x32x1_0_0_1) main_arg3
  let main_v42 : FVec F S16x32 .f32 := shapeCast S16x32 main_v41 shapeCasts_S16x32x1_S16x32
  let main_v43 : FVec F S16x32x1 .f32 := (extractStridedSlice S16x32x1 ![0, 0, 3] · slices_S16x32x4_S16x32x1_0_0_3) main_arg3
  let main_v44 : FVec F S16x32 .f32 := shapeCast S16x32 main_v43 shapeCasts_S16x32x1_S16x32
  let main_v45 : IVec S16x32 1 := cmpf .ole main_v42 main_v44
  let main_c_9 : IVec S_ 1 := constantI S_ 1 1#1
  let main_v46 : IVec S_ 1 := (fun x v => Host.reduce IntOp.andi x v reducesTo_S16x32_S_d0_1 h_S_) main_v45 main_c_9
  let main_v47 : IVec S_ 1 := andi main_v40 main_v46
  let main_v48 : IVec S_ 1 := andi main_v29 main_v47
  main_v48

def fn_part1 {F : FTy → Type} [FloatOps F] (main_arg2 : FVec F S20000x4 .f32) (main_arg3 : FVec F S16x32x4 .f32) (main_v10 : IVec S_ 1) (main_v14 : IVec S_ 1) (main_v16 : FVec F S20000 .f32) (main_v17 : FVec F S20000x1 .f32) : IVec S_ 1 :=
  let main_v18 : FVec F S20000 .f32 := shapeCast S20000 main_v17 shapeCasts_S20000x1_S20000
  let main_v19 : IVec S20000 1 := cmpf .ole main_v16 main_v18
  let main_c_4 : IVec S_ 1 := constantI S_ 1 1#1
  let main_v20 : IVec S_ 1 := (fun x v => Host.reduce IntOp.andi x v reducesTo_S20000_S_d0 h_S_) main_v19 main_c_4
  let main_v21 : IVec S_ 1 := andi main_v14 main_v20
  let main_v22 : FVec F S20000x1 .f32 := (extractStridedSlice S20000x1 ![0, 1] · slices_S20000x4_S20000x1_0_1) main_arg2
  let main_v23 : FVec F S20000 .f32 := shapeCast S20000 main_v22 shapeCasts_S20000x1_S20000
  let main_v24 : FVec F S20000x1 .f32 := (extractStridedSlice S20000x1 ![0, 3] · slices_S20000x4_S20000x1_0_3) main_arg2
  let main_v25 : FVec F S20000 .f32 := shapeCast S20000 main_v24 shapeCasts_S20000x1_S20000
  let main_v26 : IVec S20000 1 := cmpf .ole main_v23 main_v25
  let main_c_5 : IVec S_ 1 := constantI S_ 1 1#1
  let main_v27 : IVec S_ 1 := (fun x v => Host.reduce IntOp.andi x v reducesTo_S20000_S_d0 h_S_) main_v26 main_c_5
  let main_v28 : IVec S_ 1 := andi main_v21 main_v27
  let main_v29 : IVec S_ 1 := andi main_v10 main_v28
  let main_v30 : FVec F S16x32x4 .f32 := Host.absf main_arg3
  let main_cst_6 : FVec F S_ .f32 := constant S_ .f32 0x7F800000#32
  let main_v31 : FVec F S16x32x4 .f32 := broadcastInDim S16x32x4 ![] bcast_S_S16x32x4 main_cst_6
  let main_v32 : IVec S16x32x4 1 := cmpf .olt main_v30 main_v31
  let main_c_7 : IVec S_ 1 := constantI S_ 1 1#1
  let main_v33 : IVec S_ 1 := (fun x v => Host.reduce IntOp.andi x v reducesTo_S16x32x4_S_d0_1_2 h_S_) main_v32 main_c_7
  let main_v34 : FVec F S16x32x1 .f32 := (extractStridedSlice S16x32x1 ![0, 0, 0] · slices_S16x32x4_S16x32x1_0_0_0) main_arg3
  let main_v35 : FVec F S16x32 .f32 := shapeCast S16x32 main_v34 shapeCasts_S16x32x1_S16x32
  let main_v36 : FVec F S16x32x1 .f32 := (extractStridedSlice S16x32x1 ![0, 0, 2] · slices_S16x32x4_S16x32x1_0_0_2) main_arg3
  let main_v37 : FVec F S16x32 .f32 := shapeCast S16x32 main_v36 shapeCasts_S16x32x1_S16x32
  fn_part2 (F := F) main_arg3 main_v29 main_v33 main_v35 main_v37

def fn {F : FTy → Type} [FloatOps F] (main_arg0 : FVec F S16x20000x4 .f32) (main_arg1 : FVec F S16x20000 .f32) (main_arg2 : FVec F S20000x4 .f32) (main_arg3 : FVec F S16x32x4 .f32) : IVec S_ 1 :=
  let main_cst : FVec F S_ .f32 := constant S_ .f32 0x50800000#32
  let main_v0 : FVec F S16x20000 .f32 := broadcastInDim S16x20000 ![] bcast_S_S16x20000 main_cst
  let main_v1 : FVec F S16x20000 .f32 := mulf main_arg1 main_v0
  let main_cst_0 : FVec F S_ .f32 := constant S_ .f32 0x00000000#32
  let main_v2 : FVec F S16x20000 .f32 := broadcastInDim S16x20000 ![] bcast_S_S16x20000 main_cst_0
  let main_v3 : IVec S16x20000 1 := cmpf .ogt main_arg1 main_v2
  let main_cst_1 : FVec F S_ .f32 := constant S_ .f32 0x3F800000#32
  let main_v4 : FVec F S16x20000 .f32 := broadcastInDim S16x20000 ![] bcast_S_S16x20000 main_cst_1
  let main_v5 : IVec S16x20000 1 := cmpf .olt main_arg1 main_v4
  let main_v6 : IVec S16x20000 1 := andi main_v3 main_v5
  let main_v7 : FVec F S16x20000 .f32 := Host.floor main_v1
  let main_v8 : IVec S16x20000 1 := cmpf .oeq main_v7 main_v1
  let main_v9 : IVec S16x20000 1 := andi main_v6 main_v8
  let main_c : IVec S_ 1 := constantI S_ 1 1#1
  let main_v10 : IVec S_ 1 := (fun x v => Host.reduce IntOp.andi x v reducesTo_S16x20000_S_d0_1 h_S_) main_v9 main_c
  let main_v11 : FVec F S20000x4 .f32 := Host.absf main_arg2
  let main_cst_2 : FVec F S_ .f32 := constant S_ .f32 0x7F800000#32
  let main_v12 : FVec F S20000x4 .f32 := broadcastInDim S20000x4 ![] bcast_S_S20000x4 main_cst_2
  let main_v13 : IVec S20000x4 1 := cmpf .olt main_v11 main_v12
  let main_c_3 : IVec S_ 1 := constantI S_ 1 1#1
  let main_v14 : IVec S_ 1 := (fun x v => Host.reduce IntOp.andi x v reducesTo_S20000x4_S_d0_1 h_S_) main_v13 main_c_3
  let main_v15 : FVec F S20000x1 .f32 := (extractStridedSlice S20000x1 ![0, 0] · slices_S20000x4_S20000x1_0_0) main_arg2
  let main_v16 : FVec F S20000 .f32 := shapeCast S20000 main_v15 shapeCasts_S20000x1_S20000
  let main_v17 : FVec F S20000x1 .f32 := (extractStridedSlice S20000x1 ![0, 2] · slices_S20000x4_S20000x1_0_2) main_arg2
  fn_part1 (F := F) main_arg2 main_arg3 main_v10 main_v14 main_v16 main_v17
-- ==== Kernel.lean ====
abbrev S16x20000x4 : Shape := ⟨3, ![16, 20000, 4]⟩
abbrev S16x20000 : Shape := ⟨2, ![16, 20000]⟩
abbrev S20000x4 : Shape := ⟨2, ![20000, 4]⟩
abbrev S16x32x4 : Shape := ⟨3, ![16, 32, 4]⟩
abbrev S16x4x20000 : Shape := ⟨3, ![16, 4, 20000]⟩
abbrev S_ : Shape := ⟨0, ![]⟩
abbrev S16x4x20480 : Shape := ⟨3, ![16, 4, 20480]⟩
abbrev S16x4x8x2560 : Shape := ⟨4, ![16, 4, 8, 2560]⟩
abbrev S4x20000 : Shape := ⟨2, ![4, 20000]⟩
abbrev S4x20480 : Shape := ⟨2, ![4, 20480]⟩
abbrev S4x8x2560 : Shape := ⟨3, ![4, 8, 2560]⟩
abbrev S16x20480 : Shape := ⟨2, ![16, 20480]⟩
abbrev S16x8x2560 : Shape := ⟨3, ![16, 8, 2560]⟩
abbrev S16x4x32 : Shape := ⟨3, ![16, 4, 32]⟩
abbrev S16x4x32x1x1 : Shape := ⟨5, ![16, 4, 32, 1, 1]⟩
abbrev S1x1 : Shape := ⟨2, ![1, 1]⟩
abbrev S4x4x8x2560 : Shape := ⟨4, ![4, 4, 8, 2560]⟩
abbrev S4x4x32x1x1 : Shape := ⟨5, ![4, 4, 32, 1, 1]⟩
abbrev S4 : Shape := ⟨1, ![4]⟩
abbrev S1 : Shape := ⟨1, ![1]⟩
abbrev S1x8x2560 : Shape := ⟨3, ![1, 8, 2560]⟩
abbrev S8x2560 : Shape := ⟨2, ![8, 2560]⟩
abbrev S1x1x8x2560 : Shape := ⟨4, ![1, 1, 8, 2560]⟩
abbrev S1x1x32x1x1 : Shape := ⟨5, ![1, 1, 32, 1, 1]⟩
abbrev S32x1x1 : Shape := ⟨3, ![32, 1, 1]⟩
abbrev S32x8x2560 : Shape := ⟨3, ![32, 8, 2560]⟩
abbrev S1x1x1 : Shape := ⟨3, ![1, 1, 1]⟩
abbrev S32x8 : Shape := ⟨2, ![32, 8]⟩
abbrev S32 : Shape := ⟨1, ![32]⟩
abbrev S32x1 : Shape := ⟨2, ![32, 1]⟩
abbrev S32x32 : Shape := ⟨2, ![32, 32]⟩
abbrev S1x32 : Shape := ⟨2, ![1, 32]⟩
abbrev S1x32x1 : Shape := ⟨3, ![1, 32, 1]⟩

abbrev nBuf : Space → Nat
  | .hbm => 23
  | .vmem => 10
  | .smem => 1
  | _ => 0

abbrev bufTy : (tb : Table) → Fin (tcTables nBuf tb) → BufTy
  | .hbm, ⟨0, _⟩ => ⟨S16x20000x4, .f32⟩
  | .hbm, ⟨1, _⟩ => ⟨S16x20000, .f32⟩
  | .hbm, ⟨2, _⟩ => ⟨S20000x4, .f32⟩
  | .hbm, ⟨3, _⟩ => ⟨S16x32x4, .f32⟩
  | .hbm, ⟨4, _⟩ => ⟨S16x4x20000, .f32⟩
  | .hbm, ⟨5, _⟩ => ⟨S_, .i32⟩
  | .hbm, ⟨6, _⟩ => ⟨S_, .f32⟩
  | .hbm, ⟨7, _⟩ => ⟨S16x4x20480, .f32⟩
  | .hbm, ⟨8, _⟩ => ⟨S16x4x8x2560, .f32⟩
  | .hbm, ⟨9, _⟩ => ⟨S4x20000, .f32⟩
  | .hbm, ⟨10, _⟩ => ⟨S_, .i32⟩
  | .hbm, ⟨11, _⟩ => ⟨S_, .f32⟩
  | .hbm, ⟨12, _⟩ => ⟨S4x20480, .f32⟩
  | .hbm, ⟨13, _⟩ => ⟨S4x8x2560, .f32⟩
  | .hbm, ⟨14, _⟩ => ⟨S_, .f32⟩
  | .hbm, ⟨15, _⟩ => ⟨S_, .f32⟩
  | .hbm, ⟨16, _⟩ => ⟨S16x20480, .f32⟩
  | .hbm, ⟨17, _⟩ => ⟨S16x8x2560, .f32⟩
  | .hbm, ⟨18, _⟩ => ⟨S16x4x32, .f32⟩
  | .hbm, ⟨19, _⟩ => ⟨S16x4x32x1x1, .f32⟩
  | .hbm, ⟨20, _⟩ => ⟨S1x1, .f32⟩
  | .hbm, ⟨21, _⟩ => ⟨S1x1, .f32⟩
  | .hbm, ⟨22, _⟩ => ⟨S1x1, .f32⟩
  | .local _ .vmem, ⟨0, _⟩ => ⟨S4x8x2560, .f32⟩
  | .local _ .vmem, ⟨1, _⟩ => ⟨S4x4x8x2560, .f32⟩
  | .local _ .vmem, ⟨2, _⟩ => ⟨S4x4x8x2560, .f32⟩
  | .local _ .vmem, ⟨3, _⟩ => ⟨S4x8x2560, .f32⟩
  | .local _ .vmem, ⟨4, _⟩ => ⟨S4x8x2560, .f32⟩
  | .local _ .vmem, ⟨5, _⟩ => ⟨S4x4x32x1x1, .f32⟩
  | .local _ .vmem, ⟨6, _⟩ => ⟨S4x4x32x1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .smem, ⟨0, _⟩ => ⟨S4, .f32⟩
  | _, _ => ⟨S16x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_518 : BitVec 32 := 0#32
  let c34_i32 : BitVec 32 := 34#32
  let v1355 : BitVec 32 := Scalar.addi c0_i32_518 c34_i32
  let c1_i32 : BitVec 32 := 1#32
  ⟨c0_i32_518, v1355, c1_i32⟩
def k0_cond2 (i : grid0.Coords) : BitVec 1 :=
  let arg0 : BitVec 32 := BitVec.ofNat 32 (i 0).val
  let c3_i32 : BitVec 32 := 3#32
  let v1698 : BitVec 1 := Scalar.cmpi .eq arg0 c3_i32
  let v1699 : BitVec 32 := Scalar.extui v1698
  let c0_i32_572 : BitVec 32 := 0#32
  let v1700 : BitVec 1 := Scalar.cmpi .ne v1699 c0_i32_572
  v1700

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x8x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x4x8x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4x32x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x20000x4 : Shape := ⟨3, ![16, 20000, 4]⟩
abbrev S16x20000 : Shape := ⟨2, ![16, 20000]⟩
abbrev S20000x4 : Shape := ⟨2, ![20000, 4]⟩
abbrev S16x32x4 : Shape := ⟨3, ![16, 32, 4]⟩
abbrev S20000x1 : Shape := ⟨2, ![20000, 1]⟩
abbrev S20000 : Shape := ⟨1, ![20000]⟩
abbrev S1x20000x1 : Shape := ⟨3, ![1, 20000, 1]⟩
abbrev S16x32x1 : Shape := ⟨3, ![16, 32, 1]⟩
abbrev S16x32 : Shape := ⟨2, ![16, 32]⟩
abbrev S16x1x32 : Shape := ⟨3, ![16, 1, 32]⟩
abbrev S16x20000x32 : Shape := ⟨3, ![16, 20000, 32]⟩
abbrev S_ : Shape := ⟨0, ![]⟩
abbrev S16 : Shape := ⟨1, ![16]⟩
abbrev S16x20000x1 : Shape := ⟨3, ![16, 20000, 1]⟩
abbrev S1 : Shape := ⟨1, ![1]⟩
abbrev S1x1x1 : Shape := ⟨3, ![1, 1, 1]⟩
abbrev S1x20000 : Shape := ⟨2, ![1, 20000]⟩
abbrev S16x1 : Shape := ⟨2, ![16, 1]⟩
abbrev S1x1 : Shape := ⟨2, ![1, 1]⟩

abbrev nBuf : Space → Nat
  | .hbm => 353
  | .vmem => 0
  | .smem => 0
  | _ => 0

abbrev hbmTy0_0 (i : Nat) : BufTy := match i % 128 with
  | 0 => ⟨S16x20000x4, .f32⟩
  | 1 => ⟨S16x20000, .f32⟩
  | 2 => ⟨S20000x4, .f32⟩
  | 3 => ⟨S16x32x4, .f32⟩
  | 4 => ⟨S20000x1, .f32⟩
  | 5 => ⟨S20000, .f32⟩
  | 6 => ⟨S1x20000x1, .f32⟩
  | 7 => ⟨S20000x1, .f32⟩
  | 8 => ⟨S20000, .f32⟩
  | 9 => ⟨S1x20000x1, .f32⟩
  | 10 => ⟨S20000x1, .f32⟩
  | 11 => ⟨S20000, .f32⟩
  | 12 => ⟨S1x20000x1, .f32⟩
  | 13 => ⟨S20000x1, .f32⟩
  | 14 => ⟨S20000, .f32⟩
  | 15 => ⟨S1x20000x1, .f32⟩
  | 16 => ⟨S16x32x1, .f32⟩
  | 17 => ⟨S16x32, .f32⟩
  | 18 => ⟨S16x1x32, .f32⟩
  | 19 => ⟨S16x32x1, .f32⟩
  | 20 => ⟨S16x32, .f32⟩
  | 21 => ⟨S16x1x32, .f32⟩
  | 22 => ⟨S16x32x1, .f32⟩
  | 23 => ⟨S16x32, .f32⟩
  | 24 => ⟨S16x1x32, .f32⟩
  | 25 => ⟨S16x32x1, .f32⟩
  | 26 => ⟨S16x32, .f32⟩
  | 27 => ⟨S16x1x32, .f32⟩
  | 28 => ⟨S16x20000x32, .f32⟩
  | 29 => ⟨S16x20000x32, .f32⟩
  | 30 => ⟨S16x20000x32, .f32⟩
  | 31 => ⟨S16x20000x32, .f32⟩
  | 32 => ⟨S16x20000x32, .f32⟩
  | 33 => ⟨S16x20000x32, .f32⟩
  | 34 => ⟨S16x20000x32, .f32⟩
  | 35 => ⟨S_, .f32⟩
  | 36 => ⟨S16x20000x32, .f32⟩
  | 37 => ⟨S16x20000x32, .f32⟩
  | 38 => ⟨S16x20000x32, .f32⟩
  | 39 => ⟨S16x20000x32, .f32⟩
  | 40 => ⟨S16x20000x32, .f32⟩
  | 41 => ⟨S16x20000x32, .f32⟩
  | 42 => ⟨S16x20000x32, .f32⟩
  | 43 => ⟨S16x20000x32, .f32⟩
  | 44 => ⟨S16x20000x32, .f32⟩
  | 45 => ⟨S_, .f32⟩
  | 46 => ⟨S16x20000x32, .f32⟩
  | 47 => ⟨S16x20000x32, .f32⟩
  | 48 => ⟨S16x20000x32, .f32⟩
  | 49 => ⟨S1x20000x1, .f32⟩
  | 50 => ⟨S1x20000x1, .f32⟩
  | 51 => ⟨S1x20000x1, .f32⟩
  | 52 => ⟨S16x1x32, .f32⟩
  | 53 => ⟨S16x1x32, .f32⟩
  | 54 => ⟨S16x1x32, .f32⟩
  | 55 => ⟨S16x20000x32, .f32⟩
  | 56 => ⟨S16x20000x32, .f32⟩
  | 57 => ⟨S16x20000x32, .f32⟩
  | 58 => ⟨S16x20000x32, .f32⟩
  | 59 => ⟨S_, .f32⟩
  | 60 => ⟨S16x20000x32, .f32⟩
  | 61 => ⟨S16x20000x32, .f32⟩
  | 62 => ⟨S16x20000x32, .f32⟩
  | 63 => ⟨S16x20000x32, .i32⟩
  | 64 => ⟨S_, .f32⟩
  | 65 => ⟨S_, .i32⟩
  | 66 => ⟨S16x20000, .f32⟩
  | 67 => ⟨S16x20000, .i32⟩
  | 68 => ⟨S16x20000x32, .i32⟩
  | 69 => ⟨S_, .f32⟩
  | 70 => ⟨S_, .i32⟩
  | 71 => ⟨S16x32, .f32⟩
  | 72 => ⟨S16x32, .i32⟩
  | 73 => ⟨S16x1x32, .i32⟩
  | 74 => ⟨S20000, .i32⟩
  | 75 => ⟨S1x20000x1, .i32⟩
  | 76 => ⟨S16x20000x32, .i32⟩
  | 77 => ⟨S16x20000x32, .i32⟩
  | 78 => ⟨S16x20000x32, .i1⟩
  | 79 => ⟨S_, .i1⟩
  | 80 => ⟨S16x20000, .i1⟩
  | 81 => ⟨S_, .f32⟩
  | 82 => ⟨S16x20000, .f32⟩
  | 83 => ⟨S_, .f32⟩
  | 84 => ⟨S16x20000, .f32⟩
  | 85 => ⟨S16x20000, .i1⟩
  | 86 => ⟨S16x20000, .i1⟩
  | 87 => ⟨S16x20000, .f32⟩
  | 88 => ⟨S16x20000, .i32⟩
  | 89 => ⟨S_, .i32⟩
  | 90 => ⟨S16, .i32⟩
  | 91 => ⟨S16x20000x1, .i32⟩
  | 92 => ⟨S_, .i32⟩
  | 93 => ⟨S16x20000x1, .i32⟩
  | 94 => ⟨S16x20000x1, .i1⟩
  | 95 => ⟨S_, .i32⟩
  | 96 => ⟨S16x20000x1, .i32⟩
  | 97 => ⟨S16x20000x1, .i32⟩
  | 98 => ⟨S16x20000x1, .i32⟩
  | 99 => ⟨S1, .i32⟩
  | 100 => ⟨S_, .i32⟩
  | 101 => ⟨S16x20000x1, .i32⟩
  | 102 => ⟨S16x20000x1, .i1⟩
  | 103 => ⟨S1x1x1, .i32⟩
  | 104 => ⟨S16x20000x1, .i32⟩
  | 105 => ⟨S16x20000x1, .i1⟩
  | 106 => ⟨S16x20000x1, .i1⟩
  | 107 => ⟨S_, .i1⟩
  | 108 => ⟨S16x20000, .i1⟩
  | 109 => ⟨S16x20000x4, .f32⟩
  | 110 => ⟨S16x20000x4, .i1⟩
  | 111 => ⟨S_, .f32⟩
  | 112 => ⟨S16x20000x4, .f32⟩
  | 113 => ⟨S16x20000x4, .f32⟩
  | 114 => ⟨S16x20000x1, .f32⟩
  | 115 => ⟨S16x20000, .f32⟩
  | 116 => ⟨S16x20000x1, .f32⟩
  | 117 => ⟨S16x20000, .f32⟩
  | 118 => ⟨S16x20000x1, .f32⟩
  | 119 => ⟨S16x20000, .f32⟩
  | 120 => ⟨S16x20000x1, .f32⟩
  | 121 => ⟨S16x20000, .f32⟩
  | 122 => ⟨S16x20000x1, .f32⟩
  | 123 => ⟨S16x20000, .f32⟩
  | 124 => ⟨S16x20000x1, .f32⟩
  | 125 => ⟨S16x20000, .f32⟩
  | 126 => ⟨S16x20000x1, .f32⟩
  | 127 => ⟨S16x20000, .f32⟩
  | _ => ⟨S16x20000x4, .f32⟩

abbrev hbmTy0_1 (i : Nat) : BufTy := match i % 128 with
  | 0 => ⟨S16x20000x1, .f32⟩
  | 1 => ⟨S16x20000, .f32⟩
  | 2 => ⟨S16x20000, .f32⟩
  | 3 => ⟨S_, .f32⟩
  | 4 => ⟨S16x20000, .f32⟩
  | 5 => ⟨S16x20000, .f32⟩
  | 6 => ⟨S16x20000, .f32⟩
  | 7 => ⟨S_, .f32⟩
  | 8 => ⟨S16x20000, .f32⟩
  | 9 => ⟨S16x20000, .f32⟩
  | 10 => ⟨S16x20000, .f32⟩
  | 11 => ⟨S16x20000, .f32⟩
  | 12 => ⟨S_, .f32⟩
  | 13 => ⟨S16x20000, .f32⟩
  | 14 => ⟨S16x20000, .f32⟩
  | 15 => ⟨S16x20000, .f32⟩
  | 16 => ⟨S_, .f32⟩
  | 17 => ⟨S16x20000, .f32⟩
  | 18 => ⟨S16x20000, .f32⟩
  | 19 => ⟨S16x20000, .f32⟩
  | 20 => ⟨S16x20000, .f32⟩
  | 21 => ⟨S16x20000, .f32⟩
  | 22 => ⟨S16x20000, .f32⟩
  | 23 => ⟨S16x20000, .f32⟩
  | 24 => ⟨S16x20000, .f32⟩
  | 25 => ⟨S16x20000, .f32⟩
  | 26 => ⟨S16x20000, .f32⟩
  | 27 => ⟨S16x20000, .f32⟩
  | 28 => ⟨S16x20000, .f32⟩
  | 29 => ⟨S_, .f32⟩
  | 30 => ⟨S16x20000, .f32⟩
  | 31 => ⟨S16x20000, .f32⟩
  | 32 => ⟨S16x20000, .f32⟩
  | 33 => ⟨S16x20000, .f32⟩
  | 34 => ⟨S16x20000, .f32⟩
  | 35 => ⟨S_, .f32⟩
  | 36 => ⟨S16x20000, .f32⟩
  | 37 => ⟨S16x20000, .f32⟩
  | 38 => ⟨S16x20000, .f32⟩
  | 39 => ⟨S16x20000, .f32⟩
  | 40 => ⟨S16x20000, .f32⟩
  | 41 => ⟨S16x20000, .f32⟩
  | 42 => ⟨S16x20000, .f32⟩
  | 43 => ⟨S16x20000, .f32⟩
  | 44 => ⟨S16x20000, .f32⟩
  | 45 => ⟨S16x20000, .f32⟩
  | 46 => ⟨S16x20000, .f32⟩
  | 47 => ⟨S_, .f32⟩
  | 48 => ⟨S16x20000, .f32⟩
  | 49 => ⟨S16x20000, .f32⟩
  | 50 => ⟨S16x20000, .f32⟩
  | 51 => ⟨S_, .f32⟩
  | 52 => ⟨S16x20000, .f32⟩
  | 53 => ⟨S16x20000, .f32⟩
  | 54 => ⟨S16x20000, .f32⟩
  | 55 => ⟨S16x20000, .f32⟩
  | 56 => ⟨S16x20000, .f32⟩
  | 57 => ⟨S16x20000, .f32⟩
  | 58 => ⟨S16x20000, .f32⟩
  | 59 => ⟨S16x20000, .f32⟩
  | 60 => ⟨S_, .f32⟩
  | 61 => ⟨S16x20000, .f32⟩
  | 62 => ⟨S16x20000, .f32⟩
  | 63 => ⟨S16x20000, .f32⟩
  | 64 => ⟨S16x20000, .f32⟩
  | 65 => ⟨S16x20000, .f32⟩
  | 66 => ⟨S_, .f32⟩
  | 67 => ⟨S_, .f32⟩
  | 68 => ⟨S_, .f32⟩
  | 69 => ⟨S16x20000, .f32⟩
  | 70 => ⟨S16x20000, .f32⟩
  | 71 => ⟨S16x20000, .f32⟩
  | 72 => ⟨S16x20000, .f32⟩
  | 73 => ⟨S_, .f32⟩
  | 74 => ⟨S16x20000, .f32⟩
  | 75 => ⟨S16x20000, .f32⟩
  | 76 => ⟨S_, .f32⟩
  | 77 => ⟨S16x20000, .f32⟩
  | 78 => ⟨S16x20000, .f32⟩
  | 79 => ⟨S_, .f32⟩
  | 80 => ⟨S16x20000, .f32⟩
  | 81 => ⟨S16x20000, .f32⟩
  | 82 => ⟨S16x20000, .f32⟩
  | 83 => ⟨S16x20000, .f32⟩
  | 84 => ⟨S16x20000, .f32⟩
  | 85 => ⟨S16x20000, .f32⟩
  | 86 => ⟨S_, .f32⟩
  | 87 => ⟨S16x20000, .f32⟩
  | 88 => ⟨S16x20000, .f32⟩
  | 89 => ⟨S16x20000, .f32⟩
  | 90 => ⟨S_, .i32⟩
  | 91 => ⟨S16, .i32⟩
  | 92 => ⟨S16, .i32⟩
  | 93 => ⟨S_, .i32⟩
  | 94 => ⟨S16, .i32⟩
  | 95 => ⟨S16, .i32⟩
  | 96 => ⟨S16, .i32⟩
  | 97 => ⟨S_, .f32⟩
  | 98 => ⟨S16x20000, .f32⟩
  | 99 => ⟨S16x20000, .f32⟩
  | 100 => ⟨S_, .f32⟩
  | 101 => ⟨S16x20000, .f32⟩
  | 102 => ⟨S16x20000, .f32⟩
  | 103 => ⟨S16x20000, .f32⟩
  | 104 => ⟨S16x20000, .f32⟩
  | 105 => ⟨S_, .f32⟩
  | 106 => ⟨S16x20000, .f32⟩
  | 107 => ⟨S16x20000, .f32⟩
  | 108 => ⟨S16x20000, .f32⟩
  | 109 => ⟨S_, .f32⟩
  | 110 => ⟨S16x20000, .f32⟩
  | 111 => ⟨S16x20000, .f32⟩
  | 112 => ⟨S_, .f32⟩
  | 113 => ⟨S16x20000, .f32⟩
  | 114 => ⟨S16x20000, .f32⟩
  | 115 => ⟨S_, .f32⟩
  | 116 => ⟨S16x20000, .f32⟩
  | 117 => ⟨S16x20000, .f32⟩
  | 118 => ⟨S16x20000, .f32⟩
  | 119 => ⟨S16x20000, .f32⟩
  | 120 => ⟨S16x20000, .f32⟩
  | 121 => ⟨S16x20000, .f32⟩
  | 122 => ⟨S16x20000, .f32⟩
  | 123 => ⟨S16x20000, .f32⟩
  | 124 => ⟨S16x20000, .f32⟩
  | 125 => ⟨S16x20000, .f32⟩
  | 126 => ⟨S_, .f32⟩
  | 127 => ⟨S16x20000, .f32⟩
  | _ => ⟨S16x20000x4, .f32⟩

abbrev hbmTy0_2 (i : Nat) : BufTy := match i % 128 with
  | 0 => ⟨S16x20000, .f32⟩
  | 1 => ⟨S_, .f32⟩
  | 2 => ⟨S16x20000, .f32⟩
  | 3 => ⟨S16x20000, .f32⟩
  | 4 => ⟨S16x20000, .f32⟩
  | 5 => ⟨S16x20000, .f32⟩
  | 6 => ⟨S_, .f32⟩
  | 7 => ⟨S16x20000, .f32⟩
  | 8 => ⟨S16x20000, .f32⟩
  | 9 => ⟨S_, .f32⟩
  | 10 => ⟨S16x20000, .f32⟩
  | 11 => ⟨S16x20000, .f32⟩
  | 12 => ⟨S_, .f32⟩
  | 13 => ⟨S16x20000, .f32⟩
  | 14 => ⟨S16x20000, .f32⟩
  | 15 => ⟨S16x20000, .f32⟩
  | 16 => ⟨S_, .f32⟩
  | 17 => ⟨S16x20000, .f32⟩
  | 18 => ⟨S16x20000, .f32⟩
  | 19 => ⟨S16x20000, .f32⟩
  | 20 => ⟨S16x20000, .f32⟩
  | 21 => ⟨S16x20000, .f32⟩
  | 22 => ⟨S_, .f32⟩
  | 23 => ⟨S16x20000, .f32⟩
  | 24 => ⟨S16x20000, .f32⟩
  | 25 => ⟨S16x20000, .f32⟩
  | 26 => ⟨S_, .f32⟩
  | 27 => ⟨S16x20000, .f32⟩
  | 28 => ⟨S16x20000, .f32⟩
  | 29 => ⟨S_, .f32⟩
  | 30 => ⟨S16x20000, .f32⟩
  | 31 => ⟨S16x20000, .f32⟩
  | 32 => ⟨S_, .f32⟩
  | 33 => ⟨S16x20000, .f32⟩
  | 34 => ⟨S16x20000, .f32⟩
  | 35 => ⟨S16x20000, .f32⟩
  | 36 => ⟨S16x20000, .f32⟩
  | 37 => ⟨S16x20000, .f32⟩
  | 38 => ⟨S16x20000, .f32⟩
  | 39 => ⟨S16x20000, .f32⟩
  | 40 => ⟨S16x20000, .f32⟩
  | 41 => ⟨S16x20000, .f32⟩
  | 42 => ⟨S16x20000, .f32⟩
  | 43 => ⟨S_, .f32⟩
  | 44 => ⟨S16x20000, .f32⟩
  | 45 => ⟨S16x20000, .f32⟩
  | 46 => ⟨S_, .f32⟩
  | 47 => ⟨S16x20000, .f32⟩
  | 48 => ⟨S16x20000, .f32⟩
  | 49 => ⟨S16x20000, .f32⟩
  | 50 => ⟨S16x20000, .f32⟩
  | 51 => ⟨S_, .f32⟩
  | 52 => ⟨S16x20000, .f32⟩
  | 53 => ⟨S16x20000, .f32⟩
  | 54 => ⟨S_, .f32⟩
  | 55 => ⟨S16x20000, .f32⟩
  | 56 => ⟨S16x20000, .f32⟩
  | 57 => ⟨S_, .f32⟩
  | 58 => ⟨S16x20000, .f32⟩
  | 59 => ⟨S16x20000, .f32⟩
  | 60 => ⟨S16x20000, .f32⟩
  | 61 => ⟨S_, .f32⟩
  | 62 => ⟨S16x20000, .f32⟩
  | 63 => ⟨S16x20000, .f32⟩
  | 64 => ⟨S16x20000, .f32⟩
  | 65 => ⟨S16x20000, .f32⟩
  | 66 => ⟨S16x20000, .f32⟩
  | 67 => ⟨S16x20000, .f32⟩
  | 68 => ⟨S16x20000, .f32⟩
  | 69 => ⟨S16x20000, .f32⟩
  | 70 => ⟨S20000, .i32⟩
  | 71 => ⟨S1x20000, .i32⟩
  | 72 => ⟨S16x1, .i32⟩
  | 73 => ⟨S16x20000, .i32⟩
  | 74 => ⟨S16x20000, .i32⟩
  | 75 => ⟨S16x20000, .i1⟩
  | 76 => ⟨S16x20000, .f32⟩
  | 77 => ⟨S16x20000, .f32⟩
  | 78 => ⟨S_, .f32⟩
  | 79 => ⟨S_, .f32⟩
  | 80 => ⟨S16x20000, .f32⟩
  | 81 => ⟨S_, .f32⟩
  | 82 => ⟨S_, .f32⟩
  | 83 => ⟨S_, .f32⟩
  | 84 => ⟨S_, .i32⟩
  | 85 => ⟨S_, .i32⟩
  | 86 => ⟨S_, .i32⟩
  | 87 => ⟨S_, .i32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S1x1, .f32⟩
  | 95 => ⟨S1x1, .f32⟩
  | 96 => ⟨S1x1, .f32⟩
  | _ => ⟨S16x20000x4, .f32⟩

abbrev hbmTy (i : Nat) : BufTy := match i / 128 with
  | 0 => hbmTy0_0 i
  | 1 => hbmTy0_1 i
  | 2 => hbmTy0_2 i
  | _ => ⟨S16x20000x4, .f32⟩

abbrev bufTy : (tb : Table) → Fin (tcTables nBuf tb) → BufTy
  | .hbm, ⟨i, _⟩ => hbmTy i
  | _, _ => ⟨S16x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_0 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_cst_1 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_call0_v0 : Ref sig .tc := ⟨.hbm, 63, rfl⟩
abbrev main_call0_cst : Ref sig .tc := ⟨.hbm, 64, rfl⟩
abbrev main_call0_c : Ref sig .tc := ⟨.hbm, 65, rfl⟩
abbrev main_call0_v1_0 : Ref sig .tc := ⟨.hbm, 66, rfl⟩
abbrev main_v56 : Ref sig .tc := ⟨.hbm, 67, rfl⟩
abbrev main_call1_v0 : Ref sig .tc := ⟨.hbm, 68, rfl⟩
abbrev main_call1_cst : Ref sig .tc := ⟨.hbm, 69, rfl⟩
abbrev main_call1_c : Ref sig .tc := ⟨.hbm, 70, rfl⟩
abbrev main_call1_v1_0 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_c : Ref sig .tc := ⟨.hbm, 79, rfl⟩
abbrev main_v64 : Ref sig .tc := ⟨.hbm, 80, rfl⟩
abbrev main_cst_2 : Ref sig .tc := ⟨.hbm, 81, rfl⟩
abbrev main_v65 : Ref sig .tc := ⟨.hbm, 82, rfl⟩
abbrev main_cst_3 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_c_4 : Ref sig .tc := ⟨.hbm, 89, rfl⟩
abbrev main_v71 : Ref sig .tc := ⟨.hbm, 90, rfl⟩
abbrev main_v72 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_c_1 : Ref sig .tc := ⟨.hbm, 99, rfl⟩
abbrev main_call2_c_2 : Ref sig .tc := ⟨.hbm, 100, rfl⟩
abbrev main_call2_v5 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_c_3 : Ref sig .tc := ⟨.hbm, 107, rfl⟩
abbrev main_call2_v11 : Ref sig .tc := ⟨.hbm, 108, rfl⟩
abbrev main_call2_v12 : Ref sig .tc := ⟨.hbm, 109, rfl⟩
abbrev main_call2_v13 : Ref sig .tc := ⟨.hbm, 110, rfl⟩
abbrev main_call2_cst : Ref sig .tc := ⟨.hbm, 111, rfl⟩
abbrev main_call2_v14 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_5 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_6 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_7 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_8 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_9 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_10 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_11 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_12 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_13 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_cst_14 : Ref sig .tc := ⟨.hbm, 194, rfl⟩
abbrev main_v145 : Ref sig .tc := ⟨.hbm, 195, rfl⟩
abbrev main_cst_15 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_cst_16 : Ref sig .tc := ⟨.hbm, 201, rfl⟩
abbrev main_v150 : Ref sig .tc := ⟨.hbm, 202, rfl⟩
abbrev main_v151 : Ref sig .tc := ⟨.hbm, 203, rfl⟩
abbrev main_cst_17 : Ref sig .tc := ⟨.hbm, 204, rfl⟩
abbrev main_v152 : Ref sig .tc := ⟨.hbm, 205, rfl⟩
abbrev main_v153 : Ref sig .tc := ⟨.hbm, 206, rfl⟩
abbrev main_cst_18 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_cst_19 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_c_20 : Ref sig .tc := ⟨.hbm, 218, rfl⟩
abbrev main_v163 : Ref sig .tc := ⟨.hbm, 219, rfl⟩
abbrev main_v164 : Ref sig .tc := ⟨.hbm, 220, rfl⟩
abbrev main_c_21 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_cst_22 : Ref sig .tc := ⟨.hbm, 225, rfl⟩
abbrev main_v168 : Ref sig .tc := ⟨.hbm, 226, rfl⟩
abbrev main_v169 : Ref sig .tc := ⟨.hbm, 227, rfl⟩
abbrev main_cst_23 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_cst_24 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_cst_25 : Ref sig .tc := ⟨.hbm, 237, rfl⟩
abbrev main_v177 : Ref sig .tc := ⟨.hbm, 238, rfl⟩
abbrev main_v178 : Ref sig .tc := ⟨.hbm, 239, rfl⟩
abbrev main_cst_26 : Ref sig .tc := ⟨.hbm, 240, rfl⟩
abbrev main_v179 : Ref sig .tc := ⟨.hbm, 241, rfl⟩
abbrev main_v180 : Ref sig .tc := ⟨.hbm, 242, rfl⟩
abbrev main_cst_27 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_cst_28 : Ref sig .tc := ⟨.hbm, 254, rfl⟩
abbrev main_v191 : Ref sig .tc := ⟨.hbm, 255, rfl⟩
abbrev main_v192 : Ref sig .tc := ⟨.hbm, 256, rfl⟩
abbrev main_cst_29 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_cst_30 : Ref sig .tc := ⟨.hbm, 262, rfl⟩
abbrev main_v197 : Ref sig .tc := ⟨.hbm, 263, rfl⟩
abbrev main_v198 : Ref sig .tc := ⟨.hbm, 264, rfl⟩
abbrev main_cst_31 : Ref sig .tc := ⟨.hbm, 265, rfl⟩
abbrev main_v199 : Ref sig .tc := ⟨.hbm, 266, rfl⟩
abbrev main_v200 : Ref sig .tc := ⟨.hbm, 267, rfl⟩
abbrev main_cst_32 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_cst_33 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_cst_34 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_cst_35 : Ref sig .tc := ⟨.hbm, 282, rfl⟩
abbrev main_v212 : Ref sig .tc := ⟨.hbm, 283, rfl⟩
abbrev main_v213 : Ref sig .tc := ⟨.hbm, 284, rfl⟩
abbrev main_cst_36 : Ref sig .tc := ⟨.hbm, 285, rfl⟩
abbrev main_v214 : Ref sig .tc := ⟨.hbm, 286, rfl⟩
abbrev main_v215 : Ref sig .tc := ⟨.hbm, 287, rfl⟩
abbrev main_cst_37 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_cst_38 : Ref sig .tc := ⟨.hbm, 299, rfl⟩
abbrev main_v226 : Ref sig .tc := ⟨.hbm, 300, rfl⟩
abbrev main_v227 : Ref sig .tc := ⟨.hbm, 301, rfl⟩
abbrev main_cst_39 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_cst_40 : Ref sig .tc := ⟨.hbm, 307, rfl⟩
abbrev main_v232 : Ref sig .tc := ⟨.hbm, 308, rfl⟩
abbrev main_v233 : Ref sig .tc := ⟨.hbm, 309, rfl⟩
abbrev main_cst_41 : Ref sig .tc := ⟨.hbm, 310, rfl⟩
abbrev main_v234 : Ref sig .tc := ⟨.hbm, 311, rfl⟩
abbrev main_v235 : Ref sig .tc := ⟨.hbm, 312, rfl⟩
abbrev main_cst_42 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_cst_43 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245_0 : Ref sig .tc := ⟨.hbm, 324, rfl⟩
abbrev main_v245_1 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_cst_44 : Ref sig .tc := ⟨.hbm, 334, rfl⟩
abbrev main_v254 : Ref sig .tc := ⟨.hbm, 335, rfl⟩
abbrev main_v255 : Ref sig .tc := ⟨.hbm, 336, rfl⟩
abbrev main_cst_45 : Ref sig .tc := ⟨.hbm, 337, rfl⟩
abbrev main_v256 : Ref sig .tc := ⟨.hbm, 338, rfl⟩
abbrev main_v257 : Ref sig .tc := ⟨.hbm, 339, rfl⟩
abbrev main_c_46 : Ref sig .tc := ⟨.hbm, 340, rfl⟩
abbrev main_v258 : Ref sig .tc := ⟨.hbm, 341, rfl⟩
abbrev main_c_47 : Ref sig .tc := ⟨.hbm, 342, rfl⟩
abbrev main_v259 : Ref sig .tc := ⟨.hbm, 343, rfl⟩
abbrev main_v260 : Ref sig .tc := ⟨.hbm, 344, rfl⟩
abbrev main_v261 : Ref sig .tc := ⟨.hbm, 345, rfl⟩
abbrev main_v262 : Ref sig .tc := ⟨.hbm, 346, rfl⟩
abbrev main_cst_48 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_v266 : Ref sig .tc := ⟨.hbm, 351, rfl⟩
abbrev main_v267 : Ref sig .tc := ⟨.hbm, 352, rfl⟩

abbrev nD : Nat := 1
abbrev τ : Topo := Topo.v7x

variable {F : FTy → Type} [FloatOps F]
-- ==== Proof.KI.Loop.lean ====
module

public import proofs.«01_k».proof.Proof.Gen.KernelIdeal.Frame
public import proofs.«01_k».proof.Proof.Gen.KernelIdeal.Skeleton
public import Idealize.ShloMosaic.Lib.Exec
public import Idealize.ShloMosaic.Lib.VecWindow

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip of the bisection: the four batches' bounds, each halved on the side that keeps the wanted count. -/
def trip (v217 : FVec F S8x2560 .f32) (v336 : F .f32) (v338 : FVec F S32x1 .f32) (v555 : FVec F S8x2560 .f32) (v674 : F .f32) (v676 : FVec F S32x1 .f32) (v893 : FVec F S8x2560 .f32) (v1012 : F .f32) (v1014 : FVec F S32x1 .f32) (v1231 : FVec F S8x2560 .f32) (v1264 : FVec F S32x1 .f32) (v1328 : IVec S32x1 1) (v1335 : F .f32) (_ : Fin k0_t1_loop.trips) (a : F .f32 × F .f32 × F .f32 × F .f32 × F .f32 × F .f32 × F .f32 × F .f32) : F .f32 × F .f32 × F .f32 × F .f32 × F .f32 × F .f32 × F .f32 × F .f32 :=
  (k0_pay10 v217 v336 v338 a.1 a.2.1, k0_pay11 v217 v336 v338 a.1 a.2.1,
   k0_pay13 v555 v674 v676 a.2.2.1 a.2.2.2.1, k0_pay14 v555 v674 v676 a.2.2.1 a.2.2.2.1,
   k0_pay270 v1012 v1014 a.2.2.2.2.1 (k0_pay15 a.2.2.2.2.1 a.2.2.2.2.2.1) (k0_pay16 v893 a.2.2.2.2.1 a.2.2.2.2.2.1),
   k0_pay271 v1012 v1014 a.2.2.2.2.2.1 (k0_pay15 a.2.2.2.2.1 a.2.2.2.2.2.1) (k0_pay16 v893 a.2.2.2.2.1 a.2.2.2.2.2.1),
   k0_pay273 v1231 v1264 v1328 v1335 a.2.2.2.2.2.2.1 a.2.2.2.2.2.2.2,
   k0_pay274 v1231 v1264 v1328 v1335 a.2.2.2.2.2.2.1 a.2.2.2.2.2.2.2)

/-- The bounds the bisection ends with, from 0 and 1 in each batch. -/
def found (v217 : FVec F S8x2560 .f32) (v336 : F .f32) (v338 : FVec F S32x1 .f32) (v555 : FVec F S8x2560 .f32) (v674 : F .f32) (v676 : FVec F S32x1 .f32) (v893 : FVec F S8x2560 .f32) (v1012 : F .f32) (v1014 : FVec F S32x1 .f32) (v1231 : FVec F S8x2560 .f32) (v1264 : FVec F S32x1 .f32) (v1328 : IVec S32x1 1) (v1335 : F .f32) : F .f32 × F .f32 × F .f32 × F .f32 × F .f32 × F .f32 × F .f32 × F .f32 :=
  Scf.fold (trip v217 v336 v338 v555 v674 v676 v893 v1012 v1014 v1231 v1264 v1328 v1335) (Scalar.ofBits .f32 0x00000000#32, Scalar.ofBits .f32 0x3F800000#32, Scalar.ofBits .f32 0x00000000#32, Scalar.ofBits .f32 0x3F800000#32, Scalar.ofBits .f32 0x00000000#32, Scalar.ofBits .f32 0x3F800000#32, Scalar.ofBits .f32 0x00000000#32, Scalar.ofBits .f32 0x3F800000#32)

/-- The loop's region only computes: it returns `trip`. -/
theorem region_ret (i : grid0.Coords) (arg1 : Memref sig .tc .vmem S4x8x2560 .f32) (harg1 : arg1.IsWhole) (arg2 : Memref sig .tc .vmem S4x4x8x2560 .f32) (harg2 : arg2.IsWhole) (arg3 : Memref sig .tc .vmem S4x8x2560 .f32) (harg3 : arg3.IsWhole) (arg4 : Memref sig .tc .vmem S4x4x32x1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .smem S4 .f32) (harg8 : arg8.IsWhole) (v215 : FVec F S8x2560 .f32) (v217 : FVec F S8x2560 .f32) (v327 : F .f32) (v333 : F .f32) (v336 : F .f32) (v338 : FVec F S32x1 .f32) (v555 : FVec F S8x2560 .f32) (v674 : F .f32) (v676 : FVec F S32x1 .f32) (v893 : FVec F S8x2560 .f32) (v1012 : F .f32) (v1014 : FVec F S32x1 .f32) (v1221 : F .f32) (v1231 : FVec F S8x2560 .f32) (v1264 : FVec F S32x1 .f32) (v1302 : FVec F S32x1 .f32) (v1328 : IVec S32x1 1) (v1335 : F .f32) (v1343 : FVec F S1x32x1 .f32) (k : Fin k0_t1_loop.trips) (a : F .f32 × F .f32 × F .f32 × F .f32 × F .f32 × F .f32 × F .f32 × F .f32) :
    k0_t1_body (F := F) i arg1 harg1 arg2 harg2 arg3 harg3 arg4 harg4 arg5 harg5 arg6 harg6 arg7 harg7 arg8 harg8 v215 v217 v327 v333 v336 v338 v555 v674 v676 v893 v1012 v1014 v1221 v1231 v1264 v1302 v1328 v1335 v1343 k a = .ret (trip v217 v336 v338 v555 v674 v676 v893 v1012 v1014 v1231 v1264 v1328 v1335 k a) := rfl

/-- The part that holds the loop, the loop run: it only computes. -/
theorem part33_ret (i : grid0.Coords) (arg1 : Memref sig .tc .vmem S4x8x2560 .f32) (harg1 : arg1.IsWhole) (arg2 : Memref sig .tc .vmem S4x4x8x2560 .f32) (harg2 : arg2.IsWhole) (arg3 : Memref sig .tc .vmem S4x8x2560 .f32) (harg3 : arg3.IsWhole) (arg4 : Memref sig .tc .vmem S4x4x32x1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .smem S4 .f32) (harg8 : arg8.IsWhole) (v215 : FVec F S8x2560 .f32) (v217 : FVec F S8x2560 .f32) (v327 : F .f32) (v333 : F .f32) (v336 : F .f32) (v338 : FVec F S32x1 .f32) (v555 : FVec F S8x2560 .f32) (v674 : F .f32) (v676 : FVec F S32x1 .f32) (v893 : FVec F S8x2560 .f32) (v1012 : F .f32) (v1014 : FVec F S32x1 .f32) (v1221 : F .f32) (v1231 : FVec F S8x2560 .f32) (v1264 : FVec F S32x1 .f32) (v1302 : FVec F S32x1 .f32) (v1328 : IVec S32x1 1) (v1335 : F .f32) (v1343 : FVec F S1x32x1 .f32) :
    k0_part33 (F := F) i arg1 harg1 arg2 harg2 arg3 harg3 arg4 harg4 arg5 harg5 arg6 harg6 arg7 harg7 arg8 harg8 v215 v217 v327 v333 v336 v338 v555 v674 v676 v893 v1012 v1014 v1221 v1231 v1264 v1302 v1328 v1335 v1343 = pure ⟨k0_pay266 v1221 v1343, k0_pay267 v1335, k0_pay268 v1264 v1328, k0_pay269 v1302 v1328, (found v217 v336 v338 v555 v674 v676 v893 v1012 v1014 v1231 v1264 v1328 v1335).1, (found v217 v336 v338 v555 v674 v676 v893 v1012 v1014 v1231 v1264 v1328 v1335).2.2.1, (found v217 v336 v338 v555 v674 v676 v893 v1012 v1014 v1231 v1264 v1328 v1335).2.2.2.2.1, (found v217 v336 v338 v555 v674 v676 v893 v1012 v1014 v1231 v1264 v1328 v1335).2.2.2.2.2.2.1, k0_pay275 v327, k0_pay276 v333, k0_pay277 v217 v338 (found v217 v336 v338 v555 v674 v676 v893 v1012 v1014 v1231 v1264 v1328 v1335).1, k0_pay278 v215 v217 (found v217 v336 v338 v555 v674 v676 v893 v1012 v1014 v1231 v1264 v1328 v1335).1⟩ := by
  rw [k0_part33_eq_skeleton]
  unfold k0_part33_skel
  dsimp only
  unfold Scf.Loop.for
  rw [Scf.for_pure_bind _ _ _ k0_t1_ok _ _ _ (region_ret i arg1 harg1 arg2 harg2 arg3 harg3 arg4 harg4 arg5 harg5 arg6 harg6 arg7 harg7 arg8 harg8 v215 v217 v327 v333 v336 v338 v555 v674 v676 v893 v1012 v1014 v1221 v1231 v1264 v1302 v1328 v1335 v1343)]
  rfl

end Cert.KernelIdeal.Own

end
-- ==== Proof.KI.RunB.lean ====
module

public import proofs.«01_k».proof.Proof.Gen.KernelIdeal.Frame
public import proofs.«01_k».proof.Proof.Gen.KernelIdeal.Skeleton
public import Idealize.ShloMosaic.Lib.Exec
public import Idealize.ShloMosaic.Lib.VecWindow
public import proofs.«01_k».proof.Proof.KI.Loop
@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates . -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

/-- The condition of the body's `scf.if` 1 (`k0_h2`), from the grid coordinates . -/
abbrev cond0_1 (i : grid0.Coords) : Prop := k0_cond2 i = 1#1
/-- It holds at the last point only — by arithmetic of the point. -/
theorem hcond0_1 : ∀ t : Fin cfg0.N, cond0_1 (grid0.coords t) ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [cond0_1, k0_cond2, e0]
    word_cmp
   : ∀ t : Fin grid0.N, cond0_1 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- At the points of case A the printed configuration (`Cfg.idle`) calls output 4 idle: the case stores nothing into it. -/
theorem idleAt0_4_A : ∀ t : Fin cfg0.N, cond0_0 (grid0.coords t) → ¬cond0_1 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → (cfg0.win 4).flush t = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the points of case C the printed configuration (`Cfg.idle`) calls output 4 live: the case stores into it. -/
theorem liveAt0_4_C : ∀ t : Fin cfg0.N, ¬cond0_0 (grid0.coords t) → cond0_1 (grid0.coords t) → cfg0.idle 4 (grid0.coords t) = false := by decide +kernel
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-- The three cells of the carried scratch written: the last write first. -/
def cells (a0 a1 a2 : F .f32) : List (View.Piece (Elt F) S4 .f32) :=
  [⟨Rect.unit (s := S4) ![2] S1.size inb_S4_S1_2, fun _ => a2⟩, ⟨Rect.unit (s := S4) ![1] S1.size inb_S4_S1_1, fun _ => a1⟩, ⟨Rect.unit (s := S4) ![0] S1.size inb_S4_S1_0, fun _ => a0⟩]

/-- What lay under the three last writes does not matter. -/
theorem cells_carry (V : View sig .tc .smem S4 .f32) (c : Dev nD) (f : BufTy.Contents (Elt F) V.ty) (n0 n1 n2 : F .f32) (L : List (View.Piece (Elt F) S4 .f32)) :
    (V.loc (c : Thread nD τ) ↦[V.set]{fullShare} V.writes (Elt F) f
      (⟨Rect.unit (s := S4) ![2] S1.size inb_S4_S1_2, fun _ => n2⟩ :: ⟨Rect.unit (s := S4) ![1] S1.size inb_S4_S1_1, fun _ => n1⟩ :: ⟨Rect.unit (s := S4) ![0] S1.size inb_S4_S1_0, fun _ => n0⟩ :: L) : sProp 𝕄)
    ⊢ iprop(∃ f, V.loc (c : Thread nD τ) ↦[V.set]{fullShare} V.writes (Elt F) f (cells n0 n1 n2)) := by
  unfold cells
  iintro H
  iexists (V.writes (Elt F) f L)
  iexact H

/-- A one-element block stored whole reads back as what was stored. -/
theorem whole_read (V : View sig .tc .vmem S1x1 .f32) (f) (v : Vec F S1x1 .f32) :
    V.read (Elt F) (V.writes (Elt F) f [⟨Rect.unit (s := S1x1) ![0, 0] S1x1.size inb_S1x1_S1x1_0_0, v⟩]) = v := by
  exact View.read_writes_full V f inb_S1x1_S1x1_0_0 v []

set_option maxHeartbeats 1000000 in
/-- The whole body at a point of case B: from its input blocks and the three cells' contents, the cells' new contents. -/
def runB (c : Dev nD) (i : grid0.Coords) (arg1 : Memref sig .tc .vmem S4x8x2560 .f32) (harg1 : arg1.IsWhole) (arg2 : Memref sig .tc .vmem S4x4x8x2560 .f32) (harg2 : arg2.IsWhole) (arg3 : Memref sig .tc .vmem S4x8x2560 .f32) (harg3 : arg3.IsWhole) (arg4 : Memref sig .tc .vmem S4x4x32x1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .smem S4 .f32) (harg8 : arg8.IsWhole) (hc0 : ¬cond0_0 i) (hc1 : ¬cond0_1 i) (x0 : Vec F S4x8x2560 .f32) (x1 : Vec F S4x4x8x2560 .f32) (x2 : Vec F S4x8x2560 .f32) (x3 : Vec F S4x4x32x1x1 .f32) (a0 a1 a2 : F .f32) :
    { n : F .f32 × F .f32 × F .f32 //
      ∀ (xi5 xi6 xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi5 ∗ owns (c : Thread nD τ) arg6 fullShare xi6 ∗ owns (c : Thread nD τ) arg7 fullShare xi7 ∗ (∃ f, arg8.view.loc (c : Thread nD τ) ↦[arg8.view.set]{fullShare} arg8.view.writes (Elt F) f (cells a0 a1 a2))
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi5 ∗ owns (c : Thread nD τ) arg6 fullShare xi6 ∗ owns (c : Thread nD τ) arg7 fullShare xi7 ∗ (∃ f, arg8.view.loc (c : Thread nD τ) ↦[arg8.view.set]{fullShare} arg8.view.writes (Elt F) f (cells n.1 n.2.1 n.2.2))) -∗ K ⟨⟩))
          ⊢ wp frame (wpE (defs₀ (F := F)) Variants.none c none) E (cc0__dl_kernel i arg1 harg1 arg2 harg2 arg3 harg3 arg4 harg4 arg5 harg5 arg6 harg6 arg7 harg7 arg8 harg8) K } := by
  refine ⟨(?_, ?_, ?_), fun xi5 xi6 xi7 E K => ?run⟩
  case run =>
    simp only [cc0__dl_kernel_eq_skeleton]; unfold cc0__dl_kernel_skel
    simp only [part33_ret]
    unfold owns; unfold cells
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iapply (cells_carry arg8.view c _ _ _ _ _)
    iexact HS0

end Cert.KernelIdeal.Own

end
-- ==== Proof.KI.RunA.lean ====
module

public import proofs.«01_k».proof.Proof.Gen.KernelIdeal.Frame
public import proofs.«01_k».proof.Proof.Gen.KernelIdeal.Skeleton
public import Idealize.ShloMosaic.Lib.Exec
public import Idealize.ShloMosaic.Lib.VecWindow
public import proofs.«01_k».proof.Proof.KI.RunB
@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The whole body at a point of case A: from its input blocks and the three cells' contents, the cells' new contents. -/
def runA (c : Dev nD) (i : grid0.Coords) (arg1 : Memref sig .tc .vmem S4x8x2560 .f32) (harg1 : arg1.IsWhole) (arg2 : Memref sig .tc .vmem S4x4x8x2560 .f32) (harg2 : arg2.IsWhole) (arg3 : Memref sig .tc .vmem S4x8x2560 .f32) (harg3 : arg3.IsWhole) (arg4 : Memref sig .tc .vmem S4x4x32x1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .smem S4 .f32) (harg8 : arg8.IsWhole) (hc0 : cond0_0 i) (hc1 : ¬cond0_1 i) (x0 : Vec F S4x8x2560 .f32) (x1 : Vec F S4x4x8x2560 .f32) (x2 : Vec F S4x8x2560 .f32) (x3 : Vec F S4x4x32x1x1 .f32)  :
    { n : F .f32 × F .f32 × F .f32 //
      ∀ (xi5 xi6 xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi5 ∗ owns (c : Thread nD τ) arg6 fullShare xi6 ∗ owns (c : Thread nD τ) arg7 fullShare xi7 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi5 ∗ owns (c : Thread nD τ) arg6 fullShare xi6 ∗ owns (c : Thread nD τ) arg7 fullShare xi7 ∗ (∃ f, arg8.view.loc (c : Thread nD τ) ↦[arg8.view.set]{fullShare} arg8.view.writes (Elt F) f (cells n.1 n.2.1 n.2.2))) -∗ K ⟨⟩))
          ⊢ wp frame (wpE (defs₀ (F := F)) Variants.none c none) E (cc0__dl_kernel i arg1 harg1 arg2 harg2 arg3 harg3 arg4 harg4 arg5 harg5 arg6 harg6 arg7 harg7 arg8 harg8) K } := by
  refine ⟨(?_, ?_, ?_), fun xi5 xi6 xi7 E K => ?run⟩
  case run =>
    simp only [cc0__dl_kernel_eq_skeleton]; unfold cc0__dl_kernel_skel
    simp only [part33_ret]
    unfold owns; unfold cells
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iapply (cells_carry arg8.view c _ _ _ _ _)
    iexact HS0

end Cert.KernelIdeal.Own

end
-- ==== Proof.KI.RunC.lean ====
module

public import proofs.«01_k».proof.Proof.Gen.KernelIdeal.Frame
public import proofs.«01_k».proof.Proof.Gen.KernelIdeal.Skeleton
public import Idealize.ShloMosaic.Lib.Exec
public import Idealize.ShloMosaic.Lib.VecWindow
public import proofs.«01_k».proof.Proof.KI.RunA
@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The whole body at a point of case C: from its input blocks and the three cells' contents, the cells' new contents. -/
def runC (c : Dev nD) (i : grid0.Coords) (arg1 : Memref sig .tc .vmem S4x8x2560 .f32) (harg1 : arg1.IsWhole) (arg2 : Memref sig .tc .vmem S4x4x8x2560 .f32) (harg2 : arg2.IsWhole) (arg3 : Memref sig .tc .vmem S4x8x2560 .f32) (harg3 : arg3.IsWhole) (arg4 : Memref sig .tc .vmem S4x4x32x1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .smem S4 .f32) (harg8 : arg8.IsWhole) (hc0 : ¬cond0_0 i) (hc1 : cond0_1 i) (x0 : Vec F S4x8x2560 .f32) (x1 : Vec F S4x4x8x2560 .f32) (x2 : Vec F S4x8x2560 .f32) (x3 : Vec F S4x4x32x1x1 .f32) (a0 a1 a2 : F .f32) :
    { n : F .f32 × F .f32 × F .f32 //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f (cells a0 a1 a2))
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay6 n.2.2 n.1 n.2.1) ∗ owns (c : Thread nD τ) arg6 fullShare (k0_pay7 n.2.2 n.2.1) ∗ owns (c : Thread nD τ) arg7 fullShare (k0_pay8 n.2.2 n.1) ∗ (∃ f, arg8.view.loc (c : Thread nD τ) ↦[arg8.view.set]{fullShare} arg8.view.writes (Elt F) f (cells n.1 n.2.1 n.2.2))) -∗ K ⟨⟩))
          ⊢ wp frame (wpE (defs₀ (F := F)) Variants.none c none) E (cc0__dl_kernel i arg1 harg1 arg2 harg2 arg3 harg3 arg4 harg4 arg5 harg5 arg6 harg6 arg7 harg7 arg8 harg8) K } := by
  refine ⟨(?_, ?_, ?_), fun E K => ?run⟩
  case run =>
    simp only [cc0__dl_kernel_eq_skeleton]; unfold cc0__dl_kernel_skel
    simp only [part33_ret]
    unfold owns; unfold cells
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, HS0⟩, Hk⟩
    obtain rfl := harg1.eq_unread hf0; obtain rfl := harg2.eq_unread hf1; obtain rfl := harg3.eq_unread hf2; obtain rfl := harg4.eq_unread hf3

    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr
      swap; · iexact H4
      ipureintro; exact whole_read (F := F) _ _ _
    isplitl [H5]
    · iexists _; isplitr
      swap; · iexact H5
      ipureintro; exact whole_read (F := F) _ _ _
    isplitl [H6]
    · iexists _; isplitr
      swap; · iexact H6
      ipureintro; exact whole_read (F := F) _ _ _
    iapply (cells_carry arg8.view c _ _ _ _ _)
    iexact HS0

end Cert.KernelIdeal.Own

end
-- ==== Proof.KI.Step.lean ====
module

public import proofs.«01_k».proof.Proof.Gen.KernelIdeal.Frame
public import proofs.«01_k».proof.Proof.Gen.KernelIdeal.Skeleton
public import Idealize.ShloMosaic.Lib.Exec
public import Idealize.ShloMosaic.Lib.VecWindow
public import proofs.«01_k».proof.Proof.KI.RunC
@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one grid point makes of the three cells (the sum of the box losses, the sum of the class losses, the number of
positives), from its blocks. -/
def step (c : Dev nD) (arg1 : Memref sig .tc .vmem S4x8x2560 .f32) (harg1 : arg1.IsWhole) (arg2 : Memref sig .tc .vmem S4x4x8x2560 .f32) (harg2 : arg2.IsWhole) (arg3 : Memref sig .tc .vmem S4x8x2560 .f32) (harg3 : arg3.IsWhole) (arg4 : Memref sig .tc .vmem S4x4x32x1x1 .f32) (harg4 : arg4.IsWhole) (x0 : Vec F S4x8x2560 .f32) (x1 : Vec F S4x4x8x2560 .f32) (x2 : Vec F S4x8x2560 .f32) (x3 : Vec F S4x4x32x1x1 .f32) (a : F .f32 × F .f32 × F .f32) : F .f32 × F .f32 × F .f32 :=
  (k0_pay304 (runB.sl.r_205 c arg1 harg1 arg2 harg2 arg4 harg4 x0 x1 x3) a.1,
   k0_pay305 (runB.sl.r_171 c arg1 harg1 arg3 harg3 arg4 harg4 x0 x2 x3) (runB.sl.r_172 c arg1 harg1 arg3 harg3 arg4 harg4 x0 x2 x3) (k0_pay267 (runB.sl.r_184 c arg1 harg1 arg4 harg4 x0 x3)) (k0_pay268 (runB.sl.r_176 c arg1 harg1 arg3 harg3 arg4 harg4 x0 x2 x3) (runB.sl.r_183 c arg1 harg1 arg4 harg4 x0 x3)) (k0_pay269 (runB.sl.r_182 c arg1 harg1 arg3 harg3 arg4 harg4 x0 x2 x3) (runB.sl.r_183 c arg1 harg1 arg4 harg4 x0 x3))
     ((found (runB.sl.r_35 c arg1 harg1 arg3 harg3 arg4 harg4 x0 x2 x3) (runB.sl.r_47 c arg1 harg1 arg4 harg4 x0 x3) (runB.sl.r_48 c arg1 harg1 arg3 harg3 arg4 harg4 x0 x2 x3) (runB.sl.r_72 c arg1 harg1 arg3 harg3 arg4 harg4 x0 x2 x3) (runB.sl.r_84 c arg1 harg1 arg4 harg4 x0 x3) (runB.sl.r_85 c arg1 harg1 arg3 harg3 arg4 harg4 x0 x2 x3) (runB.sl.r_111 c arg1 harg1 arg3 harg3 arg4 harg4 x0 x2 x3) (runB.sl.r_128 c arg1 harg1 arg4 harg4 x0 x3) (runB.sl.r_129 c arg1 harg1 arg3 harg3 arg4 harg4 x0 x2 x3) (runB.sl.r_172 c arg1 harg1 arg3 harg3 arg4 harg4 x0 x2 x3) (runB.sl.r_176 c arg1 harg1 arg3 harg3 arg4 harg4 x0 x2 x3) (runB.sl.r_183 c arg1 harg1 arg4 harg4 x0 x3) (runB.sl.r_184 c arg1 harg1 arg4 harg4 x0 x3)).2.2.2.2.2.2.1) (runB.sl.r_206 c arg1 harg1 arg2 harg2 arg3 harg3 arg4 harg4 x0 x1 x2 x3) (runB.sl.r_207 c arg1 harg1 arg3 harg3 arg4 harg4 x0 x2 x3) (runB.sl.r_208 c arg1 harg1 arg3 harg3 arg4 harg4 x0 x2 x3) (runB.sl.r_209 c arg1 harg1 arg3 harg3 arg4 harg4 x0 x2 x3) a.2.1,
   k0_pay1 (runB.sl.r_210 c arg1 harg1 arg4 harg4 x0 x3) a.2.2)

/-- The cells as the first point clears them. -/
def zero3 : F .f32 × F .f32 × F .f32 := (Scalar.ofBits .f32 0x00000000#32, Scalar.ofBits .f32 0x00000000#32, Scalar.ofBits .f32 0x00000000#32)

theorem runB_val (c : Dev nD) (i : grid0.Coords) (arg1 : Memref sig .tc .vmem S4x8x2560 .f32) (harg1 : arg1.IsWhole) (arg2 : Memref sig .tc .vmem S4x4x8x2560 .f32) (harg2 : arg2.IsWhole) (arg3 : Memref sig .tc .vmem S4x8x2560 .f32) (harg3 : arg3.IsWhole) (arg4 : Memref sig .tc .vmem S4x4x32x1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .smem S4 .f32) (harg8 : arg8.IsWhole) (hc0 : ¬cond0_0 i) (hc1 : ¬cond0_1 i) (x0 : Vec F S4x8x2560 .f32) (x1 : Vec F S4x4x8x2560 .f32) (x2 : Vec F S4x8x2560 .f32) (x3 : Vec F S4x4x32x1x1 .f32) (a0 a1 a2 : F .f32) :
    (runB c i arg1 harg1 arg2 harg2 arg3 harg3 arg4 harg4 arg5 harg5 arg6 harg6 arg7 harg7 arg8 harg8 hc0 hc1 x0 x1 x2 x3 a0 a1 a2).1 = step c arg1 harg1 arg2 harg2 arg3 harg3 arg4 harg4 x0 x1 x2 x3 (a0, a1, a2) := rfl

theorem runA_val (c : Dev nD) (i : grid0.Coords) (arg1 : Memref sig .tc .vmem S4x8x2560 .f32) (harg1 : arg1.IsWhole) (arg2 : Memref sig .tc .vmem S4x4x8x2560 .f32) (harg2 : arg2.IsWhole) (arg3 : Memref sig .tc .vmem S4x8x2560 .f32) (harg3 : arg3.IsWhole) (arg4 : Memref sig .tc .vmem S4x4x32x1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .smem S4 .f32) (harg8 : arg8.IsWhole) (hc0 : cond0_0 i) (hc1 : ¬cond0_1 i) (x0 : Vec F S4x8x2560 .f32) (x1 : Vec F S4x4x8x2560 .f32) (x2 : Vec F S4x8x2560 .f32) (x3 : Vec F S4x4x32x1x1 .f32) :
    (runA c i arg1 harg1 arg2 harg2 arg3 harg3 arg4 harg4 arg5 harg5 arg6 harg6 arg7 harg7 arg8 harg8 hc0 hc1 x0 x1 x2 x3).1 = step c arg1 harg1 arg2 harg2 arg3 harg3 arg4 harg4 x0 x1 x2 x3 zero3 := rfl

theorem runC_val (c : Dev nD) (i : grid0.Coords) (arg1 : Memref sig .tc .vmem S4x8x2560 .f32) (harg1 : arg1.IsWhole) (arg2 : Memref sig .tc .vmem S4x4x8x2560 .f32) (harg2 : arg2.IsWhole) (arg3 : Memref sig .tc .vmem S4x8x2560 .f32) (harg3 : arg3.IsWhole) (arg4 : Memref sig .tc .vmem S4x4x32x1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .smem S4 .f32) (harg8 : arg8.IsWhole) (hc0 : ¬cond0_0 i) (hc1 : cond0_1 i) (x0 : Vec F S4x8x2560 .f32) (x1 : Vec F S4x4x8x2560 .f32) (x2 : Vec F S4x8x2560 .f32) (x3 : Vec F S4x4x32x1x1 .f32) (a0 a1 a2 : F .f32) :
    (runC c i arg1 harg1 arg2 harg2 arg3 harg3 arg4 harg4 arg5 harg5 arg6 harg6 arg7 harg7 arg8 harg8 hc0 hc1 x0 x1 x2 x3 a0 a1 a2).1 = step c arg1 harg1 arg2 harg2 arg3 harg3 arg4 harg4 x0 x1 x2 x3 (a0, a1, a2) := rfl

end Cert.KernelIdeal.Own

end
-- ==== Proof.KI.Whole.lean ====
module

public import proofs.«01_k».proof.Proof.Gen.KernelIdeal.Frame
public import proofs.«01_k».proof.Proof.Gen.KernelIdeal.Skeleton
public import Idealize.ShloMosaic.Lib.Exec
public import Idealize.ShloMosaic.Lib.VecWindow
public import proofs.«01_k».proof.Proof.KI.Step
public import Idealize.ShloMosaic.Lib.Pipeline.FrameBody
public import Idealize.ShloMosaic.Lib.Ring
public import Idealize.ShloMosaic.Lib.Tactic
public import Idealize.ShloMosaic.Lib.Claim
@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev mem0 (t : Fin cfg0.N) : Memref sig .tc .vmem S4x8x2560 .f32 := win0_0.stage (cfg0.slots t 0)
abbrev mem0_whole (t : Fin cfg0.N) : (mem0 t).IsWhole := hstage0_0 ((cfg0.slots t 0).cast nbuf0_0)
abbrev mem1 (t : Fin cfg0.N) : Memref sig .tc .vmem S4x4x8x2560 .f32 := win0_1.stage (cfg0.slots t 1)
abbrev mem1_whole (t : Fin cfg0.N) : (mem1 t).IsWhole := hstage0_1 ((cfg0.slots t 1).cast nbuf0_1)
abbrev mem2 (t : Fin cfg0.N) : Memref sig .tc .vmem S4x8x2560 .f32 := win0_2.stage (cfg0.slots t 2)
abbrev mem2_whole (t : Fin cfg0.N) : (mem2 t).IsWhole := hstage0_2 ((cfg0.slots t 2).cast nbuf0_2)
abbrev mem3 (t : Fin cfg0.N) : Memref sig .tc .vmem S4x4x32x1x1 .f32 := win0_3.stage (cfg0.slots t 3)
abbrev mem3_whole (t : Fin cfg0.N) : (mem3 t).IsWhole := hstage0_3 ((cfg0.slots t 3).cast nbuf0_3)
abbrev mem4 (t : Fin cfg0.N) : Memref sig .tc .vmem S1x1 .f32 := win0_4.stage (cfg0.slots t 4)
abbrev mem4_whole (t : Fin cfg0.N) : (mem4 t).IsWhole := hstage0_4 ((cfg0.slots t 4).cast nbuf0_4)
abbrev mem5 (t : Fin cfg0.N) : Memref sig .tc .vmem S1x1 .f32 := win0_5.stage (cfg0.slots t 5)
abbrev mem5_whole (t : Fin cfg0.N) : (mem5 t).IsWhole := hstage0_5 ((cfg0.slots t 5).cast nbuf0_5)
abbrev mem6 (t : Fin cfg0.N) : Memref sig .tc .vmem S1x1 .f32 := win0_6.stage (cfg0.slots t 6)
abbrev mem6_whole (t : Fin cfg0.N) : (mem6 t).IsWhole := hstage0_6 ((cfg0.slots t 6).cast nbuf0_6)
/-- The scratch of four cells. -/
abbrev cellsM : Memref sig .tc .smem S4 .f32 := Memref.whole cc0_scratch0

/-- No input window is ever idle. -/
theorem inputs_live (t : Fin cfg0.N) : cfg0.idle 0 (grid0.coords t) = false ∧ cfg0.idle 1 (grid0.coords t) = false
    ∧ cfg0.idle 2 (grid0.coords t) = false ∧ cfg0.idle 3 (grid0.coords t) = false := ⟨rfl, rfl, rfl, rfl⟩
theorem quiet4 : ∀ t : Fin cfg0.N, ¬cond0_1 (grid0.coords t) → cfg0.idle 4 (grid0.coords t) = true ∧ (cfg0.win 4).flush t = false := by decide +kernel
theorem live4 : ∀ t : Fin cfg0.N, cond0_1 (grid0.coords t) → cfg0.idle 4 (grid0.coords t) = false := by decide +kernel
theorem quiet5 : ∀ t : Fin cfg0.N, ¬cond0_1 (grid0.coords t) → cfg0.idle 5 (grid0.coords t) = true ∧ (cfg0.win 5).flush t = false := by decide +kernel
theorem live5 : ∀ t : Fin cfg0.N, cond0_1 (grid0.coords t) → cfg0.idle 5 (grid0.coords t) = false := by decide +kernel
theorem quiet6 : ∀ t : Fin cfg0.N, ¬cond0_1 (grid0.coords t) → cfg0.idle 6 (grid0.coords t) = true ∧ (cfg0.win 6).flush t = false := by decide +kernel
theorem live6 : ∀ t : Fin cfg0.N, cond0_1 (grid0.coords t) → cfg0.idle 6 (grid0.coords t) = false := by decide +kernel

/-- What the class's invariant says here: the scratch at anything, and the generator at some state. -/
theorem anything_eq (c : Dev nD) :
    (Pipeline.ΦA spec0 c : sProp 𝕄)
      = iprop((∃ d, owns (c : Thread nD τ) cellsM fullShare d) ∗ (∃ r, prngReg c r)) := by
  unfold Pipeline.ΦA; rw [scopedRest0_eq]; simp only [cellsM, owns_whole]; try rfl

/-- One point's effect on the cells. -/
def pointStep (c : Dev nD) (t : Fin cfg0.N) (a : F .f32 × F .f32 × F .f32) : F .f32 × F .f32 × F .f32 :=
  step c (mem0 t) (mem0_whole t) (mem1 t) (mem1_whole t) (mem2 t) (mem2_whole t) (mem3 t) (mem3_whole t)
    (iblk m c 0 t) (iblk m c 1 t) (iblk m c 2 t) (iblk m c 3 t) a

/-- The cells after point `n`. -/
def accAt (c : Dev nD) : (n : ℕ) → n < cfg0.N → F .f32 × F .f32 × F .f32
  | 0, h => pointStep m c ⟨0, h⟩ zero3
  | n + 1, h => pointStep m c ⟨n + 1, h⟩ (accAt c n (Nat.lt_of_succ_lt h))

theorem accAt_first (c : Dev nD) (t : Fin cfg0.N) (h : t.val = 0) : accAt m c t.val t.isLt = pointStep m c t zero3 := by
  obtain ⟨n, hn⟩ := t
  cases n with
  | zero => rfl
  | succ n => exact absurd h (Nat.succ_ne_zero n)

theorem accAt_later (c : Dev nD) (t : Fin cfg0.N) (h : t.val ≠ 0) :
    accAt m c t.val t.isLt = pointStep m c t (accAt m c (t.val - 1) (Nat.lt_of_le_of_lt (Nat.sub_le _ _) t.isLt)) := by
  obtain ⟨n, hn⟩ := t
  cases n with
  | zero => exact absurd rfl h
  | succ n => rfl

/-- The scratch with three cells written. -/
abbrev holds (c : Dev nD) (a : F .f32 × F .f32 × F .f32) : sProp 𝕄 :=
  iprop(∃ f, cellsM.view.loc (c : Thread nD τ) ↦[cellsM.view.set]{fullShare} cellsM.view.writes (Elt F) f (cells a.1 a.2.1 a.2.2))

/-- The invariant before position `n`. -/
def carried (c : Dev nD) : (n : ℕ) → n ≤ cfg0.N → sProp 𝕄
  | 0, _ => Pipeline.ΦA spec0 c
  | n + 1, h => iprop(holds c (accAt m c n h) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (h : n < cfg0.N) :
    carried m c (n + 1) h = iprop(holds c (accAt m c n h) ∗ (∃ r, prngReg c r)) := rfl

theorem carried_pos (c : Dev nD) (n : ℕ) (h : n ≤ cfg0.N) (hz : n ≠ 0) :
    carried m c n h = iprop(holds c (accAt m c (n - 1) (by omega)) ∗ (∃ r, prngReg c r)) := by
  cases n with
  | zero => exact absurd rfl hz
  | succ n => rfl

/-- The three results as the last point computes them from the cells. -/
def totLoss (a : F .f32 × F .f32 × F .f32) : Vec F S1x1 .f32 := k0_pay6 a.2.2 a.1 a.2.1
def totConf (a : F .f32 × F .f32 × F .f32) : Vec F S1x1 .f32 := k0_pay7 a.2.2 a.2.1
def totLoc (a : F .f32 × F .f32 × F .f32) : Vec F S1x1 .f32 := k0_pay8 a.2.2 a.1

/-- The proof data: inputs keep their blocks, the outputs are the totals, the cells are carried. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => totLoss (accAt m c t.val t.isLt)
    | ⟨5, _⟩ => totConf (accAt m c t.val t.isLt)
    | ⟨6, _⟩ => totLoc (accAt m c t.val t.isLt)
  Φ t := carried m c t.val (Nat.le_of_lt_succ t.isLt)
  q _ := fullShare
  owed _ := 0

theorem data_A (c : Dev nD) (w : Fin cfg0.W) : (data m 0 c).A w = V m c (Pipeline.arrRef spec0 w) := by
  dsimp only [data]

theorem data_start (c : Dev nD) (t : Fin cfg0.N) :
    (data m 0 c).Φ t.castSucc = carried m c t.val (Nat.le_of_lt t.isLt) := by
  dsimp only [data]; exact Pipeline.Dat.Φ_castSucc (carried m c) t

theorem left0 (c : Dev nD) (t : Fin cfg0.N) : (data m 0 c).after 0 t = iblk m c 0 t := by dsimp only [data]
theorem left1 (c : Dev nD) (t : Fin cfg0.N) : (data m 0 c).after 1 t = iblk m c 1 t := by dsimp only [data]
theorem left2 (c : Dev nD) (t : Fin cfg0.N) : (data m 0 c).after 2 t = iblk m c 2 t := by dsimp only [data]
theorem left3 (c : Dev nD) (t : Fin cfg0.N) : (data m 0 c).after 3 t = iblk m c 3 t := by dsimp only [data]
theorem left4 (c : Dev nD) (t : Fin cfg0.N) : (data m 0 c).after 4 t = totLoss (accAt m c t.val t.isLt) := by dsimp only [data]
theorem left5 (c : Dev nD) (t : Fin cfg0.N) : (data m 0 c).after 5 t = totConf (accAt m c t.val t.isLt) := by dsimp only [data]
theorem left6 (c : Dev nD) (t : Fin cfg0.N) : (data m 0 c).after 6 t = totLoc (accAt m c t.val t.isLt) := by dsimp only [data]
theorem found0 (c : Dev nD) (t : Fin cfg0.N) (d) : (data m 0 c).before 0 t d = iblk m c 0 t :=
  before0_0_of m (data m 0 c) (data_A m c 0) (left0 m c) t d
theorem found1 (c : Dev nD) (t : Fin cfg0.N) (d) : (data m 0 c).before 1 t d = iblk m c 1 t :=
  before0_1_of m (data m 0 c) (data_A m c 1) (left1 m c) t d
theorem found2 (c : Dev nD) (t : Fin cfg0.N) (d) : (data m 0 c).before 2 t d = iblk m c 2 t :=
  before0_2_of m (data m 0 c) (data_A m c 2) (left2 m c) t d
theorem found3 (c : Dev nD) (t : Fin cfg0.N) (d) : (data m 0 c).before 3 t d = iblk m c 3 t :=
  before0_3_of m (data m 0 c) (data_A m c 3) (left3 m c) t d

/-- What the body is called with at a point, window by window, -/
def given (c : Dev nD) (t : Fin cfg0.N) : sProp 𝕄 :=
  iprop((data m 0 c).Φ t.castSucc ∗ (data m 0 c).owesAt () t.castSucc
    ∗ (∃ d, owns (c : Thread nD τ) (mem0 t) fullShare ((data m 0 c).before 0 t d))
    ∗ (∃ d, owns (c : Thread nD τ) (mem1 t) fullShare ((data m 0 c).before 1 t d))
    ∗ (∃ d, owns (c : Thread nD τ) (mem2 t) fullShare ((data m 0 c).before 2 t d))
    ∗ (∃ d, owns (c : Thread nD τ) (mem3 t) fullShare ((data m 0 c).before 3 t d))
    ∗ (∃ d, owns (c : Thread nD τ) (mem4 t) fullShare ((data m 0 c).before 4 t d))
    ∗ (∃ d, owns (c : Thread nD τ) (mem5 t) fullShare ((data m 0 c).before 5 t d))
    ∗ (∃ d, owns (c : Thread nD τ) (mem6 t) fullShare ((data m 0 c).before 6 t d)))

/-- and what it must give back. -/
def wanted (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t)

set_option maxHeartbeats 2000000 in
/-- The body at any point. -/
theorem body_at (c : Dev nD) (t : Fin cfg0.N) :
    given m c t ⊢ wp frame (wpE (defs₀ (F := F)) Variants.none c none) Set.univ (bodyAt0 t) (fun _ => wanted m c t) := by
  unfold given wanted bodyAt0
  simp only [found0, found1, found2, found3]
  rw [show (data m 0 c).owesAt () t.succ = (data m 0 c).owesAt () t.castSucc from rfl]
  rw [show (data m 0 c).Φ t.succ = carried m c (t.val + 1) t.isLt from rfl, carried_succ, data_start m c t]
  have hN : t.val < 4 := lt_of_lt_of_eq t.isLt (show cfg0.N = 4 from N_0)
  rw [show (data m 0 c).leavesExact 0 t = owns (c : Thread nD τ) (mem0 t) fullShare ((data m 0 c).after 0 t) from by
      unfold Dat.leavesExact; rw [(inputs_live t).1], left0]
  rw [show (data m 0 c).leavesExact 1 t = owns (c : Thread nD τ) (mem1 t) fullShare ((data m 0 c).after 1 t) from by
      unfold Dat.leavesExact; rw [(inputs_live t).2.1], left1]
  rw [show (data m 0 c).leavesExact 2 t = owns (c : Thread nD τ) (mem2 t) fullShare ((data m 0 c).after 2 t) from by
      unfold Dat.leavesExact; rw [(inputs_live t).2.2.1], left2]
  rw [show (data m 0 c).leavesExact 3 t = owns (c : Thread nD τ) (mem3 t) fullShare ((data m 0 c).after 3 t) from by
      unfold Dat.leavesExact; rw [(inputs_live t).2.2.2], left3]
  by_cases h0 : t.val % 4 = 0
  · by_cases h1 : t.val % 4 = 3
    · exfalso; omega
    · rw [Dat.leavesExact_idle (data m 0 c) 4 t (quiet4 t (fun h => h1 ((hcond0_1 t).mp h))).1 (quiet4 t (fun h => h1 ((hcond0_1 t).mp h))).2]
      rw [Dat.leavesExact_idle (data m 0 c) 5 t (quiet5 t (fun h => h1 ((hcond0_1 t).mp h))).1 (quiet5 t (fun h => h1 ((hcond0_1 t).mp h))).2]
      rw [Dat.leavesExact_idle (data m 0 c) 6 t (quiet6 t (fun h => h1 ((hcond0_1 t).mp h))).1 (quiet6 t (fun h => h1 ((hcond0_1 t).mp h))).2]
      rw [carried_zero m c _ _ (by omega), anything_eq, accAt_first m c t (by omega)]
      have hv : (runA c (grid0.coords t) (mem0 t) (mem0_whole t) (mem1 t) (mem1_whole t) (mem2 t) (mem2_whole t) (mem3 t) (mem3_whole t) (mem4 t) (mem4_whole t) (mem5 t) (mem5_whole t) (mem6 t) (mem6_whole t) cellsM (Memref.isWhole_whole _) ((hcond0_0 t).mpr h0) (fun h => h1 ((hcond0_1 t).mp h)) (iblk m c 0 t) (iblk m c 1 t) (iblk m c 2 t) (iblk m c 3 t)).1 = pointStep m c t zero3 := runA_val c (grid0.coords t) (mem0 t) (mem0_whole t) (mem1 t) (mem1_whole t) (mem2 t) (mem2_whole t) (mem3 t) (mem3_whole t) (mem4 t) (mem4_whole t) (mem5 t) (mem5_whole t) (mem6 t) (mem6_whole t) cellsM (Memref.isWhole_whole _) ((hcond0_0 t).mpr h0) (fun h => h1 ((hcond0_1 t).mp h)) (iblk m c 0 t) (iblk m c 1 t) (iblk m c 2 t) (iblk m c 3 t)
      rw [← hv]; clear hv
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) (mem0 t) (mem0_whole t) (mem1 t) (mem1_whole t) (mem2 t) (mem2_whole t) (mem3 t) (mem3_whole t) (mem4 t) (mem4_whole t) (mem5 t) (mem5_whole t) (mem6 t) (mem6_whole t) cellsM (Memref.isWhole_whole _) ((hcond0_0 t).mpr h0) (fun h => h1 ((hcond0_1 t).mp h)) (iblk m c 0 t) (iblk m c 1 t) (iblk m c 2 t) (iblk m c 3 t)).2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
  · by_cases h1 : t.val % 4 = 3
    · rw [show (data m 0 c).leavesExact 4 t = owns (c : Thread nD τ) (mem4 t) fullShare ((data m 0 c).after 4 t) from by
        unfold Dat.leavesExact; rw [live4 t ((hcond0_1 t).mpr h1)], left4]
      rw [show (data m 0 c).leavesExact 5 t = owns (c : Thread nD τ) (mem5 t) fullShare ((data m 0 c).after 5 t) from by
        unfold Dat.leavesExact; rw [live5 t ((hcond0_1 t).mpr h1)], left5]
      rw [show (data m 0 c).leavesExact 6 t = owns (c : Thread nD τ) (mem6 t) fullShare ((data m 0 c).after 6 t) from by
        unfold Dat.leavesExact; rw [live6 t ((hcond0_1 t).mpr h1)], left6]
      rw [carried_pos m c _ _ (by omega), accAt_later m c t (by omega)]
      generalize accAt m c (t.val - 1) _ = a
      have hv : (runC c (grid0.coords t) (mem0 t) (mem0_whole t) (mem1 t) (mem1_whole t) (mem2 t) (mem2_whole t) (mem3 t) (mem3_whole t) (mem4 t) (mem4_whole t) (mem5 t) (mem5_whole t) (mem6 t) (mem6_whole t) cellsM (Memref.isWhole_whole _) (fun h => h0 ((hcond0_0 t).mp h)) ((hcond0_1 t).mpr h1) (iblk m c 0 t) (iblk m c 1 t) (iblk m c 2 t) (iblk m c 3 t) a.1 a.2.1 a.2.2).1 = pointStep m c t a := runC_val c (grid0.coords t) (mem0 t) (mem0_whole t) (mem1 t) (mem1_whole t) (mem2 t) (mem2_whole t) (mem3 t) (mem3_whole t) (mem4 t) (mem4_whole t) (mem5 t) (mem5_whole t) (mem6 t) (mem6_whole t) cellsM (Memref.isWhole_whole _) (fun h => h0 ((hcond0_0 t).mp h)) ((hcond0_1 t).mpr h1) (iblk m c 0 t) (iblk m c 1 t) (iblk m c 2 t) (iblk m c 3 t) a.1 a.2.1 a.2.2
      rw [← hv]; clear hv
      unfold totLoss totConf totLoc
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runC c (grid0.coords t) (mem0 t) (mem0_whole t) (mem1 t) (mem1_whole t) (mem2 t) (mem2_whole t) (mem3 t) (mem3_whole t) (mem4 t) (mem4_whole t) (mem5 t) (mem5_whole t) (mem6 t) (mem6_whole t) cellsM (Memref.isWhole_whole _) (fun h => h0 ((hcond0_0 t).mp h)) ((hcond0_1 t).mpr h1) (iblk m c 0 t) (iblk m c 1 t) (iblk m c 2 t) (iblk m c 3 t) a.1 a.2.1 a.2.2).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS]; · iexact HS
      iintro ⟨H0, H1, H2, H3, H4, H5, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (data m 0 c) 4 t (quiet4 t (fun h => h1 ((hcond0_1 t).mp h))).1 (quiet4 t (fun h => h1 ((hcond0_1 t).mp h))).2]
      rw [Dat.leavesExact_idle (data m 0 c) 5 t (quiet5 t (fun h => h1 ((hcond0_1 t).mp h))).1 (quiet5 t (fun h => h1 ((hcond0_1 t).mp h))).2]
      rw [Dat.leavesExact_idle (data m 0 c) 6 t (quiet6 t (fun h => h1 ((hcond0_1 t).mp h))).1 (quiet6 t (fun h => h1 ((hcond0_1 t).mp h))).2]
      rw [carried_pos m c _ _ (by omega), accAt_later m c t (by omega)]
      generalize accAt m c (t.val - 1) _ = a
      have hv : (runB c (grid0.coords t) (mem0 t) (mem0_whole t) (mem1 t) (mem1_whole t) (mem2 t) (mem2_whole t) (mem3 t) (mem3_whole t) (mem4 t) (mem4_whole t) (mem5 t) (mem5_whole t) (mem6 t) (mem6_whole t) cellsM (Memref.isWhole_whole _) (fun h => h0 ((hcond0_0 t).mp h)) (fun h => h1 ((hcond0_1 t).mp h)) (iblk m c 0 t) (iblk m c 1 t) (iblk m c 2 t) (iblk m c 3 t) a.1 a.2.1 a.2.2).1 = pointStep m c t a := runB_val c (grid0.coords t) (mem0 t) (mem0_whole t) (mem1 t) (mem1_whole t) (mem2 t) (mem2_whole t) (mem3 t) (mem3_whole t) (mem4 t) (mem4_whole t) (mem5 t) (mem5_whole t) (mem6 t) (mem6_whole t) cellsM (Memref.isWhole_whole _) (fun h => h0 ((hcond0_0 t).mp h)) (fun h => h1 ((hcond0_1 t).mp h)) (iblk m c 0 t) (iblk m c 1 t) (iblk m c 2 t) (iblk m c 3 t) a.1 a.2.1 a.2.2
      rw [← hv]; clear hv
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) (mem0 t) (mem0_whole t) (mem1 t) (mem1_whole t) (mem2 t) (mem2_whole t) (mem3 t) (mem3_whole t) (mem4 t) (mem4_whole t) (mem5 t) (mem5_whole t) (mem6 t) (mem6_whole t) cellsM (Memref.isWhole_whole _) (fun h => h0 ((hcond0_0 t).mp h)) (fun h => h1 ((hcond0_1 t).mp h)) (iblk m c 0 t) (iblk m c 1 t) (iblk m c 2 t) (iblk m c 3 t) a.1 a.2.1 a.2.2).2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

theorem body_named (t : Fin cfg0.N) :
    defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, body_named]
  exact triple_restated (body_at m c t) rfl .rfl fun _ => .rfl

theorem enters (c : Dev nD) : Pipeline.ΦA spec0 c ⊢ (data m 0 c).Φ 0 := by
  rw [show (data m 0 c).Φ 0 = carried m c 0 (Nat.zero_le _) from rfl, carried_zero m c 0 _ rfl]

theorem leaves (c : Dev nD) : (data m 0 c).Φ (Fin.last cfg0.N) ⊢ Pipeline.ΦA spec0 c := by
  rw [show (data m 0 c).Φ (Fin.last cfg0.N) = carried m c cfg0.N le_rfl from rfl,
    carried_pos m c _ _ (by rw [show cfg0.N = 4 from N_0]; omega), anything_eq]
  iintro ⟨⟨%f, HS⟩, Hg⟩
  isplitl [HS]
  · iexists _; unfold owns; iexists _; isplitr
    swap; · iexact HS
    ipureintro; rfl
  iexact Hg

set_option backward.isDefEq.respectTransparency.types false in
/-- The launch. -/
theorem launched : θ_run defs (onTc (τ := τ) (main (F := F))) (s₀ m ρ) (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hin := enters m) (hout := leaves m)

/-- The run: every array of the pipeline ends at what the proof data says. -/
theorem ran : θ_run defs (onTc (τ := τ) (main (F := F))) (s₀ m ρ) (Pipeline.FramePost cfgs (data m) 0 (V m)) :=
  (θ_run defs _ _).mono (fun _ h => h.1) (launched m ρ)

theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (data m) (data_A m) (ran m ρ)

/-- The frame: the program ends, its arguments unchanged, every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (kept m ρ) ((θ_run defs _ _).mono (fun _ h => h.2) (launched m ρ))

end Cert.KernelIdeal.Own

end
-- ==== Proof.KI.Batch.lean ====
module

public import proofs.«01_k».proof.Proof.KI.Step
@[expose] public section

set_option maxRecDepth 16384

noncomputable section

namespace Cert.KernelIdeal.Own

open Cert.KernelIdeal Cert.KernelIdeal.Gen
open Idealize.ShloMosaic

variable {F : FTy → Type} [FloatOps F]

/-- An array over the anchors laid along the boxes. -/
def upA {α : Type} (v : S8x2560.Idx → α) : S32x8x2560.Idx → α :=
  broadcastTo S32x8x2560 (shapeCast S1x8x2560 v shapeCasts_S8x2560_S1x8x2560) broadcasts_S1x8x2560_S32x8x2560

/-- A column over the boxes laid along the anchors. -/
def upG {α : Type} (v : S32x1x1.Idx → α) : S32x8x2560.Idx → α :=
  broadcastTo S32x8x2560 v broadcasts_S32x1x1_S32x8x2560

/-- A column over the boxes laid along the anchors, through a cast to its own shape. -/
def upG' {α : Type} (v : S32x1x1.Idx → α) : S32x8x2560.Idx → α :=
  broadcastTo S32x8x2560 (shapeCast S32x1x1 v shapeCasts_S32x1x1_S32x1x1) broadcasts_S32x1x1_S32x8x2560

/-- The sum of an array over the anchors. -/
def sumA (x : FVec F S8x2560 .f32) : F .f32 :=
  extractAt ![0, 0, 0] (shapeCast S1x1x1 (multiReduction .add [1, 2] S1 (shapeCast S1x8x2560 x shapeCasts_S8x2560_S1x8x2560) 0x00000000#32 reduces_S1x8x2560_S1 (.inl rfl) rfl) shapeCasts_S1_S1x1x1) inpos_S1x1x1_p0_0_0

/-- The sum of a column over the boxes. -/
def sumG (x : FVec F S32x1 .f32) : F .f32 :=
  extractAt ![0, 0, 0] (shapeCast S1x1x1 (multiReduction .add [1, 2] S1 (shapeCast S1x32x1 x shapeCasts_S32x1_S1x32x1) 0x00000000#32 reduces_S1x32x1_S1 (.inl rfl) rfl) shapeCasts_S1_S1x1x1) inpos_S1x1x1_p0_0_0

/-- What one batch reads: its anchors, its predicted boxes, its confidences, its true boxes. -/
structure Blk (F : FTy → Type) where
  a0 : Vec F S1x8x2560 .f32
  a1 : Vec F S1x8x2560 .f32
  a2 : Vec F S1x8x2560 .f32
  a3 : Vec F S1x8x2560 .f32
  d0 : Vec F S1x1x8x2560 .f32
  d1 : Vec F S1x1x8x2560 .f32
  d2 : Vec F S1x1x8x2560 .f32
  d3 : Vec F S1x1x8x2560 .f32
  c : Vec F S1x8x2560 .f32
  g0 : Vec F S1x1x32x1x1 .f32
  g1 : Vec F S1x1x32x1x1 .f32
  g2 : Vec F S1x1x32x1x1 .f32
  g3 : Vec F S1x1x32x1x1 .f32

/-- An anchor coordinate as a plane. -/
def plA (v : Vec F S1x8x2560 .f32) : FVec F S8x2560 .f32 := shapeCast S8x2560 v shapeCasts_S1x8x2560_S8x2560
/-- A predicted coordinate as a plane. -/
def plD (v : Vec F S1x1x8x2560 .f32) : FVec F S8x2560 .f32 := shapeCast S8x2560 v shapeCasts_S1x1x8x2560_S8x2560
/-- A true coordinate as a column. -/
def plG (v : Vec F S1x1x32x1x1 .f32) : FVec F S32x1x1 .f32 := shapeCast S32x1x1 v shapeCasts_S1x1x32x1x1_S32x1x1

variable (L : Blk F)

/-- The meet of each box with each anchor. -/
def interV : FVec F S32x8x2560 .f32 :=
  mulf (maximumf (subf (minimumf (upA (plA L.a2)) (upG (plG L.g2))) (maximumf (upA (plA L.a0)) (upG (plG L.g0)))) (broadcast S32x8x2560 (Scalar.ofBits .f32 0x00000000#32)))
    (maximumf (subf (minimumf (upA (plA L.a3)) (upG (plG L.g3))) (maximumf (upA (plA L.a1)) (upG (plG L.g1)))) (broadcast S32x8x2560 (Scalar.ofBits .f32 0x00000000#32)))

/-- The overlap ratio of each box with each anchor. -/
def iouV : FVec F S32x8x2560 .f32 :=
  divf (interV L)
    (addf (subf (addf (upA (mulf (subf (plA L.a2) (plA L.a0)) (subf (plA L.a3) (plA L.a1))))
        (upG (mulf (subf (plG L.g2) (plG L.g0)) (subf (plG L.g3) (plG L.g1))))) (interV L))
      (broadcast S32x8x2560 (Scalar.ofBits .f32 0x33D6BF95#32)))

/-- The row number of each anchor. -/
def anchorNo : IVec S8x2560 32 :=
  addi (muli (iota .tc S8x2560 32 [0] iota_S8x2560_d0_w32) (broadcast S8x2560 2560#32)) (iota .tc S8x2560 32 [1] iota_S8x2560_d1_w32)

/-- The confidence plane. -/
def confV : FVec F S8x2560 .f32 := plA L.c

/-- The anchors with a positive confidence: the real ones. -/
def realV : IVec S8x2560 1 := cmpf .ogt (confV L) (broadcast S8x2560 (Scalar.ofBits .f32 0x00000000#32))

/-- Each anchor's best overlap. -/
def bestV : FVec F S8x2560 .f32 := multiReduction .maximumf [0] S8x2560 (iouV L) 0xFF800000#32 reduces_S32x8x2560_S8x2560 (.inl rfl) rfl

/-- The number of the first box of best overlap. -/
def firstV : IVec S8x2560 32 :=
  multiReductionI .minsi [0] S8x2560 (select (cmpf .oeq (iouV L) (upA (bestV L))) (upG' (iota .tc S32x1x1 32 [0] iota_S32x1x1_d0_w32)) (broadcast S32x8x2560 64#32)) 2147483647#32 reduces_S32x8x2560_S8x2560 rfl

/-- Which box is an anchor's first best one. -/
def selV : IVec S32x8x2560 1 :=
  cmpi .eq (upG (iota .tc S32x1x1 32 [0] iota_S32x1x1_d0_w32)) (upA (firstV L))

/-- A coordinate of each anchor's matched box. -/
def matV (g : Vec F S1x1x32x1x1 .f32) : FVec F S8x2560 .f32 :=
  multiReduction .add [0] S8x2560 (select (selV L) (upG' (plG g)) (broadcast S32x8x2560 (Scalar.ofBits .f32 0x00000000#32))) 0x00000000#32 reduces_S32x8x2560_S8x2560 (.inl rfl) rfl

/-- The meet of each predicted box with its matched box. -/
def meetV : FVec F S8x2560 .f32 :=
  mulf (maximumf (subf (minimumf (plD L.d2) (matV L L.g2)) (maximumf (plD L.d0) (matV L L.g0))) (broadcast S8x2560 (Scalar.ofBits .f32 0x00000000#32)))
    (maximumf (subf (minimumf (plD L.d3) (matV L L.g3)) (maximumf (plD L.d1) (matV L L.g1))) (broadcast S8x2560 (Scalar.ofBits .f32 0x00000000#32)))

/-- Half of a plane. -/
def halfV (v : FVec F S8x2560 .f32) : FVec F S8x2560 .f32 := mulf v (broadcast S8x2560 (Scalar.ofBits .f32 0x3F000000#32))

/-- The product of a plane with itself. -/
def sqV (v : FVec F S8x2560 .f32) : FVec F S8x2560 .f32 := mulf v v

/-- The box loss of each anchor. -/
def diouV : FVec F S8x2560 .f32 :=
  addf (subf (broadcast S8x2560 (Scalar.ofBits .f32 0x3F800000#32))
      (divf (meetV L) (addf (subf (addf (mulf (subf (plD L.d2) (plD L.d0)) (subf (plD L.d3) (plD L.d1)))
        (mulf (subf (matV L L.g2) (matV L L.g0)) (subf (matV L L.g3) (matV L L.g1)))) (meetV L))
        (broadcast S8x2560 (Scalar.ofBits .f32 0x33D6BF95#32)))))
    (divf (addf (sqV (subf (halfV (addf (plD L.d0) (plD L.d2))) (halfV (addf (matV L L.g0) (matV L L.g2)))))
        (sqV (subf (halfV (addf (plD L.d1) (plD L.d3))) (halfV (addf (matV L L.g1) (matV L L.g3))))))
      (addf (addf (sqV (subf (maximumf (plD L.d2) (matV L L.g2)) (minimumf (plD L.d0) (matV L L.g0))))
          (sqV (subf (maximumf (plD L.d3) (matV L L.g3)) (minimumf (plD L.d1) (matV L L.g1)))))
        (broadcast S8x2560 (Scalar.ofBits .f32 0x33D6BF95#32))))

/-- The log odds of a confidence. -/
def logitV {s : Shape} (p : FVec F s .f32) : FVec F s .f32 :=
  log (divf p (addf (subf (broadcast s (Scalar.ofBits .f32 0x3F800000#32)) p) (broadcast s (Scalar.ofBits .f32 0x2EDBE6FF#32))))

/-- The logarithm of one and the exponential of minus a size. -/
def softV {s : Shape} (x : FVec F s .f32) : FVec F s .f32 :=
  log1p (exp (subf (broadcast s (Scalar.ofBits .f32 0x00000000#32)) (absf x)))

/-- The focal loss at a target of one. -/
def flPos {s : Shape} (x : FVec F s .f32) : FVec F s .f32 :=
  mulf (mulf (mulf (broadcast s (Scalar.ofBits .f32 0x3E800000#32)) (subf (broadcast s (Scalar.ofBits .f32 0x3F800000#32)) (logistic x)))
      (subf (broadcast s (Scalar.ofBits .f32 0x3F800000#32)) (logistic x)))
    (addf (subf (maximumf x (broadcast s (Scalar.ofBits .f32 0x00000000#32))) x) (softV x))

/-- The focal loss at a target of zero. -/
def flNeg {s : Shape} (x : FVec F s .f32) : FVec F s .f32 :=
  mulf (mulf (mulf (broadcast s (Scalar.ofBits .f32 0x3F400000#32)) (logistic x)) (logistic x))
    (addf (maximumf x (broadcast s (Scalar.ofBits .f32 0x00000000#32))) (softV x))

/-- The log odds of each anchor, one half standing at the padding. -/
def logitA : FVec F S8x2560 .f32 := logitV (select (realV L) (confV L) (broadcast S8x2560 (Scalar.ofBits .f32 0x3F000000#32)))

/-- The anchors whose best overlap is over one half. -/
def posV : IVec S8x2560 1 := cmpf .ogt (bestV L) (broadcast S8x2560 (Scalar.ofBits .f32 0x3F000000#32))
/-- The same as numbers. -/
def posfV : FVec F S8x2560 .f32 := sitofp .f32 (extui 32 (posV L) natLt_1_32)

/-- The real anchors that are not over one half. -/
def restV : IVec S8x2560 1 := andi (realV L) (xori (posV L) (constantI S8x2560 1 1#1))

/-- The losses at the anchors that are not over one half. -/
def flnegV : FVec F S8x2560 .f32 := select (restV L) (flNeg (logitA L)) (broadcast S8x2560 (Scalar.ofBits .f32 0x00000000#32))
/-- Their confidences. -/
def negpV : FVec F S8x2560 .f32 := select (restV L) (confV L) (broadcast S8x2560 (Scalar.ofBits .f32 0xBF800000#32))

/-- Each box's best overlap. -/
def topV : FVec F S32x1 .f32 :=
  shapeCast S32x1 (multiReduction .maximumf [1] S32 (multiReduction .maximumf [2] S32x8 (iouV L) 0xFF800000#32 reduces_S32x8x2560_S32x8 (.inl rfl) rfl) 0xFF800000#32 reduces_S32x8_S32 (.inl rfl) rfl) shapeCasts_S32_S32x1

/-- The anchors' numbers as numbers of the type of the values. -/
def numV : FVec F S8x2560 .f32 := sitofp .f32 anchorNo

/-- The number of the first anchor of a box's best overlap. -/
def argV : FVec F S32x1 .f32 :=
  shapeCast S32x1 (multiReduction .minimumf [1] S32 (multiReduction .minimumf [2] S32x8
    (select (cmpf .oeq (iouV L) (upG (shapeCast S32x1x1 (topV L) shapeCasts_S32x1_S32x1x1))) (upA (numV (F := F))) (broadcast S32x8x2560 (Scalar.ofBits .f32 0x4BE4E1C0#32)))
    0x7F800000#32 reduces_S32x8x2560_S32x8 (.inl rfl) rfl) 0x7F800000#32 reduces_S32x8_S32 (.inl rfl) rfl) shapeCasts_S32_S32x1

/-- Which anchor is a box's best one. -/
def atV : IVec S32x8x2560 1 :=
  cmpf .oeq (upA (numV (F := F))) (upG (shapeCast S32x1x1 (argV L) shapeCasts_S32x1_S32x1x1))

/-- The value of a plane at each box's best anchor. -/
def pickV (v : FVec F S8x2560 .f32) : FVec F S32x1 .f32 :=
  shapeCast S32x1 (multiReduction .add [1] S32 (multiReduction .add [2] S32x8
    (select (atV L) (upA v) (broadcast S32x8x2560 (Scalar.ofBits .f32 0x00000000#32)))
    0x00000000#32 reduces_S32x8x2560_S32x8 (.inl rfl) rfl) 0x00000000#32 reduces_S32x8_S32 (.inl rfl) rfl) shapeCasts_S32_S32x1

/-- The best anchors' numbers as a row. -/
def argT : FVec F S1x32 .f32 :=
  shapeCast S1x32 (multiReduction .add [0] S32 (select (cmpi .eq (iota .tc S32x32 32 [0] iota_S32x32_d0_w32) (iota .tc S32x32 32 [1] iota_S32x32_d1_w32))
    (broadcastTo S32x32 (shapeCast S32x1 (argV L) shapeCasts_S32x1_S32x1) broadcasts_S32x1_S32x32) (broadcast S32x32 (Scalar.ofBits .f32 0x00000000#32 : F .f32)))
    0x00000000#32 reduces_S32x32_S32 (.inl rfl) rfl) shapeCasts_S32_S1x32

/-- Whether an earlier box has the same best anchor. -/
def dupV : IVec S32x1 1 :=
  cmpf .ogt (shapeCast S32x1 (multiReduction .add [1] S32 (sitofp (F := F) .f32 (extui 32 (andi
      (cmpf .oeq (broadcastTo S32x32 (argT L) broadcasts_S1x32_S32x32) (broadcastTo S32x32 (argV L) broadcasts_S32x1_S32x32))
      (cmpi .slt (iota .tc S32x32 32 [1] iota_S32x32_d1_w32) (iota .tc S32x32 32 [0] iota_S32x32_d0_w32))) natLt_1_32))
    0x00000000#32 reduces_S32x32_S32_2 (.inl rfl) rfl) shapeCasts_S32_S32x1) (broadcast S32x1 (Scalar.ofBits .f32 0x00000000#32))

/-- The boxes whose best anchor is a positive one only by them, each such anchor named once. -/
def fixV : IVec S32x1 1 :=
  andi (xori (dupV L) (constantI S32x1 1 1#1)) (cmpf .olt (pickV L (posfV L)) (broadcast S32x1 (Scalar.ofBits .f32 0x3F000000#32)))
/-- The same as numbers. -/
def fixfV : FVec F S32x1 .f32 := sitofp .f32 (extui 32 (fixV L) natLt_1_32)

/-- The number of positive anchors. -/
def nposS : F .f32 := Scalar.addf (sumA (posfV L)) (sumG (fixfV L))

/-- The box losses of the positive anchors, added. -/
def locS : F .f32 := Scalar.addf (sumA (mulf (diouV L) (posfV L))) (sumG (mulf (fixfV L) (pickV L (diouV L))))

/-- The class losses of the positive anchors, added. -/
def posS : F .f32 := Scalar.addf (sumA (mulf (flPos (logitA L)) (posfV L))) (sumG (mulf (fixfV L) (flPos (logitV (pickV L (confV L))))))

/-- The number of negatives to take. -/
def kS : F .f32 := Scalar.minimumf (Scalar.mulf (Scalar.ofBits .f32 0x40400000#32) (nposS L)) (Scalar.subf (Scalar.ofBits .f32 0x469C4000#32) (nposS L))

/-- The confidences of the anchors to take out. -/
def pfixV : FVec F S32x1 .f32 := select (fixV L) (pickV L (confV L)) (broadcast S32x1 (Scalar.ofBits .f32 0xBF800000#32))
/-- Their losses. -/
def flfixV : FVec F S32x1 .f32 := select (fixV L) (flNeg (logitV (pickV L (confV L)))) (broadcast S32x1 (Scalar.ofBits .f32 0x00000000#32))

/-- How many confidences compare so with a bound. -/
def cntS (q : CmpFPredicate) (v : FVec F S8x2560 .f32) (w : FVec F S32x1 .f32) (t : F .f32) : F .f32 :=
  Scalar.subf (sumA (sitofp .f32 (extui 32 (cmpf q v (broadcast S8x2560 t)) natLt_1_32)))
    (sumG (sitofp .f32 (extui 32 (cmpf q w (broadcast S32x1 t)) natLt_1_32)))

/-- The losses of those whose confidence compares so with a bound, added. -/
def lossS (q : CmpFPredicate) (v : FVec F S8x2560 .f32) (w : FVec F S32x1 .f32) (f : FVec F S8x2560 .f32) (h : FVec F S32x1 .f32) (t : F .f32) : F .f32 :=
  Scalar.subf (sumA (mulf f (sitofp .f32 (extui 32 (cmpf q v (broadcast S8x2560 t)) natLt_1_32))))
    (sumG (mulf h (sitofp .f32 (extui 32 (cmpf q w (broadcast S32x1 t)) natLt_1_32))))

/-- The middle of two bounds. -/
def midS (a : F .f32 × F .f32) : F .f32 := Scalar.mulf (Scalar.ofBits .f32 0x3F000000#32) (Scalar.addf a.1 a.2)

/-- One halving of the interval. -/
def halve (v : FVec F S8x2560 .f32) (w : FVec F S32x1 .f32) (k : F .f32) (a : F .f32 × F .f32) : F .f32 × F .f32 :=
  (Scalar.select (Scalar.cmpf .oge (cntS .oge v w (midS a)) k) (midS a) a.1,
   Scalar.select (Scalar.cmpf .oge (cntS .oge v w (midS a)) k) a.2 (midS a))

/-- The bounds after all halvings. -/
def bounds (v : FVec F S8x2560 .f32) (w : FVec F S32x1 .f32) (k : F .f32) : F .f32 × F .f32 :=
  Scf.fold (fun (_ : Fin k0_t1_loop.trips) a => halve v w k a) (Scalar.ofBits .f32 0x00000000#32, Scalar.ofBits .f32 0x3F800000#32)

/-- How many are still to take at the bound. -/
def remS (v : FVec F S8x2560 .f32) (w : FVec F S32x1 .f32) (k t : F .f32) : F .f32 := Scalar.subf k (cntS .ogt v w t)

/-- The losses of the hardest negatives, added, at a bound. -/
def hardS (v : FVec F S8x2560 .f32) (w : FVec F S32x1 .f32) (f : FVec F S8x2560 .f32) (h : FVec F S32x1 .f32) (k t : F .f32) : F .f32 :=
  Scalar.addf (lossS .ogt v w f h t)
    (Scalar.select (Scalar.cmpf .ogt (remS v w k t) (Scalar.ofBits .f32 0x3F000000#32))
      (Scalar.divf (Scalar.mulf (remS v w k t) (lossS .oeq v w f h t)) (Scalar.maximumf (cntS .oeq v w t) (Scalar.ofBits .f32 0x3F800000#32)))
      (Scalar.ofBits .f32 0x00000000#32))

/-- The bound of a batch. -/
def cutS : F .f32 := (bounds (negpV L) (pfixV L) (kS L)).1

/-- The losses of a batch's hardest negatives, added. -/
def topS : F .f32 := hardS (negpV L) (pfixV L) (flnegV L) (flfixV L) (kS L) (cutS L)

end Cert.KernelIdeal.Own

end
-- ==== Proof.M.First.lean ====
module

public import Idealize.ShloMosaic.Lib.Pointwise
@[expose] public section

noncomputable section

namespace Cert.Own

open Finset

/-- The place of the first largest value. -/
def IsFirst {ι : Type} [LinearOrder ι] (f : ι → EReal) (i : ι) : Prop := (∀ j, f j ≤ f i) ∧ ∀ j, f j = f i → i ≤ j

theorem IsFirst.unique {ι : Type} [LinearOrder ι] {f : ι → EReal} {i j : ι} (hi : IsFirst f i) (hj : IsFirst f j) : i = j :=
  le_antisymm (hi.2 j (le_antisymm (hi.1 j) (hj.1 i))) (hj.2 i (le_antisymm (hj.1 i) (hi.1 j)))

theorem exists_isFirst {ι : Type} [LinearOrder ι] [Fintype ι] [Nonempty ι] (f : ι → EReal) : ∃ i, IsFirst f i := by
  classical
  obtain ⟨m, hm⟩ := Finite.exists_max f
  have hne : (univ.filter fun j => f j = f m).Nonempty := ⟨m, by simp⟩
  refine ⟨(univ.filter fun j => f j = f m).min' hne, ?_, ?_⟩
  · have h := Finset.min'_mem _ hne
    simp only [mem_filter, mem_univ, true_and] at h
    intro j; rw [h]; exact hm j
  · have h := Finset.min'_mem _ hne
    simp only [mem_filter, mem_univ, true_and] at h
    intro j hj
    apply Finset.min'_le
    simp [hj, h]

/-- The place of the first largest value. -/
def first {ι : Type} [LinearOrder ι] [Fintype ι] [Nonempty ι] (f : ι → EReal) : ι := (exists_isFirst f).choose

theorem first_spec {ι : Type} [LinearOrder ι] [Fintype ι] [Nonempty ι] (f : ι → EReal) : IsFirst f (first f) := (exists_isFirst f).choose_spec

theorem IsFirst.eq_first {ι : Type} [LinearOrder ι] [Fintype ι] [Nonempty ι] {f : ι → EReal} {i : ι} (h : IsFirst f i) : i = first f :=
  h.unique (first_spec f)

/-- The largest of finitely many values, folded from the bottom, is the value at the first largest place. -/
theorem fold_max_eq {ι : Type} [LinearOrder ι] [Fintype ι] [Nonempty ι] (f : ι → EReal) : univ.fold max ⊥ f = f (first f) := by
  apply le_antisymm
  · rw [Finset.fold_max_le]; exact ⟨bot_le, fun i _ => (first_spec f).1 i⟩
  · rw [Finset.le_fold_max]; exact Or.inr ⟨first f, mem_univ _, le_rfl⟩

/-- A minimum folded from the top. -/
theorem fold_min_eq {ι : Type} [Fintype ι] (f : ι → EReal) (i : ι) (h : ∀ j, f i ≤ f j) : univ.fold min ⊤ f = f i := by
  apply le_antisymm
  · rw [Finset.fold_min_le]; exact Or.inr ⟨i, mem_univ _, le_rfl⟩
  · rw [Finset.le_fold_min]; exact ⟨le_top, fun j _ => h j⟩

/-- A left fold of a choice between two, the better one kept: an element no worse than any. -/
theorem foldl_choose {α : Type} (R : α → α → α) (le : α → α → Prop) (hrefl : ∀ a, le a a) (htr : ∀ a b c, le a b → le b c → le a c)
    (hor : ∀ a b, R a b = a ∨ R a b = b) (hl : ∀ a b, le a (R a b)) (hr : ∀ a b, le b (R a b)) (l : List α) (z : α) :
    (l.foldl R z = z ∨ l.foldl R z ∈ l) ∧ le z (l.foldl R z) ∧ ∀ a ∈ l, le a (l.foldl R z) := by
  induction l generalizing z with
  | nil => exact ⟨Or.inl rfl, hrefl z, fun a h => absurd h (by simp)⟩
  | cons b l ih =>
    obtain ⟨h1, h2, h3⟩ := ih (R z b)
    refine ⟨?_, htr _ _ _ (hl z b) h2, ?_⟩
    · rcases h1 with h | h
      · rcases hor z b with e | e
        · exact Or.inl (h.trans e)
        · exact Or.inr (by rw [List.foldl_cons, h, e]; simp)
      · exact Or.inr (List.mem_cons_of_mem _ h)
    · intro a ha
      rcases List.mem_cons.mp ha with rfl | ha
      · exact htr _ _ _ (hr z a) h2
      · exact h3 a ha

/-- The values over all places, some taken by a test of their own, the others where a list of places names them (a place
named twice counted by the first name): one sum over the places named or tested. -/
theorem sum_split {ι γ : Type} [Fintype ι] [DecidableEq ι] [LinearOrder γ] [Fintype γ] (i0 : γ → ι) (pos : ι → Prop) [DecidablePred pos]
    (fix : γ → Prop) [DecidablePred fix] (hfix : ∀ g, fix g ↔ (¬ pos (i0 g)) ∧ ∀ h, h < g → i0 h ≠ i0 g) (w : ι → EReal) :
    (∑ i, if pos i then w i else 0) + (∑ g, if fix g then w (i0 g) else 0)
      = ∑ i, if pos i ∨ ∃ g, i0 g = i then w i else 0 := by
  classical
  rw [← Finset.sum_filter, ← Finset.sum_filter, ← Finset.sum_filter]
  have hinj : Set.InjOn i0 (univ.filter fix : Finset γ) := by
    intro a ha b hb hab
    simp only [coe_filter, mem_univ, true_and, Set.mem_setOf_eq] at ha hb
    rcases lt_trichotomy a b with h | h | h
    · exact absurd hab (((hfix b).1 hb).2 a h)
    · exact h
    · exact absurd hab.symm (((hfix a).1 ha).2 b h)
  have e1 : ∑ g ∈ univ.filter fix, w (i0 g) = ∑ i ∈ (univ.filter fix).image i0, w i := (Finset.sum_image hinj).symm
  rw [e1, ← Finset.sum_union]
  · apply Finset.sum_congr _ fun _ _ => rfl
    ext i
    simp only [mem_union, mem_filter, mem_univ, true_and, mem_image]
    constructor
    · rintro (h | ⟨g, _, rfl⟩)
      · exact Or.inl h
      · exact Or.inr ⟨g, rfl⟩
    · rintro (h | ⟨g, rfl⟩)
      · exact Or.inl h
      · by_cases hp : pos (i0 g)
        · exact Or.inl hp
        · right
          have hne : (univ.filter fun h => i0 h = i0 g).Nonempty := ⟨g, by simp⟩
          have hm := Finset.min'_mem _ hne
          simp only [mem_filter, mem_univ, true_and] at hm
          refine ⟨(univ.filter fun h => i0 h = i0 g).min' hne, (hfix _).2 ⟨by rw [hm]; exact hp, fun h hlt he => ?_⟩, hm⟩
          exact absurd (Finset.min'_le _ h (by simp [he, hm])) (not_le.mpr hlt)
  · rw [Finset.disjoint_left]
    intro i h1 h2
    simp only [mem_filter, mem_univ, true_and, mem_image] at h1 h2
    obtain ⟨g, hg, rfl⟩ := h2
    exact ((hfix g).1 hg).1 h1

end Cert.Own

end
-- ==== Proof.M.Spec.lean ====
module

public import proofs.«01_k».proof.Proof.M.First
@[expose] public section

noncomputable section

namespace Cert.Own

open Finset Idealize.ShloMosaic

/-- The small constant in the divisors of the box measures. -/
def epsI : EReal := Ideal.ofBits .f32 869711765#32
/-- One half, as the programs write it. -/
def halfI : EReal := Ideal.ofBits .f32 0x3F000000#32

/-- The area two boxes share. -/
def meet (a g : Fin 4 → EReal) : EReal :=
  max (min (a 2) (g 2) - max (a 0) (g 0)) 0 * max (min (a 3) (g 3) - max (a 1) (g 1)) 0

/-- Intersection over union of two boxes. -/
def iou (a g : Fin 4 → EReal) : EReal :=
  Ideal.div (meet a g) ((a 2 - a 0) * (a 3 - a 1) + (g 2 - g 0) * (g 3 - g 1) - meet a g + epsI)

/-- The matched box of an anchor, by number. -/
def gOf (A : Fin 20000 → Fin 4 → EReal) (G : Fin 32 → Fin 4 → EReal) (n : Fin 20000) : Fin 32 := first fun g => iou (A n) (G g)
/-- The best anchor of a box, by number. -/
def nOf (A : Fin 20000 → Fin 4 → EReal) (G : Fin 32 → Fin 4 → EReal) (g : Fin 32) : Fin 20000 := first fun n => iou (A n) (G g)
/-- The anchor overlaps its matched box by more than one half. -/
def near (A : Fin 20000 → Fin 4 → EReal) (G : Fin 32 → Fin 4 → EReal) (n : Fin 20000) : Prop := halfI < iou (A n) (G (gOf A G n))
/-- The anchor is a positive one. -/
def isPos (A : Fin 20000 → Fin 4 → EReal) (G : Fin 32 → Fin 4 → EReal) (n : Fin 20000) : Prop := near A G n ∨ ∃ g, nOf A G g = n

open Classical in
/-- The positive anchors. -/
def posSet (A : Fin 20000 → Fin 4 → EReal) (G : Fin 32 → Fin 4 → EReal) : Finset (Fin 20000) := univ.filter (isPos A G)

theorem mem_posSet {A : Fin 20000 → Fin 4 → EReal} {G : Fin 32 → Fin 4 → EReal} {n : Fin 20000} : n ∈ posSet A G ↔ isPos A G n := by
  simp [posSet]

/-- A box in order, of real corners. -/
def Ordered (a : Fin 4 → EReal) : Prop := ∃ r : Fin 4 → ℝ, (∀ k, a k = (r k : EReal)) ∧ r 0 ≤ r 2 ∧ r 1 ≤ r 3

theorem epsI_coe : ∃ e : ℝ, 0 < e ∧ epsI = (e : EReal) := by
  refine ⟨_, ?_, by simp [epsI, Ideal.ofBits, Ideal.ieee]; rfl⟩
  norm_num

theorem halfI_coe : halfI = ((1 / 2 : ℝ) : EReal) := by
  simp [halfI, Ideal.ofBits, Ideal.ieee]
  rw [← EReal.coe_mul]; norm_num

theorem meet_coe {a g : Fin 4 → EReal} {r s : Fin 4 → ℝ} (hr : ∀ k, a k = (r k : EReal)) (hs : ∀ k, g k = (s k : EReal)) :
    meet a g = ((max (min (r 2) (s 2) - max (r 0) (s 0)) 0 * max (min (r 3) (s 3) - max (r 1) (s 1)) 0 : ℝ) : EReal) := by
  have h0 : (0 : EReal) = ((0 : ℝ) : EReal) := rfl
  have hmx : ∀ x y : ℝ, max (x : EReal) (y : EReal) = ((max x y : ℝ) : EReal) := fun x y => (EReal.coe_strictMono.monotone.map_max).symm
  have hmn : ∀ x y : ℝ, min (x : EReal) (y : EReal) = ((min x y : ℝ) : EReal) := fun x y => (EReal.coe_strictMono.monotone.map_min).symm
  simp only [meet, hr, hs]
  rw [h0]
  simp only [hmn, hmx, ← EReal.coe_sub, ← EReal.coe_mul]

/-- Between boxes in order the measure is a real number, not negative. -/
theorem iou_real {a g : Fin 4 → EReal} (ha : Ordered a) (hg : Ordered g) : ∃ x : ℝ, 0 ≤ x ∧ iou a g = (x : EReal) := by
  obtain ⟨r, hr, hr1, hr2⟩ := ha
  obtain ⟨s, hs, hs1, hs2⟩ := hg
  obtain ⟨e, he, hE⟩ := epsI_coe
  rw [iou, meet_coe hr hs, hE]
  simp only [hr, hs, ← EReal.coe_sub, ← EReal.coe_mul, ← EReal.coe_add]
  generalize hw : max (min (r 2) (s 2) - max (r 0) (s 0)) 0 = w
  generalize hh : max (min (r 3) (s 3) - max (r 1) (s 1)) 0 = h
  have w0 : 0 ≤ w := hw ▸ le_max_right _ _
  have h0 : 0 ≤ h := hh ▸ le_max_right _ _
  have w1 : w ≤ r 2 - r 0 := by
    rw [← hw]; apply max_le _ (by linarith)
    have := min_le_left (r 2) (s 2); have := le_max_left (r 0) (s 0); linarith
  have h1 : h ≤ r 3 - r 1 := by
    rw [← hh]; apply max_le _ (by linarith)
    have := min_le_left (r 3) (s 3); have := le_max_left (r 1) (s 1); linarith
  have hm : w * h ≤ (r 2 - r 0) * (r 3 - r 1) := mul_le_mul w1 h1 h0 (by linarith)
  have hg' : 0 ≤ (s 2 - s 0) * (s 3 - s 1) := mul_nonneg (by linarith) (by linarith)
  have hd : 0 < (r 2 - r 0) * (r 3 - r 1) + (s 2 - s 0) * (s 3 - s 1) - w * h + e := by linarith
  refine ⟨w * h * (1 / ((r 2 - r 0) * (r 3 - r 1) + (s 2 - s 0) * (s 3 - s 1) - w * h + e)), by positivity, ?_⟩
  rw [Ideal.div_coe hd.ne', ← EReal.coe_mul]

/-- Against the empty box the measure is nothing. -/
theorem iou_zero {a g : Fin 4 → EReal} (ha : ∀ k, a k = 0) (hg : Ordered g) : iou a g = 0 := by
  obtain ⟨s, hs, hs1, hs2⟩ := hg
  obtain ⟨e, he, hE⟩ := epsI_coe
  have hr : ∀ k, a k = (((fun _ => 0 : Fin 4 → ℝ) k : ℝ) : EReal) := ha
  have hw : max (min (0:ℝ) (s 2) - max 0 (s 0)) 0 = 0 := by
    apply max_eq_right
    have := min_le_left 0 (s 2); have := le_max_left 0 (s 0); linarith
  have hg' : 0 ≤ (s 2 - s 0) * (s 3 - s 1) := mul_nonneg (by linarith) (by linarith)
  rw [iou, meet_coe hr hs, hE]
  simp only [hr, hs, ← EReal.coe_sub, ← EReal.coe_mul, ← EReal.coe_add]
  rw [hw, Ideal.div_coe]
  · simp
  · simp; linarith

/-- Two, as the programs write it. -/
def twoI : EReal := Ideal.ofBits .f32 0x40000000#32

theorem twoI_coe : twoI = ((2 : ℝ) : EReal) := by
  simp [twoI, Ideal.ofBits, Ideal.ieee]
  rw [← EReal.coe_mul]; norm_num

/-- Halving is multiplying by one half. -/
theorem div_two (x : EReal) : Ideal.div x twoI = x * halfI := by
  rw [twoI_coe, halfI_coe, Ideal.div_coe (by norm_num)]

/-- The box loss of a predicted box against its matched box. -/
def diou (d m : Fin 4 → EReal) : EReal :=
  1 - iou d m +
    Ideal.div
      ((Ideal.div (d 0 + d 2) twoI - Ideal.div (m 0 + m 2) twoI) * (Ideal.div (d 0 + d 2) twoI - Ideal.div (m 0 + m 2) twoI)
        + (Ideal.div (d 1 + d 3) twoI - Ideal.div (m 1 + m 3) twoI) * (Ideal.div (d 1 + d 3) twoI - Ideal.div (m 1 + m 3) twoI))
      ((max (d 2) (m 2) - min (d 0) (m 0)) * (max (d 2) (m 2) - min (d 0) (m 0))
        + (max (d 3) (m 3) - min (d 1) (m 1)) * (max (d 3) (m 3) - min (d 1) (m 1)) + epsI)

open Classical in
/-- The box losses of the positive anchors of a batch. -/
def locOf (A : Fin 20000 → Fin 4 → EReal) (G : Fin 32 → Fin 4 → EReal) (D : Fin 20000 → Fin 4 → EReal) : EReal :=
  ∑ n, if isPos A G n then diou (D n) (G (gOf A G n)) else 0

/-! ## Anchors laid in rows -/

/-- A family over the anchors laid in eight rows, the rest filled up. -/
def padP (f : Fin 20000 → EReal) (z : EReal) (r : Fin 8) (c : Fin 2560) : EReal :=
  if h : 2560 * r.val + c.val < 20000 then f ⟨2560 * r.val + c.val, h⟩ else z

def rowOf (n : Fin 20000) : Fin 8 := ⟨n.val / 2560, by omega⟩
def colOf (n : Fin 20000) : Fin 2560 := ⟨n.val % 2560, by omega⟩

theorem num_of (n : Fin 20000) : 2560 * (rowOf n).val + (colOf n).val = n.val := by
  simp only [rowOf, colOf]; omega

theorem padP_of (f : Fin 20000 → EReal) (z : EReal) (n : Fin 20000) : padP f z (rowOf n) (colOf n) = f n := by
  have h := num_of n
  rw [padP, dif_pos (by omega)]
  congr 1
  exact Fin.ext h

theorem row_col {r : Fin 8} {c : Fin 2560} (h : 2560 * r.val + c.val < 20000) :
    r = rowOf ⟨2560 * r.val + c.val, h⟩ ∧ c = colOf ⟨2560 * r.val + c.val, h⟩ := by
  constructor <;> apply Fin.ext <;> simp only [rowOf, colOf] <;> omega

/-- A statement at each place of the rows: at the anchors, and past them. -/
theorem rows_cases {P : Fin 8 → Fin 2560 → Prop} (h1 : ∀ n, P (rowOf n) (colOf n)) (h2 : ∀ r c, 20000 ≤ 2560 * r.val + c.val → P r c) (r : Fin 8) (c : Fin 2560) : P r c := by
  by_cases h : 2560 * r.val + c.val < 20000
  · have e := h1 ⟨2560 * r.val + c.val, h⟩
    rwa [← (row_col h).1, ← (row_col h).2] at e
  · exact h2 r c (not_lt.1 h)

theorem padP_past (f : Fin 20000 → EReal) (z : EReal) {r : Fin 8} {c : Fin 2560} (h : 20000 ≤ 2560 * r.val + c.val) : padP f z r c = z := by
  rw [padP, dif_neg (by omega)]

/-- A sum over the rows of what is nothing past the anchors. -/
theorem sum_rows (h : Fin 8 → Fin 2560 → EReal) (hz : ∀ r c, 20000 ≤ 2560 * r.val + c.val → h r c = 0) :
    ∑ r, ∑ c, h r c = ∑ n, h (rowOf n) (colOf n) := by
  rw [← Fintype.sum_prod_type']
  symm
  refine Finset.sum_of_injOn (fun n => (rowOf n, colOf n)) ?_ (by simp) ?_ (fun _ _ => rfl)
  · intro a _ b _ hab
    simp only [Prod.mk.injEq] at hab
    apply Fin.ext
    rw [← num_of a, ← num_of b, hab.1, hab.2]
  · rintro ⟨r, c⟩ _ hn
    apply hz
    by_contra hlt
    have hlt' : 2560 * r.val + c.val < 20000 := not_le.1 hlt
    exact hn ⟨⟨2560 * r.val + c.val, hlt'⟩, by simp, Prod.ext (row_col hlt').1.symm (row_col hlt').2.symm⟩

theorem sum_one {ι : Type} (s : Finset ι) : ∑ _i ∈ s, (1 : EReal) = ((s.card : ℝ) : EReal) := by
  rw [Finset.sum_const, nsmul_one]; rfl

/-- Sums along the rows of largest values. -/
theorem fold_max_rows (h : Fin 8 → Fin 2560 → EReal) (r : Fin 8) (c : Fin 2560) (hm : ∀ r' c', h r' c' ≤ h r c) :
    univ.fold max ⊥ (fun r => univ.fold max ⊥ fun c => h r c) = h r c := by
  apply le_antisymm
  · rw [Finset.fold_max_le]; refine ⟨bot_le, fun i _ => ?_⟩
    rw [Finset.fold_max_le]; exact ⟨bot_le, fun j _ => hm i j⟩
  · rw [Finset.le_fold_max]; refine Or.inr ⟨r, mem_univ _, ?_⟩
    rw [Finset.le_fold_max]; exact Or.inr ⟨c, mem_univ _, le_rfl⟩

theorem fold_min_rows (h : Fin 8 → Fin 2560 → EReal) (r : Fin 8) (c : Fin 2560) (hm : ∀ r' c', h r c ≤ h r' c') :
    univ.fold min ⊤ (fun r => univ.fold min ⊤ fun c => h r c) = h r c := by
  apply le_antisymm
  · rw [Finset.fold_min_le]; refine Or.inr ⟨r, mem_univ _, ?_⟩
    rw [Finset.fold_min_le]; exact Or.inr ⟨c, mem_univ _, le_rfl⟩
  · rw [Finset.le_fold_min]; refine ⟨le_top, fun i _ => ?_⟩
    rw [Finset.le_fold_min]; exact ⟨le_top, fun j _ => hm i j⟩

theorem fold_minsi {ι : Type} [Fintype ι] [DecidableEq ι] (f : ι → BitVec 32) (z : BitVec 32) (i : ι) (hz : (f i).toInt ≤ z.toInt) (h : ∀ j, (f i).toInt ≤ (f j).toInt) :
    univ.fold IntOp.minsi z f = f i := by
  have key : ∀ t : Finset ι, (t.fold IntOp.minsi z f = z ∨ ∃ j ∈ t, t.fold IntOp.minsi z f = f j) ∧ ∀ j ∈ t, (t.fold IntOp.minsi z f).toInt ≤ (f j).toInt := by
    intro t
    induction t using Finset.induction_on with
    | empty => exact ⟨Or.inl rfl, fun j h => absurd h (by simp)⟩
    | insert a t ha ih =>
      rw [Finset.fold_insert ha]
      have hlt : ∀ x y : BitVec 32, IntOp.minsi x y = if x.toInt < y.toInt then x else y := by
        intro x y; simp [IntOp.minsi, BitVec.slt]
      rw [hlt]
      split_ifs with hc
      · refine ⟨Or.inr ⟨a, Finset.mem_insert_self a t, rfl⟩, fun j hj => ?_⟩
        rcases Finset.mem_insert.1 hj with rfl | hj
        · exact le_rfl
        · exact hc.le.trans (ih.2 j hj)
      · refine ⟨?_, fun j hj => ?_⟩
        · rcases ih.1 with h | ⟨j, hj, h⟩
          · exact Or.inl h
          · exact Or.inr ⟨j, Finset.mem_insert_of_mem hj, h⟩
        · rcases Finset.mem_insert.1 hj with rfl | hj
          · exact not_lt.1 hc
          · exact ih.2 j hj
  obtain ⟨h1, h2⟩ := key univ
  apply BitVec.eq_of_toInt_eq
  apply le_antisymm (h2 i (mem_univ i))
  rcases h1 with h1 | ⟨j, -, h1⟩
  · rw [h1]; exact hz
  · rw [h1]; exact h j

end Cert.Own

end
-- ==== Proof.KI.Read.lean ====
module

public import proofs.«01_k».proof.Proof.KI.Batch
public import proofs.«01_k».proof.Proof.M.Spec
@[expose] public section

set_option maxRecDepth 16384

noncomputable section

namespace Cert.KernelIdeal.Own

open Cert.KernelIdeal Cert.KernelIdeal.Gen
open Idealize.ShloMosaic Finset
open Cert.Own (padP rowOf colOf)

/-- What a block holds of the arrays: anchors and predicted boxes with noughts past the end, confidences with a value
below all of them past the end, the boxes. -/
structure Holds (L : Blk Ideal) (A D : Fin 20000 → Fin 4 → EReal) (G : Fin 32 → Fin 4 → EReal) (C : Fin 20000 → EReal) : Prop where
  a0 : ∀ r c, @Eq EReal (L.a0 (ix3 (0 : Fin 1) r c)) (padP (fun n => A n 0) 0 r c)
  a1 : ∀ r c, @Eq EReal (L.a1 (ix3 (0 : Fin 1) r c)) (padP (fun n => A n 1) 0 r c)
  a2 : ∀ r c, @Eq EReal (L.a2 (ix3 (0 : Fin 1) r c)) (padP (fun n => A n 2) 0 r c)
  a3 : ∀ r c, @Eq EReal (L.a3 (ix3 (0 : Fin 1) r c)) (padP (fun n => A n 3) 0 r c)
  d0 : ∀ r c, @Eq EReal (L.d0 (ix4 (0 : Fin 1) (0 : Fin 1) r c)) (padP (fun n => D n 0) 0 r c)
  d1 : ∀ r c, @Eq EReal (L.d1 (ix4 (0 : Fin 1) (0 : Fin 1) r c)) (padP (fun n => D n 1) 0 r c)
  d2 : ∀ r c, @Eq EReal (L.d2 (ix4 (0 : Fin 1) (0 : Fin 1) r c)) (padP (fun n => D n 2) 0 r c)
  d3 : ∀ r c, @Eq EReal (L.d3 (ix4 (0 : Fin 1) (0 : Fin 1) r c)) (padP (fun n => D n 3) 0 r c)
  c : ∀ r c, @Eq EReal (L.c (ix3 (0 : Fin 1) r c)) (padP C (((-1 : ℝ) : EReal)) r c)
  g0 : ∀ g, @Eq EReal (L.g0 (ix5 (0 : Fin 1) (0 : Fin 1) g (0 : Fin 1) (0 : Fin 1))) (G g 0)
  g1 : ∀ g, @Eq EReal (L.g1 (ix5 (0 : Fin 1) (0 : Fin 1) g (0 : Fin 1) (0 : Fin 1))) (G g 1)
  g2 : ∀ g, @Eq EReal (L.g2 (ix5 (0 : Fin 1) (0 : Fin 1) g (0 : Fin 1) (0 : Fin 1))) (G g 2)
  g3 : ∀ g, @Eq EReal (L.g3 (ix5 (0 : Fin 1) (0 : Fin 1) g (0 : Fin 1) (0 : Fin 1))) (G g 3)
  ordA : ∀ n, Cert.Own.Ordered (A n)
  ordG : ∀ g, Cert.Own.Ordered (G g)

variable {L : Blk Ideal} {A D : Fin 20000 → Fin 4 → EReal} {G : Fin 32 → Fin 4 → EReal} {C : Fin 20000 → EReal}

theorem iouV_ap (H : Holds L A D G C) (g : Fin 32) (r : Fin 8) (c : Fin 2560) :
    @Eq EReal (iouV L (ix3 g r c)) (Cert.Own.iou (fun k => padP (fun n => A n k) 0 r c) (G g)) := by
  pointwise [iouV, interV, upA, upG, plA, plG]
  simp only [H.a0, H.a1, H.a2, H.a3, H.g0, H.g1, H.g2, H.g3]
  rfl

theorem iouV_at (H : Holds L A D G C) (g : Fin 32) (n : Fin 20000) :
    @Eq EReal (iouV L (ix3 g (rowOf n) (colOf n))) (Cert.Own.iou (A n) (G g)) := by
  rw [iouV_ap H]
  simp only [Cert.Own.padP_of]

theorem iouV_past (H : Holds L A D G C) (g : Fin 32) {r : Fin 8} {c : Fin 2560} (h : 20000 ≤ 2560 * r.val + c.val) :
    @Eq EReal (iouV L (ix3 g r c)) 0 := by
  rw [iouV_ap H, Cert.Own.iou_zero _ (H.ordG g)]
  exact fun k => Cert.Own.padP_past _ _ h

theorem bot_word : Ideal.ofBits .f32 0xFF800000#32 = (⊥ : EReal) := by simp [Ideal.ofBits, Ideal.ieee]
theorem top_word : Ideal.ofBits .f32 0x7F800000#32 = (⊤ : EReal) := by simp [Ideal.ofBits, Ideal.ieee]
theorem far_word : Ideal.ofBits .f32 0x4BE4E1C0#32 = (((30000000 : ℝ)) : EReal) := by
  simp [Ideal.ofBits, Ideal.ieee]
  rw [← EReal.coe_mul]; norm_num

theorem bestV_at (H : Holds L A D G C) (n : Fin 20000) :
    @Eq EReal (bestV L (ix2 (rowOf n) (colOf n))) (Cert.Own.iou (A n) (G (Cert.Own.gOf A G n))) := by
  have e : @Eq EReal (bestV L (ix2 (rowOf n) (colOf n))) (univ.fold max ⊥ fun g => iouV L (ix3 g (rowOf n) (colOf n))) := by
    pointwise [bestV]
    rw [bot_word]
  rw [e]
  simp only [iouV_at H]
  exact Cert.Own.fold_max_eq fun g => Cert.Own.iou (A n) (G g)

theorem bestV_past (H : Holds L A D G C) {r : Fin 8} {c : Fin 2560} (h : 20000 ≤ 2560 * r.val + c.val) :
    @Eq EReal (bestV L (ix2 r c)) 0 := by
  have e : @Eq EReal (bestV L (ix2 r c)) (univ.fold max ⊥ fun g => iouV L (ix3 g r c)) := by
    pointwise [bestV]
    rw [bot_word]
  rw [e]
  simp only [iouV_past H _ h]
  exact Cert.Own.fold_max_eq fun _ : Fin 32 => (0 : EReal)

theorem toInt_small (k : ℕ) (h : k < 2 ^ 31) : (BitVec.ofNat 32 k).toInt = k := by
  rw [BitVec.toInt_ofNat', Int.bmod_eq_of_le] <;> omega

theorem firstV_at (H : Holds L A D G C) (n : Fin 20000) :
    @Eq (BitVec 32) (firstV L (ix2 (rowOf n) (colOf n))) (BitVec.ofNat 32 (Cert.Own.gOf A G n).val) := by
  pointwise [firstV, upG', upA]
  simp only [iouV_at H, bestV_at H]
  have hs := Cert.Own.first_spec fun g => Cert.Own.iou (A n) (G g)
  refine (Cert.Own.fold_minsi _ _ (Cert.Own.gOf A G n) ?_ ?_).trans ?_
  · rw [if_pos rfl, toInt_small _ (by omega)]
    change _ ≤ (2147483647 : ℤ)
    omega
  · intro j
    rw [if_pos rfl, toInt_small _ (by omega)]
    split_ifs with h
    · rw [toInt_small _ (by omega)]
      exact_mod_cast hs.2 j h
    · change _ ≤ (64 : ℤ)
      omega
  · rw [if_pos rfl]

theorem eqWord (a b : ℕ) (ha : a < 2 ^ 31) (hb : b < 2 ^ 31) : IntOp.cmpi .eq (BitVec.ofNat 32 a) (BitVec.ofNat 32 b) = if a = b then 1#1 else 0#1 := by
  have : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  by_cases h : a = b
  · subst h; simp [IntOp.cmpi]
  · have h' := fun e => h (this.1 e)
    rw [if_neg h]
    change BitVec.ofBool (BitVec.ofNat 32 a == BitVec.ofNat 32 b) = 0#1
    rw [beq_eq_false_iff_ne.2 h']; rfl

theorem matV_at (H : Holds L A D G C) (g : Vec Ideal S1x1x32x1x1 .f32) (k : Fin 4)
    (hg : ∀ j, @Eq EReal (g (ix5 (0 : Fin 1) (0 : Fin 1) j (0 : Fin 1) (0 : Fin 1))) (G j k)) (n : Fin 20000) :
    @Eq EReal (matV L g (ix2 (rowOf n) (colOf n))) (G (Cert.Own.gOf A G n) k) := by
  pointwise [matV, upG', upA, plG, selV, upG]
  simp only [firstV_at H, hg]
  rw [Finset.sum_eq_single (Cert.Own.gOf A G n)]
  · rw [eqWord _ _ (by omega) (by omega), if_pos rfl]; rfl
  · intro j _ hj
    rw [eqWord _ _ (by omega) (by omega), if_neg (fun e => hj (Fin.ext e))]; rfl
  · exact fun h => absurd (mem_univ _) h

theorem diouV_at (H : Holds L A D G C) (n : Fin 20000) :
    @Eq EReal (diouV L (ix2 (rowOf n) (colOf n))) (Cert.Own.diou (D n) (G (Cert.Own.gOf A G n))) := by
  pointwise [diouV, meetV, halfV, sqV, plD]
  simp only [matV_at H L.g0 0 H.g0, matV_at H L.g1 1 H.g1, matV_at H L.g2 2 H.g2, matV_at H L.g3 3 H.g3, H.d0, H.d1, H.d2, H.d3, Cert.Own.padP_of]
  rw [Cert.Own.diou]
  simp only [Cert.Own.div_two]
  rfl

open Classical in
theorem posfV_at (H : Holds L A D G C) (n : Fin 20000) :
    @Eq EReal (posfV L (ix2 (rowOf n) (colOf n))) (if Cert.Own.near A G n then 1 else 0) := by
  have e : @Eq EReal (posfV L (ix2 (rowOf n) (colOf n))) ((((BitVec.ofBool (decide (Cert.Own.halfI < bestV L (ix2 (rowOf n) (colOf n))))).setWidth 32).toInt : ℝ) : EReal) := by
    pointwise [posfV, posV]
    rfl
  rw [e, bestV_at H]
  by_cases h : Cert.Own.near A G n
  · rw [if_pos h]; rw [Cert.Own.near] at h; simp [h]
  · rw [if_neg h]; rw [Cert.Own.near] at h; simp [h]

theorem posfV_past (H : Holds L A D G C) {r : Fin 8} {c : Fin 2560} (h : 20000 ≤ 2560 * r.val + c.val) :
    @Eq EReal (posfV L (ix2 r c)) 0 := by
  have e : @Eq EReal (posfV L (ix2 r c)) ((((BitVec.ofBool (decide (Cert.Own.halfI < bestV L (ix2 r c)))).setWidth 32).toInt : ℝ) : EReal) := by
    pointwise [posfV, posV]
    rfl
  rw [e, bestV_past H h]
  have : ¬ Cert.Own.halfI < 0 := by
    rw [Cert.Own.halfI_coe, not_lt]
    exact_mod_cast (by norm_num : (0 : ℝ) ≤ 1 / 2)
  simp [this]

theorem sumA_ap (x : FVec Ideal S8x2560 .f32) : @Eq EReal (sumA x) (∑ r, ∑ c, x (ix2 r c)) := by
  pointwise [sumA]

theorem sumG_ap (x : FVec Ideal S32x1 .f32) : @Eq EReal (sumG x) (∑ g : Fin 32, x (ix2 g (0 : Fin 1))) := by
  pointwise [sumG]
  simp

theorem topV_at (H : Holds L A D G C) (g : Fin 32) :
    @Eq EReal (topV L (ix2 g (0 : Fin 1))) (Cert.Own.iou (A (Cert.Own.nOf A G g)) (G g)) := by
  have e : @Eq EReal (topV L (ix2 g (0 : Fin 1))) (univ.fold max ⊥ fun r => univ.fold max ⊥ fun c => iouV L (ix3 g r c)) := by
    pointwise [topV]
    rw [bot_word]
  rw [e, ← iouV_at H g]
  refine Cert.Own.fold_max_rows (fun r c => iouV L (ix3 g r c)) _ _ ?_
  have hs := Cert.Own.first_spec fun n => Cert.Own.iou (A n) (G g)
  refine Cert.Own.rows_cases (fun n => ?_) fun r c h => ?_
  · rw [iouV_at H, iouV_at H]; exact hs.1 n
  · rw [iouV_at H, iouV_past H g h]
    obtain ⟨x, hx, e⟩ := Cert.Own.iou_real (H.ordA (Cert.Own.nOf A G g)) (H.ordG g)
    rw [e]; exact_mod_cast hx

theorem num_word (r : Fin 8) (c : Fin 2560) :
    ((IntOp.addi (IntOp.muli (BitVec.ofNat 32 r.val) 2560#32) (BitVec.ofNat 32 c.val)).toInt : ℤ) = ((2560 * r.val + c.val : ℕ) : ℤ) := by
  have : IntOp.addi (IntOp.muli (BitVec.ofNat 32 r.val) 2560#32) (BitVec.ofNat 32 c.val) = BitVec.ofNat 32 (2560 * r.val + c.val) := by
    rw [IntOp.addi, IntOp.muli, BitVec.ofNat_add, mul_comm, BitVec.ofNat_mul]
  rw [this, toInt_small _ (by omega)]

theorem numV_ap (r : Fin 8) (c : Fin 2560) : @Eq EReal (numV (F := Ideal) (ix2 r c)) (((2560 * r.val + c.val : ℕ) : ℝ) : EReal) := by
  pointwise [numV, anchorNo]
  change (((IntOp.addi (IntOp.muli (BitVec.ofNat 32 r.val) 2560#32) (BitVec.ofNat 32 c.val)).toInt : ℝ) : EReal) = _
  rw [num_word, Int.cast_natCast]

theorem argV_at (H : Holds L A D G C) (g : Fin 32) :
    @Eq EReal (argV L (ix2 g (0 : Fin 1))) ((((Cert.Own.nOf A G g).val : ℕ) : ℝ) : EReal) := by
  have e : @Eq EReal (argV L (ix2 g (0 : Fin 1))) (univ.fold min ⊤ fun r => univ.fold min ⊤ fun c =>
      if @Eq EReal (iouV L (ix3 g r c)) (topV L (ix2 g (0 : Fin 1))) then (numV (F := Ideal) (ix2 r c) : EReal) else ((30000000 : ℝ) : EReal)) := by
    pointwise [argV, upA, upG]
    rw [top_word, far_word]
  have hs := Cert.Own.first_spec fun n => Cert.Own.iou (A n) (G g)
  rw [e]
  refine (Cert.Own.fold_min_rows _ (rowOf (Cert.Own.nOf A G g)) (colOf (Cert.Own.nOf A G g)) ?_).trans ?_
  · rw [if_pos (by rw [iouV_at H, topV_at H]), numV_ap, Cert.Own.num_of]
    refine Cert.Own.rows_cases (fun n => ?_) fun r c h => ?_
    · split_ifs with h
      · rw [iouV_at H, topV_at H] at h
        rw [numV_ap, Cert.Own.num_of]
        have := hs.2 n h
        exact_mod_cast this
      · have := (Cert.Own.nOf A G g).isLt
        exact_mod_cast (show (Cert.Own.nOf A G g).val ≤ 30000000 by omega)
    · have := (Cert.Own.nOf A G g).isLt
      split_ifs
      · rw [numV_ap]
        exact_mod_cast (show (Cert.Own.nOf A G g).val ≤ 2560 * r.val + c.val by omega)
      · exact_mod_cast (show (Cert.Own.nOf A G g).val ≤ 30000000 by omega)
  · rw [if_pos (by rw [iouV_at H, topV_at H]), numV_ap, Cert.Own.num_of]

theorem pickV_at (H : Holds L A D G C) (v : FVec Ideal S8x2560 .f32) (g : Fin 32) :
    @Eq EReal (pickV L v (ix2 g (0 : Fin 1))) (v (ix2 (rowOf (Cert.Own.nOf A G g)) (colOf (Cert.Own.nOf A G g)))) := by
  have e : @Eq EReal (pickV L v (ix2 g (0 : Fin 1))) (∑ r, ∑ c, if @Eq EReal (numV (F := Ideal) (ix2 r c)) (argV L (ix2 g (0 : Fin 1))) then v (ix2 r c) else 0) := by
    pointwise [pickV, atV, upA, upG]
  have hi : ∀ (r : Fin 8) (c : Fin 2560), (@Eq EReal (numV (F := Ideal) (ix2 r c)) (argV L (ix2 g (0 : Fin 1)))) ↔ 2560 * r.val + c.val = (Cert.Own.nOf A G g).val := by
    intro r c
    rw [numV_ap, argV_at H]
    norm_cast
  rw [e, Cert.Own.sum_rows]
  · rw [Finset.sum_eq_single (Cert.Own.nOf A G g)]
    · rw [if_pos ((hi _ _).2 (Cert.Own.num_of _))]
    · intro n _ hn
      rw [if_neg (fun h => hn (Fin.ext (by rw [← Cert.Own.num_of n]; exact (hi _ _).1 h)))]
    · exact fun h => absurd (mem_univ _) h
  · intro r c h
    rw [if_neg]
    intro h'
    have := (hi r c).1 h'
    have := (Cert.Own.nOf A G g).isLt
    omega

end Cert.KernelIdeal.Own

end
-- ==== Proof.KI.Loc.lean ====
module

public import proofs.«01_k».proof.Proof.KI.Read
@[expose] public section

set_option maxRecDepth 16384

noncomputable section

namespace Cert.KernelIdeal.Own

open Cert.KernelIdeal Cert.KernelIdeal.Gen
open Idealize.ShloMosaic Finset
open Cert.Own (padP rowOf colOf nOf gOf near isPos)

variable {L : Blk Ideal} {A D : Fin 20000 → Fin 4 → EReal} {G : Fin 32 → Fin 4 → EReal} {C : Fin 20000 → EReal}

/-- The box whose best anchor no earlier box has, and is not over one half by itself. -/
def Fix (A : Fin 20000 → Fin 4 → EReal) (G : Fin 32 → Fin 4 → EReal) (g : Fin 32) : Prop := ¬ near A G (nOf A G g) ∧ ∀ h, h < g → nOf A G h ≠ nOf A G g

theorem argT_at (H : Holds L A D G C) (g : Fin 32) : @Eq EReal (argT L (ix2 (0 : Fin 1) g)) ((((nOf A G g).val : ℕ) : ℝ) : EReal) := by
  have e : @Eq EReal (argT L (ix2 (0 : Fin 1) g)) (∑ x : Fin 32, Scalar.select (IntOp.cmpi .eq (BitVec.ofNat 32 x.val) (BitVec.ofNat 32 g.val)) (argV L (ix2 x (0 : Fin 1)) : EReal) 0) := by
    pointwise [argT]
  rw [e, Finset.sum_eq_single g]
  · rw [eqWord _ _ (by omega) (by omega), if_pos rfl, argV_at H]; rfl
  · intro j _ hj
    rw [eqWord _ _ (by omega) (by omega), if_neg (fun e => hj (Fin.ext e))]; rfl
  · exact fun h => absurd (mem_univ _) h

theorem slt_word (a b : Fin 32) : IntOp.cmpi .slt (BitVec.ofNat 32 a.val) (BitVec.ofNat 32 b.val) = BitVec.ofBool (decide (a < b)) := by
  revert a b
  decide

open Classical in
theorem dupV_at (H : Holds L A D G C) (g : Fin 32) :
    @Eq (BitVec 1) (dupV L (ix2 g (0 : Fin 1))) (if ∃ h, h < g ∧ nOf A G h = nOf A G g then 1#1 else 0#1) := by
  have e : @Eq (BitVec 1) (dupV L (ix2 g (0 : Fin 1))) (BitVec.ofBool (decide ((0 : EReal) < ∑ x : Fin 32,
      ((((IntOp.andi (BitVec.ofBool (decide (@Eq EReal (argT L (ix2 (0 : Fin 1) x)) (argV L (ix2 g (0 : Fin 1)))))) (IntOp.cmpi .slt (BitVec.ofNat 32 x.val) (BitVec.ofNat 32 g.val))).setWidth 32).toInt : ℝ) : EReal)))) := by
    pointwise [dupV]
    rfl
  have t : ∀ x : Fin 32, ((((IntOp.andi (BitVec.ofBool (decide (@Eq EReal (argT L (ix2 (0 : Fin 1) x)) (argV L (ix2 g (0 : Fin 1)))))) (IntOp.cmpi .slt (BitVec.ofNat 32 x.val) (BitVec.ofNat 32 g.val))).setWidth 32).toInt : ℝ) : EReal)
      = if x < g ∧ nOf A G x = nOf A G g then 1 else 0 := by
    intro x
    rw [slt_word]
    have hd : (@Eq EReal (argT L (ix2 (0 : Fin 1) x)) (argV L (ix2 g (0 : Fin 1)))) ↔ nOf A G x = nOf A G g := by
      rw [argT_at H, argV_at H, Fin.ext_iff]; norm_cast
    by_cases h1 : x < g <;> by_cases h2 : nOf A G x = nOf A G g <;> simp [h1, h2, hd, IntOp.andi]
  rw [e]
  simp only [t]
  by_cases h : ∃ h, h < g ∧ nOf A G h = nOf A G g
  · rw [if_pos h]
    obtain ⟨x, hx⟩ := h
    have h0 : (0 : EReal) < ∑ x : Fin 32, if x < g ∧ nOf A G x = nOf A G g then (1 : EReal) else 0 := by
      refine lt_of_lt_of_le (b := (1 : EReal)) (by norm_num) ?_
      refine le_trans (b := if x < g ∧ nOf A G x = nOf A G g then (1 : EReal) else 0) (by rw [if_pos hx]) ?_
      exact Finset.single_le_sum (f := fun x => if x < g ∧ nOf A G x = nOf A G g then (1 : EReal) else 0) (fun i _ => by split_ifs <;> norm_num) (mem_univ x)
    rw [decide_eq_true h0]; rfl
  · rw [if_neg h, Finset.sum_eq_zero]
    · simp
    · intro x _
      rw [if_neg (fun hx => h ⟨x, hx⟩)]

open Classical in
theorem fixV_at (H : Holds L A D G C) (g : Fin 32) :
    @Eq (BitVec 1) (fixV L (ix2 g (0 : Fin 1))) (if Fix A G g then 1#1 else 0#1) := by
  have e : @Eq (BitVec 1) (fixV L (ix2 g (0 : Fin 1))) (IntOp.andi (IntOp.xori (dupV L (ix2 g (0 : Fin 1))) 1#1) (BitVec.ofBool (decide (@LT.lt EReal _ (pickV L (posfV L) (ix2 g (0 : Fin 1))) Cert.Own.halfI)))) := by
    pointwise [fixV]
    rfl
  have hl : (0 : EReal) < Cert.Own.halfI := by
    rw [Cert.Own.halfI_coe]; exact_mod_cast (by norm_num : (0 : ℝ) < 1 / 2)
  have hl' : ¬ (1 : EReal) < Cert.Own.halfI := by
    rw [Cert.Own.halfI_coe, not_lt]; exact_mod_cast (by norm_num : (1 / 2 : ℝ) ≤ 1)
  rw [e, dupV_at H, pickV_at H, posfV_at H]
  have hF : Fix A G g ↔ ¬ near A G (nOf A G g) ∧ ¬ ∃ h, h < g ∧ nOf A G h = nOf A G g := by
    rw [Fix]; push Not; rfl
  by_cases h1 : near A G (nOf A G g) <;> by_cases h2 : ∃ h, h < g ∧ nOf A G h = nOf A G g <;>
    simp only [hF, h1, h2, not_true_eq_false, not_false_eq_true, and_true, and_false, if_true, if_false, hl, hl', decide_true, decide_false] <;> rfl

open Classical in
theorem fixfV_at (H : Holds L A D G C) (g : Fin 32) :
    @Eq EReal (fixfV L (ix2 g (0 : Fin 1))) (if Fix A G g then 1 else 0) := by
  have e : @Eq EReal (fixfV L (ix2 g (0 : Fin 1))) ((((fixV L (ix2 g (0 : Fin 1))).setWidth 32).toInt : ℝ) : EReal) := by
    pointwise [fixfV]
    rfl
  rw [e, fixV_at H]
  split_ifs <;> simp

open Classical in
/-- A plane's values at the anchors over one half, and at the best anchors of the boxes to be mended: at all positive anchors. -/
theorem sum_pos (H : Holds L A D G C) (w : Fin 20000 → EReal) :
    (∑ n, if near A G n then w n else 0) + (∑ g, if Fix A G g then w (nOf A G g) else 0) = ∑ n, if isPos A G n then w n else 0 := by
  rw [Cert.Own.sum_split (nOf A G) (near A G) (Fix A G) (fun g => Iff.rfl) w]
  refine Finset.sum_congr rfl fun n _ => ?_
  by_cases h : isPos A G n
  · rw [if_pos (show near A G n ∨ ∃ g, nOf A G g = n from h), if_pos h]
  · rw [if_neg (show ¬ (near A G n ∨ ∃ g, nOf A G g = n) from h), if_neg h]

open Classical in
theorem sumPos_ap (H : Holds L A D G C) (v : FVec Ideal S8x2560 .f32) :
    @Eq EReal (sumA (mulf v (posfV L))) (∑ n, if near A G n then v (ix2 (rowOf n) (colOf n)) else 0) := by
  have e : ∀ r c, @Eq EReal (mulf v (posfV L) (ix2 r c)) ((v (ix2 r c) : EReal) * posfV L (ix2 r c)) := fun r c => rfl
  rw [sumA_ap, Cert.Own.sum_rows]
  · refine Finset.sum_congr rfl fun n _ => ?_
    rw [e, posfV_at H]
    split_ifs
    · exact mul_one _
    · exact mul_zero _
  · intro r c h
    rw [e, posfV_past H h]
    exact mul_zero _

open Classical in
theorem sumFix_ap (H : Holds L A D G C) (w : FVec Ideal S32x1 .f32) :
    @Eq EReal (sumG (mulf (fixfV L) w)) (∑ g, if Fix A G g then w (ix2 g (0 : Fin 1)) else 0) := by
  have e : ∀ g, @Eq EReal (mulf (fixfV L) w (ix2 g (0 : Fin 1))) ((fixfV L (ix2 g (0 : Fin 1)) : EReal) * w (ix2 g (0 : Fin 1))) := fun g => rfl
  rw [sumG_ap]
  refine Finset.sum_congr rfl fun g _ => ?_
  rw [e, fixfV_at H]
  split_ifs
  · exact one_mul _
  · exact zero_mul _

theorem locS_ap (H : Holds L A D G C) : @Eq EReal (locS L) (Cert.Own.locOf A G D) := by
  classical
  have e : @Eq EReal (locS L) (sumA (mulf (diouV L) (posfV L)) + sumG (mulf (fixfV L) (pickV L (diouV L)))) := rfl
  rw [e, sumPos_ap H, sumFix_ap H]
  simp only [pickV_at H, diouV_at H]
  rw [Cert.Own.locOf, ← sum_pos H]

theorem nposS_ap (H : Holds L A D G C) : @Eq EReal (nposS L) ((((Cert.Own.posSet A G).card : ℕ) : ℝ) : EReal) := by
  classical
  have e : @Eq EReal (nposS L) (sumA (posfV L) + sumG (fixfV L)) := rfl
  rw [e, sumA_ap, sumG_ap, Cert.Own.sum_rows _ fun r c h => posfV_past H h]
  simp only [posfV_at H, fixfV_at H]
  refine (sum_pos H fun _ => 1).trans ?_
  rw [← Finset.sum_filter, Cert.Own.sum_one, Cert.Own.posSet]

end Cert.KernelIdeal.Own

end
-- ==== Proof.KI.StepEq.lean ====
module

public import proofs.«01_k».proof.Proof.KI.Batch
@[expose] public section

set_option maxRecDepth 16384

noncomputable section

namespace Cert.KernelIdeal.Own

open Cert.KernelIdeal Cert.KernelIdeal.Gen
open Idealize.ShloMosaic

variable {F : FTy → Type} [FloatOps F]

variable (c : Dev nD) (arg1 : Memref sig .tc .vmem S4x8x2560 .f32) (harg1 : arg1.IsWhole) (arg2 : Memref sig .tc .vmem S4x4x8x2560 .f32) (harg2 : arg2.IsWhole) (arg3 : Memref sig .tc .vmem S4x8x2560 .f32) (harg3 : arg3.IsWhole) (arg4 : Memref sig .tc .vmem S4x4x32x1x1 .f32) (harg4 : arg4.IsWhole) (x0 : Vec F S4x8x2560 .f32) (x1 : Vec F S4x4x8x2560 .f32) (x2 : Vec F S4x8x2560 .f32) (x3 : Vec F S4x4x32x1x1 .f32)

/-- What batch 0 of a point reads. -/
def blk0 : Blk F :=
  ⟨(View.readAt (Elt F) arg1.view (Rect.unit (s := S4x8x2560) ![0, 0, 0] S1x8x2560.size inb_S4x8x2560_S1x8x2560_0_0_0).toLoadRect (harg1.unread x0)),
   (View.readAt (Elt F) arg1.view (Rect.unit (s := S4x8x2560) ![1, 0, 0] S1x8x2560.size inb_S4x8x2560_S1x8x2560_1_0_0).toLoadRect (harg1.unread x0)),
   (View.readAt (Elt F) arg1.view (Rect.unit (s := S4x8x2560) ![2, 0, 0] S1x8x2560.size inb_S4x8x2560_S1x8x2560_2_0_0).toLoadRect (harg1.unread x0)),
   (View.readAt (Elt F) arg1.view (Rect.unit (s := S4x8x2560) ![3, 0, 0] S1x8x2560.size inb_S4x8x2560_S1x8x2560_3_0_0).toLoadRect (harg1.unread x0)),
   (View.readAt (Elt F) arg2.view (Rect.unit (s := S4x4x8x2560) ![0, 0, 0, 0] S1x1x8x2560.size inb_S4x4x8x2560_S1x1x8x2560_0_0_0_0).toLoadRect (harg2.unread x1)),
   (View.readAt (Elt F) arg2.view (Rect.unit (s := S4x4x8x2560) ![0, 1, 0, 0] S1x1x8x2560.size inb_S4x4x8x2560_S1x1x8x2560_0_1_0_0).toLoadRect (harg2.unread x1)),
   (View.readAt (Elt F) arg2.view (Rect.unit (s := S4x4x8x2560) ![0, 2, 0, 0] S1x1x8x2560.size inb_S4x4x8x2560_S1x1x8x2560_0_2_0_0).toLoadRect (harg2.unread x1)),
   (View.readAt (Elt F) arg2.view (Rect.unit (s := S4x4x8x2560) ![0, 3, 0, 0] S1x1x8x2560.size inb_S4x4x8x2560_S1x1x8x2560_0_3_0_0).toLoadRect (harg2.unread x1)),
   (View.readAt (Elt F) arg3.view (Rect.unit (s := S4x8x2560) ![0, 0, 0] S1x8x2560.size inb_S4x8x2560_S1x8x2560_0_0_0).toLoadRect (harg3.unread x2)),
   (View.readAt (Elt F) arg4.view (Rect.unit (s := S4x4x32x1x1) ![0, 0, 0, 0, 0] S1x1x32x1x1.size inb_S4x4x32x1x1_S1x1x32x1x1_0_0_0_0_0).toLoadRect (harg4.unread x3)),
   (View.readAt (Elt F) arg4.view (Rect.unit (s := S4x4x32x1x1) ![0, 1, 0, 0, 0] S1x1x32x1x1.size inb_S4x4x32x1x1_S1x1x32x1x1_0_1_0_0_0).toLoadRect (harg4.unread x3)),
   (View.readAt (Elt F) arg4.view (Rect.unit (s := S4x4x32x1x1) ![0, 2, 0, 0, 0] S1x1x32x1x1.size inb_S4x4x32x1x1_S1x1x32x1x1_0_2_0_0_0).toLoadRect (harg4.unread x3)),
   (View.readAt (Elt F) arg4.view (Rect.unit (s := S4x4x32x1x1) ![0, 3, 0, 0, 0] S1x1x32x1x1.size inb_S4x4x32x1x1_S1x1x32x1x1_0_3_0_0_0).toLoadRect (harg4.unread x3))⟩

/-- What batch 1 of a point reads. -/
def blk1 : Blk F :=
  ⟨(View.readAt (Elt F) arg1.view (Rect.unit (s := S4x8x2560) ![0, 0, 0] S1x8x2560.size inb_S4x8x2560_S1x8x2560_0_0_0).toLoadRect (harg1.unread x0)),
   (View.readAt (Elt F) arg1.view (Rect.unit (s := S4x8x2560) ![1, 0, 0] S1x8x2560.size inb_S4x8x2560_S1x8x2560_1_0_0).toLoadRect (harg1.unread x0)),
   (View.readAt (Elt F) arg1.view (Rect.unit (s := S4x8x2560) ![2, 0, 0] S1x8x2560.size inb_S4x8x2560_S1x8x2560_2_0_0).toLoadRect (harg1.unread x0)),
   (View.readAt (Elt F) arg1.view (Rect.unit (s := S4x8x2560) ![3, 0, 0] S1x8x2560.size inb_S4x8x2560_S1x8x2560_3_0_0).toLoadRect (harg1.unread x0)),
   (View.readAt (Elt F) arg2.view (Rect.unit (s := S4x4x8x2560) ![1, 0, 0, 0] S1x1x8x2560.size inb_S4x4x8x2560_S1x1x8x2560_1_0_0_0).toLoadRect (harg2.unread x1)),
   (View.readAt (Elt F) arg2.view (Rect.unit (s := S4x4x8x2560) ![1, 1, 0, 0] S1x1x8x2560.size inb_S4x4x8x2560_S1x1x8x2560_1_1_0_0).toLoadRect (harg2.unread x1)),
   (View.readAt (Elt F) arg2.view (Rect.unit (s := S4x4x8x2560) ![1, 2, 0, 0] S1x1x8x2560.size inb_S4x4x8x2560_S1x1x8x2560_1_2_0_0).toLoadRect (harg2.unread x1)),
   (View.readAt (Elt F) arg2.view (Rect.unit (s := S4x4x8x2560) ![1, 3, 0, 0] S1x1x8x2560.size inb_S4x4x8x2560_S1x1x8x2560_1_3_0_0).toLoadRect (harg2.unread x1)),
   (View.readAt (Elt F) arg3.view (Rect.unit (s := S4x8x2560) ![1, 0, 0] S1x8x2560.size inb_S4x8x2560_S1x8x2560_1_0_0).toLoadRect (harg3.unread x2)),
   (View.readAt (Elt F) arg4.view (Rect.unit (s := S4x4x32x1x1) ![1, 0, 0, 0, 0] S1x1x32x1x1.size inb_S4x4x32x1x1_S1x1x32x1x1_1_0_0_0_0).toLoadRect (harg4.unread x3)),
   (View.readAt (Elt F) arg4.view (Rect.unit (s := S4x4x32x1x1) ![1, 1, 0, 0, 0] S1x1x32x1x1.size inb_S4x4x32x1x1_S1x1x32x1x1_1_1_0_0_0).toLoadRect (harg4.unread x3)),
   (View.readAt (Elt F) arg4.view (Rect.unit (s := S4x4x32x1x1) ![1, 2, 0, 0, 0] S1x1x32x1x1.size inb_S4x4x32x1x1_S1x1x32x1x1_1_2_0_0_0).toLoadRect (harg4.unread x3)),
   (View.readAt (Elt F) arg4.view (Rect.unit (s := S4x4x32x1x1) ![1, 3, 0, 0, 0] S1x1x32x1x1.size inb_S4x4x32x1x1_S1x1x32x1x1_1_3_0_0_0).toLoadRect (harg4.unread x3))⟩

/-- What batch 2 of a point reads. -/
def blk2 : Blk F :=
  ⟨(View.readAt (Elt F) arg1.view (Rect.unit (s := S4x8x2560) ![0, 0, 0] S1x8x2560.size inb_S4x8x2560_S1x8x2560_0_0_0).toLoadRect (harg1.unread x0)),
   (View.readAt (Elt F) arg1.view (Rect.unit (s := S4x8x2560) ![1, 0, 0] S1x8x2560.size inb_S4x8x2560_S1x8x2560_1_0_0).toLoadRect (harg1.unread x0)),
   (View.readAt (Elt F) arg1.view (Rect.unit (s := S4x8x2560) ![2, 0, 0] S1x8x2560.size inb_S4x8x2560_S1x8x2560_2_0_0).toLoadRect (harg1.unread x0)),
   (View.readAt (Elt F) arg1.view (Rect.unit (s := S4x8x2560) ![3, 0, 0] S1x8x2560.size inb_S4x8x2560_S1x8x2560_3_0_0).toLoadRect (harg1.unread x0)),
   (View.readAt (Elt F) arg2.view (Rect.unit (s := S4x4x8x2560) ![2, 0, 0, 0] S1x1x8x2560.size inb_S4x4x8x2560_S1x1x8x2560_2_0_0_0).toLoadRect (harg2.unread x1)),
   (View.readAt (Elt F) arg2.view (Rect.unit (s := S4x4x8x2560) ![2, 1, 0, 0] S1x1x8x2560.size inb_S4x4x8x2560_S1x1x8x2560_2_1_0_0).toLoadRect (harg2.unread x1)),
   (View.readAt (Elt F) arg2.view (Rect.unit (s := S4x4x8x2560) ![2, 2, 0, 0] S1x1x8x2560.size inb_S4x4x8x2560_S1x1x8x2560_2_2_0_0).toLoadRect (harg2.unread x1)),
   (View.readAt (Elt F) arg2.view (Rect.unit (s := S4x4x8x2560) ![2, 3, 0, 0] S1x1x8x2560.size inb_S4x4x8x2560_S1x1x8x2560_2_3_0_0).toLoadRect (harg2.unread x1)),
   (View.readAt (Elt F) arg3.view (Rect.unit (s := S4x8x2560) ![2, 0, 0] S1x8x2560.size inb_S4x8x2560_S1x8x2560_2_0_0).toLoadRect (harg3.unread x2)),
   (View.readAt (Elt F) arg4.view (Rect.unit (s := S4x4x32x1x1) ![2, 0, 0, 0, 0] S1x1x32x1x1.size inb_S4x4x32x1x1_S1x1x32x1x1_2_0_0_0_0).toLoadRect (harg4.unread x3)),
   (View.readAt (Elt F) arg4.view (Rect.unit (s := S4x4x32x1x1) ![2, 1, 0, 0, 0] S1x1x32x1x1.size inb_S4x4x32x1x1_S1x1x32x1x1_2_1_0_0_0).toLoadRect (harg4.unread x3)),
   (View.readAt (Elt F) arg4.view (Rect.unit (s := S4x4x32x1x1) ![2, 2, 0, 0, 0] S1x1x32x1x1.size inb_S4x4x32x1x1_S1x1x32x1x1_2_2_0_0_0).toLoadRect (harg4.unread x3)),
   (View.readAt (Elt F) arg4.view (Rect.unit (s := S4x4x32x1x1) ![2, 3, 0, 0, 0] S1x1x32x1x1.size inb_S4x4x32x1x1_S1x1x32x1x1_2_3_0_0_0).toLoadRect (harg4.unread x3))⟩

/-- What batch 3 of a point reads. -/
def blk3 : Blk F :=
  ⟨(View.readAt (Elt F) arg1.view (Rect.unit (s := S4x8x2560) ![0, 0, 0] S1x8x2560.size inb_S4x8x2560_S1x8x2560_0_0_0).toLoadRect (harg1.unread x0)),
   (View.readAt (Elt F) arg1.view (Rect.unit (s := S4x8x2560) ![1, 0, 0] S1x8x2560.size inb_S4x8x2560_S1x8x2560_1_0_0).toLoadRect (harg1.unread x0)),
   (View.readAt (Elt F) arg1.view (Rect.unit (s := S4x8x2560) ![2, 0, 0] S1x8x2560.size inb_S4x8x2560_S1x8x2560_2_0_0).toLoadRect (harg1.unread x0)),
   (View.readAt (Elt F) arg1.view (Rect.unit (s := S4x8x2560) ![3, 0, 0] S1x8x2560.size inb_S4x8x2560_S1x8x2560_3_0_0).toLoadRect (harg1.unread x0)),
   (View.readAt (Elt F) arg2.view (Rect.unit (s := S4x4x8x2560) ![3, 0, 0, 0] S1x1x8x2560.size inb_S4x4x8x2560_S1x1x8x2560_3_0_0_0).toLoadRect (harg2.unread x1)),
   (View.readAt (Elt F) arg2.view (Rect.unit (s := S4x4x8x2560) ![3, 1, 0, 0] S1x1x8x2560.size inb_S4x4x8x2560_S1x1x8x2560_3_1_0_0).toLoadRect (harg2.unread x1)),
   (View.readAt (Elt F) arg2.view (Rect.unit (s := S4x4x8x2560) ![3, 2, 0, 0] S1x1x8x2560.size inb_S4x4x8x2560_S1x1x8x2560_3_2_0_0).toLoadRect (harg2.unread x1)),
   (View.readAt (Elt F) arg2.view (Rect.unit (s := S4x4x8x2560) ![3, 3, 0, 0] S1x1x8x2560.size inb_S4x4x8x2560_S1x1x8x2560_3_3_0_0).toLoadRect (harg2.unread x1)),
   (View.readAt (Elt F) arg3.view (Rect.unit (s := S4x8x2560) ![3, 0, 0] S1x8x2560.size inb_S4x8x2560_S1x8x2560_3_0_0).toLoadRect (harg3.unread x2)),
   (View.readAt (Elt F) arg4.view (Rect.unit (s := S4x4x32x1x1) ![3, 0, 0, 0, 0] S1x1x32x1x1.size inb_S4x4x32x1x1_S1x1x32x1x1_3_0_0_0_0).toLoadRect (harg4.unread x3)),
   (View.readAt (Elt F) arg4.view (Rect.unit (s := S4x4x32x1x1) ![3, 1, 0, 0, 0] S1x1x32x1x1.size inb_S4x4x32x1x1_S1x1x32x1x1_3_1_0_0_0).toLoadRect (harg4.unread x3)),
   (View.readAt (Elt F) arg4.view (Rect.unit (s := S4x4x32x1x1) ![3, 2, 0, 0, 0] S1x1x32x1x1.size inb_S4x4x32x1x1_S1x1x32x1x1_3_2_0_0_0).toLoadRect (harg4.unread x3)),
   (View.readAt (Elt F) arg4.view (Rect.unit (s := S4x4x32x1x1) ![3, 3, 0, 0, 0] S1x1x32x1x1.size inb_S4x4x32x1x1_S1x1x32x1x1_3_3_0_0_0).toLoadRect (harg4.unread x3))⟩

theorem r35_eq : runB.sl.r_35 c arg1 harg1 arg3 harg3 arg4 harg4 x0 x2 x3 = negpV (blk0 arg1 harg1 arg2 harg2 arg3 harg3 arg4 harg4 x0 x1 x2 x3) := rfl

theorem r47_eq : runB.sl.r_47 c arg1 harg1 arg4 harg4 x0 x3 = kS (blk0 arg1 harg1 arg2 harg2 arg3 harg3 arg4 harg4 x0 x1 x2 x3) := rfl

theorem r48_eq : runB.sl.r_48 c arg1 harg1 arg3 harg3 arg4 harg4 x0 x2 x3 = pfixV (blk0 arg1 harg1 arg2 harg2 arg3 harg3 arg4 harg4 x0 x1 x2 x3) := rfl

theorem r72_eq : runB.sl.r_72 c arg1 harg1 arg3 harg3 arg4 harg4 x0 x2 x3 = negpV (blk1 arg1 harg1 arg2 harg2 arg3 harg3 arg4 harg4 x0 x1 x2 x3) := rfl

theorem r84_eq : runB.sl.r_84 c arg1 harg1 arg4 harg4 x0 x3 = kS (blk1 arg1 harg1 arg2 harg2 arg3 harg3 arg4 harg4 x0 x1 x2 x3) := rfl

theorem r85_eq : runB.sl.r_85 c arg1 harg1 arg3 harg3 arg4 harg4 x0 x2 x3 = pfixV (blk1 arg1 harg1 arg2 harg2 arg3 harg3 arg4 harg4 x0 x1 x2 x3) := rfl

theorem r111_eq : runB.sl.r_111 c arg1 harg1 arg3 harg3 arg4 harg4 x0 x2 x3 = negpV (blk2 arg1 harg1 arg2 harg2 arg3 harg3 arg4 harg4 x0 x1 x2 x3) := rfl

theorem r128_eq : runB.sl.r_128 c arg1 harg1 arg4 harg4 x0 x3 = kS (blk2 arg1 harg1 arg2 harg2 arg3 harg3 arg4 harg4 x0 x1 x2 x3) := rfl

theorem r129_eq : runB.sl.r_129 c arg1 harg1 arg3 harg3 arg4 harg4 x0 x2 x3 = pfixV (blk2 arg1 harg1 arg2 harg2 arg3 harg3 arg4 harg4 x0 x1 x2 x3) := rfl

theorem r172_eq : runB.sl.r_172 c arg1 harg1 arg3 harg3 arg4 harg4 x0 x2 x3 = negpV (blk3 arg1 harg1 arg2 harg2 arg3 harg3 arg4 harg4 x0 x1 x2 x3) := rfl

end Cert.KernelIdeal.Own

end
-- ==== Proof.KI.StepEq2.lean ====
module

public import proofs.«01_k».proof.Proof.KI.StepEq
@[expose] public section

set_option maxRecDepth 16384

noncomputable section

namespace Cert.KernelIdeal.Own

open Cert.KernelIdeal Cert.KernelIdeal.Gen
open Idealize.ShloMosaic

variable {F : FTy → Type} [FloatOps F]

variable (c : Dev nD) (arg1 : Memref sig .tc .vmem S4x8x2560 .f32) (harg1 : arg1.IsWhole) (arg2 : Memref sig .tc .vmem S4x4x8x2560 .f32) (harg2 : arg2.IsWhole) (arg3 : Memref sig .tc .vmem S4x8x2560 .f32) (harg3 : arg3.IsWhole) (arg4 : Memref sig .tc .vmem S4x4x32x1x1 .f32) (harg4 : arg4.IsWhole) (x0 : Vec F S4x8x2560 .f32) (x1 : Vec F S4x4x8x2560 .f32) (x2 : Vec F S4x8x2560 .f32) (x3 : Vec F S4x4x32x1x1 .f32)

theorem r176_eq : runB.sl.r_176 c arg1 harg1 arg3 harg3 arg4 harg4 x0 x2 x3 = pickV (blk3 arg1 harg1 arg2 harg2 arg3 harg3 arg4 harg4 x0 x1 x2 x3) (confV (blk3 arg1 harg1 arg2 harg2 arg3 harg3 arg4 harg4 x0 x1 x2 x3)) := rfl

theorem r183_eq : runB.sl.r_183 c arg1 harg1 arg4 harg4 x0 x3 = fixV (blk3 arg1 harg1 arg2 harg2 arg3 harg3 arg4 harg4 x0 x1 x2 x3) := rfl

theorem r184_eq : runB.sl.r_184 c arg1 harg1 arg4 harg4 x0 x3 = nposS (blk3 arg1 harg1 arg2 harg2 arg3 harg3 arg4 harg4 x0 x1 x2 x3) := rfl

theorem r171_eq : runB.sl.r_171 c arg1 harg1 arg3 harg3 arg4 harg4 x0 x2 x3 = flnegV (blk3 arg1 harg1 arg2 harg2 arg3 harg3 arg4 harg4 x0 x1 x2 x3) := rfl

theorem r182_eq : runB.sl.r_182 c arg1 harg1 arg3 harg3 arg4 harg4 x0 x2 x3 = flNeg (logitV (pickV (blk3 arg1 harg1 arg2 harg2 arg3 harg3 arg4 harg4 x0 x1 x2 x3) (confV (blk3 arg1 harg1 arg2 harg2 arg3 harg3 arg4 harg4 x0 x1 x2 x3)))) := rfl

/-- The bounds of the four batches of a point. -/
def foundP : F .f32 × F .f32 × F .f32 × F .f32 × F .f32 × F .f32 × F .f32 × F .f32 :=
  found (negpV (blk0 arg1 harg1 arg2 harg2 arg3 harg3 arg4 harg4 x0 x1 x2 x3)) (kS (blk0 arg1 harg1 arg2 harg2 arg3 harg3 arg4 harg4 x0 x1 x2 x3)) (pfixV (blk0 arg1 harg1 arg2 harg2 arg3 harg3 arg4 harg4 x0 x1 x2 x3)) (negpV (blk1 arg1 harg1 arg2 harg2 arg3 harg3 arg4 harg4 x0 x1 x2 x3)) (kS (blk1 arg1 harg1 arg2 harg2 arg3 harg3 arg4 harg4 x0 x1 x2 x3)) (pfixV (blk1 arg1 harg1 arg2 harg2 arg3 harg3 arg4 harg4 x0 x1 x2 x3)) (negpV (blk2 arg1 harg1 arg2 harg2 arg3 harg3 arg4 harg4 x0 x1 x2 x3)) (kS (blk2 arg1 harg1 arg2 harg2 arg3 harg3 arg4 harg4 x0 x1 x2 x3)) (pfixV (blk2 arg1 harg1 arg2 harg2 arg3 harg3 arg4 harg4 x0 x1 x2 x3)) (negpV (blk3 arg1 harg1 arg2 harg2 arg3 harg3 arg4 harg4 x0 x1 x2 x3)) (pickV (blk3 arg1 harg1 arg2 harg2 arg3 harg3 arg4 harg4 x0 x1 x2 x3) (confV (blk3 arg1 harg1 arg2 harg2 arg3 harg3 arg4 harg4 x0 x1 x2 x3))) (fixV (blk3 arg1 harg1 arg2 harg2 arg3 harg3 arg4 harg4 x0 x1 x2 x3)) (nposS (blk3 arg1 harg1 arg2 harg2 arg3 harg3 arg4 harg4 x0 x1 x2 x3))

theorem foundP_eq : found (runB.sl.r_35 c arg1 harg1 arg3 harg3 arg4 harg4 x0 x2 x3) (runB.sl.r_47 c arg1 harg1 arg4 harg4 x0 x3) (runB.sl.r_48 c arg1 harg1 arg3 harg3 arg4 harg4 x0 x2 x3) (runB.sl.r_72 c arg1 harg1 arg3 harg3 arg4 harg4 x0 x2 x3) (runB.sl.r_84 c arg1 harg1 arg4 harg4 x0 x3) (runB.sl.r_85 c arg1 harg1 arg3 harg3 arg4 harg4 x0 x2 x3) (runB.sl.r_111 c arg1 harg1 arg3 harg3 arg4 harg4 x0 x2 x3) (runB.sl.r_128 c arg1 harg1 arg4 harg4 x0 x3) (runB.sl.r_129 c arg1 harg1 arg3 harg3 arg4 harg4 x0 x2 x3) (runB.sl.r_172 c arg1 harg1 arg3 harg3 arg4 harg4 x0 x2 x3) (runB.sl.r_176 c arg1 harg1 arg3 harg3 arg4 harg4 x0 x2 x3) (runB.sl.r_183 c arg1 harg1 arg4 harg4 x0 x3) (runB.sl.r_184 c arg1 harg1 arg4 harg4 x0 x3) = foundP arg1 harg1 arg2 harg2 arg3 harg3 arg4 harg4 x0 x1 x2 x3 := by
  unfold foundP
  rw [r35_eq c arg1 harg1 arg2 harg2 arg3 harg3 arg4 harg4 x0 x1 x2 x3, r47_eq c arg1 harg1 arg2 harg2 arg3 harg3 arg4 harg4 x0 x1 x2 x3, r48_eq c arg1 harg1 arg2 harg2 arg3 harg3 arg4 harg4 x0 x1 x2 x3, r72_eq c arg1 harg1 arg2 harg2 arg3 harg3 arg4 harg4 x0 x1 x2 x3, r84_eq c arg1 harg1 arg2 harg2 arg3 harg3 arg4 harg4 x0 x1 x2 x3, r85_eq c arg1 harg1 arg2 harg2 arg3 harg3 arg4 harg4 x0 x1 x2 x3, r111_eq c arg1 harg1 arg2 harg2 arg3 harg3 arg4 harg4 x0 x1 x2 x3, r128_eq c arg1 harg1 arg2 harg2 arg3 harg3 arg4 harg4 x0 x1 x2 x3, r129_eq c arg1 harg1 arg2 harg2 arg3 harg3 arg4 harg4 x0 x1 x2 x3, r172_eq c arg1 harg1 arg2 harg2 arg3 harg3 arg4 harg4 x0 x1 x2 x3, r176_eq c arg1 harg1 arg2 harg2 arg3 harg3 arg4 harg4 x0 x1 x2 x3, r183_eq c arg1 harg1 arg2 harg2 arg3 harg3 arg4 harg4 x0 x1 x2 x3, r184_eq c arg1 harg1 arg2 harg2 arg3 harg3 arg4 harg4 x0 x1 x2 x3]

end Cert.KernelIdeal.Own

end
-- ==== Proof.KI.StepEq4.lean ====
module

public import proofs.«01_k».proof.Proof.KI.StepEq2
@[expose] public section

set_option maxRecDepth 16384

noncomputable section

namespace Cert.KernelIdeal.Own

open Cert.KernelIdeal Cert.KernelIdeal.Gen
open Idealize.ShloMosaic

variable {F : FTy → Type} [FloatOps F]

variable (c : Dev nD) (arg1 : Memref sig .tc .vmem S4x8x2560 .f32) (harg1 : arg1.IsWhole) (arg2 : Memref sig .tc .vmem S4x4x8x2560 .f32) (harg2 : arg2.IsWhole) (arg3 : Memref sig .tc .vmem S4x8x2560 .f32) (harg3 : arg3.IsWhole) (arg4 : Memref sig .tc .vmem S4x4x32x1x1 .f32) (harg4 : arg4.IsWhole) (x0 : Vec F S4x8x2560 .f32) (x1 : Vec F S4x4x8x2560 .f32) (x2 : Vec F S4x8x2560 .f32) (x3 : Vec F S4x4x32x1x1 .f32)

set_option maxHeartbeats 2000000 in
theorem locS_0 : runB.sl.r_45 c arg1 harg1 arg2 harg2 arg4 harg4 x0 x1 x3 = locS (blk0 arg1 harg1 arg2 harg2 arg3 harg3 arg4 harg4 x0 x1 x2 x3) := rfl

set_option maxHeartbeats 2000000 in
theorem locS_1 : runB.sl.r_82 c arg1 harg1 arg2 harg2 arg4 harg4 x0 x1 x3 = locS (blk1 arg1 harg1 arg2 harg2 arg3 harg3 arg4 harg4 x0 x1 x2 x3) := rfl

set_option maxHeartbeats 2000000 in
theorem locS_2 : runB.sl.r_126 c arg1 harg1 arg2 harg2 arg4 harg4 x0 x1 x3 = locS (blk2 arg1 harg1 arg2 harg2 arg3 harg3 arg4 harg4 x0 x1 x2 x3) := rfl

set_option maxHeartbeats 2000000 in
theorem locS_3 : runB.sl.r_185 c arg1 harg1 arg2 harg2 arg4 harg4 x0 x1 x3 = locS (blk3 arg1 harg1 arg2 harg2 arg3 harg3 arg4 harg4 x0 x1 x2 x3) := rfl

set_option maxHeartbeats 2000000 in
theorem nposS_0 : runB.sl.r_44 c arg1 harg1 arg4 harg4 x0 x3 = nposS (blk0 arg1 harg1 arg2 harg2 arg3 harg3 arg4 harg4 x0 x1 x2 x3) := rfl

set_option maxHeartbeats 2000000 in
theorem nposS_1 : runB.sl.r_81 c arg1 harg1 arg4 harg4 x0 x3 = nposS (blk1 arg1 harg1 arg2 harg2 arg3 harg3 arg4 harg4 x0 x1 x2 x3) := rfl

set_option maxHeartbeats 2000000 in
theorem nposS_2 : runB.sl.r_125 c arg1 harg1 arg4 harg4 x0 x3 = nposS (blk2 arg1 harg1 arg2 harg2 arg3 harg3 arg4 harg4 x0 x1 x2 x3) := rfl

set_option maxHeartbeats 2000000 in
theorem posS_0 : runB.sl.r_46 c arg1 harg1 arg3 harg3 arg4 harg4 x0 x2 x3 = posS (blk0 arg1 harg1 arg2 harg2 arg3 harg3 arg4 harg4 x0 x1 x2 x3) := rfl

set_option maxHeartbeats 2000000 in
theorem posS_1 : runB.sl.r_83 c arg1 harg1 arg3 harg3 arg4 harg4 x0 x2 x3 = posS (blk1 arg1 harg1 arg2 harg2 arg3 harg3 arg4 harg4 x0 x1 x2 x3) := rfl

set_option maxHeartbeats 2000000 in
theorem posS_2 : runB.sl.r_127 c arg1 harg1 arg3 harg3 arg4 harg4 x0 x2 x3 = posS (blk2 arg1 harg1 arg2 harg2 arg3 harg3 arg4 harg4 x0 x1 x2 x3) := rfl

set_option maxHeartbeats 2000000 in
theorem posS_3 : k0_pay266 (runB.sl.r_169 c arg1 harg1 arg3 harg3 arg4 harg4 x0 x2 x3) (runB.sl.r_186 c arg1 harg1 arg3 harg3 arg4 harg4 x0 x2 x3) = posS (blk3 arg1 harg1 arg2 harg2 arg3 harg3 arg4 harg4 x0 x1 x2 x3) := rfl

set_option maxHeartbeats 2000000 in
theorem flnegV_0 : runB.sl.r_34 c arg1 harg1 arg3 harg3 arg4 harg4 x0 x2 x3 = flnegV (blk0 arg1 harg1 arg2 harg2 arg3 harg3 arg4 harg4 x0 x1 x2 x3) := rfl

set_option maxHeartbeats 2000000 in
theorem flnegV_1 : runB.sl.r_71 c arg1 harg1 arg3 harg3 arg4 harg4 x0 x2 x3 = flnegV (blk1 arg1 harg1 arg2 harg2 arg3 harg3 arg4 harg4 x0 x1 x2 x3) := rfl

set_option maxHeartbeats 2000000 in
theorem flnegV_2 : runB.sl.r_110 c arg1 harg1 arg3 harg3 arg4 harg4 x0 x2 x3 = flnegV (blk2 arg1 harg1 arg2 harg2 arg3 harg3 arg4 harg4 x0 x1 x2 x3) := rfl

set_option maxHeartbeats 2000000 in
theorem flfixV_0 : runB.sl.r_49 c arg1 harg1 arg3 harg3 arg4 harg4 x0 x2 x3 = flfixV (blk0 arg1 harg1 arg2 harg2 arg3 harg3 arg4 harg4 x0 x1 x2 x3) := rfl

set_option maxHeartbeats 2000000 in
theorem flfixV_1 : runB.sl.r_86 c arg1 harg1 arg3 harg3 arg4 harg4 x0 x2 x3 = flfixV (blk1 arg1 harg1 arg2 harg2 arg3 harg3 arg4 harg4 x0 x1 x2 x3) := rfl

set_option maxHeartbeats 2000000 in
theorem flfixV_2 : runB.sl.r_130 c arg1 harg1 arg3 harg3 arg4 harg4 x0 x2 x3 = flfixV (blk2 arg1 harg1 arg2 harg2 arg3 harg3 arg4 harg4 x0 x1 x2 x3) := rfl

set_option maxHeartbeats 2000000 in
theorem flfixV_3 : k0_pay269 (runB.sl.r_182 c arg1 harg1 arg3 harg3 arg4 harg4 x0 x2 x3) (runB.sl.r_183 c arg1 harg1 arg4 harg4 x0 x3) = flfixV (blk3 arg1 harg1 arg2 harg2 arg3 harg3 arg4 harg4 x0 x1 x2 x3) := rfl

end Cert.KernelIdeal.Own

end
-- ==== Proof.KI.StepEq3.lean ====
module

public import proofs.«01_k».proof.Proof.KI.StepEq4
@[expose] public section

set_option maxRecDepth 16384

noncomputable section

namespace Cert.KernelIdeal.Own

open Cert.KernelIdeal Cert.KernelIdeal.Gen
open Idealize.ShloMosaic

variable {F : FTy → Type} [FloatOps F]

/-- A fold whose state holds another fold's state, read off by a map. -/
theorem fold_hom {n : ℕ} {σ τ : Type} (p : σ → τ) (g : Fin n → σ → σ) (h : Fin n → τ → τ) (s : σ) (H : ∀ k a, p (g k a) = h k (p a)) :
    p (Scf.fold g s) = Scf.fold h (p s) := by
  rw [Scf.fold_eq, Scf.fold_eq]
  generalize List.finRange n = l
  induction l generalizing s with
  | nil => rfl
  | cons k l ih => simp only [List.foldl_cons]; rw [ih, H]

theorem found_0 (v217 : FVec F S8x2560 .f32) (v336 : F .f32) (v338 : FVec F S32x1 .f32) (v555 : FVec F S8x2560 .f32) (v674 : F .f32) (v676 : FVec F S32x1 .f32) (v893 : FVec F S8x2560 .f32) (v1012 : F .f32) (v1014 : FVec F S32x1 .f32) (v1231 : FVec F S8x2560 .f32) (v1264 : FVec F S32x1 .f32) (v1328 : IVec S32x1 1) (v1335 : F .f32) : (found v217 v336 v338 v555 v674 v676 v893 v1012 v1014 v1231 v1264 v1328 v1335).1 = (bounds v217 v338 v336).1 := by
  have h := fold_hom (fun a : F .f32 × F .f32 × F .f32 × F .f32 × F .f32 × F .f32 × F .f32 × F .f32 => (a.1, a.2.1)) (trip v217 v336 v338 v555 v674 v676 v893 v1012 v1014 v1231 v1264 v1328 v1335) (fun _ a => halve v217 v338 v336 a)
    (Scalar.ofBits .f32 0x00000000#32, Scalar.ofBits .f32 0x3F800000#32, Scalar.ofBits .f32 0x00000000#32, Scalar.ofBits .f32 0x3F800000#32, Scalar.ofBits .f32 0x00000000#32, Scalar.ofBits .f32 0x3F800000#32, Scalar.ofBits .f32 0x00000000#32, Scalar.ofBits .f32 0x3F800000#32) (fun k a => rfl)
  exact congrArg Prod.fst h

theorem found_1 (v217 : FVec F S8x2560 .f32) (v336 : F .f32) (v338 : FVec F S32x1 .f32) (v555 : FVec F S8x2560 .f32) (v674 : F .f32) (v676 : FVec F S32x1 .f32) (v893 : FVec F S8x2560 .f32) (v1012 : F .f32) (v1014 : FVec F S32x1 .f32) (v1231 : FVec F S8x2560 .f32) (v1264 : FVec F S32x1 .f32) (v1328 : IVec S32x1 1) (v1335 : F .f32) : (found v217 v336 v338 v555 v674 v676 v893 v1012 v1014 v1231 v1264 v1328 v1335).2.2.1 = (bounds v555 v676 v674).1 := by
  have h := fold_hom (fun a : F .f32 × F .f32 × F .f32 × F .f32 × F .f32 × F .f32 × F .f32 × F .f32 => (a.2.2.1, a.2.2.2.1)) (trip v217 v336 v338 v555 v674 v676 v893 v1012 v1014 v1231 v1264 v1328 v1335) (fun _ a => halve v555 v676 v674 a)
    (Scalar.ofBits .f32 0x00000000#32, Scalar.ofBits .f32 0x3F800000#32, Scalar.ofBits .f32 0x00000000#32, Scalar.ofBits .f32 0x3F800000#32, Scalar.ofBits .f32 0x00000000#32, Scalar.ofBits .f32 0x3F800000#32, Scalar.ofBits .f32 0x00000000#32, Scalar.ofBits .f32 0x3F800000#32) (fun k a => rfl)
  exact congrArg Prod.fst h

theorem found_2 (v217 : FVec F S8x2560 .f32) (v336 : F .f32) (v338 : FVec F S32x1 .f32) (v555 : FVec F S8x2560 .f32) (v674 : F .f32) (v676 : FVec F S32x1 .f32) (v893 : FVec F S8x2560 .f32) (v1012 : F .f32) (v1014 : FVec F S32x1 .f32) (v1231 : FVec F S8x2560 .f32) (v1264 : FVec F S32x1 .f32) (v1328 : IVec S32x1 1) (v1335 : F .f32) : (found v217 v336 v338 v555 v674 v676 v893 v1012 v1014 v1231 v1264 v1328 v1335).2.2.2.2.1 = (bounds v893 v1014 v1012).1 := by
  have h := fold_hom (fun a : F .f32 × F .f32 × F .f32 × F .f32 × F .f32 × F .f32 × F .f32 × F .f32 => (a.2.2.2.2.1, a.2.2.2.2.2.1)) (trip v217 v336 v338 v555 v674 v676 v893 v1012 v1014 v1231 v1264 v1328 v1335) (fun _ a => halve v893 v1014 v1012 a)
    (Scalar.ofBits .f32 0x00000000#32, Scalar.ofBits .f32 0x3F800000#32, Scalar.ofBits .f32 0x00000000#32, Scalar.ofBits .f32 0x3F800000#32, Scalar.ofBits .f32 0x00000000#32, Scalar.ofBits .f32 0x3F800000#32, Scalar.ofBits .f32 0x00000000#32, Scalar.ofBits .f32 0x3F800000#32) (fun k a => rfl)
  exact congrArg Prod.fst h

theorem found_3 (v217 : FVec F S8x2560 .f32) (v336 : F .f32) (v338 : FVec F S32x1 .f32) (v555 : FVec F S8x2560 .f32) (v674 : F .f32) (v676 : FVec F S32x1 .f32) (v893 : FVec F S8x2560 .f32) (v1012 : F .f32) (v1014 : FVec F S32x1 .f32) (v1231 : FVec F S8x2560 .f32) (v1264 : FVec F S32x1 .f32) (v1328 : IVec S32x1 1) (v1335 : F .f32) : (found v217 v336 v338 v555 v674 v676 v893 v1012 v1014 v1231 v1264 v1328 v1335).2.2.2.2.2.2.1 = (bounds v1231 (k0_pay268 v1264 v1328) (k0_pay267 v1335)).1 := by
  have h := fold_hom (fun a : F .f32 × F .f32 × F .f32 × F .f32 × F .f32 × F .f32 × F .f32 × F .f32 => (a.2.2.2.2.2.2.1, a.2.2.2.2.2.2.2)) (trip v217 v336 v338 v555 v674 v676 v893 v1012 v1014 v1231 v1264 v1328 v1335) (fun _ a => halve v1231 (k0_pay268 v1264 v1328) (k0_pay267 v1335) a)
    (Scalar.ofBits .f32 0x00000000#32, Scalar.ofBits .f32 0x3F800000#32, Scalar.ofBits .f32 0x00000000#32, Scalar.ofBits .f32 0x3F800000#32, Scalar.ofBits .f32 0x00000000#32, Scalar.ofBits .f32 0x3F800000#32, Scalar.ofBits .f32 0x00000000#32, Scalar.ofBits .f32 0x3F800000#32) (fun k a => rfl)
  exact congrArg Prod.fst h

variable (c : Dev nD) (arg1 : Memref sig .tc .vmem S4x8x2560 .f32) (harg1 : arg1.IsWhole) (arg2 : Memref sig .tc .vmem S4x4x8x2560 .f32) (harg2 : arg2.IsWhole) (arg3 : Memref sig .tc .vmem S4x8x2560 .f32) (harg3 : arg3.IsWhole) (arg4 : Memref sig .tc .vmem S4x4x32x1x1 .f32) (harg4 : arg4.IsWhole) (x0 : Vec F S4x8x2560 .f32) (x1 : Vec F S4x4x8x2560 .f32) (x2 : Vec F S4x8x2560 .f32) (x3 : Vec F S4x4x32x1x1 .f32)

theorem foundP_0 : (foundP arg1 harg1 arg2 harg2 arg3 harg3 arg4 harg4 x0 x1 x2 x3).1 = cutS (blk0 arg1 harg1 arg2 harg2 arg3 harg3 arg4 harg4 x0 x1 x2 x3) := by
  unfold foundP cutS
  exact found_0 ..

theorem foundP_1 : (foundP arg1 harg1 arg2 harg2 arg3 harg3 arg4 harg4 x0 x1 x2 x3).2.2.1 = cutS (blk1 arg1 harg1 arg2 harg2 arg3 harg3 arg4 harg4 x0 x1 x2 x3) := by
  unfold foundP cutS
  exact found_1 ..

theorem foundP_2 : (foundP arg1 harg1 arg2 harg2 arg3 harg3 arg4 harg4 x0 x1 x2 x3).2.2.2.2.1 = cutS (blk2 arg1 harg1 arg2 harg2 arg3 harg3 arg4 harg4 x0 x1 x2 x3) := by
  unfold foundP cutS
  exact found_2 ..

theorem foundP_3 : (foundP arg1 harg1 arg2 harg2 arg3 harg3 arg4 harg4 x0 x1 x2 x3).2.2.2.2.2.2.1 = cutS (blk3 arg1 harg1 arg2 harg2 arg3 harg3 arg4 harg4 x0 x1 x2 x3) := by
  unfold foundP cutS
  exact found_3 ..

variable (a : F .f32 × F .f32 × F .f32)

theorem step_loc : (step c arg1 harg1 arg2 harg2 arg3 harg3 arg4 harg4 x0 x1 x2 x3 a).1 = Scalar.addf a.1 (Scalar.addf (Scalar.addf (Scalar.addf (Scalar.addf (Scalar.ofBits .f32 0x00000000#32) (locS (blk0 arg1 harg1 arg2 harg2 arg3 harg3 arg4 harg4 x0 x1 x2 x3))) (locS (blk1 arg1 harg1 arg2 harg2 arg3 harg3 arg4 harg4 x0 x1 x2 x3))) (locS (blk2 arg1 harg1 arg2 harg2 arg3 harg3 arg4 harg4 x0 x1 x2 x3))) (locS (blk3 arg1 harg1 arg2 harg2 arg3 harg3 arg4 harg4 x0 x1 x2 x3))) := by
  have h : (step c arg1 harg1 arg2 harg2 arg3 harg3 arg4 harg4 x0 x1 x2 x3 a).1 = Scalar.addf a.1 (Scalar.addf (Scalar.addf (Scalar.addf (Scalar.addf (Scalar.ofBits .f32 0x00000000#32) (runB.sl.r_45 c arg1 harg1 arg2 harg2 arg4 harg4 x0 x1 x3)) (runB.sl.r_82 c arg1 harg1 arg2 harg2 arg4 harg4 x0 x1 x3)) (runB.sl.r_126 c arg1 harg1 arg2 harg2 arg4 harg4 x0 x1 x3)) (runB.sl.r_185 c arg1 harg1 arg2 harg2 arg4 harg4 x0 x1 x3)) := rfl
  rw [h, locS_0 c arg1 harg1 arg2 harg2 arg3 harg3 arg4 harg4 x0 x1 x2 x3, locS_1 c arg1 harg1 arg2 harg2 arg3 harg3 arg4 harg4 x0 x1 x2 x3, locS_2 c arg1 harg1 arg2 harg2 arg3 harg3 arg4 harg4 x0 x1 x2 x3, locS_3 c arg1 harg1 arg2 harg2 arg3 harg3 arg4 harg4 x0 x1 x2 x3]

theorem step_npos : (step c arg1 harg1 arg2 harg2 arg3 harg3 arg4 harg4 x0 x1 x2 x3 a).2.2 = Scalar.addf a.2.2 (Scalar.addf (Scalar.addf (Scalar.addf (Scalar.addf (Scalar.ofBits .f32 0x00000000#32) (nposS (blk0 arg1 harg1 arg2 harg2 arg3 harg3 arg4 harg4 x0 x1 x2 x3))) (nposS (blk1 arg1 harg1 arg2 harg2 arg3 harg3 arg4 harg4 x0 x1 x2 x3))) (nposS (blk2 arg1 harg1 arg2 harg2 arg3 harg3 arg4 harg4 x0 x1 x2 x3))) (nposS (blk3 arg1 harg1 arg2 harg2 arg3 harg3 arg4 harg4 x0 x1 x2 x3))) := by
  have h : (step c arg1 harg1 arg2 harg2 arg3 harg3 arg4 harg4 x0 x1 x2 x3 a).2.2 = Scalar.addf a.2.2 (Scalar.addf (Scalar.addf (Scalar.addf (Scalar.addf (Scalar.ofBits .f32 0x00000000#32) (runB.sl.r_44 c arg1 harg1 arg4 harg4 x0 x3)) (runB.sl.r_81 c arg1 harg1 arg4 harg4 x0 x3)) (runB.sl.r_125 c arg1 harg1 arg4 harg4 x0 x3)) (runB.sl.r_184 c arg1 harg1 arg4 harg4 x0 x3)) := rfl
  rw [h, nposS_0 c arg1 harg1 arg2 harg2 arg3 harg3 arg4 harg4 x0 x1 x2 x3, nposS_1 c arg1 harg1 arg2 harg2 arg3 harg3 arg4 harg4 x0 x1 x2 x3, nposS_2 c arg1 harg1 arg2 harg2 arg3 harg3 arg4 harg4 x0 x1 x2 x3, r184_eq c arg1 harg1 arg2 harg2 arg3 harg3 arg4 harg4 x0 x1 x2 x3]

set_option maxHeartbeats 2000000 in
theorem step_conf' : (step c arg1 harg1 arg2 harg2 arg3 harg3 arg4 harg4 x0 x1 x2 x3 a).2.1 = Scalar.addf a.2.1 (Scalar.addf (Scalar.addf (Scalar.addf (Scalar.addf (Scalar.addf (Scalar.addf (Scalar.addf (Scalar.addf (Scalar.ofBits .f32 0x00000000#32) (runB.sl.r_46 c arg1 harg1 arg3 harg3 arg4 harg4 x0 x2 x3)) (hardS (runB.sl.r_35 c arg1 harg1 arg3 harg3 arg4 harg4 x0 x2 x3) (runB.sl.r_48 c arg1 harg1 arg3 harg3 arg4 harg4 x0 x2 x3) (runB.sl.r_34 c arg1 harg1 arg3 harg3 arg4 harg4 x0 x2 x3) (runB.sl.r_49 c arg1 harg1 arg3 harg3 arg4 harg4 x0 x2 x3) (runB.sl.r_47 c arg1 harg1 arg4 harg4 x0 x3) (found (runB.sl.r_35 c arg1 harg1 arg3 harg3 arg4 harg4 x0 x2 x3) (runB.sl.r_47 c arg1 harg1 arg4 harg4 x0 x3) (runB.sl.r_48 c arg1 harg1 arg3 harg3 arg4 harg4 x0 x2 x3) (runB.sl.r_72 c arg1 harg1 arg3 harg3 arg4 harg4 x0 x2 x3) (runB.sl.r_84 c arg1 harg1 arg4 harg4 x0 x3) (runB.sl.r_85 c arg1 harg1 arg3 harg3 arg4 harg4 x0 x2 x3) (runB.sl.r_111 c arg1 harg1 arg3 harg3 arg4 harg4 x0 x2 x3) (runB.sl.r_128 c arg1 harg1 arg4 harg4 x0 x3) (runB.sl.r_129 c arg1 harg1 arg3 harg3 arg4 harg4 x0 x2 x3) (runB.sl.r_172 c arg1 harg1 arg3 harg3 arg4 harg4 x0 x2 x3) (runB.sl.r_176 c arg1 harg1 arg3 harg3 arg4 harg4 x0 x2 x3) (runB.sl.r_183 c arg1 harg1 arg4 harg4 x0 x3) (runB.sl.r_184 c arg1 harg1 arg4 harg4 x0 x3)).1)) (runB.sl.r_83 c arg1 harg1 arg3 harg3 arg4 harg4 x0 x2 x3)) (hardS (runB.sl.r_72 c arg1 harg1 arg3 harg3 arg4 harg4 x0 x2 x3) (runB.sl.r_85 c arg1 harg1 arg3 harg3 arg4 harg4 x0 x2 x3) (runB.sl.r_71 c arg1 harg1 arg3 harg3 arg4 harg4 x0 x2 x3) (runB.sl.r_86 c arg1 harg1 arg3 harg3 arg4 harg4 x0 x2 x3) (runB.sl.r_84 c arg1 harg1 arg4 harg4 x0 x3) (found (runB.sl.r_35 c arg1 harg1 arg3 harg3 arg4 harg4 x0 x2 x3) (runB.sl.r_47 c arg1 harg1 arg4 harg4 x0 x3) (runB.sl.r_48 c arg1 harg1 arg3 harg3 arg4 harg4 x0 x2 x3) (runB.sl.r_72 c arg1 harg1 arg3 harg3 arg4 harg4 x0 x2 x3) (runB.sl.r_84 c arg1 harg1 arg4 harg4 x0 x3) (runB.sl.r_85 c arg1 harg1 arg3 harg3 arg4 harg4 x0 x2 x3) (runB.sl.r_111 c arg1 harg1 arg3 harg3 arg4 harg4 x0 x2 x3) (runB.sl.r_128 c arg1 harg1 arg4 harg4 x0 x3) (runB.sl.r_129 c arg1 harg1 arg3 harg3 arg4 harg4 x0 x2 x3) (runB.sl.r_172 c arg1 harg1 arg3 harg3 arg4 harg4 x0 x2 x3) (runB.sl.r_176 c arg1 harg1 arg3 harg3 arg4 harg4 x0 x2 x3) (runB.sl.r_183 c arg1 harg1 arg4 harg4 x0 x3) (runB.sl.r_184 c arg1 harg1 arg4 harg4 x0 x3)).2.2.1)) (runB.sl.r_127 c arg1 harg1 arg3 harg3 arg4 harg4 x0 x2 x3)) (hardS (runB.sl.r_111 c arg1 harg1 arg3 harg3 arg4 harg4 x0 x2 x3) (runB.sl.r_129 c arg1 harg1 arg3 harg3 arg4 harg4 x0 x2 x3) (runB.sl.r_110 c arg1 harg1 arg3 harg3 arg4 harg4 x0 x2 x3) (runB.sl.r_130 c arg1 harg1 arg3 harg3 arg4 harg4 x0 x2 x3) (runB.sl.r_128 c arg1 harg1 arg4 harg4 x0 x3) (found (runB.sl.r_35 c arg1 harg1 arg3 harg3 arg4 harg4 x0 x2 x3) (runB.sl.r_47 c arg1 harg1 arg4 harg4 x0 x3) (runB.sl.r_48 c arg1 harg1 arg3 harg3 arg4 harg4 x0 x2 x3) (runB.sl.r_72 c arg1 harg1 arg3 harg3 arg4 harg4 x0 x2 x3) (runB.sl.r_84 c arg1 harg1 arg4 harg4 x0 x3) (runB.sl.r_85 c arg1 harg1 arg3 harg3 arg4 harg4 x0 x2 x3) (runB.sl.r_111 c arg1 harg1 arg3 harg3 arg4 harg4 x0 x2 x3) (runB.sl.r_128 c arg1 harg1 arg4 harg4 x0 x3) (runB.sl.r_129 c arg1 harg1 arg3 harg3 arg4 harg4 x0 x2 x3) (runB.sl.r_172 c arg1 harg1 arg3 harg3 arg4 harg4 x0 x2 x3) (runB.sl.r_176 c arg1 harg1 arg3 harg3 arg4 harg4 x0 x2 x3) (runB.sl.r_183 c arg1 harg1 arg4 harg4 x0 x3) (runB.sl.r_184 c arg1 harg1 arg4 harg4 x0 x3)).2.2.2.2.1)) (k0_pay266 (runB.sl.r_169 c arg1 harg1 arg3 harg3 arg4 harg4 x0 x2 x3) (runB.sl.r_186 c arg1 harg1 arg3 harg3 arg4 harg4 x0 x2 x3))) (hardS (runB.sl.r_172 c arg1 harg1 arg3 harg3 arg4 harg4 x0 x2 x3) (k0_pay268 (runB.sl.r_176 c arg1 harg1 arg3 harg3 arg4 harg4 x0 x2 x3) (runB.sl.r_183 c arg1 harg1 arg4 harg4 x0 x3)) (runB.sl.r_171 c arg1 harg1 arg3 harg3 arg4 harg4 x0 x2 x3) (k0_pay269 (runB.sl.r_182 c arg1 harg1 arg3 harg3 arg4 harg4 x0 x2 x3) (runB.sl.r_183 c arg1 harg1 arg4 harg4 x0 x3)) (k0_pay267 (runB.sl.r_184 c arg1 harg1 arg4 harg4 x0 x3)) (found (runB.sl.r_35 c arg1 harg1 arg3 harg3 arg4 harg4 x0 x2 x3) (runB.sl.r_47 c arg1 harg1 arg4 harg4 x0 x3) (runB.sl.r_48 c arg1 harg1 arg3 harg3 arg4 harg4 x0 x2 x3) (runB.sl.r_72 c arg1 harg1 arg3 harg3 arg4 harg4 x0 x2 x3) (runB.sl.r_84 c arg1 harg1 arg4 harg4 x0 x3) (runB.sl.r_85 c arg1 harg1 arg3 harg3 arg4 harg4 x0 x2 x3) (runB.sl.r_111 c arg1 harg1 arg3 harg3 arg4 harg4 x0 x2 x3) (runB.sl.r_128 c arg1 harg1 arg4 harg4 x0 x3) (runB.sl.r_129 c arg1 harg1 arg3 harg3 arg4 harg4 x0 x2 x3) (runB.sl.r_172 c arg1 harg1 arg3 harg3 arg4 harg4 x0 x2 x3) (runB.sl.r_176 c arg1 harg1 arg3 harg3 arg4 harg4 x0 x2 x3) (runB.sl.r_183 c arg1 harg1 arg4 harg4 x0 x3) (runB.sl.r_184 c arg1 harg1 arg4 harg4 x0 x3)).2.2.2.2.2.2.1)) := rfl

set_option maxHeartbeats 2000000 in
theorem step_conf : (step c arg1 harg1 arg2 harg2 arg3 harg3 arg4 harg4 x0 x1 x2 x3 a).2.1 = Scalar.addf a.2.1 (Scalar.addf (Scalar.addf (Scalar.addf (Scalar.addf (Scalar.addf (Scalar.addf (Scalar.addf (Scalar.addf (Scalar.ofBits .f32 0x00000000#32) (posS (blk0 arg1 harg1 arg2 harg2 arg3 harg3 arg4 harg4 x0 x1 x2 x3))) (topS (blk0 arg1 harg1 arg2 harg2 arg3 harg3 arg4 harg4 x0 x1 x2 x3))) (posS (blk1 arg1 harg1 arg2 harg2 arg3 harg3 arg4 harg4 x0 x1 x2 x3))) (topS (blk1 arg1 harg1 arg2 harg2 arg3 harg3 arg4 harg4 x0 x1 x2 x3))) (posS (blk2 arg1 harg1 arg2 harg2 arg3 harg3 arg4 harg4 x0 x1 x2 x3))) (topS (blk2 arg1 harg1 arg2 harg2 arg3 harg3 arg4 harg4 x0 x1 x2 x3))) (posS (blk3 arg1 harg1 arg2 harg2 arg3 harg3 arg4 harg4 x0 x1 x2 x3))) (topS (blk3 arg1 harg1 arg2 harg2 arg3 harg3 arg4 harg4 x0 x1 x2 x3))) := by
  rw [step_conf', foundP_eq c arg1 harg1 arg2 harg2 arg3 harg3 arg4 harg4 x0 x1 x2 x3, foundP_0, foundP_1, foundP_2, foundP_3, flnegV_0 c arg1 harg1 arg2 harg2 arg3 harg3 arg4 harg4 x0 x1 x2 x3, flnegV_1 c arg1 harg1 arg2 harg2 arg3 harg3 arg4 harg4 x0 x1 x2 x3, flnegV_2 c arg1 harg1 arg2 harg2 arg3 harg3 arg4 harg4 x0 x1 x2 x3, r171_eq c arg1 harg1 arg2 harg2 arg3 harg3 arg4 harg4 x0 x1 x2 x3, flfixV_0 c arg1 harg1 arg2 harg2 arg3 harg3 arg4 harg4 x0 x1 x2 x3, flfixV_1 c arg1 harg1 arg2 harg2 arg3 harg3 arg4 harg4 x0 x1 x2 x3, flfixV_2 c arg1 harg1 arg2 harg2 arg3 harg3 arg4 harg4 x0 x1 x2 x3, flfixV_3 c arg1 harg1 arg2 harg2 arg3 harg3 arg4 harg4 x0 x1 x2 x3, posS_0 c arg1 harg1 arg2 harg2 arg3 harg3 arg4 harg4 x0 x1 x2 x3, posS_1 c arg1 harg1 arg2 harg2 arg3 harg3 arg4 harg4 x0 x1 x2 x3, posS_2 c arg1 harg1 arg2 harg2 arg3 harg3 arg4 harg4 x0 x1 x2 x3, posS_3 c arg1 harg1 arg2 harg2 arg3 harg3 arg4 harg4 x0 x1 x2 x3, r35_eq c arg1 harg1 arg2 harg2 arg3 harg3 arg4 harg4 x0 x1 x2 x3, r47_eq c arg1 harg1 arg2 harg2 arg3 harg3 arg4 harg4 x0 x1 x2 x3, r48_eq c arg1 harg1 arg2 harg2 arg3 harg3 arg4 harg4 x0 x1 x2 x3, r72_eq c arg1 harg1 arg2 harg2 arg3 harg3 arg4 harg4 x0 x1 x2 x3, r84_eq c arg1 harg1 arg2 harg2 arg3 harg3 arg4 harg4 x0 x1 x2 x3, r85_eq c arg1 harg1 arg2 harg2 arg3 harg3 arg4 harg4 x0 x1 x2 x3, r111_eq c arg1 harg1 arg2 harg2 arg3 harg3 arg4 harg4 x0 x1 x2 x3, r128_eq c arg1 harg1 arg2 harg2 arg3 harg3 arg4 harg4 x0 x1 x2 x3, r129_eq c arg1 harg1 arg2 harg2 arg3 harg3 arg4 harg4 x0 x1 x2 x3, r172_eq c arg1 harg1 arg2 harg2 arg3 harg3 arg4 harg4 x0 x1 x2 x3, r176_eq c arg1 harg1 arg2 harg2 arg3 harg3 arg4 harg4 x0 x1 x2 x3, r183_eq c arg1 harg1 arg2 harg2 arg3 harg3 arg4 harg4 x0 x1 x2 x3, r184_eq c arg1 harg1 arg2 harg2 arg3 harg3 arg4 harg4 x0 x1 x2 x3]
  rfl

end Cert.KernelIdeal.Own

end
-- ==== Proof.KI.Host.lean ====
/- What the host prepares for the kernel: the boxes by coordinate, padded and folded in rows. -/
module

public import proofs.«01_k».proof.Proof.KI.Whole
public import proofs.«01_k».proof.Proof.KI.Loc
public import proofs.«01_k».proof.Proof.KI.StepEq3
public import Idealize.ShloMosaic.Lib.Pointwise
public import Idealize.ShloMosaic.Lib.Pipeline.ValueKit

@[expose] public section

noncomputable section

namespace Cert.KernelIdeal.Own

open Cert.KernelIdeal Cert.KernelIdeal.Gen Idealize.ShloMosaic Idealize.ShloMosaic.TcCoe Idealize.SL Idealize.SL.Sem
open Idealize.ShloMosaic.StableHlo
open Cert.Own (rowOf colOf padP)

variable (m : (ℓ : Loc nD τ sig) → Buf (Elt Ideal) ℓ)

/-- The anchors as the host lays them out for the kernel. -/
def anchHost (c : Dev nD) : Vec Ideal S4x8x2560 .f32 :=
  shapeCast S4x8x2560 (pad S4x20480 ![0, 0] ![0, 480] ![0, 0] (transpose S4x20000 [1, 0] (m ((c : Thread nD τ).loc main_arg2)) transposes_S20000x4_S4x20000_1_0) (sitofp (F := Ideal) .f32 (constantI S_ 32 0#32)) pads_S4x20000_S4x20480_000_04800 h_S_) shapeCasts_S4x20480_S4x8x2560

theorem V_anch (c : Dev nD) : V m c main_v5 = anchHost m c := by
  simp only [V, hostOps0, hostOps0_1, hostOps0_2, hostOps0_3, hostOps0_4, hostOps0_5, hostOps0_6, List.flatten_cons, List.flatten_nil, List.append_nil, List.cons_append, List.nil_append]
  after_results_simp
  rfl

/-- A place of the rows against its number. -/
theorem pad_at (f : Fin 20000 → EReal) (z z' : EReal) (hz : z' = z) (r : Fin 8) (cc : Fin 2560) :
    (if h : r.val * 2560 + cc.val < 20000 then f ⟨r.val * 2560 + cc.val, h⟩ else z') = padP f z r cc := by
  rw [padP, hz]
  by_cases h : 2560 * r.val + cc.val < 20000
  · rw [dif_pos h, dif_pos (show r.val * 2560 + cc.val < 20000 by omega)]
    exact congrArg f (Fin.ext (by simp only; omega))
  · rw [dif_neg h, dif_neg (show ¬ r.val * 2560 + cc.val < 20000 by omega)]

theorem nought : @Eq EReal (FloatOps.sitofp (F := Ideal) FTy.f32 0#32) 0 := by
  show (((0#32 : BitVec 32).toInt : ℝ) : EReal) = 0
  simp

theorem minus_one : @Eq EReal (Ideal.ofBits .f32 0xBF800000#32) (((-1 : ℝ) : EReal)) := by
  simp [Ideal.ofBits, Ideal.ieee]
  try (rw [← EReal.coe_mul]; norm_num)

theorem anchHost_ap (c : Dev nD) (k : Fin 4) (r : Fin 8) (cc : Fin 2560) :
    @Eq EReal (anchHost m c (ix3 k r cc)) (padP (fun n => m ((c : Thread nD τ).loc main_arg2) (ix2 n k)) 0 r cc) := by
  pointwise [anchHost]
  exact pad_at (fun n => m ((c : Thread nD τ).loc main_arg2) (ix2 n k)) 0 _ nought r cc

/-- The predicted boxes as the host lays them out. -/
def predHost (c : Dev nD) : Vec Ideal S16x4x8x2560 .f32 :=
  shapeCast S16x4x8x2560 (pad S16x4x20480 ![0, 0, 0] ![0, 0, 480] ![0, 0, 0] (transpose S16x4x20000 [0, 2, 1] (m ((c : Thread nD τ).loc main_arg0)) transposes_S16x20000x4_S16x4x20000_0_2_1) (sitofp (F := Ideal) .f32 (constantI S_ 32 0#32)) pads_S16x4x20000_S16x4x20480_000_000_04800 h_S_) shapeCasts_S16x4x20480_S16x4x8x2560

theorem V_pred (c : Dev nD) : V m c main_v2 = predHost m c := by
  simp only [V, hostOps0, hostOps0_1, hostOps0_2, hostOps0_3, hostOps0_4, hostOps0_5, hostOps0_6, List.flatten_cons, List.flatten_nil, List.append_nil, List.cons_append, List.nil_append]
  after_results_simp
  rfl

theorem predHost_ap (c : Dev nD) (b : Fin 16) (k : Fin 4) (r : Fin 8) (cc : Fin 2560) :
    @Eq EReal (predHost m c (ix4 b k r cc)) (padP (fun n => m ((c : Thread nD τ).loc main_arg0) (ix3 b n k)) 0 r cc) := by
  pointwise [predHost]
  exact pad_at (fun n => m ((c : Thread nD τ).loc main_arg0) (ix3 b n k)) 0 _ nought r cc

/-- Confidences as the host lays them out. -/
def confRows (x : Vec Ideal S16x20000 .f32) : Vec Ideal S16x8x2560 .f32 :=
  shapeCast S16x8x2560 (pad S16x20480 ![0, 0] ![0, 480] ![0, 0] x (constant (F := Ideal) S_ .f32 0xBF800000#32) pads_S16x20000_S16x20480_000_04800 h_S_) shapeCasts_S16x20480_S16x8x2560

theorem confRows_ap (x : Vec Ideal S16x20000 .f32) (b : Fin 16) (r : Fin 8) (cc : Fin 2560) :
    @Eq EReal (confRows x (ix3 b r cc)) (padP (fun n => x (ix2 b n)) (((-1 : ℝ) : EReal)) r cc) := by
  pointwise [confRows]
  exact pad_at (fun n => x (ix2 b n)) _ _ minus_one r cc

/-- The confidences as the host lays them out. -/
def confHost (c : Dev nD) : Vec Ideal S16x8x2560 .f32 := confRows (m ((c : Thread nD τ).loc main_arg1))

theorem V_conf (c : Dev nD) : V m c main_v7 = confHost m c := by
  simp only [V, hostOps0, hostOps0_1, hostOps0_2, hostOps0_3, hostOps0_4, hostOps0_5, hostOps0_6, List.flatten_cons, List.flatten_nil, List.append_nil, List.cons_append, List.nil_append]
  after_results_simp
  rfl

theorem confHost_ap (c : Dev nD) (b : Fin 16) (r : Fin 8) (cc : Fin 2560) :
    @Eq EReal (confHost m c (ix3 b r cc)) (padP (fun n => m ((c : Thread nD τ).loc main_arg1) (ix2 b n)) (((-1 : ℝ) : EReal)) r cc) :=
  confRows_ap _ b r cc

/-- The true boxes as the host lays them out. -/
def boxHost (c : Dev nD) : Vec Ideal S16x4x32x1x1 .f32 :=
  shapeCast S16x4x32x1x1 (transpose S16x4x32 [0, 2, 1] (m ((c : Thread nD τ).loc main_arg3)) transposes_S16x32x4_S16x4x32_0_2_1) shapeCasts_S16x4x32_S16x4x32x1x1

theorem V_box (c : Dev nD) : V m c main_v9 = boxHost m c := by
  simp only [V, hostOps0, hostOps0_1, hostOps0_2, hostOps0_3, hostOps0_4, hostOps0_5, hostOps0_6, List.flatten_cons, List.flatten_nil, List.append_nil, List.cons_append, List.nil_append]
  after_results_simp
  rfl

theorem boxHost_ap (c : Dev nD) (b : Fin 16) (k : Fin 4) (g : Fin 32) :
    @Eq EReal (boxHost m c (ix5 b k g (0 : Fin 1) (0 : Fin 1))) (m ((c : Thread nD τ).loc main_arg3) (ix3 b g k)) := by
  pointwise [boxHost]

/-! ## The blocks of a point -/

/-- The batch a point reads in place `j`. -/
def batch (t : Fin cfg0.N) (j : Fin 4) : Fin 16 := ⟨4 * t.val + j.val, by have := lt_of_lt_of_eq t.isLt (show cfg0.N = 4 from N_0); omega⟩

theorem zp (n x : ℕ) : 0 * n + x = x := by omega

theorem iblk0_ap (c : Dev nD) (t : Fin cfg0.N) (k : Fin 4) (r : Fin 8) (cc : Fin 2560) :
    @Eq EReal (iblk m c 0 t (ix3 k r cc)) (anchHost m c (ix3 k r cc)) := by
  rw [← V_anch]
  have e : ∀ t : Fin cfg0.N, win0_0.index t = ![0, 0, 0] := by decide +kernel
  blk_simp [iblk]
  refine congrArg (V m c main_v5) (funext fun a => Fin.ext ?_)
  blk_simp [e]
  fin_cases a <;> exact zp _ _

theorem iblk1_ap (c : Dev nD) (t : Fin cfg0.N) (j : Fin 4) (k : Fin 4) (r : Fin 8) (cc : Fin 2560) :
    @Eq EReal (iblk m c 1 t (ix4 j k r cc)) (predHost m c (ix4 (batch t j) k r cc)) := by
  rw [← V_pred]
  have e : ∀ t : Fin cfg0.N, win0_1.index t = ![t.val, 0, 0, 0] := by decide +kernel
  blk_simp [iblk]
  refine congrArg (V m c main_v2) (funext fun a => Fin.ext ?_)
  blk_simp [e]
  fin_cases a
  · show t.val * 4 + j.val = 4 * t.val + j.val; omega
  all_goals exact zp _ _

theorem iblk2_ap (c : Dev nD) (t : Fin cfg0.N) (j : Fin 4) (r : Fin 8) (cc : Fin 2560) :
    @Eq EReal (iblk m c 2 t (ix3 j r cc)) (confHost m c (ix3 (batch t j) r cc)) := by
  rw [← V_conf]
  have e : ∀ t : Fin cfg0.N, win0_2.index t = ![t.val, 0, 0] := by decide +kernel
  blk_simp [iblk]
  refine congrArg (V m c main_v7) (funext fun a => Fin.ext ?_)
  blk_simp [e]
  fin_cases a
  · show t.val * 4 + j.val = 4 * t.val + j.val; omega
  all_goals exact zp _ _

theorem iblk3_ap (c : Dev nD) (t : Fin cfg0.N) (j : Fin 4) (k : Fin 4) (g : Fin 32) :
    @Eq EReal (iblk m c 3 t (ix5 j k g (0 : Fin 1) (0 : Fin 1))) (boxHost m c (ix5 (batch t j) k g (0 : Fin 1) (0 : Fin 1))) := by
  rw [← V_box]
  have e : ∀ t : Fin cfg0.N, win0_3.index t = ![t.val, 0, 0, 0, 0] := by decide +kernel
  blk_simp [iblk]
  refine congrArg (V m c main_v9) (funext fun a => Fin.ext ?_)
  blk_simp [e]
  fin_cases a
  · show t.val * 4 + j.val = 4 * t.val + j.val; omega
  all_goals exact zp _ _

/-! ## What each batch of a point reads -/

theorem rd {s : Shape} (M : Memref sig .tc .vmem s .f32) (h : M.IsWhole) (x : Vec Ideal s .f32) (R : Rect s) (i : R.toLoadRect.shape.Idx) (i' : s.Idx)
    (e : ∀ a, (R.toLoadRect.idx i a).val = (i' a).val) : @Eq EReal (View.readAt (Elt Ideal) M.view R.toLoadRect (h.unread x) i) (x i') := by
  rw [View.readAt_apply, h.read_unread]
  exact congrArg x (funext fun a => Fin.ext (e a))

variable (arg1 : Memref sig .tc .vmem S4x8x2560 .f32) (harg1 : arg1.IsWhole) (arg2 : Memref sig .tc .vmem S4x4x8x2560 .f32) (harg2 : arg2.IsWhole) (arg3 : Memref sig .tc .vmem S4x8x2560 .f32) (harg3 : arg3.IsWhole) (arg4 : Memref sig .tc .vmem S4x4x32x1x1 .f32) (harg4 : arg4.IsWhole) (x0 : Vec Ideal S4x8x2560 .f32) (x1 : Vec Ideal S4x4x8x2560 .f32) (x2 : Vec Ideal S4x8x2560 .f32) (x3 : Vec Ideal S4x4x32x1x1 .f32)

/-- What a point's blocks hold of the arrays. -/
structure Stage (A : Fin 20000 → Fin 4 → EReal) (D : Fin 4 → Fin 20000 → Fin 4 → EReal) (G : Fin 4 → Fin 32 → Fin 4 → EReal) (C : Fin 4 → Fin 20000 → EReal) : Prop where
  h0 : ∀ k r cc, @Eq EReal (x0 (ix3 k r cc)) (padP (fun n => A n k) 0 r cc)
  h1 : ∀ j k r cc, @Eq EReal (x1 (ix4 j k r cc)) (padP (fun n => D j n k) 0 r cc)
  h2 : ∀ j r cc, @Eq EReal (x2 (ix3 j r cc)) (padP (C j) (((-1 : ℝ) : EReal)) r cc)
  h3 : ∀ j k g, @Eq EReal (x3 (ix5 j k g (0 : Fin 1) (0 : Fin 1))) (G j g k)
  ordA : ∀ n, Cert.Own.Ordered (A n)
  ordG : ∀ j g, Cert.Own.Ordered (G j g)

variable {x0 x1 x2 x3} {A : Fin 20000 → Fin 4 → EReal} {D : Fin 4 → Fin 20000 → Fin 4 → EReal} {G : Fin 4 → Fin 32 → Fin 4 → EReal} {C : Fin 4 → Fin 20000 → EReal}

theorem holds0 (H : Stage x0 x1 x2 x3 A D G C) : Holds (blk0 arg1 harg1 arg2 harg2 arg3 harg3 arg4 harg4 x0 x1 x2 x3) A (D 0) (G 0) (C 0) := by
  constructor
  · intro r cc; refine (Eq.trans (rd arg1 harg1 x0 _ _ (ix3 (0 : Fin 4) r cc) ?_) (H.h0 0 r cc)) <;> (intro a; fin_cases a <;> simp [Rect.toLoadRect, LoadRect.idx])
  · intro r cc; refine (Eq.trans (rd arg1 harg1 x0 _ _ (ix3 (1 : Fin 4) r cc) ?_) (H.h0 1 r cc)) <;> (intro a; fin_cases a <;> simp [Rect.toLoadRect, LoadRect.idx])
  · intro r cc; refine (Eq.trans (rd arg1 harg1 x0 _ _ (ix3 (2 : Fin 4) r cc) ?_) (H.h0 2 r cc)) <;> (intro a; fin_cases a <;> simp [Rect.toLoadRect, LoadRect.idx])
  · intro r cc; refine (Eq.trans (rd arg1 harg1 x0 _ _ (ix3 (3 : Fin 4) r cc) ?_) (H.h0 3 r cc)) <;> (intro a; fin_cases a <;> simp [Rect.toLoadRect, LoadRect.idx])
  · intro r cc; refine (Eq.trans (rd arg2 harg2 x1 _ _ (ix4 (0 : Fin 4) (0 : Fin 4) r cc) ?_) (H.h1 0 0 r cc)) <;> (intro a; fin_cases a <;> simp [Rect.toLoadRect, LoadRect.idx])
  · intro r cc; refine (Eq.trans (rd arg2 harg2 x1 _ _ (ix4 (0 : Fin 4) (1 : Fin 4) r cc) ?_) (H.h1 0 1 r cc)) <;> (intro a; fin_cases a <;> simp [Rect.toLoadRect, LoadRect.idx])
  · intro r cc; refine (Eq.trans (rd arg2 harg2 x1 _ _ (ix4 (0 : Fin 4) (2 : Fin 4) r cc) ?_) (H.h1 0 2 r cc)) <;> (intro a; fin_cases a <;> simp [Rect.toLoadRect, LoadRect.idx])
  · intro r cc; refine (Eq.trans (rd arg2 harg2 x1 _ _ (ix4 (0 : Fin 4) (3 : Fin 4) r cc) ?_) (H.h1 0 3 r cc)) <;> (intro a; fin_cases a <;> simp [Rect.toLoadRect, LoadRect.idx])
  · intro r cc; refine (Eq.trans (rd arg3 harg3 x2 _ _ (ix3 (0 : Fin 4) r cc) ?_) (H.h2 0 r cc)) <;> (intro a; fin_cases a <;> simp [Rect.toLoadRect, LoadRect.idx])
  · intro g; refine (Eq.trans (rd arg4 harg4 x3 _ _ (ix5 (0 : Fin 4) (0 : Fin 4) g (0 : Fin 1) (0 : Fin 1)) ?_) (H.h3 0 0 g)) <;> (intro a; fin_cases a <;> simp [Rect.toLoadRect, LoadRect.idx])
  · intro g; refine (Eq.trans (rd arg4 harg4 x3 _ _ (ix5 (0 : Fin 4) (1 : Fin 4) g (0 : Fin 1) (0 : Fin 1)) ?_) (H.h3 0 1 g)) <;> (intro a; fin_cases a <;> simp [Rect.toLoadRect, LoadRect.idx])
  · intro g; refine (Eq.trans (rd arg4 harg4 x3 _ _ (ix5 (0 : Fin 4) (2 : Fin 4) g (0 : Fin 1) (0 : Fin 1)) ?_) (H.h3 0 2 g)) <;> (intro a; fin_cases a <;> simp [Rect.toLoadRect, LoadRect.idx])
  · intro g; refine (Eq.trans (rd arg4 harg4 x3 _ _ (ix5 (0 : Fin 4) (3 : Fin 4) g (0 : Fin 1) (0 : Fin 1)) ?_) (H.h3 0 3 g)) <;> (intro a; fin_cases a <;> simp [Rect.toLoadRect, LoadRect.idx])
  · exact H.ordA
  · exact H.ordG 0

theorem holds1 (H : Stage x0 x1 x2 x3 A D G C) : Holds (blk1 arg1 harg1 arg2 harg2 arg3 harg3 arg4 harg4 x0 x1 x2 x3) A (D 1) (G 1) (C 1) := by
  constructor
  · intro r cc; refine (Eq.trans (rd arg1 harg1 x0 _ _ (ix3 (0 : Fin 4) r cc) ?_) (H.h0 0 r cc)) <;> (intro a; fin_cases a <;> simp [Rect.toLoadRect, LoadRect.idx])
  · intro r cc; refine (Eq.trans (rd arg1 harg1 x0 _ _ (ix3 (1 : Fin 4) r cc) ?_) (H.h0 1 r cc)) <;> (intro a; fin_cases a <;> simp [Rect.toLoadRect, LoadRect.idx])
  · intro r cc; refine (Eq.trans (rd arg1 harg1 x0 _ _ (ix3 (2 : Fin 4) r cc) ?_) (H.h0 2 r cc)) <;> (intro a; fin_cases a <;> simp [Rect.toLoadRect, LoadRect.idx])
  · intro r cc; refine (Eq.trans (rd arg1 harg1 x0 _ _ (ix3 (3 : Fin 4) r cc) ?_) (H.h0 3 r cc)) <;> (intro a; fin_cases a <;> simp [Rect.toLoadRect, LoadRect.idx])
  · intro r cc; refine (Eq.trans (rd arg2 harg2 x1 _ _ (ix4 (1 : Fin 4) (0 : Fin 4) r cc) ?_) (H.h1 1 0 r cc)) <;> (intro a; fin_cases a <;> simp [Rect.toLoadRect, LoadRect.idx])
  · intro r cc; refine (Eq.trans (rd arg2 harg2 x1 _ _ (ix4 (1 : Fin 4) (1 : Fin 4) r cc) ?_) (H.h1 1 1 r cc)) <;> (intro a; fin_cases a <;> simp [Rect.toLoadRect, LoadRect.idx])
  · intro r cc; refine (Eq.trans (rd arg2 harg2 x1 _ _ (ix4 (1 : Fin 4) (2 : Fin 4) r cc) ?_) (H.h1 1 2 r cc)) <;> (intro a; fin_cases a <;> simp [Rect.toLoadRect, LoadRect.idx])
  · intro r cc; refine (Eq.trans (rd arg2 harg2 x1 _ _ (ix4 (1 : Fin 4) (3 : Fin 4) r cc) ?_) (H.h1 1 3 r cc)) <;> (intro a; fin_cases a <;> simp [Rect.toLoadRect, LoadRect.idx])
  · intro r cc; refine (Eq.trans (rd arg3 harg3 x2 _ _ (ix3 (1 : Fin 4) r cc) ?_) (H.h2 1 r cc)) <;> (intro a; fin_cases a <;> simp [Rect.toLoadRect, LoadRect.idx])
  · intro g; refine (Eq.trans (rd arg4 harg4 x3 _ _ (ix5 (1 : Fin 4) (0 : Fin 4) g (0 : Fin 1) (0 : Fin 1)) ?_) (H.h3 1 0 g)) <;> (intro a; fin_cases a <;> simp [Rect.toLoadRect, LoadRect.idx])
  · intro g; refine (Eq.trans (rd arg4 harg4 x3 _ _ (ix5 (1 : Fin 4) (1 : Fin 4) g (0 : Fin 1) (0 : Fin 1)) ?_) (H.h3 1 1 g)) <;> (intro a; fin_cases a <;> simp [Rect.toLoadRect, LoadRect.idx])
  · intro g; refine (Eq.trans (rd arg4 harg4 x3 _ _ (ix5 (1 : Fin 4) (2 : Fin 4) g (0 : Fin 1) (0 : Fin 1)) ?_) (H.h3 1 2 g)) <;> (intro a; fin_cases a <;> simp [Rect.toLoadRect, LoadRect.idx])
  · intro g; refine (Eq.trans (rd arg4 harg4 x3 _ _ (ix5 (1 : Fin 4) (3 : Fin 4) g (0 : Fin 1) (0 : Fin 1)) ?_) (H.h3 1 3 g)) <;> (intro a; fin_cases a <;> simp [Rect.toLoadRect, LoadRect.idx])
  · exact H.ordA
  · exact H.ordG 1

theorem holds2 (H : Stage x0 x1 x2 x3 A D G C) : Holds (blk2 arg1 harg1 arg2 harg2 arg3 harg3 arg4 harg4 x0 x1 x2 x3) A (D 2) (G 2) (C 2) := by
  constructor
  · intro r cc; refine (Eq.trans (rd arg1 harg1 x0 _ _ (ix3 (0 : Fin 4) r cc) ?_) (H.h0 0 r cc)) <;> (intro a; fin_cases a <;> simp [Rect.toLoadRect, LoadRect.idx])
  · intro r cc; refine (Eq.trans (rd arg1 harg1 x0 _ _ (ix3 (1 : Fin 4) r cc) ?_) (H.h0 1 r cc)) <;> (intro a; fin_cases a <;> simp [Rect.toLoadRect, LoadRect.idx])
  · intro r cc; refine (Eq.trans (rd arg1 harg1 x0 _ _ (ix3 (2 : Fin 4) r cc) ?_) (H.h0 2 r cc)) <;> (intro a; fin_cases a <;> simp [Rect.toLoadRect, LoadRect.idx])
  · intro r cc; refine (Eq.trans (rd arg1 harg1 x0 _ _ (ix3 (3 : Fin 4) r cc) ?_) (H.h0 3 r cc)) <;> (intro a; fin_cases a <;> simp [Rect.toLoadRect, LoadRect.idx])
  · intro r cc; refine (Eq.trans (rd arg2 harg2 x1 _ _ (ix4 (2 : Fin 4) (0 : Fin 4) r cc) ?_) (H.h1 2 0 r cc)) <;> (intro a; fin_cases a <;> simp [Rect.toLoadRect, LoadRect.idx])
  · intro r cc; refine (Eq.trans (rd arg2 harg2 x1 _ _ (ix4 (2 : Fin 4) (1 : Fin 4) r cc) ?_) (H.h1 2 1 r cc)) <;> (intro a; fin_cases a <;> simp [Rect.toLoadRect, LoadRect.idx])
  · intro r cc; refine (Eq.trans (rd arg2 harg2 x1 _ _ (ix4 (2 : Fin 4) (2 : Fin 4) r cc) ?_) (H.h1 2 2 r cc)) <;> (intro a; fin_cases a <;> simp [Rect.toLoadRect, LoadRect.idx])
  · intro r cc; refine (Eq.trans (rd arg2 harg2 x1 _ _ (ix4 (2 : Fin 4) (3 : Fin 4) r cc) ?_) (H.h1 2 3 r cc)) <;> (intro a; fin_cases a <;> simp [Rect.toLoadRect, LoadRect.idx])
  · intro r cc; refine (Eq.trans (rd arg3 harg3 x2 _ _ (ix3 (2 : Fin 4) r cc) ?_) (H.h2 2 r cc)) <;> (intro a; fin_cases a <;> simp [Rect.toLoadRect, LoadRect.idx])
  · intro g; refine (Eq.trans (rd arg4 harg4 x3 _ _ (ix5 (2 : Fin 4) (0 : Fin 4) g (0 : Fin 1) (0 : Fin 1)) ?_) (H.h3 2 0 g)) <;> (intro a; fin_cases a <;> simp [Rect.toLoadRect, LoadRect.idx])
  · intro g; refine (Eq.trans (rd arg4 harg4 x3 _ _ (ix5 (2 : Fin 4) (1 : Fin 4) g (0 : Fin 1) (0 : Fin 1)) ?_) (H.h3 2 1 g)) <;> (intro a; fin_cases a <;> simp [Rect.toLoadRect, LoadRect.idx])
  · intro g; refine (Eq.trans (rd arg4 harg4 x3 _ _ (ix5 (2 : Fin 4) (2 : Fin 4) g (0 : Fin 1) (0 : Fin 1)) ?_) (H.h3 2 2 g)) <;> (intro a; fin_cases a <;> simp [Rect.toLoadRect, LoadRect.idx])
  · intro g; refine (Eq.trans (rd arg4 harg4 x3 _ _ (ix5 (2 : Fin 4) (3 : Fin 4) g (0 : Fin 1) (0 : Fin 1)) ?_) (H.h3 2 3 g)) <;> (intro a; fin_cases a <;> simp [Rect.toLoadRect, LoadRect.idx])
  · exact H.ordA
  · exact H.ordG 2

theorem holds3 (H : Stage x0 x1 x2 x3 A D G C) : Holds (blk3 arg1 harg1 arg2 harg2 arg3 harg3 arg4 harg4 x0 x1 x2 x3) A (D 3) (G 3) (C 3) := by
  constructor
  · intro r cc; refine (Eq.trans (rd arg1 harg1 x0 _ _ (ix3 (0 : Fin 4) r cc) ?_) (H.h0 0 r cc)) <;> (intro a; fin_cases a <;> simp [Rect.toLoadRect, LoadRect.idx])
  · intro r cc; refine (Eq.trans (rd arg1 harg1 x0 _ _ (ix3 (1 : Fin 4) r cc) ?_) (H.h0 1 r cc)) <;> (intro a; fin_cases a <;> simp [Rect.toLoadRect, LoadRect.idx])
  · intro r cc; refine (Eq.trans (rd arg1 harg1 x0 _ _ (ix3 (2 : Fin 4) r cc) ?_) (H.h0 2 r cc)) <;> (intro a; fin_cases a <;> simp [Rect.toLoadRect, LoadRect.idx])
  · intro r cc; refine (Eq.trans (rd arg1 harg1 x0 _ _ (ix3 (3 : Fin 4) r cc) ?_) (H.h0 3 r cc)) <;> (intro a; fin_cases a <;> simp [Rect.toLoadRect, LoadRect.idx])
  · intro r cc; refine (Eq.trans (rd arg2 harg2 x1 _ _ (ix4 (3 : Fin 4) (0 : Fin 4) r cc) ?_) (H.h1 3 0 r cc)) <;> (intro a; fin_cases a <;> simp [Rect.toLoadRect, LoadRect.idx])
  · intro r cc; refine (Eq.trans (rd arg2 harg2 x1 _ _ (ix4 (3 : Fin 4) (1 : Fin 4) r cc) ?_) (H.h1 3 1 r cc)) <;> (intro a; fin_cases a <;> simp [Rect.toLoadRect, LoadRect.idx])
  · intro r cc; refine (Eq.trans (rd arg2 harg2 x1 _ _ (ix4 (3 : Fin 4) (2 : Fin 4) r cc) ?_) (H.h1 3 2 r cc)) <;> (intro a; fin_cases a <;> simp [Rect.toLoadRect, LoadRect.idx])
  · intro r cc; refine (Eq.trans (rd arg2 harg2 x1 _ _ (ix4 (3 : Fin 4) (3 : Fin 4) r cc) ?_) (H.h1 3 3 r cc)) <;> (intro a; fin_cases a <;> simp [Rect.toLoadRect, LoadRect.idx])
  · intro r cc; refine (Eq.trans (rd arg3 harg3 x2 _ _ (ix3 (3 : Fin 4) r cc) ?_) (H.h2 3 r cc)) <;> (intro a; fin_cases a <;> simp [Rect.toLoadRect, LoadRect.idx])
  · intro g; refine (Eq.trans (rd arg4 harg4 x3 _ _ (ix5 (3 : Fin 4) (0 : Fin 4) g (0 : Fin 1) (0 : Fin 1)) ?_) (H.h3 3 0 g)) <;> (intro a; fin_cases a <;> simp [Rect.toLoadRect, LoadRect.idx])
  · intro g; refine (Eq.trans (rd arg4 harg4 x3 _ _ (ix5 (3 : Fin 4) (1 : Fin 4) g (0 : Fin 1) (0 : Fin 1)) ?_) (H.h3 3 1 g)) <;> (intro a; fin_cases a <;> simp [Rect.toLoadRect, LoadRect.idx])
  · intro g; refine (Eq.trans (rd arg4 harg4 x3 _ _ (ix5 (3 : Fin 4) (2 : Fin 4) g (0 : Fin 1) (0 : Fin 1)) ?_) (H.h3 3 2 g)) <;> (intro a; fin_cases a <;> simp [Rect.toLoadRect, LoadRect.idx])
  · intro g; refine (Eq.trans (rd arg4 harg4 x3 _ _ (ix5 (3 : Fin 4) (3 : Fin 4) g (0 : Fin 1) (0 : Fin 1)) ?_) (H.h3 3 3 g)) <;> (intro a; fin_cases a <;> simp [Rect.toLoadRect, LoadRect.idx])
  · exact H.ordA
  · exact H.ordG 3

end Cert.KernelIdeal.Own
-- ==== Proof.KI.Final.lean ====
/- What the three result arrays hold when the kernel has run: the totals of the cells after the last point. -/
module

public import proofs.«01_k».proof.Proof.KI.Whole
public import Idealize.ShloMosaic.Lib.Pipeline.Value

@[expose] public section

noncomputable section

namespace Cert.KernelIdeal.Own

open Cert.KernelIdeal Cert.KernelIdeal.Gen Idealize.ShloMosaic Idealize.ShloMosaic.TcCoe Idealize.SL Idealize.SL.Sem

variable {F : FTy → Type} [FloatOps F] (m : (ℓ : Loc nD τ sig) → Buf (Elt F) ℓ) (ρ : Dev nD → PrngReg)

theorem one_place (i j : S1x1.Idx) : i = j := by
  funext a
  apply Fin.ext
  match a with
  | ⟨0, _⟩ => have h1 : (i 0).val < 1 := (i 0).isLt; have h2 : (j 0).val < 1 := (j 0).isLt; show (i 0).val = (j 0).val; omega
  | ⟨1, _⟩ => have h1 : (i 1).val < 1 := (i 1).isLt; have h2 : (j 1).val < 1 := (j 1).isLt; show (i 1).val = (j 1).val; omega

theorem last_lt : 3 < cfg0.N := lt_of_lt_of_eq (by decide) N_0.symm

/-- The cells after the last point. -/
def atEnd (c : Dev nD) : F .f32 × F .f32 × F .f32 := accAt m c 3 last_lt

theorem accAt_congr (c : Dev nD) (n n' : ℕ) (h : n < cfg0.N) (h' : n' < cfg0.N) (e : n = n') : accAt m c n h = accAt m c n' h' := by
  subst e; rfl

theorem flush_at4 (c : Dev nD) (t : Fin cfg0.N) (hf : (cfg0.win 4).flush t = true) :
    (data m 0 c).flushed 4 t = ((cfg0.win 4).blk t).view.read (Elt F) (totLoss (atEnd m c)) := by
  show (cfg0.win 4).cut (grid0.coords t) ((data m 0 c).after 4 t) = _
  rw [left4]
  have hm : t.val % 4 = 3 := (flush0_4 t).mp hf
  have hN : t.val < 4 := lt_of_lt_of_eq t.isLt (show cfg0.N = 4 from N_0)
  rw [accAt_congr m c t.val 3 t.isLt last_lt (by omega)]
  funext y
  show totLoss (accAt m c 3 last_lt) ((cfg0.win 4).xinj (grid0.coords t) y) = totLoss (atEnd m c) (((cfg0.win 4).blk t).view.emb y)
  exact congrArg (totLoss (atEnd m c)) (one_place _ _)

theorem cover4 (i : S1x1.Idx) : ∃ t : Fin cfg0.N, (cfg0.win 4).flush t = true ∧ i ∈ ((cfg0.win 4).blk t).view.set := by
  refine ⟨⟨3, last_lt⟩, (flush0_4 _).mpr rfl, ?_⟩
  show i ∈ ((View.whole main_v10_0).slice (win0_4.rect ⟨3, last_lt⟩)).set
  rw [View.set_slice_whole, Rect.mem_set_unit]
  have e : ∀ t : Fin cfg0.N, win0_4.index t = ![0, 0] := by decide +kernel
  intro a
  have h0 : (i 0).val < 1 := (i 0).isLt
  have h1 : (i 1).val < 1 := (i 1).isLt
  have q0 : win0_4.index ⟨3, last_lt⟩ (0 : Fin 2) = 0 := congrFun (e _) 0
  have q1 : win0_4.index ⟨3, last_lt⟩ (1 : Fin 2) = 0 := congrFun (e _) 1
  match a with
  | ⟨0, _⟩ => show win0_4.index ⟨3, last_lt⟩ (0 : Fin 2) * 1 ≤ (i 0).val ∧ (i 0).val < win0_4.index ⟨3, last_lt⟩ (0 : Fin 2) * 1 + 1; omega
  | ⟨1, _⟩ => show win0_4.index ⟨3, last_lt⟩ (1 : Fin 2) * 1 ≤ (i 1).val ∧ (i 1).val < win0_4.index ⟨3, last_lt⟩ (1 : Fin 2) * 1 + 1; omega

theorem ends4 (c : Dev nD) : (data m 0 c).arrAt 4 cfg0.N = totLoss (atEnd m c) :=
  (data m 0 c).arrAt_eq_of_cover 4 _ (fun t hf => flush_at4 m c t hf) (fun i => cover4 i)

theorem flush_at5 (c : Dev nD) (t : Fin cfg0.N) (hf : (cfg0.win 5).flush t = true) :
    (data m 0 c).flushed 5 t = ((cfg0.win 5).blk t).view.read (Elt F) (totConf (atEnd m c)) := by
  show (cfg0.win 5).cut (grid0.coords t) ((data m 0 c).after 5 t) = _
  rw [left5]
  have hm : t.val % 4 = 3 := (flush0_5 t).mp hf
  have hN : t.val < 4 := lt_of_lt_of_eq t.isLt (show cfg0.N = 4 from N_0)
  rw [accAt_congr m c t.val 3 t.isLt last_lt (by omega)]
  funext y
  show totConf (accAt m c 3 last_lt) ((cfg0.win 5).xinj (grid0.coords t) y) = totConf (atEnd m c) (((cfg0.win 5).blk t).view.emb y)
  exact congrArg (totConf (atEnd m c)) (one_place _ _)

theorem cover5 (i : S1x1.Idx) : ∃ t : Fin cfg0.N, (cfg0.win 5).flush t = true ∧ i ∈ ((cfg0.win 5).blk t).view.set := by
  refine ⟨⟨3, last_lt⟩, (flush0_5 _).mpr rfl, ?_⟩
  show i ∈ ((View.whole main_v10_1).slice (win0_5.rect ⟨3, last_lt⟩)).set
  rw [View.set_slice_whole, Rect.mem_set_unit]
  have e : ∀ t : Fin cfg0.N, win0_5.index t = ![0, 0] := by decide +kernel
  intro a
  have h0 : (i 0).val < 1 := (i 0).isLt
  have h1 : (i 1).val < 1 := (i 1).isLt
  have q0 : win0_5.index ⟨3, last_lt⟩ (0 : Fin 2) = 0 := congrFun (e _) 0
  have q1 : win0_5.index ⟨3, last_lt⟩ (1 : Fin 2) = 0 := congrFun (e _) 1
  match a with
  | ⟨0, _⟩ => show win0_5.index ⟨3, last_lt⟩ (0 : Fin 2) * 1 ≤ (i 0).val ∧ (i 0).val < win0_5.index ⟨3, last_lt⟩ (0 : Fin 2) * 1 + 1; omega
  | ⟨1, _⟩ => show win0_5.index ⟨3, last_lt⟩ (1 : Fin 2) * 1 ≤ (i 1).val ∧ (i 1).val < win0_5.index ⟨3, last_lt⟩ (1 : Fin 2) * 1 + 1; omega

theorem ends5 (c : Dev nD) : (data m 0 c).arrAt 5 cfg0.N = totConf (atEnd m c) :=
  (data m 0 c).arrAt_eq_of_cover 5 _ (fun t hf => flush_at5 m c t hf) (fun i => cover5 i)

theorem flush_at6 (c : Dev nD) (t : Fin cfg0.N) (hf : (cfg0.win 6).flush t = true) :
    (data m 0 c).flushed 6 t = ((cfg0.win 6).blk t).view.read (Elt F) (totLoc (atEnd m c)) := by
  show (cfg0.win 6).cut (grid0.coords t) ((data m 0 c).after 6 t) = _
  rw [left6]
  have hm : t.val % 4 = 3 := (flush0_6 t).mp hf
  have hN : t.val < 4 := lt_of_lt_of_eq t.isLt (show cfg0.N = 4 from N_0)
  rw [accAt_congr m c t.val 3 t.isLt last_lt (by omega)]
  funext y
  show totLoc (accAt m c 3 last_lt) ((cfg0.win 6).xinj (grid0.coords t) y) = totLoc (atEnd m c) (((cfg0.win 6).blk t).view.emb y)
  exact congrArg (totLoc (atEnd m c)) (one_place _ _)

theorem cover6 (i : S1x1.Idx) : ∃ t : Fin cfg0.N, (cfg0.win 6).flush t = true ∧ i ∈ ((cfg0.win 6).blk t).view.set := by
  refine ⟨⟨3, last_lt⟩, (flush0_6 _).mpr rfl, ?_⟩
  show i ∈ ((View.whole main_v10_2).slice (win0_6.rect ⟨3, last_lt⟩)).set
  rw [View.set_slice_whole, Rect.mem_set_unit]
  have e : ∀ t : Fin cfg0.N, win0_6.index t = ![0, 0] := by decide +kernel
  intro a
  have h0 : (i 0).val < 1 := (i 0).isLt
  have h1 : (i 1).val < 1 := (i 1).isLt
  have q0 : win0_6.index ⟨3, last_lt⟩ (0 : Fin 2) = 0 := congrFun (e _) 0
  have q1 : win0_6.index ⟨3, last_lt⟩ (1 : Fin 2) = 0 := congrFun (e _) 1
  match a with
  | ⟨0, _⟩ => show win0_6.index ⟨3, last_lt⟩ (0 : Fin 2) * 1 ≤ (i 0).val ∧ (i 0).val < win0_6.index ⟨3, last_lt⟩ (0 : Fin 2) * 1 + 1; omega
  | ⟨1, _⟩ => show win0_6.index ⟨3, last_lt⟩ (1 : Fin 2) * 1 ≤ (i 1).val ∧ (i 1).val < win0_6.index ⟨3, last_lt⟩ (1 : Fin 2) * 1 + 1; omega

theorem ends6 (c : Dev nD) : (data m 0 c).arrAt 6 cfg0.N = totLoc (atEnd m c) :=
  (data m 0 c).arrAt_eq_of_cover 6 _ (fun t hf => flush_at6 m c t hf) (fun i => cover6 i)

/-- The run with its results. -/
theorem results : θ_run defs (onTc (τ := τ) (main (F := F))) ⟨m, fun _ => 0, ρ⟩ (fun r => ∀ c : Dev nD,
      r.2.mem ((c.tc : Thread nD τ).loc main_v10_0) = totLoss (atEnd m c)
      ∧ r.2.mem ((c.tc : Thread nD τ).loc main_v10_1) = totConf (atEnd m c)
      ∧ r.2.mem ((c.tc : Thread nD τ).loc main_v10_2) = totLoc (atEnd m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 4).trans (ends4 m c), ((h c).1 5).trans (ends5 m c), ((h c).1 6).trans (ends6 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (ran m ρ)

end Cert.KernelIdeal.Own
-- ==== Proof.KI.Total.lean ====
/- The cells after the last point: sums over all batches. -/
module

public import proofs.«01_k».proof.Proof.KI.Host
public import proofs.«01_k».proof.Proof.KI.Final

@[expose] public section

set_option maxRecDepth 16384

noncomputable section

namespace Cert.KernelIdeal.Own

open Cert.KernelIdeal Cert.KernelIdeal.Gen Idealize.ShloMosaic Idealize.ShloMosaic.TcCoe Idealize.SL Idealize.SL.Sem
open Cert.Own (rowOf colOf padP)

variable (m : (ℓ : Loc nD τ sig) → Buf (Elt Ideal) ℓ) (c : Dev nD)

def anchorsK (n : Fin 20000) (k : Fin 4) : EReal := m ((c : Thread nD τ).loc main_arg2) (ix2 n k)
def boxesK (b : Fin 16) (g : Fin 32) (k : Fin 4) : EReal := m ((c : Thread nD τ).loc main_arg3) (ix3 b g k)
def predK (b : Fin 16) (n : Fin 20000) (k : Fin 4) : EReal := m ((c : Thread nD τ).loc main_arg0) (ix3 b n k)
def confK (b : Fin 16) (n : Fin 20000) : EReal := m ((c : Thread nD τ).loc main_arg1) (ix2 b n)

/-- Every box of the arrays is in order. -/
structure InOrder : Prop where
  anch : ∀ n, Cert.Own.Ordered (anchorsK m c n)
  box : ∀ b g, Cert.Own.Ordered (boxesK m c b g)

variable {m c}

theorem stage (H : InOrder m c) (t : Fin cfg0.N) : Stage (iblk m c 0 t) (iblk m c 1 t) (iblk m c 2 t) (iblk m c 3 t)
    (anchorsK m c) (fun j => predK m c (batch t j)) (fun j => boxesK m c (batch t j)) (fun j => confK m c (batch t j)) where
  h0 k r cc := (iblk0_ap m c t k r cc).trans (anchHost_ap m c k r cc)
  h1 j k r cc := (iblk1_ap m c t j k r cc).trans (predHost_ap m c (batch t j) k r cc)
  h2 j r cc := (iblk2_ap m c t j r cc).trans (confHost_ap m c (batch t j) r cc)
  h3 j k g := (iblk3_ap m c t j k g).trans (boxHost_ap m c (batch t j) k g)
  ordA := H.anch
  ordG j := H.box (batch t j)

theorem zero_word : @Eq EReal (Scalar.ofBits (F := Ideal) .f32 0x00000000#32) 0 := by
  show Ideal.ofBits .f32 0x00000000#32 = 0
  simp [Ideal.ofBits, Ideal.ieee]

/-- A cell that takes in a batch's part at each batch ends with the sum of the parts. -/
theorem sum_up (p : EReal × EReal × EReal → EReal) (L : Fin 16 → EReal) (h0 : p (zero3 (F := Ideal)) = 0)
    (hs : ∀ (t : Fin cfg0.N) (a : EReal × EReal × EReal), p (pointStep (F := Ideal) m c t a) = p a + ∑ j, L (batch t j)) :
    p (atEnd m c) = ∑ b, L b := by
  have e : p (atEnd m c) = (((0 + ∑ j, L (batch ⟨0, by rw [show cfg0.N = 4 from N_0]; decide⟩ j)) + ∑ j, L (batch ⟨1, by rw [show cfg0.N = 4 from N_0]; decide⟩ j)) + ∑ j, L (batch ⟨2, by rw [show cfg0.N = 4 from N_0]; decide⟩ j)) + ∑ j, L (batch ⟨3, by rw [show cfg0.N = 4 from N_0]; decide⟩ j) := by
    rw [← h0, ← hs, ← hs, ← hs, ← hs]; rfl
  rw [e, zero_add]
  simp only [Fin.sum_univ_succ, Fin.sum_univ_zero, add_zero, batch]
  simp only [← add_assoc]
  rfl

theorem step_locs (H : InOrder m c) (t : Fin cfg0.N) (a : EReal × EReal × EReal) :
    (pointStep (F := Ideal) m c t a).1 = @HAdd.hAdd EReal EReal EReal _ a.1 (∑ j, Cert.Own.locOf (anchorsK m c) (boxesK m c (batch t j)) (predK m c (batch t j))) := by
  have e := step_loc c (mem0 t) (mem0_whole t) (mem1 t) (mem1_whole t) (mem2 t) (mem2_whole t) (mem3 t) (mem3_whole t) (iblk m c 0 t) (iblk m c 1 t) (iblk m c 2 t) (iblk m c 3 t) a
  rw [locS_ap (holds0 (mem0 t) (mem0_whole t) (mem1 t) (mem1_whole t) (mem2 t) (mem2_whole t) (mem3 t) (mem3_whole t) (stage H t)),
    locS_ap (holds1 (mem0 t) (mem0_whole t) (mem1 t) (mem1_whole t) (mem2 t) (mem2_whole t) (mem3 t) (mem3_whole t) (stage H t)),
    locS_ap (holds2 (mem0 t) (mem0_whole t) (mem1 t) (mem1_whole t) (mem2 t) (mem2_whole t) (mem3 t) (mem3_whole t) (stage H t)),
    locS_ap (holds3 (mem0 t) (mem0_whole t) (mem1 t) (mem1_whole t) (mem2 t) (mem2_whole t) (mem3 t) (mem3_whole t) (stage H t)), zero_word] at e
  refine e.trans ?_
  simp only [Fin.sum_univ_four]
  show a.1 + ((((0 : EReal) + _) + _) + _ + _) = _
  rw [zero_add]

theorem end_loc (H : InOrder m c) : @Eq EReal (atEnd m c).1 (∑ b, Cert.Own.locOf (anchorsK m c) (boxesK m c b) (predK m c b)) :=
  sum_up (fun a => a.1) _ zero_word (step_locs H)

theorem step_nposs (H : InOrder m c) (t : Fin cfg0.N) (a : EReal × EReal × EReal) :
    (pointStep (F := Ideal) m c t a).2.2 = @HAdd.hAdd EReal EReal EReal _ a.2.2 (∑ j, ((((Cert.Own.posSet (anchorsK m c) (boxesK m c (batch t j))).card : ℕ) : ℝ) : EReal)) := by
  have e := step_npos c (mem0 t) (mem0_whole t) (mem1 t) (mem1_whole t) (mem2 t) (mem2_whole t) (mem3 t) (mem3_whole t) (iblk m c 0 t) (iblk m c 1 t) (iblk m c 2 t) (iblk m c 3 t) a
  rw [nposS_ap (holds0 (mem0 t) (mem0_whole t) (mem1 t) (mem1_whole t) (mem2 t) (mem2_whole t) (mem3 t) (mem3_whole t) (stage H t)),
    nposS_ap (holds1 (mem0 t) (mem0_whole t) (mem1 t) (mem1_whole t) (mem2 t) (mem2_whole t) (mem3 t) (mem3_whole t) (stage H t)),
    nposS_ap (holds2 (mem0 t) (mem0_whole t) (mem1 t) (mem1_whole t) (mem2 t) (mem2_whole t) (mem3 t) (mem3_whole t) (stage H t)),
    nposS_ap (holds3 (mem0 t) (mem0_whole t) (mem1 t) (mem1_whole t) (mem2 t) (mem2_whole t) (mem3 t) (mem3_whole t) (stage H t)), zero_word] at e
  refine e.trans ?_
  simp only [Fin.sum_univ_four]
  show a.2.2 + ((((0 : EReal) + _) + _) + _ + _) = _
  rw [zero_add]

theorem end_npos (H : InOrder m c) : @Eq EReal (atEnd m c).2.2 (∑ b, ((((Cert.Own.posSet (anchorsK m c) (boxesK m c b)).card : ℕ) : ℝ) : EReal)) :=
  sum_up (fun a => a.2.2) _ zero_word (step_nposs H)

/-- How many are forced or near, at least one. -/
def totalK (m : (ℓ : Loc nD τ sig) → Buf (Elt Ideal) ℓ) (c : Dev nD) : EReal :=
  (((max 1 (∑ b, (Cert.Own.posSet (anchorsK m c) (boxesK m c b)).card) : ℕ) : ℝ) : EReal)

theorem one_wordS : @Eq EReal (Scalar.ofBits (F := Ideal) .f32 0x3F800000#32) 1 := by
  show Ideal.ofBits .f32 0x3F800000#32 = 1
  simp [Ideal.ofBits, Ideal.ieee]
  try (rw [← EReal.coe_mul]; norm_num)

theorem pay2_ap (x : EReal) : @Eq EReal (k0_pay2 (F := Ideal) x) (max x 1) :=
  (show @Eq EReal (k0_pay2 (F := Ideal) x) (max (Scalar.ofBits (F := Ideal) .f32 0x3F800000#32 : EReal) x) from rfl).trans (by rw [one_wordS, max_comm])

theorem pay7_ap (x y : EReal) (i : S1x1.Idx) : @Eq EReal (k0_pay7 (F := Ideal) x y i) (Ideal.div y (max x 1)) :=
  (show @Eq EReal (k0_pay7 (F := Ideal) x y i) (Ideal.div y (k0_pay2 (F := Ideal) x) * (Scalar.ofBits (F := Ideal) .f32 0x3F800000#32 : EReal)) from rfl).trans
    (by rw [one_wordS, mul_one, pay2_ap])

theorem pay8_ap (x y : EReal) (i : S1x1.Idx) : @Eq EReal (k0_pay8 (F := Ideal) x y i) (Ideal.div y (max x 1)) :=
  (show @Eq EReal (k0_pay8 (F := Ideal) x y i) (Ideal.div y (k0_pay2 (F := Ideal) x) * (Scalar.ofBits (F := Ideal) .f32 0x3F800000#32 : EReal)) from rfl).trans
    (by rw [one_wordS, mul_one, pay2_ap])

theorem pay6_ap (x y z : EReal) (i : S1x1.Idx) : @Eq EReal (k0_pay6 (F := Ideal) x y z i) (Ideal.ofBits .f32 0x40000000#32 * Ideal.div y (max x 1) + Ideal.div z (max x 1)) :=
  (show @Eq EReal (k0_pay6 (F := Ideal) x y z i) ((Ideal.ofBits .f32 0x40000000#32 * Ideal.div y (k0_pay2 (F := Ideal) x) + Ideal.div z (k0_pay2 (F := Ideal) x)) * (Scalar.ofBits (F := Ideal) .f32 0x3F800000#32 : EReal)) from rfl).trans
    (by rw [one_wordS, mul_one, pay2_ap])

theorem cast_sum (f : Fin 16 → ℕ) : (∑ b, (((f b : ℕ) : ℝ) : EReal)) = (((∑ b, f b : ℕ) : ℝ) : EReal) := by
  rw [Nat.cast_sum]
  exact (map_sum (⟨⟨Real.toEReal, rfl⟩, EReal.coe_add⟩ : ℝ →+ EReal) _ _).symm

theorem most_cast (n : ℕ) : @max EReal _ ((n : ℝ) : EReal) 1 = (((max 1 n : ℕ) : ℝ) : EReal) := by
  rw [Nat.cast_max, Nat.cast_one, max_comm]
  exact (EReal.coe_strictMono.monotone.map_max).symm

theorem top_at (H : InOrder m c) : @Eq EReal (@max EReal _ (atEnd m c).2.2 1) (totalK m c) := by
  rw [end_npos H, cast_sum, most_cast]
  rfl

/-- The kernel's third result. -/
theorem totLoc_ap (H : InOrder m c) (i : S1x1.Idx) : @Eq EReal (totLoc (atEnd m c) i)
    (Ideal.div (∑ b, Cert.Own.locOf (anchorsK m c) (boxesK m c b) (predK m c b)) (totalK m c)) := by
  refine (pay8_ap (atEnd m c).2.2 (atEnd m c).1 i).trans ?_
  rw [top_at H, end_loc H]

/-- The kernel's second result, over its middle cell. -/
theorem totConf_ap (H : InOrder m c) (i : S1x1.Idx) : @Eq EReal (totConf (atEnd m c) i) (Ideal.div (atEnd m c).2.1 (totalK m c)) := by
  refine (pay7_ap (atEnd m c).2.2 (atEnd m c).2.1 i).trans ?_
  rw [top_at H]

/-- The kernel's first result: twice the third and the second. -/
theorem totLoss_ap (H : InOrder m c) (i : S1x1.Idx) : @Eq EReal (totLoss (atEnd m c) i) (Ideal.ofBits .f32 0x40000000#32 * (totLoc (atEnd m c) i : EReal) + (totConf (atEnd m c) i : EReal)) := by
  refine (pay6_ap (atEnd m c).2.2 (atEnd m c).1 (atEnd m c).2.1 i).trans ?_
  exact congrArg₂ _ (congrArg _ (pay8_ap (atEnd m c).2.2 (atEnd m c).1 i).symm) (pay7_ap (atEnd m c).2.2 (atEnd m c).2.1 i).symm

end Cert.KernelIdeal.Own
-- ==== Proof.M.Focal.lean ====
/- The class losses at real confidences, and the order the reference sorts by. -/
module

public import proofs.«01_k».proof.Proof.M.Spec
@[expose] public section

noncomputable section

namespace Cert.Own

open Idealize.ShloMosaic Finset

/-- The small constant in the divisor of the odds. -/
def tinyI : EReal := Ideal.ofBits .f32 0x2EDBE6FF#32
/-- The small constant under the logarithms. -/
def leastI : EReal := Ideal.ofBits .f32 0x2B8CBCCC#32
/-- One quarter. -/
def quarterI : EReal := Ideal.ofBits .f32 0x3E800000#32
/-- Three quarters. -/
def threeQI : EReal := Ideal.ofBits .f32 0x3F400000#32

theorem tinyI_coe : ∃ e : ℝ, 0 < e ∧ tinyI = (e : EReal) := by
  refine ⟨_, ?_, by simp [tinyI, Ideal.ofBits, Ideal.ieee]; rfl⟩
  norm_num

theorem leastI_coe : ∃ e : ℝ, 0 < e ∧ e < 1 / 2 ^ 34 ∧ leastI = (e : EReal) := by
  refine ⟨9223372 * 2 ^ (-63 : ℤ), by positivity, ?_, ?_⟩
  · rw [show (2 : ℝ) ^ (-63 : ℤ) = 1 / 2 ^ 63 by norm_num]; norm_num
  · simp [leastI, Ideal.ofBits, Ideal.ieee]

theorem quarterI_coe : quarterI = ((1 / 4 : ℝ) : EReal) := by
  simp [quarterI, Ideal.ofBits, Ideal.ieee]
  rw [← EReal.coe_mul]; norm_num

theorem threeQI_coe : threeQI = ((3 / 4 : ℝ) : EReal) := by
  simp [threeQI, Ideal.ofBits, Ideal.ieee]
  rw [← EReal.coe_mul]; norm_num

/-- The log odds of a confidence. -/
def logit (p : EReal) : EReal := Ideal.log (Ideal.div p (1 - p + tinyI))

/-- The softened part of the cross entropy. -/
def soft (x : EReal) : EReal := Ideal.log1p (Ideal.exp (-(max x (-x))))

/-- The focal loss at a target of one. -/
def flP (x : EReal) : EReal := quarterI * (1 - Ideal.logistic x) * (1 - Ideal.logistic x) * (max x 0 - x + soft x)
/-- The focal loss at a target of nought. -/
def flN (x : EReal) : EReal := threeQI * Ideal.logistic x * Ideal.logistic x * (max x 0 + soft x)

/-- The share of the right answer at a target. -/
def share (x t : EReal) : EReal := Ideal.div 1 (1 + Ideal.exp (-x)) * t + (1 - Ideal.div 1 (1 + Ideal.exp (-x))) * (1 - t)

/-- The focal loss at any target. -/
def flT (x t : EReal) : EReal := (quarterI * t + threeQI * (1 - t)) * ((1 - share x t) * (1 - share x t)) * (max x 0 - x * t + soft x)

theorem logit_real {x : ℝ} (h0 : 0 < x) (h1 : x < 1) : ∃ l : ℝ, logit (x : EReal) = (l : EReal) := by
  obtain ⟨e, he, hE⟩ := tinyI_coe
  have hd : 0 < 1 - x + e := by linarith
  refine ⟨Real.log (x * (1 / (1 - x + e))), ?_⟩
  have h : (1 : EReal) - (x : EReal) + (e : EReal) = ((1 - x + e : ℝ) : EReal) := by norm_cast
  rw [logit, hE, h, Ideal.div_coe hd.ne', ← EReal.coe_mul, Ideal.log_coe, if_neg (by have : 0 < x * (1 / (1 - x + e)) := by positivity
                                                                                     linarith)]

theorem soft_real (x : ℝ) : ∃ s : ℝ, soft (x : EReal) = (s : EReal) := by
  have hm : max (x : EReal) (-(x : EReal)) = ((max x (-x) : ℝ) : EReal) := by
    rw [← EReal.coe_neg]; exact (EReal.coe_strictMono.monotone.map_max).symm
  refine ⟨Real.log (1 + Real.exp (-(max x (-x)))), ?_⟩
  have hp : 0 < 1 + Real.exp (-(max x (-x))) := by positivity
  rw [soft, hm, ← EReal.coe_neg, Ideal.exp_coe, Ideal.log1p, ← EReal.coe_one, ← EReal.coe_add, Ideal.log_coe, if_neg (not_le.2 hp)]

theorem max_zero_real (x : ℝ) : max (x : EReal) 0 = ((max x 0 : ℝ) : EReal) :=
  (EReal.coe_strictMono.monotone.map_max (a := x) (b := 0)).symm

theorem flN_real (x : ℝ) : ∃ y : ℝ, flN (x : EReal) = (y : EReal) := by
  obtain ⟨s, hs⟩ := soft_real x
  rw [flN, hs, threeQI_coe, Ideal.logistic_coe, max_zero_real]
  exact ⟨_, by norm_cast⟩

theorem logistic_eq (x : EReal) : Ideal.div 1 (1 + Ideal.exp (-x)) = Ideal.logistic x := rfl

theorem one_sub_one : (1 : EReal) - 1 = 0 := by rw [← EReal.coe_one, ← EReal.coe_sub, sub_self]; rfl

theorem share_one (x : EReal) : share x 1 = Ideal.logistic x := by
  rw [share, logistic_eq, one_sub_one, mul_one, mul_zero, add_zero]

theorem share_zero (x : EReal) : share x 0 = 1 - Ideal.logistic x := by
  rw [share, logistic_eq, mul_zero, zero_add, sub_zero, mul_one]

theorem flT_one (x : EReal) : flT x 1 = flP x := by
  rw [flT, flP, share_one, one_sub_one, mul_one, mul_zero, add_zero, mul_one]
  rw [← mul_assoc quarterI (1 - Ideal.logistic x)]

theorem flT_zero (x : ℝ) : flT (x : EReal) 0 = flN (x : EReal) := by
  rw [flT, flN, share_zero, sub_zero, mul_one, mul_zero, zero_add, mul_zero, sub_zero, mul_assoc threeQI (Ideal.logistic x), Ideal.logistic_coe]
  have h : (1 : EReal) - (1 - (((1 + Real.exp (-x))⁻¹ : ℝ) : EReal)) = (((1 + Real.exp (-x))⁻¹ : ℝ) : EReal) := by
    rw [← EReal.coe_one, ← EReal.coe_sub, ← EReal.coe_sub]; congr 1; ring
  rw [h]

/-- The number the reference sorts by: the class error, turned round, at the negatives, nought at the positives. -/
def keyT (p t : EReal) : EReal := -(-(t * Ideal.log (p + leastI) + (1 - t) * Ideal.log (1 - p + leastI)) * (1 - t))

theorem keyT_one (p : EReal) : keyT p 1 = 0 := by
  rw [keyT, one_sub_one, mul_zero, neg_zero]

theorem keyT_zero (p : EReal) : keyT p 0 = Ideal.log (1 - p + leastI) := by
  rw [keyT, sub_zero, mul_one, zero_mul, zero_add, one_mul, neg_neg]

theorem key_real {x : ℝ} (h1 : x < 1) : ∃ e : ℝ, 0 < e ∧ e < 1 / 2 ^ 34 ∧ 0 < 1 - x + e ∧ keyT (x : EReal) 0 = ((Real.log (1 - x + e) : ℝ) : EReal) := by
  obtain ⟨e, he, hl, hE⟩ := leastI_coe
  have hd : 0 < 1 - x + e := by linarith
  refine ⟨e, he, hl, hd, ?_⟩
  have h : (1 : EReal) - (x : EReal) + (e : EReal) = ((1 - x + e : ℝ) : EReal) := by norm_cast
  rw [keyT_zero, hE, h, Ideal.log_coe, if_neg (not_le.2 hd)]

/-- The surer, the earlier. -/
theorem key_lt {x y : ℝ} (hx : x < 1) (hy : y < x) : keyT (x : EReal) 0 < keyT (y : EReal) 0 := by
  obtain ⟨e, he, hl, hE⟩ := leastI_coe
  have hd : 0 < 1 - x + e := by linarith
  have hd' : 0 < 1 - y + e := by linarith
  have h : ∀ x : ℝ, (1 : EReal) - (x : EReal) + (e : EReal) = ((1 - x + e : ℝ) : EReal) := fun x => by norm_cast
  rw [keyT_zero, keyT_zero, hE, h, h, Ideal.log_coe, Ideal.log_coe, if_neg (not_le.2 hd), if_neg (not_le.2 hd')]
  exact_mod_cast Real.log_lt_log hd (by linarith)

/-- A negative comes before every positive. -/
theorem key_neg {x : ℝ} (h0 : 1 / 2 ^ 34 ≤ x) (h1 : x < 1) : keyT (x : EReal) 0 < 0 := by
  obtain ⟨e, he, hl, hd, h⟩ := key_real h1
  rw [h]
  exact_mod_cast Real.log_neg hd (by linarith)

/-- The confidences of a batch: real numbers between nought and one, each a multiple of the last step of the halving. -/
structure Grid (C : Fin 20000 → EReal) (q : Fin 20000 → ℝ) : Prop where
  eq : ∀ n, C n = (q n : EReal)
  pos : ∀ n, 0 < q n
  lt : ∀ n, q n < 1
  step : ∀ n, ∃ w : ℕ, q n = w / 2 ^ 34

/-- The loss of a negative, as a real number. -/
def lossN (x : ℝ) : ℝ := (flN (logit (x : EReal))).toReal

theorem flN_logit {x : ℝ} (h0 : 0 < x) (h1 : x < 1) : flN (logit (x : EReal)) = (lossN x : EReal) := by
  obtain ⟨l, hl⟩ := logit_real h0 h1
  obtain ⟨y, hy⟩ := flN_real l
  rw [lossN, hl, hy, EReal.toReal_coe]

theorem Grid.loss {C : Fin 20000 → EReal} {q : Fin 20000 → ℝ} (h : Grid C q) (n : Fin 20000) : flN (logit (C n)) = (lossN (q n) : EReal) := by
  rw [h.eq, flN_logit (h.pos n) (h.lt n)]

theorem Grid.gt {C : Fin 20000 → EReal} {q : Fin 20000 → ℝ} (h : Grid C q) (n : Fin 20000) : 0 < C n := by
  rw [h.eq]; exact_mod_cast h.pos n

theorem Grid.least {C : Fin 20000 → EReal} {q : Fin 20000 → ℝ} (h : Grid C q) (n : Fin 20000) : 1 / 2 ^ 34 ≤ q n := by
  obtain ⟨w, hw⟩ := h.step n
  have hp := h.pos n
  have : w ≠ 0 := by rintro rfl; rw [hw] at hp; simp at hp
  rw [hw]
  gcongr
  exact_mod_cast Nat.one_le_iff_ne_zero.2 this

/-- What lies over one step lies at least at the next. -/
theorem Grid.next {C : Fin 20000 → EReal} {q : Fin 20000 → ℝ} (h : Grid C q) (n : Fin 20000) (z : ℕ) (hz : (z / 2 ^ 34 : ℝ) < q n) : ((z + 1) / 2 ^ 34 : ℝ) ≤ q n := by
  obtain ⟨w, hw⟩ := h.step n
  rw [hw] at hz ⊢
  rw [div_lt_div_iff_of_pos_right (by positivity)] at hz
  gcongr
  exact_mod_cast hz

/-- How many negatives a batch takes. -/
def kOf (A : Fin 20000 → Fin 4 → EReal) (G : Fin 32 → Fin 4 → EReal) : ℕ := min (3 * (posSet A G).card) (20000 - (posSet A G).card)

theorem card_pos_le (A : Fin 20000 → Fin 4 → EReal) (G : Fin 32 → Fin 4 → EReal) : (posSet A G).card ≤ 20000 :=
  (Finset.card_le_univ _).trans (by simp)

variable {A : Fin 20000 → Fin 4 → EReal} {G : Fin 32 → Fin 4 → EReal}

open Classical in
/-- The negatives of a kind. -/
def negs (A : Fin 20000 → Fin 4 → EReal) (G : Fin 32 → Fin 4 → EReal) (P : Fin 20000 → Prop) : Finset (Fin 20000) := univ.filter fun n => ¬ isPos A G n ∧ P n

theorem mem_negs {P : Fin 20000 → Prop} {n : Fin 20000} : n ∈ negs A G P ↔ ¬ isPos A G n ∧ P n := by
  simp [negs]

theorem negs_of {P P' : Fin 20000 → Prop} {inst : DecidablePred fun n => ¬ isPos A G n ∧ P n} (h : ∀ n, P n ↔ P' n) :
    (univ.filter fun n => ¬ isPos A G n ∧ P n) = negs A G P' := by
  ext n
  rw [mem_negs, ← h n]
  simp

theorem card_negs_all {P : Fin 20000 → Prop} (h : ∀ n, P n) : (negs A G P).card = 20000 - (posSet A G).card := by
  have e : negs A G P = (posSet A G)ᶜ := by
    ext n
    rw [mem_negs, Finset.mem_compl, mem_posSet]
    exact ⟨fun x => x.1, fun x => ⟨x, h n⟩⟩
  rw [e, Finset.card_compl, Fintype.card_fin]

theorem card_negs_none {P : Fin 20000 → Prop} (h : ∀ n, ¬ P n) : (negs A G P).card = 0 := by
  rw [Finset.card_eq_zero]
  ext n
  rw [mem_negs]
  simp [h n]

end Cert.Own

end
-- ==== Proof.M.Top.lean ====
/- The sum over the first so many of a sorted row, and the halving that finds the bound between taken and left. -/
module

public import proofs.«01_k».proof.Proof.M.First
@[expose] public section

noncomputable section

namespace Cert.Own

open Finset

/-- Sums of real numbers, read among the larger numbers. -/
theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- The first `k` of a sorted row hold all of a set `A` that lies before everything else, and lie in a set `B` of that kind,
the sizes allowing; so a value that is one number between the sets adds up as it would over `A` and that number. -/
theorem top_sum {n : ℕ} (key : Fin n → EReal) (p : Fin n → Fin n) (hinj : Function.Injective p) (hmono : ∀ i j, i ≤ j → key (p i) ≤ key (p j))
    (A B : Finset (Fin n)) (hA : ∀ a ∈ A, ∀ j, j ∉ A → key a < key j) (hB : ∀ a ∈ B, ∀ j, j ∉ B → key a < key j)
    (k : ℕ) (hAk : A.card ≤ k) (hBk : k ≤ B.card) (f : Fin n → ℝ) (c : ℝ) (hc : ∀ i ∈ B, i ∉ A → f i = c) :
    (∑ i, if i.val < k then f (p i) else 0) = ∑ i ∈ A, f i + ((k : ℝ) - A.card) * c := by
  classical
  have hsurj : Function.Surjective p := Finite.injective_iff_surjective.1 hinj
  have hkn : k ≤ n := hBk.trans ((Finset.card_le_univ B).trans (by simp))
  set T : Finset (Fin n) := univ.filter fun i : Fin n => i.val < k with hT
  have hTc : T.card = k := by
    rw [hT, Fin.card_filter_val_lt, min_eq_right hkn]
  set S : Finset (Fin n) := T.image p with hS
  have hSc : S.card = k := by rw [hS, Finset.card_image_of_injective _ hinj, hTc]
  have hAS : A ⊆ S := by
    intro a ha
    obtain ⟨j, rfl⟩ := hsurj a
    by_contra hn
    have hj : ¬ j.val < k := fun h => hn (by rw [hS]; exact mem_image_of_mem _ (by simp [hT, h]))
    have hsub : insert (p j) S ⊆ A := by
      intro x hx
      rcases mem_insert.1 hx with rfl | hx
      · exact ha
      · obtain ⟨i, hi, rfl⟩ := mem_image.1 hx
        have hi' : i.val < k := by simpa [hT] using hi
        by_contra hxA
        exact absurd (hA _ ha _ hxA) (not_lt.2 (hmono i j (by rw [Fin.le_def]; omega)))
    have := Finset.card_le_card hsub
    rw [Finset.card_insert_of_notMem hn, hSc] at this
    omega
  have hSB : S ⊆ B := by
    intro x hx
    obtain ⟨j, hj, rfl⟩ := mem_image.1 hx
    have hj' : j.val < k := by simpa [hT] using hj
    by_contra hn
    have hsub : B ⊆ (univ.filter fun i : Fin n => i.val < j.val).image p := by
      intro b hb
      obtain ⟨i, rfl⟩ := hsurj b
      refine mem_image_of_mem _ ?_
      simp only [mem_filter, mem_univ, true_and]
      by_contra hij
      exact absurd (hB _ hb _ hn) (not_lt.2 (hmono j i (by rw [Fin.le_def]; omega)))
    have := Finset.card_le_card hsub
    rw [Finset.card_image_of_injective _ hinj, Fin.card_filter_val_lt] at this
    omega
  have e1 : (∑ i, if i.val < k then f (p i) else 0) = ∑ i ∈ S, f i := by
    rw [← Finset.sum_filter, hS, Finset.sum_image fun a _ b _ h => hinj h]
  rw [e1, ← Finset.sum_sdiff hAS, add_comm]
  congr 1
  rw [Finset.sum_congr rfl (g := fun _ => c) fun i hi => hc i (hSB (mem_sdiff.1 hi).1) (mem_sdiff.1 hi).2]
  rw [Finset.sum_const, nsmul_eq_mul, Finset.card_sdiff_of_subset hAS, hSc, Nat.cast_sub hAk]

/-- What holds of the two bounds after so many halvings. -/
structure Between (cnt : ℝ → ℕ) (k : ℕ) (j : ℕ) (a : EReal × EReal) : Prop where
  ends : ∃ z : ℕ, a = (((z / 2 ^ j : ℝ) : EReal), (((z + 1) / 2 ^ j : ℝ) : EReal)) ∧ k ≤ cnt (z / 2 ^ j) ∧ cnt ((z + 1) / 2 ^ j) ≤ k

theorem Between.halve {cnt : ℝ → ℕ} {k j : ℕ} {a : EReal × EReal} (h : Between cnt k j a) (s : EReal × EReal → EReal × EReal)
    (hs : ∀ lo hi : ℝ, 0 ≤ lo → 0 ≤ hi → s (lo, hi) = if k ≤ cnt ((lo + hi) / 2) then ((((lo + hi) / 2 : ℝ) : EReal), (hi : EReal)) else ((lo : EReal), (((lo + hi) / 2 : ℝ) : EReal))) :
    Between cnt k (j + 1) (s a) := by
  obtain ⟨z, rfl, h1, h2⟩ := h.ends
  have p : (0 : ℝ) < 2 ^ j := by positivity
  have em : ((z / 2 ^ j : ℝ) + (z + 1) / 2 ^ j) / 2 = ((2 * z + 1 : ℕ) : ℝ) / 2 ^ (j + 1) := by
    push_cast; rw [pow_succ]; field_simp; ring
  have eh : ((z + 1) / 2 ^ j : ℝ) = (((2 * z + 1 : ℕ) : ℝ) + 1) / 2 ^ (j + 1) := by
    push_cast; rw [pow_succ]; field_simp; ring
  have el : (z / 2 ^ j : ℝ) = ((2 * z : ℕ) : ℝ) / 2 ^ (j + 1) := by
    push_cast; rw [pow_succ]; field_simp
  have em' : ((2 * z + 1 : ℕ) : ℝ) = ((2 * z : ℕ) : ℝ) + 1 := by push_cast; ring
  rw [hs _ _ (by positivity) (by positivity)]
  split_ifs with hk
  · refine ⟨2 * z + 1, ?_, ?_, ?_⟩
    · rw [em, ← eh]
    · rw [← em]; exact hk
    · rw [← eh]; exact h2
  · refine ⟨2 * z, ?_, ?_, ?_⟩
    · rw [em, ← em', ← el]
    · rw [← el]; exact h1
    · rw [← em', ← em]; omega

end Cert.Own

end
-- ==== Proof.KI.ConfA.lean ====
/- The confidences and the class losses of a batch, read from what its blocks hold. -/
module

public import proofs.«01_k».proof.Proof.KI.Loc
public import proofs.«01_k».proof.Proof.M.Focal
public import proofs.«01_k».proof.Proof.M.Top
@[expose] public section

set_option maxRecDepth 16384

noncomputable section

namespace Cert.KernelIdeal.Own

open Cert.KernelIdeal Cert.KernelIdeal.Gen
open Idealize.ShloMosaic Finset
open Cert.Own (padP rowOf colOf nOf gOf near isPos logit flP flN Grid lossN)

variable {L : Blk Ideal} {A D : Fin 20000 → Fin 4 → EReal} {G : Fin 32 → Fin 4 → EReal} {C : Fin 20000 → EReal} {q : Fin 20000 → ℝ}

theorem logitV_ap {s : Shape} (p : FVec Ideal s .f32) (i : s.Idx) : @Eq EReal (logitV p i) (logit (p i)) := by
  pointwise [logitV, logit, Cert.Own.tinyI]

theorem flPos_ap {s : Shape} (x : FVec Ideal s .f32) (i : s.Idx) : @Eq EReal (flPos x i) (flP (x i)) := by
  pointwise [flPos, softV, flP, Cert.Own.soft, Cert.Own.quarterI]
  rw [zero_sub]
  rfl

theorem flNeg_ap {s : Shape} (x : FVec Ideal s .f32) (i : s.Idx) : @Eq EReal (flNeg x i) (flN (x i)) := by
  pointwise [flNeg, softV, flN, Cert.Own.soft, Cert.Own.threeQI]
  rw [zero_sub]
  rfl

theorem confV_at (H : Holds L A D G C) (n : Fin 20000) : @Eq EReal (confV L (ix2 (rowOf n) (colOf n))) (C n) := by
  have e : @Eq EReal (confV L (ix2 (rowOf n) (colOf n))) (L.c (ix3 (0 : Fin 1) (rowOf n) (colOf n))) := by
    pointwise [confV, plA]
  rw [e, H.c, Cert.Own.padP_of]

theorem confV_past (H : Holds L A D G C) {r : Fin 8} {c : Fin 2560} (h : 20000 ≤ 2560 * r.val + c.val) : @Eq EReal (confV L (ix2 r c)) ((-1 : ℝ) : EReal) := by
  have e : @Eq EReal (confV L (ix2 r c)) (L.c (ix3 (0 : Fin 1) r c)) := by
    pointwise [confV, plA]
  rw [e, H.c, Cert.Own.padP_past _ _ h]

theorem realV_ap (r : Fin 8) (c : Fin 2560) : @Eq (BitVec 1) (realV L (ix2 r c)) (BitVec.ofBool (decide ((0 : EReal) < (confV L (ix2 r c) : EReal)))) := by
  pointwise [realV]

theorem realV_at (H : Holds L A D G C) (Q : Grid C q) (n : Fin 20000) : @Eq (BitVec 1) (realV L (ix2 (rowOf n) (colOf n))) 1#1 := by
  rw [realV_ap, confV_at H, decide_eq_true (Q.gt n)]; rfl

theorem realV_past (H : Holds L A D G C) {r : Fin 8} {c : Fin 2560} (h : 20000 ≤ 2560 * r.val + c.val) : @Eq (BitVec 1) (realV L (ix2 r c)) 0#1 := by
  rw [realV_ap, confV_past H h, decide_eq_false]
  · rfl
  · rw [not_lt]; exact_mod_cast (by norm_num : (-1 : ℝ) ≤ 0)

theorem logitA_at (H : Holds L A D G C) (Q : Grid C q) (n : Fin 20000) : @Eq EReal (logitA L (ix2 (rowOf n) (colOf n))) (logit (C n)) := by
  rw [logitA, logitV_ap]
  have e : ∀ (a : BitVec 1) (x y : EReal), a = 1#1 → Scalar.select a x y = x := fun a x y h => by rw [h]; rfl
  rw [← confV_at H n]
  exact congrArg logit (e _ _ _ (realV_at H Q n))

open Classical in
theorem posV_at (H : Holds L A D G C) (n : Fin 20000) : @Eq (BitVec 1) (posV L (ix2 (rowOf n) (colOf n))) (if near A G n then 1#1 else 0#1) := by
  have e : @Eq (BitVec 1) (posV L (ix2 (rowOf n) (colOf n))) (BitVec.ofBool (decide (Cert.Own.halfI < bestV L (ix2 (rowOf n) (colOf n))))) := by
    pointwise [posV]
    rfl
  rw [e, bestV_at H]
  by_cases h : near A G n
  · rw [if_pos h]; rw [near] at h; simp [h]
  · rw [if_neg h]; rw [near] at h; simp [h]

theorem restV_ap (r : Fin 8) (c : Fin 2560) : @Eq (BitVec 1) (restV L (ix2 r c)) (IntOp.andi (realV L (ix2 r c)) (IntOp.xori (posV L (ix2 r c)) 1#1)) := by
  pointwise [restV]

open Classical in
theorem restV_at (H : Holds L A D G C) (Q : Grid C q) (n : Fin 20000) : @Eq (BitVec 1) (restV L (ix2 (rowOf n) (colOf n))) (if near A G n then 0#1 else 1#1) := by
  rw [restV_ap, realV_at H Q, posV_at H]
  split_ifs <;> rfl

theorem restV_past (H : Holds L A D G C) {r : Fin 8} {c : Fin 2560} (h : 20000 ≤ 2560 * r.val + c.val) : @Eq (BitVec 1) (restV L (ix2 r c)) 0#1 := by
  rw [restV_ap, realV_past H h]
  generalize posV L (ix2 r c) = a
  revert a; decide

theorem minus_word : Ideal.ofBits .f32 0xBF800000#32 = (((-1 : ℝ)) : EReal) := by
  simp [Ideal.ofBits, Ideal.ieee]
  rw [← EReal.coe_mul]; norm_num

theorem negpV_ap (r : Fin 8) (c : Fin 2560) : @Eq EReal (negpV L (ix2 r c)) (Scalar.select (restV L (ix2 r c)) (confV L (ix2 r c) : EReal) ((-1 : ℝ) : EReal)) := by
  rw [← minus_word]
  pointwise [negpV]

theorem flnegV_ap (r : Fin 8) (c : Fin 2560) : @Eq EReal (flnegV L (ix2 r c)) (Scalar.select (restV L (ix2 r c)) (flNeg (logitA L) (ix2 r c) : EReal) (0 : EReal)) := by
  pointwise [flnegV]

open Classical in
theorem negpV_at (H : Holds L A D G C) (Q : Grid C q) (n : Fin 20000) :
    @Eq EReal (negpV L (ix2 (rowOf n) (colOf n))) (if near A G n then ((-1 : ℝ) : EReal) else C n) := by
  rw [negpV_ap, restV_at H Q, confV_at H]
  split_ifs <;> rfl

theorem negpV_past (H : Holds L A D G C) {r : Fin 8} {c : Fin 2560} (h : 20000 ≤ 2560 * r.val + c.val) :
    @Eq EReal (negpV L (ix2 r c)) ((-1 : ℝ) : EReal) := by
  rw [negpV_ap, restV_past H h]
  rfl

open Classical in
theorem flnegV_at (H : Holds L A D G C) (Q : Grid C q) (n : Fin 20000) :
    @Eq EReal (flnegV L (ix2 (rowOf n) (colOf n))) (if near A G n then (0 : EReal) else (lossN (q n) : EReal)) := by
  rw [flnegV_ap, restV_at H Q, flNeg_ap, logitA_at H Q, Q.loss]
  split_ifs <;> rfl

theorem flnegV_past (H : Holds L A D G C) {r : Fin 8} {c : Fin 2560} (h : 20000 ≤ 2560 * r.val + c.val) :
    @Eq EReal (flnegV L (ix2 r c)) 0 := by
  rw [flnegV_ap, restV_past H h]
  rfl

theorem pfixV_ap (g : Fin 32) : @Eq EReal (pfixV L (ix2 g (0 : Fin 1))) (Scalar.select (fixV L (ix2 g (0 : Fin 1))) (pickV L (confV L) (ix2 g (0 : Fin 1)) : EReal) ((-1 : ℝ) : EReal)) := by
  rw [← minus_word]
  pointwise [pfixV]

theorem flfixV_ap (g : Fin 32) : @Eq EReal (flfixV L (ix2 g (0 : Fin 1))) (Scalar.select (fixV L (ix2 g (0 : Fin 1))) (flNeg (logitV (pickV L (confV L))) (ix2 g (0 : Fin 1)) : EReal) (0 : EReal)) := by
  pointwise [flfixV]

open Classical in
theorem pfixV_at (H : Holds L A D G C) (g : Fin 32) :
    @Eq EReal (pfixV L (ix2 g (0 : Fin 1))) (if Fix A G g then C (nOf A G g) else ((-1 : ℝ) : EReal)) := by
  rw [pfixV_ap, fixV_at H, pickV_at H, confV_at H]
  split_ifs <;> rfl

open Classical in
theorem flfixV_at (H : Holds L A D G C) (Q : Grid C q) (g : Fin 32) :
    @Eq EReal (flfixV L (ix2 g (0 : Fin 1))) (if Fix A G g then (lossN (q (nOf A G g)) : EReal) else 0) := by
  rw [flfixV_ap, fixV_at H, flNeg_ap, logitV_ap, pickV_at H, confV_at H, Q.loss]
  split_ifs <;> rfl

open Classical in
/-- The class losses of the positive anchors. -/
theorem posS_ap (H : Holds L A D G C) (Q : Grid C q) : @Eq EReal (posS L) (∑ n, if isPos A G n then flP (logit (C n)) else 0) := by
  have e : @Eq EReal (posS L) (sumA (mulf (flPos (logitA L)) (posfV L)) + sumG (mulf (fixfV L) (flPos (logitV (pickV L (confV L)))))) := rfl
  rw [e, sumPos_ap H, sumFix_ap H]
  simp only [flPos_ap, logitV_ap, logitA_at H Q, pickV_at H, confV_at H]
  exact sum_pos H fun n => flP (logit (C n))

open Classical in
/-- What is left of a sum over the anchors that are not over one half, the mended ones taken out. -/
theorem sum_rest (H : Holds L A D G C) (w : Fin 20000 → ℝ) :
    (∑ n, if near A G n then (0 : EReal) else (w n : EReal)) - (∑ g, if Fix A G g then (w (nOf A G g) : EReal) else 0)
      = ((∑ n, if isPos A G n then 0 else w n : ℝ) : EReal) := by
  have c : ∀ (p : Prop) (x : ℝ), (if p then (0 : EReal) else (x : EReal)) = ((if p then 0 else x : ℝ) : EReal) := fun p x => by split_ifs <;> rfl
  have c' : ∀ (p : Prop) (x : ℝ), (if p then (x : EReal) else (0 : EReal)) = ((if p then x else 0 : ℝ) : EReal) := fun p x => by split_ifs <;> rfl
  have e1 : (∑ g, if Fix A G g then (w (nOf A G g) : EReal) else 0) = ((∑ n, if isPos A G n then (if near A G n then 0 else w n) else 0 : ℝ) : EReal) := by
    have s := sum_pos H fun n => if near A G n then (0 : EReal) else (w n : EReal)
    have z : (∑ n, if near A G n then (if near A G n then (0 : EReal) else (w n : EReal)) else 0) = 0 :=
      Finset.sum_eq_zero fun n _ => by split_ifs <;> rfl
    have y : ∀ g, (if Fix A G g then (if near A G (nOf A G g) then (0 : EReal) else (w (nOf A G g) : EReal)) else 0) = if Fix A G g then (w (nOf A G g) : EReal) else 0 := by
      intro g
      by_cases h : Fix A G g
      · rw [if_pos h, if_pos h, if_neg h.1]
      · rw [if_neg h, if_neg h]
    rw [z, zero_add] at s
    simp only [y] at s
    rw [s, Cert.Own.coe_sum]
    simp only [c, c']
  rw [e1]
  simp only [c]
  rw [← Cert.Own.coe_sum, ← EReal.coe_sub, ← Finset.sum_sub_distrib]
  refine congrArg _ (Finset.sum_congr rfl fun n _ => ?_)
  by_cases h1 : isPos A G n <;> by_cases h2 : near A G n <;> simp only [h1, h2, if_true, if_false, sub_self, sub_zero]
  exact absurd (Or.inl h2) h1

/-- A truth value as a number. -/
theorem num_of_bit (P : Prop) [Decidable P] : ((((if P then 1#1 else 0#1 : BitVec 1).setWidth 32).toInt : ℝ) : EReal) = if P then 1 else 0 := by
  split_ifs <;> simp

theorem sub_eq (a b : EReal) : @Eq EReal (Scalar.subf (F := Ideal) (φ := .f32) a b) (a - b) := rfl

/-- The truth of a comparison, as a number. -/
theorem bit_at {s : Shape} (o : CmpFPredicate) (v : FVec Ideal s .f32) (t : EReal) (i : s.Idx) :
    @Eq EReal ((sitofp (F := Ideal) .f32 (extui 32 (cmpf o v (broadcast s t)) natLt_1_32)) i) ((((FloatOps.cmpf (F := Ideal) (φ := .f32) o (v i) t).setWidth 32).toInt : ℝ) : EReal) := rfl

theorem bit_mul_at {s : Shape} (o : CmpFPredicate) (f v : FVec Ideal s .f32) (t : EReal) (i : s.Idx) :
    @Eq EReal ((mulf f (sitofp (F := Ideal) .f32 (extui 32 (cmpf o v (broadcast s t)) natLt_1_32))) i) ((f i : EReal) * ((((FloatOps.cmpf (F := Ideal) (φ := .f32) o (v i) t).setWidth 32).toInt : ℝ) : EReal)) := rfl

open Classical in
/-- A count over the negatives. -/
theorem cntS_ap (H : Holds L A D G C) (Q : Grid C q) (o : CmpFPredicate) (t : EReal) (P : EReal → Prop)
    (hP : ∀ x : EReal, FloatOps.cmpf (F := Ideal) (φ := .f32) o x t = if P x then 1#1 else 0#1) (h0 : ¬ P ((-1 : ℝ) : EReal)) :
    @Eq EReal (cntS o (negpV L) (pfixV L) t) (((univ.filter fun n => ¬ isPos A G n ∧ P (C n)).card : ℝ) : EReal) := by
  have i1 : ∀ r c, @Eq EReal ((sitofp (F := Ideal) .f32 (extui 32 (cmpf o (negpV L) (broadcast S8x2560 t)) natLt_1_32)) (ix2 r c))
      (if P (negpV L (ix2 r c)) then 1 else 0) := by
    intro r c
    rw [← num_of_bit, ← hP]; exact bit_at o (negpV L) t _
  have i2 : ∀ g, @Eq EReal ((sitofp (F := Ideal) .f32 (extui 32 (cmpf o (pfixV L) (broadcast S32x1 t)) natLt_1_32)) (ix2 g (0 : Fin 1)))
      (if P (pfixV L (ix2 g (0 : Fin 1))) then 1 else 0) := by
    intro g
    rw [← num_of_bit, ← hP]; exact bit_at o (pfixV L) t _
  rw [cntS, sub_eq, sumA_ap, sumG_ap, Cert.Own.sum_rows]
  · simp only [i1, i2, negpV_at H Q, pfixV_at H]
    have s := sum_rest H fun n => if P (C n) then 1 else 0
    have y1 : ∀ n, (if P (if near A G n then ((-1 : ℝ) : EReal) else C n) then (1 : EReal) else 0) = if near A G n then 0 else ((if P (C n) then 1 else 0 : ℝ) : EReal) := by
      intro n
      by_cases h : near A G n
      · rw [if_pos h, if_pos h, if_neg h0]
      · rw [if_neg h, if_neg h]; split_ifs <;> rfl
    have y2 : ∀ g, (if P (if Fix A G g then C (nOf A G g) else ((-1 : ℝ) : EReal)) then (1 : EReal) else 0) = if Fix A G g then ((if P (C (nOf A G g)) then 1 else 0 : ℝ) : EReal) else 0 := by
      intro g
      by_cases h : Fix A G g
      · rw [if_pos h, if_pos h]; split_ifs <;> rfl
      · rw [if_neg h, if_neg h, if_neg h0]
    simp only [y1, y2]
    rw [s]
    refine congrArg Real.toEReal ?_
    rw [Finset.card_filter, Nat.cast_sum]
    refine Finset.sum_congr rfl fun n _ => ?_
    by_cases h1 : isPos A G n <;> by_cases h2 : P (C n) <;> simp [h1, h2]
  · intro r c h
    rw [i1, negpV_past H h, if_neg h0]

open Classical in
/-- A sum of losses over the negatives. -/
theorem lossS_ap (H : Holds L A D G C) (Q : Grid C q) (o : CmpFPredicate) (t : EReal) (P : EReal → Prop)
    (hP : ∀ x : EReal, FloatOps.cmpf (F := Ideal) (φ := .f32) o x t = if P x then 1#1 else 0#1) (h0 : ¬ P ((-1 : ℝ) : EReal)) :
    @Eq EReal (lossS o (negpV L) (pfixV L) (flnegV L) (flfixV L) t) ((∑ n ∈ univ.filter fun n => ¬ isPos A G n ∧ P (C n), lossN (q n) : ℝ) : EReal) := by
  have i1 : ∀ r c, @Eq EReal ((mulf (flnegV L) (sitofp (F := Ideal) .f32 (extui 32 (cmpf o (negpV L) (broadcast S8x2560 t)) natLt_1_32))) (ix2 r c))
      ((flnegV L (ix2 r c) : EReal) * (if P (negpV L (ix2 r c)) then 1 else 0)) := by
    intro r c
    rw [← num_of_bit, ← hP]; exact bit_mul_at o (flnegV L) (negpV L) t _
  have i2 : ∀ g, @Eq EReal ((mulf (flfixV L) (sitofp (F := Ideal) .f32 (extui 32 (cmpf o (pfixV L) (broadcast S32x1 t)) natLt_1_32))) (ix2 g (0 : Fin 1)))
      ((flfixV L (ix2 g (0 : Fin 1)) : EReal) * (if P (pfixV L (ix2 g (0 : Fin 1))) then 1 else 0)) := by
    intro g
    rw [← num_of_bit, ← hP]; exact bit_mul_at o (flfixV L) (pfixV L) t _
  rw [lossS, sub_eq, sumA_ap, sumG_ap, Cert.Own.sum_rows]
  · simp only [i1, i2, negpV_at H Q, pfixV_at H, flnegV_at H Q, flfixV_at H Q]
    have s := sum_rest H fun n => if P (C n) then lossN (q n) else 0
    have y1 : ∀ n, (if near A G n then (0 : EReal) else (lossN (q n) : EReal)) * (if P (if near A G n then ((-1 : ℝ) : EReal) else C n) then (1 : EReal) else 0) = if near A G n then 0 else ((if P (C n) then lossN (q n) else 0 : ℝ) : EReal) := by
      intro n
      by_cases h : near A G n
      · rw [if_pos h, if_pos h, if_pos h, zero_mul]
      · rw [if_neg h, if_neg h, if_neg h]; split_ifs
        · exact mul_one _
        · exact mul_zero _
    have y2 : ∀ g, (if Fix A G g then (lossN (q (nOf A G g)) : EReal) else 0) * (if P (if Fix A G g then C (nOf A G g) else ((-1 : ℝ) : EReal)) then (1 : EReal) else 0) = if Fix A G g then ((if P (C (nOf A G g)) then lossN (q (nOf A G g)) else 0 : ℝ) : EReal) else 0 := by
      intro g
      by_cases h : Fix A G g
      · rw [if_pos h, if_pos h, if_pos h]; split_ifs
        · exact mul_one _
        · exact mul_zero _
      · rw [if_neg h, if_neg h, if_neg h, zero_mul]
    simp only [y1, y2]
    rw [s]
    refine congrArg Real.toEReal ?_
    rw [Finset.sum_filter]
    refine Finset.sum_congr rfl fun n _ => ?_
    by_cases h1 : isPos A G n <;> by_cases h2 : P (C n) <;> simp [h1, h2]
  · intro r c h
    rw [i1, flnegV_past H h, zero_mul]

end Cert.KernelIdeal.Own

end
-- ==== Proof.KI.ConfB.lean ====
/- How many negatives a batch takes, and the counts and sums over its negatives. -/
module

public import proofs.«01_k».proof.Proof.KI.ConfA
@[expose] public section

set_option maxRecDepth 16384

noncomputable section

namespace Cert.KernelIdeal.Own

open Cert.KernelIdeal Cert.KernelIdeal.Gen
open Idealize.ShloMosaic Finset
open Cert.Own (padP rowOf colOf nOf gOf near isPos logit flP flN Grid lossN posSet Between kOf card_pos_le negs mem_negs negs_of)

variable {L : Blk Ideal} {A D : Fin 20000 → Fin 4 → EReal} {G : Fin 32 → Fin 4 → EReal} {C : Fin 20000 → EReal} {q : Fin 20000 → ℝ}

open Classical in
theorem oge_ap (x t : EReal) : FloatOps.cmpf (F := Ideal) (φ := .f32) .oge x t = if t ≤ x then 1#1 else 0#1 := by
  change BitVec.ofBool (decide (t ≤ x)) = _
  by_cases h : t ≤ x <;> simp [h]

open Classical in
theorem ogt_ap (x t : EReal) : FloatOps.cmpf (F := Ideal) (φ := .f32) .ogt x t = if t < x then 1#1 else 0#1 := by
  change BitVec.ofBool (decide (t < x)) = _
  by_cases h : t < x <;> simp [h]

open Classical in
theorem oeq_ap (x t : EReal) : FloatOps.cmpf (F := Ideal) (φ := .f32) .oeq x t = if x = t then 1#1 else 0#1 := by
  change BitVec.ofBool (decide (x = t)) = _
  by_cases h : x = t <;> simp [h]

open Classical in
theorem bits_of (o : CmpFPredicate) (t : EReal) (P : EReal → Prop) (h1 : ∀ x : EReal, P x → FloatOps.cmpf (F := Ideal) (φ := .f32) o x t = 1#1)
    (h0 : ∀ x : EReal, ¬ P x → FloatOps.cmpf (F := Ideal) (φ := .f32) o x t = 0#1) (x : EReal) :
    FloatOps.cmpf (F := Ideal) (φ := .f32) o x t = if P x then 1#1 else 0#1 := by
  split_ifs with h
  · exact h1 x h
  · exact h0 x h

theorem three_word : Ideal.ofBits .f32 0x40400000#32 = (((3 : ℝ)) : EReal) := by
  simp [Ideal.ofBits, Ideal.ieee]
  rw [← EReal.coe_mul]; norm_num

theorem all_word : Ideal.ofBits .f32 0x469C4000#32 = (((20000 : ℝ)) : EReal) := by
  simp [Ideal.ofBits, Ideal.ieee]
  rw [← EReal.coe_mul]; norm_num

theorem one_word : Ideal.ofBits .f32 0x3F800000#32 = (((1 : ℝ)) : EReal) := by
  simp [Ideal.ofBits, Ideal.ieee]
  rw [← EReal.coe_mul]; norm_num

theorem nought_word : Ideal.ofBits .f32 0x00000000#32 = (((0 : ℝ)) : EReal) := by
  simp [Ideal.ofBits, Ideal.ieee]

theorem real_min (x y : ℝ) : min (x : EReal) (y : EReal) = ((min x y : ℝ) : EReal) := (EReal.coe_strictMono.monotone.map_min).symm
theorem real_max (x y : ℝ) : max (x : EReal) (y : EReal) = ((max x y : ℝ) : EReal) := (EReal.coe_strictMono.monotone.map_max).symm

theorem kS_def : @Eq EReal (kS L) (min (Ideal.ofBits .f32 0x40400000#32 * (nposS L : EReal)) (Ideal.ofBits .f32 0x469C4000#32 - (nposS L : EReal))) := rfl

theorem kS_ap (H : Holds L A D G C) : @Eq EReal (kS L) ((kOf A G : ℝ) : EReal) := by
  rw [kS_def, nposS_ap H, three_word, all_word, ← EReal.coe_mul, ← EReal.coe_sub, real_min, kOf]
  have h := card_pos_le A G
  refine congrArg Real.toEReal ?_
  rw [Nat.cast_min, Nat.cast_sub h]
  push_cast
  rfl

theorem minus_lt {t : ℝ} (ht : 0 ≤ t) : ¬ (t : EReal) ≤ ((-1 : ℝ) : EReal) := by
  rw [EReal.coe_le_coe_iff]; linarith

theorem cnt_ge (H : Holds L A D G C) (Q : Grid C q) {t : ℝ} (ht : 0 ≤ t) :
    @Eq EReal (cntS .oge (negpV L) (pfixV L) (t : EReal)) (((negs A G fun n => t ≤ q n).card : ℝ) : EReal) := by
  rw [cntS_ap H Q .oge (t : EReal) (fun x => (t : EReal) ≤ x) (bits_of _ _ _ (fun x h => (oge_ap x (t : EReal)).trans (if_pos h)) fun x h => (oge_ap x (t : EReal)).trans (if_neg h)) (minus_lt ht)]
  rw [negs_of (P' := fun n => t ≤ q n) fun n => by rw [Q.eq, EReal.coe_le_coe_iff]]

theorem cnt_gt (H : Holds L A D G C) (Q : Grid C q) {t : ℝ} (ht : 0 ≤ t) :
    @Eq EReal (cntS .ogt (negpV L) (pfixV L) (t : EReal)) (((negs A G fun n => t < q n).card : ℝ) : EReal) := by
  rw [cntS_ap H Q .ogt (t : EReal) (fun x => (t : EReal) < x) (bits_of _ _ _ (fun x h => (ogt_ap x (t : EReal)).trans (if_pos h)) fun x h => (ogt_ap x (t : EReal)).trans (if_neg h)) (fun h => minus_lt ht h.le)]
  rw [negs_of (P' := fun n => t < q n) fun n => by rw [Q.eq, EReal.coe_lt_coe_iff]]

theorem cnt_eq (H : Holds L A D G C) (Q : Grid C q) {t : ℝ} (ht : 0 ≤ t) :
    @Eq EReal (cntS .oeq (negpV L) (pfixV L) (t : EReal)) (((negs A G fun n => q n = t).card : ℝ) : EReal) := by
  rw [cntS_ap H Q .oeq (t : EReal) (fun x => x = (t : EReal)) (bits_of _ _ _ (fun x h => (oeq_ap x (t : EReal)).trans (if_pos h)) fun x h => (oeq_ap x (t : EReal)).trans (if_neg h)) (fun h => minus_lt ht h.ge)]
  rw [negs_of (P' := fun n => q n = t) fun n => by rw [Q.eq, EReal.coe_eq_coe_iff]]

theorem loss_gt (H : Holds L A D G C) (Q : Grid C q) {t : ℝ} (ht : 0 ≤ t) :
    @Eq EReal (lossS .ogt (negpV L) (pfixV L) (flnegV L) (flfixV L) (t : EReal)) ((∑ n ∈ negs A G fun n => t < q n, lossN (q n) : ℝ) : EReal) := by
  rw [lossS_ap H Q .ogt (t : EReal) (fun x => (t : EReal) < x) (bits_of _ _ _ (fun x h => (ogt_ap x (t : EReal)).trans (if_pos h)) fun x h => (ogt_ap x (t : EReal)).trans (if_neg h)) (fun h => minus_lt ht h.le)]
  rw [negs_of (P' := fun n => t < q n) fun n => by rw [Q.eq, EReal.coe_lt_coe_iff]]

theorem loss_eq (H : Holds L A D G C) (Q : Grid C q) {t : ℝ} (ht : 0 ≤ t) :
    @Eq EReal (lossS .oeq (negpV L) (pfixV L) (flnegV L) (flfixV L) (t : EReal)) ((∑ n ∈ negs A G fun n => q n = t, lossN (q n) : ℝ) : EReal) := by
  rw [lossS_ap H Q .oeq (t : EReal) (fun x => x = (t : EReal)) (bits_of _ _ _ (fun x h => (oeq_ap x (t : EReal)).trans (if_pos h)) fun x h => (oeq_ap x (t : EReal)).trans (if_neg h)) (fun h => minus_lt ht h.ge)]
  rw [negs_of (P' := fun n => q n = t) fun n => by rw [Q.eq, EReal.coe_eq_coe_iff]]

end Cert.KernelIdeal.Own

end
-- ==== Proof.KI.ConfC.lean ====
/- The bound the halving finds, and the losses of the hardest negatives by it. -/
module

public import proofs.«01_k».proof.Proof.KI.ConfB
@[expose] public section

set_option maxRecDepth 16384

noncomputable section

namespace Cert.KernelIdeal.Own

open Cert.KernelIdeal Cert.KernelIdeal.Gen
open Idealize.ShloMosaic Finset
open Cert.Own (padP rowOf colOf nOf gOf near isPos logit flP flN Grid lossN posSet Between kOf card_pos_le negs mem_negs negs_of card_negs_all card_negs_none)

variable {L : Blk Ideal} {A D : Fin 20000 → Fin 4 → EReal} {G : Fin 32 → Fin 4 → EReal} {C : Fin 20000 → EReal} {q : Fin 20000 → ℝ}

theorem midS_ap (lo hi : ℝ) : @Eq EReal (midS (F := Ideal) ((lo : EReal), (hi : EReal))) (((lo + hi) / 2 : ℝ) : EReal) := by
  have e : @Eq EReal (midS (F := Ideal) ((lo : EReal), (hi : EReal))) (Cert.Own.halfI * ((lo : EReal) + (hi : EReal))) := rfl
  rw [e, Cert.Own.halfI_coe, ← EReal.coe_add, ← EReal.coe_mul]
  refine congrArg Real.toEReal ?_
  ring

/-- One halving, with the count at the middle known. -/
theorem halve_ap (v : FVec Ideal S8x2560 .f32) (w : FVec Ideal S32x1 .f32) (k c : ℕ) (lo hi : ℝ)
    (hc : @Eq EReal (cntS .oge v w (((lo + hi) / 2 : ℝ) : EReal)) ((c : ℝ) : EReal)) :
    @Eq (EReal × EReal) (halve v w ((k : ℝ) : EReal) ((lo : EReal), (hi : EReal)))
      (if k ≤ c then ((((lo + hi) / 2 : ℝ) : EReal), (hi : EReal)) else ((lo : EReal), (((lo + hi) / 2 : ℝ) : EReal))) := by
  have e : @Eq (EReal × EReal) (halve v w ((k : ℝ) : EReal) ((lo : EReal), (hi : EReal)))
      (Scalar.select (FloatOps.cmpf (F := Ideal) (φ := .f32) .oge (cntS .oge v w (midS (F := Ideal) ((lo : EReal), (hi : EReal)))) ((k : ℝ) : EReal)) (midS (F := Ideal) ((lo : EReal), (hi : EReal)) : EReal) (lo : EReal),
       Scalar.select (FloatOps.cmpf (F := Ideal) (φ := .f32) .oge (cntS .oge v w (midS (F := Ideal) ((lo : EReal), (hi : EReal)))) ((k : ℝ) : EReal)) (hi : EReal) (midS (F := Ideal) ((lo : EReal), (hi : EReal)) : EReal)) := rfl
  rw [e, midS_ap, hc, oge_ap]
  have i : (((k : ℝ) : EReal) ≤ ((c : ℝ) : EReal)) ↔ k ≤ c := by
    rw [EReal.coe_le_coe_iff, Nat.cast_le]
  by_cases h : k ≤ c
  · rw [if_pos h, if_pos (i.2 h)]; rfl
  · rw [if_neg h, if_neg (fun x => h (i.1 x))]; rfl

theorem foldl_between {cnt : ℝ → ℕ} {k : ℕ} {ι : Type} (s : EReal × EReal → EReal × EReal)
    (hs : ∀ lo hi : ℝ, 0 ≤ lo → 0 ≤ hi → s ((lo : EReal), (hi : EReal)) = if k ≤ cnt ((lo + hi) / 2) then ((((lo + hi) / 2 : ℝ) : EReal), (hi : EReal)) else ((lo : EReal), (((lo + hi) / 2 : ℝ) : EReal)))
    (l : List ι) : ∀ (j : ℕ) (a : EReal × EReal), Between cnt k j a → Between cnt k (j + l.length) (l.foldl (fun acc _ => s acc) a) := by
  induction l with
  | nil => intro j a h; exact h
  | cons x l ih =>
    intro j a h
    have := ih (j + 1) (s a) (h.halve s hs)
    rw [List.length_cons, show j + (l.length + 1) = j + 1 + l.length by omega]
    exact this

theorem bounds_ap (H : Holds L A D G C) (Q : Grid C q) :
    Between (fun t => (negs A G fun n => t ≤ q n).card) (kOf A G) 34 (bounds (negpV L) (pfixV L) (kS L)) := by
  have hk : (kS L : EReal) = ((kOf A G : ℝ) : EReal) := kS_ap H
  have e : @Eq (EReal × EReal) (bounds (negpV L) (pfixV L) (kS L))
      ((List.finRange k0_t1_loop.trips).foldl (fun acc _ => halve (negpV L) (pfixV L) (kS L) acc) (Ideal.ofBits .f32 0x00000000#32, Ideal.ofBits .f32 0x3F800000#32)) :=
    Scf.fold_eq _ _
  rw [e, hk, nought_word, one_word]
  have b := foldl_between (cnt := fun t => (negs A G fun n => t ≤ q n).card) (k := kOf A G)
    (fun a => halve (negpV L) (pfixV L) ((kOf A G : ℝ) : EReal) a)
    (fun lo hi h0 h1 => halve_ap (negpV L) (pfixV L) (kOf A G) _ lo hi (cnt_ge H Q (by linarith)))
    (List.finRange k0_t1_loop.trips) 0 (((0 : ℝ) : EReal), ((1 : ℝ) : EReal)) ⟨0, by norm_num, by
      rw [card_negs_all (fun n => by simpa using (Q.pos n).le), kOf]
      exact min_le_right _ _, by
      rw [card_negs_none (fun n => by simpa using Q.lt n)]
      exact Nat.zero_le _⟩
  rw [List.length_finRange, show k0_t1_loop.trips = 34 from rfl] at b
  exact b

theorem hard_parts (l r m c : EReal) : @Eq EReal (Scalar.addf (F := Ideal) (φ := .f32) l
    (Scalar.select (Scalar.cmpf (F := Ideal) (φ := .f32) .ogt r (Scalar.ofBits .f32 0x3F000000#32))
      (Scalar.divf (F := Ideal) (φ := .f32) (Scalar.mulf (F := Ideal) (φ := .f32) r m) (Scalar.maximumf (F := Ideal) (φ := .f32) c (Scalar.ofBits .f32 0x3F800000#32)))
      (Scalar.ofBits .f32 0x00000000#32 : Ideal .f32)))
    (l + Scalar.select (FloatOps.cmpf (F := Ideal) (φ := .f32) .ogt r Cert.Own.halfI)
        (Ideal.div (r * m) (max c (Ideal.ofBits .f32 0x3F800000#32)))
        (Ideal.ofBits .f32 0x00000000#32)) := rfl

/-- The losses at a bound, with the counts and sums there known. -/
theorem hardS_ap (v : FVec Ideal S8x2560 .f32) (w : FVec Ideal S32x1 .f32) (f : FVec Ideal S8x2560 .f32) (h : FVec Ideal S32x1 .f32) (k c d : ℕ) (t s x : ℝ)
    (hc : @Eq EReal (cntS .ogt v w (t : EReal)) ((c : ℝ) : EReal)) (hd : @Eq EReal (cntS .oeq v w (t : EReal)) ((d : ℝ) : EReal))
    (hs : @Eq EReal (lossS .ogt v w f h (t : EReal)) (s : EReal)) (he : @Eq EReal (lossS .oeq v w f h (t : EReal)) (((d : ℝ) * x : ℝ) : EReal))
    (hck : c ≤ k) (hkd : k ≤ c + d) :
    @Eq EReal (hardS v w f h ((k : ℝ) : EReal) (t : EReal)) ((s + ((k : ℝ) - c) * x : ℝ) : EReal) := by
  have er : @Eq EReal (remS v w ((k : ℝ) : EReal) (t : EReal)) ((((k : ℝ) - c : ℝ)) : EReal) := by
    rw [EReal.coe_sub, ← hc]; rfl
  rw [hardS]
  refine (hard_parts _ _ _ _).trans ?_
  rw [er, hd, hs, he, ogt_ap, one_word, nought_word, real_max, Cert.Own.halfI_coe]
  by_cases hk : k = c
  · have hn : ¬ (((1 / 2 : ℝ) : EReal) < (((k : ℝ) - c : ℝ) : EReal)) := by
      rw [EReal.coe_lt_coe_iff, hk]; norm_num
    rw [if_neg hn, hk, sub_self, zero_mul, add_zero]
    exact add_zero _
  · have h1 : 1 ≤ d := by omega
    have h1' : (1 : ℝ) ≤ (d : ℝ) := by exact_mod_cast h1
    have h2 : (c : ℝ) + 1 ≤ (k : ℝ) := by exact_mod_cast (by omega : c + 1 ≤ k)
    have hp : (((1 / 2 : ℝ) : EReal) < (((k : ℝ) - c : ℝ) : EReal)) := by
      rw [EReal.coe_lt_coe_iff]; linarith
    rw [if_pos hp, max_eq_left h1', Ideal.div_coe (by linarith), ← EReal.coe_mul, ← EReal.coe_mul]
    refine (EReal.coe_add _ _).symm.trans (congrArg Real.toEReal ?_)
    have : (d : ℝ) ≠ 0 := by linarith
    field_simp

/-- The losses of the hardest negatives: those over a bound, and as many as are missing at it. -/
theorem topS_ap (H : Holds L A D G C) (Q : Grid C q) : ∃ t : ℝ, (negs A G fun n => t < q n).card ≤ kOf A G ∧ kOf A G ≤ (negs A G fun n => t ≤ q n).card ∧
    @Eq EReal (topS L) ((∑ n ∈ negs A G fun n => t < q n, lossN (q n) + ((kOf A G : ℝ) - (negs A G fun n => t < q n).card) * lossN t : ℝ) : EReal) := by
  obtain ⟨z, hz, h1, h2⟩ := (bounds_ap H Q).ends
  have h0 : (0 : ℝ) ≤ z / 2 ^ 34 := div_nonneg (Nat.cast_nonneg z) (pow_nonneg (by norm_num) _)
  have hA : (negs A G fun n => (z / 2 ^ 34 : ℝ) < q n).card ≤ kOf A G :=
    (Finset.card_le_card fun n hn => by
      rw [mem_negs] at hn ⊢
      exact ⟨hn.1, Q.next n z hn.2⟩).trans h2
  refine ⟨z / 2 ^ 34, hA, h1, ?_⟩
  have hcut : @Eq EReal (cutS L) ((z / 2 ^ 34 : ℝ) : EReal) := congrArg Prod.fst hz
  have e : @Eq EReal (topS L) (hardS (negpV L) (pfixV L) (flnegV L) (flfixV L) (kS L) (cutS L)) := rfl
  rw [e, show (kS L : EReal) = _ from kS_ap H, show (cutS L : EReal) = _ from hcut]
  refine hardS_ap _ _ _ _ _ _ _ _ _ _ (cnt_gt H Q h0) (cnt_eq H Q h0) (loss_gt H Q h0) ?_ hA ?_
  · rw [loss_eq H Q h0]
    refine congrArg Real.toEReal ?_
    rw [Finset.sum_congr rfl (g := fun _ => lossN (z / 2 ^ 34)) fun n hn => by rw [(mem_negs.1 hn).2], Finset.sum_const, nsmul_eq_mul]
  · refine h1.trans ?_
    rw [← Finset.card_union_of_disjoint]
    · refine Finset.card_le_card fun n hn => ?_
      rw [mem_negs] at hn
      rw [Finset.mem_union, mem_negs, mem_negs]
      rcases hn.2.lt_or_eq with h | h
      · exact Or.inl ⟨hn.1, h⟩
      · exact Or.inr ⟨hn.1, h.symm⟩
    · rw [Finset.disjoint_left]
      intro n hn hm
      rw [mem_negs] at hn hm
      exact absurd hm.2 hn.2.ne'

end Cert.KernelIdeal.Own

end
-- ==== Proof.RI.Ops.lean ====
/- The reference's operations as a list, in order, and the buffers they touch. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 349 (window `main_part0`). -/
abbrev ops_part0_0 : List (HloOp τ sig (Elt F)) :=
  [ unary main_arg2 main_v0 ((extractStridedSlice S20000x1 ![0, 0] · slices_S20000x4_S20000x1_0_0) : (⟨S20000x4, .f32⟩ : BufTy).Contents (Elt F) → (⟨S20000x1, .f32⟩ : BufTy).Contents (Elt F)),
    reshape main_v0 main_v1 (rfl : (.f32 : EltTy) = .f32) shapeCasts_S20000x1_S20000,
    unary main_v1 main_v2 (broadcastInDim S1x20000x1 ![1] bcast_S20000_S1x20000x1_1 : (⟨S20000, .f32⟩ : BufTy).Contents (Elt F) → (⟨S1x20000x1, .f32⟩ : BufTy).Contents (Elt F)),
    unary main_arg2 main_v3 ((extractStridedSlice S20000x1 ![0, 1] · slices_S20000x4_S20000x1_0_1) : (⟨S20000x4, .f32⟩ : BufTy).Contents (Elt F) → (⟨S20000x1, .f32⟩ : BufTy).Contents (Elt F)),
    reshape main_v3 main_v4 (rfl : (.f32 : EltTy) = .f32) shapeCasts_S20000x1_S20000,
    unary main_v4 main_v5 (broadcastInDim S1x20000x1 ![1] bcast_S20000_S1x20000x1_1 : (⟨S20000, .f32⟩ : BufTy).Contents (Elt F) → (⟨S1x20000x1, .f32⟩ : BufTy).Contents (Elt F)),
    unary main_arg2 main_v6 ((extractStridedSlice S20000x1 ![0, 2] · slices_S20000x4_S20000x1_0_2) : (⟨S20000x4, .f32⟩ : BufTy).Contents (Elt F) → (⟨S20000x1, .f32⟩ : BufTy).Contents (Elt F)),
    reshape main_v6 main_v7 (rfl : (.f32 : EltTy) = .f32) shapeCasts_S20000x1_S20000,
    unary main_v7 main_v8 (broadcastInDim S1x20000x1 ![1] bcast_S20000_S1x20000x1_1 : (⟨S20000, .f32⟩ : BufTy).Contents (Elt F) → (⟨S1x20000x1, .f32⟩ : BufTy).Contents (Elt F)),
    unary main_arg2 main_v9 ((extractStridedSlice S20000x1 ![0, 3] · slices_S20000x4_S20000x1_0_3) : (⟨S20000x4, .f32⟩ : BufTy).Contents (Elt F) → (⟨S20000x1, .f32⟩ : BufTy).Contents (Elt F)),
    reshape main_v9 main_v10 (rfl : (.f32 : EltTy) = .f32) shapeCasts_S20000x1_S20000,
    unary main_v10 main_v11 (broadcastInDim S1x20000x1 ![1] bcast_S20000_S1x20000x1_1 : (⟨S20000, .f32⟩ : BufTy).Contents (Elt F) → (⟨S1x20000x1, .f32⟩ : BufTy).Contents (Elt F)),
    unary main_arg3 main_v12 ((extractStridedSlice S16x32x1 ![0, 0, 0] · slices_S16x32x4_S16x32x1_0_0_0) : (⟨S16x32x4, .f32⟩ : BufTy).Contents (Elt F) → (⟨S16x32x1, .f32⟩ : BufTy).Contents (Elt F)),
    reshape main_v12 main_v13 (rfl : (.f32 : EltTy) = .f32) shapeCasts_S16x32x1_S16x32,
    unary main_v13 main_v14 (broadcastInDim S16x1x32 ![0, 2] bcast_S16x32_S16x1x32_0_2 : (⟨S16x32, .f32⟩ : BufTy).Contents (Elt F) → (⟨S16x1x32, .f32⟩ : BufTy).Contents (Elt F)),
    unary main_arg3 main_v15 ((extractStridedSlice S16x32x1 ![0, 0, 1] · slices_S16x32x4_S16x32x1_0_0_1) : (⟨S16x32x4, .f32⟩ : BufTy).Contents (Elt F) → (⟨S16x32x1, .f32⟩ : BufTy).Contents (Elt F)),
    reshape main_v15 main_v16 (rfl : (.f32 : EltTy) = .f32) shapeCasts_S16x32x1_S16x32,
    unary main_v16 main_v17 (broadcastInDim S16x1x32 ![0, 2] bcast_S16x32_S16x1x32_0_2 : (⟨S16x32, .f32⟩ : BufTy).Contents (Elt F) → (⟨S16x1x32, .f32⟩ : BufTy).Contents (Elt F)),
    unary main_arg3 main_v18 ((extractStridedSlice S16x32x1 ![0, 0, 2] · slices_S16x32x4_S16x32x1_0_0_2) : (⟨S16x32x4, .f32⟩ : BufTy).Contents (Elt F) → (⟨S16x32x1, .f32⟩ : BufTy).Contents (Elt F)),
    reshape main_v18 main_v19 (rfl : (.f32 : EltTy) = .f32) shapeCasts_S16x32x1_S16x32,
    unary main_v19 main_v20 (broadcastInDim S16x1x32 ![0, 2] bcast_S16x32_S16x1x32_0_2 : (⟨S16x32, .f32⟩ : BufTy).Contents (Elt F) → (⟨S16x1x32, .f32⟩ : BufTy).Contents (Elt F)),
    unary main_arg3 main_v21 ((extractStridedSlice S16x32x1 ![0, 0, 3] · slices_S16x32x4_S16x32x1_0_0_3) : (⟨S16x32x4, .f32⟩ : BufTy).Contents (Elt F) → (⟨S16x32x1, .f32⟩ : BufTy).Contents (Elt F)),
    reshape main_v21 main_v22 (rfl : (.f32 : EltTy) = .f32) shapeCasts_S16x32x1_S16x32,
    unary main_v22 main_v23 (broadcastInDim S16x1x32 ![0, 2] bcast_S16x32_S16x1x32_0_2 : (⟨S16x32, .f32⟩ : BufTy).Contents (Elt F) → (⟨S16x1x32, .f32⟩ : BufTy).Contents (Elt F)),
    unary main_v8 main_v24 (broadcastInDim S16x20000x32 ![0, 1, 2] bcast_S1x20000x1_S16x20000x32_0_1_2 : (⟨S1x20000x1, .f32⟩ : BufTy).Contents (Elt F) → (⟨S16x20000x32, .f32⟩ : BufTy).Contents (Elt F)),
    unary main_v20 main_v25 (broadcastInDim S16x20000x32 ![0, 1, 2] bcast_S16x1x32_S16x20000x32_0_1_2 : (⟨S16x1x32, .f32⟩ : BufTy).Contents (Elt F) → (⟨S16x20000x32, .f32⟩ : BufTy).Contents (Elt F)),
    binary main_v24 main_v25 main_v26 (minimumf : (⟨S16x20000x32, .f32⟩ : BufTy).Contents (Elt F) → (⟨S16x20000x32, .f32⟩ : BufTy).Contents (Elt F) → (⟨S16x20000x32, .f32⟩ : BufTy).Contents (Elt F)),
    unary main_v2 main_v27 (broadcastInDim S16x20000x32 ![0, 1, 2] bcast_S1x20000x1_S16x20000x32_0_1_2 : (⟨S1x20000x1, .f32⟩ : BufTy).Contents (Elt F) → (⟨S16x20000x32, .f32⟩ : BufTy).Contents (Elt F)),
    unary main_v14 main_v28 (broadcastInDim S16x20000x32 ![0, 1, 2] bcast_S16x1x32_S16x20000x32_0_1_2 : (⟨S16x1x32, .f32⟩ : BufTy).Contents (Elt F) → (⟨S16x20000x32, .f32⟩ : BufTy).Contents (Elt F)),
    binary main_v27 main_v28 main_v29 (maximumf : (⟨S16x20000x32, .f32⟩ : BufTy).Contents (Elt F) → (⟨S16x20000x32, .f32⟩ : BufTy).Contents (Elt F) → (⟨S16x20000x32, .f32⟩ : BufTy).Contents (Elt F)) ]

/-- @main's operations 31 … 60 of 349 (window `main_part0`). -/
abbrev ops_part0_1 : List (HloOp τ sig (Elt F)) :=
  [ binary main_v26 main_v29 main_v30 (subf : (⟨S16x20000x32, .f32⟩ : BufTy).Contents (Elt F) → (⟨S16x20000x32, .f32⟩ : BufTy).Contents (Elt F) → (⟨S16x20000x32, .f32⟩ : BufTy).Contents (Elt F)),
    nullary main_cst (constant S_ .f32 0x00000000#32),
    unary main_cst main_v31 (broadcastInDim S16x20000x32 ![] bcast_S_S16x20000x32 : (⟨S_, .f32⟩ : BufTy).Contents (Elt F) → (⟨S16x20000x32, .f32⟩ : BufTy).Contents (Elt F)),
    binary main_v30 main_v31 main_v32 (maximumf : (⟨S16x20000x32, .f32⟩ : BufTy).Contents (Elt F) → (⟨S16x20000x32, .f32⟩ : BufTy).Contents (Elt F) → (⟨S16x20000x32, .f32⟩ : BufTy).Contents (Elt F)),
    unary main_v11 main_v33 (broadcastInDim S16x20000x32 ![0, 1, 2] bcast_S1x20000x1_S16x20000x32_0_1_2 : (⟨S1x20000x1, .f32⟩ : BufTy).Contents (Elt F) → (⟨S16x20000x32, .f32⟩ : BufTy).Contents (Elt F)),
    unary main_v23 main_v34 (broadcastInDim S16x20000x32 ![0, 1, 2] bcast_S16x1x32_S16x20000x32_0_1_2 : (⟨S16x1x32, .f32⟩ : BufTy).Contents (Elt F) → (⟨S16x20000x32, .f32⟩ : BufTy).Contents (Elt F)),
    binary main_v33 main_v34 main_v35 (minimumf : (⟨S16x20000x32, .f32⟩ : BufTy).Contents (Elt F) → (⟨S16x20000x32, .f32⟩ : BufTy).Contents (Elt F) → (⟨S16x20000x32, .f32⟩ : BufTy).Contents (Elt F)),
    unary main_v5 main_v36 (broadcastInDim S16x20000x32 ![0, 1, 2] bcast_S1x20000x1_S16x20000x32_0_1_2 : (⟨S1x20000x1, .f32⟩ : BufTy).Contents (Elt F) → (⟨S16x20000x32, .f32⟩ : BufTy).Contents (Elt F)),
    unary main_v17 main_v37 (broadcastInDim S16x20000x32 ![0, 1, 2] bcast_S16x1x32_S16x20000x32_0_1_2 : (⟨S16x1x32, .f32⟩ : BufTy).Contents (Elt F) → (⟨S16x20000x32, .f32⟩ : BufTy).Contents (Elt F)),
    binary main_v36 main_v37 main_v38 (maximumf : (⟨S16x20000x32, .f32⟩ : BufTy).Contents (Elt F) → (⟨S16x20000x32, .f32⟩ : BufTy).Contents (Elt F) → (⟨S16x20000x32, .f32⟩ : BufTy).Contents (Elt F)),
    binary main_v35 main_v38 main_v39 (subf : (⟨S16x20000x32, .f32⟩ : BufTy).Contents (Elt F) → (⟨S16x20000x32, .f32⟩ : BufTy).Contents (Elt F) → (⟨S16x20000x32, .f32⟩ : BufTy).Contents (Elt F)),
    nullary main_cst_0 (constant S_ .f32 0x00000000#32),
    unary main_cst_0 main_v40 (broadcastInDim S16x20000x32 ![] bcast_S_S16x20000x32 : (⟨S_, .f32⟩ : BufTy).Contents (Elt F) → (⟨S16x20000x32, .f32⟩ : BufTy).Contents (Elt F)),
    binary main_v39 main_v40 main_v41 (maximumf : (⟨S16x20000x32, .f32⟩ : BufTy).Contents (Elt F) → (⟨S16x20000x32, .f32⟩ : BufTy).Contents (Elt F) → (⟨S16x20000x32, .f32⟩ : BufTy).Contents (Elt F)),
    binary main_v32 main_v41 main_v42 (mulf : (⟨S16x20000x32, .f32⟩ : BufTy).Contents (Elt F) → (⟨S16x20000x32, .f32⟩ : BufTy).Contents (Elt F) → (⟨S16x20000x32, .f32⟩ : BufTy).Contents (Elt F)),
    binary main_v8 main_v2 main_v43 (subf : (⟨S1x20000x1, .f32⟩ : BufTy).Contents (Elt F) → (⟨S1x20000x1, .f32⟩ : BufTy).Contents (Elt F) → (⟨S1x20000x1, .f32⟩ : BufTy).Contents (Elt F)),
    binary main_v11 main_v5 main_v44 (subf : (⟨S1x20000x1, .f32⟩ : BufTy).Contents (Elt F) → (⟨S1x20000x1, .f32⟩ : BufTy).Contents (Elt F) → (⟨S1x20000x1, .f32⟩ : BufTy).Contents (Elt F)),
    binary main_v43 main_v44 main_v45 (mulf : (⟨S1x20000x1, .f32⟩ : BufTy).Contents (Elt F) → (⟨S1x20000x1, .f32⟩ : BufTy).Contents (Elt F) → (⟨S1x20000x1, .f32⟩ : BufTy).Contents (Elt F)),
    binary main_v20 main_v14 main_v46 (subf : (⟨S16x1x32, .f32⟩ : BufTy).Contents (Elt F) → (⟨S16x1x32, .f32⟩ : BufTy).Contents (Elt F) → (⟨S16x1x32, .f32⟩ : BufTy).Contents (Elt F)),
    binary main_v23 main_v17 main_v47 (subf : (⟨S16x1x32, .f32⟩ : BufTy).Contents (Elt F) → (⟨S16x1x32, .f32⟩ : BufTy).Contents (Elt F) → (⟨S16x1x32, .f32⟩ : BufTy).Contents (Elt F)),
    binary main_v46 main_v47 main_v48 (mulf : (⟨S16x1x32, .f32⟩ : BufTy).Contents (Elt F) → (⟨S16x1x32, .f32⟩ : BufTy).Contents (Elt F) → (⟨S16x1x32, .f32⟩ : BufTy).Contents (Elt F)),
    unary main_v45 main_v49 (broadcastInDim S16x20000x32 ![0, 1, 2] bcast_S1x20000x1_S16x20000x32_0_1_2 : (⟨S1x20000x1, .f32⟩ : BufTy).Contents (Elt F) → (⟨S16x20000x32, .f32⟩ : BufTy).Contents (Elt F)),
    unary main_v48 main_v50 (broadcastInDim S16x20000x32 ![0, 1, 2] bcast_S16x1x32_S16x20000x32_0_1_2 : (⟨S16x1x32, .f32⟩ : BufTy).Contents (Elt F) → (⟨S16x20000x32, .f32⟩ : BufTy).Contents (Elt F)),
    binary main_v49 main_v50 main_v51 (addf : (⟨S16x20000x32, .f32⟩ : BufTy).Contents (Elt F) → (⟨S16x20000x32, .f32⟩ : BufTy).Contents (Elt F) → (⟨S16x20000x32, .f32⟩ : BufTy).Contents (Elt F)),
    binary main_v51 main_v42 main_v52 (subf : (⟨S16x20000x32, .f32⟩ : BufTy).Contents (Elt F) → (⟨S16x20000x32, .f32⟩ : BufTy).Contents (Elt F) → (⟨S16x20000x32, .f32⟩ : BufTy).Contents (Elt F)),
    nullary main_cst_1 (constant S_ .f32 0x33D6BF95#32),
    unary main_cst_1 main_v53 (broadcastInDim S16x20000x32 ![] bcast_S_S16x20000x32 : (⟨S_, .f32⟩ : BufTy).Contents (Elt F) → (⟨S16x20000x32, .f32⟩ : BufTy).Contents (Elt F)),
    binary main_v52 main_v53 main_v54 (addf : (⟨S16x20000x32, .f32⟩ : BufTy).Contents (Elt F) → (⟨S16x20000x32, .f32⟩ : BufTy).Contents (Elt F) → (⟨S16x20000x32, .f32⟩ : BufTy).Contents (Elt F)),
    binary main_v42 main_v54 main_v55 (Host.divf : (⟨S16x20000x32, .f32⟩ : BufTy).Contents (Elt F) → (⟨S16x20000x32, .f32⟩ : BufTy).Contents (Elt F) → (⟨S16x20000x32, .f32⟩ : BufTy).Contents (Elt F)),
    TRef.nullary (TRef.of (T := ⟨S16x20000x32, .i32⟩) main_call0_v0) (iotaInDim S16x20000x32 32 2) ]

/-- @main's operations 61 … 64 of 349 (window `main_part0`). -/
abbrev ops_part0_2 : List (HloOp τ sig (Elt F)) :=
  [ TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S16x20000x32, .f32⟩) main_v55) (TRef.of (T := ⟨S16x20000x32, .i32⟩) main_call0_v0) (TRef.of (T := ⟨S_, .f32⟩) main_call0_cst) (TRef.of (T := ⟨S_, .i32⟩) main_call0_c) (TRef.of (T := ⟨S16x20000, .f32⟩) main_call0_v1_0) (fun x y u v j => (Host.argReduce reducer_argmax_f32_i32 x y u v reducesTo_S16x20000x32_S16x20000_d2 h_S_ j).1),
    TRef.quaternary (TRef.of (T := ⟨S16x20000x32, .f32⟩) main_v55) (TRef.of (T := ⟨S16x20000x32, .i32⟩) main_call0_v0) (TRef.of (T := ⟨S_, .f32⟩) main_call0_cst) (TRef.of (T := ⟨S_, .i32⟩) main_call0_c) (TRef.of (T := ⟨S16x20000, .i32⟩) main_v56) (fun x y u v j => (Host.argReduce reducer_argmax_f32_i32 x y u v reducesTo_S16x20000x32_S16x20000_d2 h_S_ j).2) ]

/-- Window `main_part0`'s operations. Not an abbreviation: `main_eq` below splits `ops` into the windows and no further. -/
def ops_part0 : List (HloOp τ sig (Elt F)) :=
  ops_part0_0 ++ (ops_part0_1 ++ (ops_part0_2))

/-- @main's operations 65 … 94 of 349 (window `main_part1`). -/
abbrev ops_part1_0 : List (HloOp τ sig (Elt F)) :=
  [ TRef.nullary (TRef.of (T := ⟨S16x20000x32, .i32⟩) main_call1_v0) (iotaInDim S16x20000x32 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S16x20000x32, .f32⟩) main_v55) (TRef.of (T := ⟨S16x20000x32, .i32⟩) main_call1_v0) (TRef.of (T := ⟨S_, .f32⟩) main_call1_cst) (TRef.of (T := ⟨S_, .i32⟩) main_call1_c) (TRef.of (T := ⟨S16x32, .f32⟩) main_call1_v1_0) (fun x y u v j => (Host.argReduce reducer_argmax_f32_i32 x y u v reducesTo_S16x20000x32_S16x32_d1 h_S_ j).1),
    TRef.quaternary (TRef.of (T := ⟨S16x20000x32, .f32⟩) main_v55) (TRef.of (T := ⟨S16x20000x32, .i32⟩) main_call1_v0) (TRef.of (T := ⟨S_, .f32⟩) main_call1_cst) (TRef.of (T := ⟨S_, .i32⟩) main_call1_c) (TRef.of (T := ⟨S16x32, .i32⟩) main_v57) (fun x y u v j => (Host.argReduce reducer_argmax_f32_i32 x y u v reducesTo_S16x20000x32_S16x32_d1 h_S_ j).2),
    unary main_v57 main_v58 (broadcastInDim S16x1x32 ![0, 2] bcast_S16x32_S16x1x32_0_2 : (⟨S16x32, .i32⟩ : BufTy).Contents (Elt F) → (⟨S16x1x32, .i32⟩ : BufTy).Contents (Elt F)),
    nullary main_v59 (iotaInDim S20000 32 0),
    unary main_v59 main_v60 (broadcastInDim S1x20000x1 ![1] bcast_S20000_S1x20000x1_1 : (⟨S20000, .i32⟩ : BufTy).Contents (Elt F) → (⟨S1x20000x1, .i32⟩ : BufTy).Contents (Elt F)),
    unary main_v58 main_v61 (broadcastInDim S16x20000x32 ![0, 1, 2] bcast_S16x1x32_S16x20000x32_0_1_2 : (⟨S16x1x32, .i32⟩ : BufTy).Contents (Elt F) → (⟨S16x20000x32, .i32⟩ : BufTy).Contents (Elt F)),
    unary main_v60 main_v62 (broadcastInDim S16x20000x32 ![0, 1, 2] bcast_S1x20000x1_S16x20000x32_0_1_2 : (⟨S1x20000x1, .i32⟩ : BufTy).Contents (Elt F) → (⟨S16x20000x32, .i32⟩ : BufTy).Contents (Elt F)),
    binary main_v61 main_v62 main_v63 (cmpi .eq : (⟨S16x20000x32, .i32⟩ : BufTy).Contents (Elt F) → (⟨S16x20000x32, .i32⟩ : BufTy).Contents (Elt F) → (⟨S16x20000x32, .i1⟩ : BufTy).Contents (Elt F)),
    nullary main_c (constantI S_ 1 0#1),
    binary main_v63 main_c main_v64 ((fun x v => Host.reduce IntOp.ori x v reducesTo_S16x20000x32_S16x20000_d2 h_S_) : (⟨S16x20000x32, .i1⟩ : BufTy).Contents (Elt F) → (⟨S_, .i1⟩ : BufTy).Contents (Elt F) → (⟨S16x20000, .i1⟩ : BufTy).Contents (Elt F)),
    nullary main_cst_2 (constant S_ .f32 0xFF800000#32),
    binary main_v55 main_cst_2 main_v65 ((fun x v => Host.reduce FloatOps.maximumf x v reducesTo_S16x20000x32_S16x20000_d2 h_S_) : (⟨S16x20000x32, .f32⟩ : BufTy).Contents (Elt F) → (⟨S_, .f32⟩ : BufTy).Contents (Elt F) → (⟨S16x20000, .f32⟩ : BufTy).Contents (Elt F)),
    nullary main_cst_3 (constant S_ .f32 0x3F000000#32),
    unary main_cst_3 main_v66 (broadcastInDim S16x20000 ![] bcast_S_S16x20000 : (⟨S_, .f32⟩ : BufTy).Contents (Elt F) → (⟨S16x20000, .f32⟩ : BufTy).Contents (Elt F)),
    binary main_v65 main_v66 main_v67 (cmpf .ogt : (⟨S16x20000, .f32⟩ : BufTy).Contents (Elt F) → (⟨S16x20000, .f32⟩ : BufTy).Contents (Elt F) → (⟨S16x20000, .i1⟩ : BufTy).Contents (Elt F)),
    binary main_v67 main_v64 main_v68 (ori : (⟨S16x20000, .i1⟩ : BufTy).Contents (Elt F) → (⟨S16x20000, .i1⟩ : BufTy).Contents (Elt F) → (⟨S16x20000, .i1⟩ : BufTy).Contents (Elt F)),
    unary main_v68 main_v69 (uitofp .f32 : (⟨S16x20000, .i1⟩ : BufTy).Contents (Elt F) → (⟨S16x20000, .f32⟩ : BufTy).Contents (Elt F)),
    unary main_v68 main_v70 ((extui 32 · natLt_1_32) : (⟨S16x20000, .i1⟩ : BufTy).Contents (Elt F) → (⟨S16x20000, .i32⟩ : BufTy).Contents (Elt F)),
    nullary main_c_4 (constantI S_ 32 0#32),
    binary main_v70 main_c_4 main_v71 ((fun x v => Host.reduce IntOp.addi x v reducesTo_S16x20000_S16_d1 h_S_) : (⟨S16x20000, .i32⟩ : BufTy).Contents (Elt F) → (⟨S_, .i32⟩ : BufTy).Contents (Elt F) → (⟨S16, .i32⟩ : BufTy).Contents (Elt F)),
    unary main_v56 main_v72 (broadcastInDim S16x20000x1 ![0, 1] bcast_S16x20000_S16x20000x1_0_1 : (⟨S16x20000, .i32⟩ : BufTy).Contents (Elt F) → (⟨S16x20000x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S16x20000x1, .i32⟩) main_call2_v0) (broadcastInDim S16x20000x1 ![] bcast_S_S16x20000x1),
    TRef.binary (TRef.of (T := ⟨S16x20000x1, .i32⟩) main_v72) (TRef.of (T := ⟨S16x20000x1, .i32⟩) main_call2_v0) (TRef.of (T := ⟨S16x20000x1, .i1⟩) main_call2_v1) (cmpi .slt),
    TRef.nullary (TRef.of (T := ⟨S_, .i32⟩) main_call2_c_0) (constantI S_ 32 32#32),
    TRef.unary (TRef.of (T := ⟨S_, .i32⟩) main_call2_c_0) (TRef.of (T := ⟨S16x20000x1, .i32⟩) main_call2_v2) (broadcastInDim S16x20000x1 ![] bcast_S_S16x20000x1),
    TRef.binary (TRef.of (T := ⟨S16x20000x1, .i32⟩) main_v72) (TRef.of (T := ⟨S16x20000x1, .i32⟩) main_call2_v2) (TRef.of (T := ⟨S16x20000x1, .i32⟩) main_call2_v3) addi ]

/-- @main's operations 95 … 124 of 349 (window `main_part1`). -/
abbrev ops_part1_1 : List (HloOp τ sig (Elt F)) :=
  [ TRef.ternary (TRef.of (T := ⟨S16x20000x1, .i1⟩) main_call2_v1) (TRef.of (T := ⟨S16x20000x1, .i32⟩) main_call2_v3) (TRef.of (T := ⟨S16x20000x1, .i32⟩) main_v72) (TRef.of (T := ⟨S16x20000x1, .i32⟩) main_call2_v4) select,
    TRef.nullary (TRef.of (T := ⟨S1, .i32⟩) main_call2_c_1) (constantI S1 32 31#32),
    TRef.nullary (TRef.of (T := ⟨S_, .i32⟩) main_call2_c_2) (constantI S_ 32 0#32),
    TRef.unary (TRef.of (T := ⟨S_, .i32⟩) main_call2_c_2) (TRef.of (T := ⟨S16x20000x1, .i32⟩) main_call2_v5) (broadcastInDim S16x20000x1 ![] bcast_S_S16x20000x1),
    TRef.binary (TRef.of (T := ⟨S16x20000x1, .i32⟩) main_call2_v4) (TRef.of (T := ⟨S16x20000x1, .i32⟩) main_call2_v5) (TRef.of (T := ⟨S16x20000x1, .i1⟩) main_call2_v6) (cmpi .sge),
    TRef.unary (TRef.of (T := ⟨S1, .i32⟩) main_call2_c_1) (TRef.of (T := ⟨S1x1x1, .i32⟩) main_call2_v7) (broadcastInDim S1x1x1 ![2] bcast_S1_S1x1x1_2),
    TRef.unary (TRef.of (T := ⟨S1x1x1, .i32⟩) main_call2_v7) (TRef.of (T := ⟨S16x20000x1, .i32⟩) main_call2_v8) (broadcastInDim S16x20000x1 ![0, 1, 2] bcast_S1x1x1_S16x20000x1_0_1_2),
    TRef.binary (TRef.of (T := ⟨S16x20000x1, .i32⟩) main_call2_v4) (TRef.of (T := ⟨S16x20000x1, .i32⟩) main_call2_v8) (TRef.of (T := ⟨S16x20000x1, .i1⟩) main_call2_v9) (cmpi .sle),
    TRef.binary (TRef.of (T := ⟨S16x20000x1, .i1⟩) main_call2_v6) (TRef.of (T := ⟨S16x20000x1, .i1⟩) main_call2_v9) (TRef.of (T := ⟨S16x20000x1, .i1⟩) main_call2_v10) andi,
    TRef.nullary (TRef.of (T := ⟨S_, .i1⟩) main_call2_c_3) (constantI S_ 1 1#1),
    TRef.binary (TRef.of (T := ⟨S16x20000x1, .i1⟩) main_call2_v10) (TRef.of (T := ⟨S_, .i1⟩) main_call2_c_3) (TRef.of (T := ⟨S16x20000, .i1⟩) main_call2_v11) (fun x v => Host.reduce IntOp.andi x v reducesTo_S16x20000x1_S16x20000_d2 h_S_),
    TRef.binary (TRef.of (T := ⟨S16x32x4, .f32⟩) main_arg3) (TRef.of (T := ⟨S16x20000x1, .i32⟩) main_call2_v4) (TRef.of (T := ⟨S16x20000x4, .f32⟩) main_call2_v12) (fun x i => Host.gather gather_S16x32x4_S16x20000x1_S16x20000x4_2_1_0_0_1_2_114 x i),
    TRef.unary (TRef.of (T := ⟨S16x20000, .i1⟩) main_call2_v11) (TRef.of (T := ⟨S16x20000x4, .i1⟩) main_call2_v13) (broadcastInDim S16x20000x4 ![0, 1] bcast_S16x20000_S16x20000x4_0_1),
    TRef.nullary (TRef.of (T := ⟨S_, .f32⟩) main_call2_cst) (constant S_ .f32 0x7FC00000#32),
    TRef.unary (TRef.of (T := ⟨S_, .f32⟩) main_call2_cst) (TRef.of (T := ⟨S16x20000x4, .f32⟩) main_call2_v14) (broadcastInDim S16x20000x4 ![] bcast_S_S16x20000x4),
    TRef.ternary (TRef.of (T := ⟨S16x20000x4, .i1⟩) main_call2_v13) (TRef.of (T := ⟨S16x20000x4, .f32⟩) main_call2_v12) (TRef.of (T := ⟨S16x20000x4, .f32⟩) main_call2_v14) (TRef.of (T := ⟨S16x20000x4, .f32⟩) main_v73) select,
    unary main_arg0 main_v74 ((extractStridedSlice S16x20000x1 ![0, 0, 0] · slices_S16x20000x4_S16x20000x1_0_0_0) : (⟨S16x20000x4, .f32⟩ : BufTy).Contents (Elt F) → (⟨S16x20000x1, .f32⟩ : BufTy).Contents (Elt F)),
    reshape main_v74 main_v75 (rfl : (.f32 : EltTy) = .f32) shapeCasts_S16x20000x1_S16x20000,
    unary main_arg0 main_v76 ((extractStridedSlice S16x20000x1 ![0, 0, 1] · slices_S16x20000x4_S16x20000x1_0_0_1) : (⟨S16x20000x4, .f32⟩ : BufTy).Contents (Elt F) → (⟨S16x20000x1, .f32⟩ : BufTy).Contents (Elt F)),
    reshape main_v76 main_v77 (rfl : (.f32 : EltTy) = .f32) shapeCasts_S16x20000x1_S16x20000,
    unary main_arg0 main_v78 ((extractStridedSlice S16x20000x1 ![0, 0, 2] · slices_S16x20000x4_S16x20000x1_0_0_2) : (⟨S16x20000x4, .f32⟩ : BufTy).Contents (Elt F) → (⟨S16x20000x1, .f32⟩ : BufTy).Contents (Elt F)),
    reshape main_v78 main_v79 (rfl : (.f32 : EltTy) = .f32) shapeCasts_S16x20000x1_S16x20000,
    unary main_arg0 main_v80 ((extractStridedSlice S16x20000x1 ![0, 0, 3] · slices_S16x20000x4_S16x20000x1_0_0_3) : (⟨S16x20000x4, .f32⟩ : BufTy).Contents (Elt F) → (⟨S16x20000x1, .f32⟩ : BufTy).Contents (Elt F)),
    reshape main_v80 main_v81 (rfl : (.f32 : EltTy) = .f32) shapeCasts_S16x20000x1_S16x20000,
    unary main_v73 main_v82 ((extractStridedSlice S16x20000x1 ![0, 0, 0] · slices_S16x20000x4_S16x20000x1_0_0_0) : (⟨S16x20000x4, .f32⟩ : BufTy).Contents (Elt F) → (⟨S16x20000x1, .f32⟩ : BufTy).Contents (Elt F)),
    reshape main_v82 main_v83 (rfl : (.f32 : EltTy) = .f32) shapeCasts_S16x20000x1_S16x20000,
    unary main_v73 main_v84 ((extractStridedSlice S16x20000x1 ![0, 0, 1] · slices_S16x20000x4_S16x20000x1_0_0_1) : (⟨S16x20000x4, .f32⟩ : BufTy).Contents (Elt F) → (⟨S16x20000x1, .f32⟩ : BufTy).Contents (Elt F)),
    reshape main_v84 main_v85 (rfl : (.f32 : EltTy) = .f32) shapeCasts_S16x20000x1_S16x20000,
    unary main_v73 main_v86 ((extractStridedSlice S16x20000x1 ![0, 0, 2] · slices_S16x20000x4_S16x20000x1_0_0_2) : (⟨S16x20000x4, .f32⟩ : BufTy).Contents (Elt F) → (⟨S16x20000x1, .f32⟩ : BufTy).Contents (Elt F)),
    reshape main_v86 main_v87 (rfl : (.f32 : EltTy) = .f32) shapeCasts_S16x20000x1_S16x20000 ]

/-- @main's operations 125 … 149 of 349 (window `main_part1`). -/
abbrev ops_part1_2 : List (HloOp τ sig (Elt F)) :=
  [ unary main_v73 main_v88 ((extractStridedSlice S16x20000x1 ![0, 0, 3] · slices_S16x20000x4_S16x20000x1_0_0_3) : (⟨S16x20000x4, .f32⟩ : BufTy).Contents (Elt F) → (⟨S16x20000x1, .f32⟩ : BufTy).Contents (Elt F)),
    reshape main_v88 main_v89 (rfl : (.f32 : EltTy) = .f32) shapeCasts_S16x20000x1_S16x20000,
    binary main_v75 main_v79 main_v90 (addf : (⟨S16x20000, .f32⟩ : BufTy).Contents (Elt F) → (⟨S16x20000, .f32⟩ : BufTy).Contents (Elt F) → (⟨S16x20000, .f32⟩ : BufTy).Contents (Elt F)),
    nullary main_cst_5 (constant S_ .f32 0x40000000#32),
    unary main_cst_5 main_v91 (broadcastInDim S16x20000 ![] bcast_S_S16x20000 : (⟨S_, .f32⟩ : BufTy).Contents (Elt F) → (⟨S16x20000, .f32⟩ : BufTy).Contents (Elt F)),
    binary main_v90 main_v91 main_v92 (Host.divf : (⟨S16x20000, .f32⟩ : BufTy).Contents (Elt F) → (⟨S16x20000, .f32⟩ : BufTy).Contents (Elt F) → (⟨S16x20000, .f32⟩ : BufTy).Contents (Elt F)),
    binary main_v83 main_v87 main_v93 (addf : (⟨S16x20000, .f32⟩ : BufTy).Contents (Elt F) → (⟨S16x20000, .f32⟩ : BufTy).Contents (Elt F) → (⟨S16x20000, .f32⟩ : BufTy).Contents (Elt F)),
    nullary main_cst_6 (constant S_ .f32 0x40000000#32),
    unary main_cst_6 main_v94 (broadcastInDim S16x20000 ![] bcast_S_S16x20000 : (⟨S_, .f32⟩ : BufTy).Contents (Elt F) → (⟨S16x20000, .f32⟩ : BufTy).Contents (Elt F)),
    binary main_v93 main_v94 main_v95 (Host.divf : (⟨S16x20000, .f32⟩ : BufTy).Contents (Elt F) → (⟨S16x20000, .f32⟩ : BufTy).Contents (Elt F) → (⟨S16x20000, .f32⟩ : BufTy).Contents (Elt F)),
    binary main_v92 main_v95 main_v96 (subf : (⟨S16x20000, .f32⟩ : BufTy).Contents (Elt F) → (⟨S16x20000, .f32⟩ : BufTy).Contents (Elt F) → (⟨S16x20000, .f32⟩ : BufTy).Contents (Elt F)),
    binary main_v77 main_v81 main_v97 (addf : (⟨S16x20000, .f32⟩ : BufTy).Contents (Elt F) → (⟨S16x20000, .f32⟩ : BufTy).Contents (Elt F) → (⟨S16x20000, .f32⟩ : BufTy).Contents (Elt F)),
    nullary main_cst_7 (constant S_ .f32 0x40000000#32),
    unary main_cst_7 main_v98 (broadcastInDim S16x20000 ![] bcast_S_S16x20000 : (⟨S_, .f32⟩ : BufTy).Contents (Elt F) → (⟨S16x20000, .f32⟩ : BufTy).Contents (Elt F)),
    binary main_v97 main_v98 main_v99 (Host.divf : (⟨S16x20000, .f32⟩ : BufTy).Contents (Elt F) → (⟨S16x20000, .f32⟩ : BufTy).Contents (Elt F) → (⟨S16x20000, .f32⟩ : BufTy).Contents (Elt F)),
    binary main_v85 main_v89 main_v100 (addf : (⟨S16x20000, .f32⟩ : BufTy).Contents (Elt F) → (⟨S16x20000, .f32⟩ : BufTy).Contents (Elt F) → (⟨S16x20000, .f32⟩ : BufTy).Contents (Elt F)),
    nullary main_cst_8 (constant S_ .f32 0x40000000#32),
    unary main_cst_8 main_v101 (broadcastInDim S16x20000 ![] bcast_S_S16x20000 : (⟨S_, .f32⟩ : BufTy).Contents (Elt F) → (⟨S16x20000, .f32⟩ : BufTy).Contents (Elt F)),
    binary main_v100 main_v101 main_v102 (Host.divf : (⟨S16x20000, .f32⟩ : BufTy).Contents (Elt F) → (⟨S16x20000, .f32⟩ : BufTy).Contents (Elt F) → (⟨S16x20000, .f32⟩ : BufTy).Contents (Elt F)),
    binary main_v99 main_v102 main_v103 (subf : (⟨S16x20000, .f32⟩ : BufTy).Contents (Elt F) → (⟨S16x20000, .f32⟩ : BufTy).Contents (Elt F) → (⟨S16x20000, .f32⟩ : BufTy).Contents (Elt F)),
    binary main_v79 main_v87 main_v104 (maximumf : (⟨S16x20000, .f32⟩ : BufTy).Contents (Elt F) → (⟨S16x20000, .f32⟩ : BufTy).Contents (Elt F) → (⟨S16x20000, .f32⟩ : BufTy).Contents (Elt F)),
    binary main_v75 main_v83 main_v105 (minimumf : (⟨S16x20000, .f32⟩ : BufTy).Contents (Elt F) → (⟨S16x20000, .f32⟩ : BufTy).Contents (Elt F) → (⟨S16x20000, .f32⟩ : BufTy).Contents (Elt F)),
    binary main_v104 main_v105 main_v106 (subf : (⟨S16x20000, .f32⟩ : BufTy).Contents (Elt F) → (⟨S16x20000, .f32⟩ : BufTy).Contents (Elt F) → (⟨S16x20000, .f32⟩ : BufTy).Contents (Elt F)),
    binary main_v81 main_v89 main_v107 (maximumf : (⟨S16x20000, .f32⟩ : BufTy).Contents (Elt F) → (⟨S16x20000, .f32⟩ : BufTy).Contents (Elt F) → (⟨S16x20000, .f32⟩ : BufTy).Contents (Elt F)),
    binary main_v77 main_v85 main_v108 (minimumf : (⟨S16x20000, .f32⟩ : BufTy).Contents (Elt F) → (⟨S16x20000, .f32⟩ : BufTy).Contents (Elt F) → (⟨S16x20000, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 150 … 209 of 349 (window `main_part2`). -/
abbrev ops_part2 : List (HloOp τ sig (Elt F)) :=
  [ binary main_v107 main_v108 main_v109 (subf : (⟨S16x20000, .f32⟩ : BufTy).Contents (Elt F) → (⟨S16x20000, .f32⟩ : BufTy).Contents (Elt F) → (⟨S16x20000, .f32⟩ : BufTy).Contents (Elt F)),
    binary main_v79 main_v87 main_v110 (minimumf : (⟨S16x20000, .f32⟩ : BufTy).Contents (Elt F) → (⟨S16x20000, .f32⟩ : BufTy).Contents (Elt F) → (⟨S16x20000, .f32⟩ : BufTy).Contents (Elt F)),
    binary main_v75 main_v83 main_v111 (maximumf : (⟨S16x20000, .f32⟩ : BufTy).Contents (Elt F) → (⟨S16x20000, .f32⟩ : BufTy).Contents (Elt F) → (⟨S16x20000, .f32⟩ : BufTy).Contents (Elt F)),
    binary main_v110 main_v111 main_v112 (subf : (⟨S16x20000, .f32⟩ : BufTy).Contents (Elt F) → (⟨S16x20000, .f32⟩ : BufTy).Contents (Elt F) → (⟨S16x20000, .f32⟩ : BufTy).Contents (Elt F)),
    nullary main_cst_9 (constant S_ .f32 0x00000000#32),
    unary main_cst_9 main_v113 (broadcastInDim S16x20000 ![] bcast_S_S16x20000 : (⟨S_, .f32⟩ : BufTy).Contents (Elt F) → (⟨S16x20000, .f32⟩ : BufTy).Contents (Elt F)),
    binary main_v112 main_v113 main_v114 (maximumf : (⟨S16x20000, .f32⟩ : BufTy).Contents (Elt F) → (⟨S16x20000, .f32⟩ : BufTy).Contents (Elt F) → (⟨S16x20000, .f32⟩ : BufTy).Contents (Elt F)),
    binary main_v81 main_v89 main_v115 (minimumf : (⟨S16x20000, .f32⟩ : BufTy).Contents (Elt F) → (⟨S16x20000, .f32⟩ : BufTy).Contents (Elt F) → (⟨S16x20000, .f32⟩ : BufTy).Contents (Elt F)),
    binary main_v77 main_v85 main_v116 (maximumf : (⟨S16x20000, .f32⟩ : BufTy).Contents (Elt F) → (⟨S16x20000, .f32⟩ : BufTy).Contents (Elt F) → (⟨S16x20000, .f32⟩ : BufTy).Contents (Elt F)),
    binary main_v115 main_v116 main_v117 (subf : (⟨S16x20000, .f32⟩ : BufTy).Contents (Elt F) → (⟨S16x20000, .f32⟩ : BufTy).Contents (Elt F) → (⟨S16x20000, .f32⟩ : BufTy).Contents (Elt F)),
    nullary main_cst_10 (constant S_ .f32 0x00000000#32),
    unary main_cst_10 main_v118 (broadcastInDim S16x20000 ![] bcast_S_S16x20000 : (⟨S_, .f32⟩ : BufTy).Contents (Elt F) → (⟨S16x20000, .f32⟩ : BufTy).Contents (Elt F)),
    binary main_v117 main_v118 main_v119 (maximumf : (⟨S16x20000, .f32⟩ : BufTy).Contents (Elt F) → (⟨S16x20000, .f32⟩ : BufTy).Contents (Elt F) → (⟨S16x20000, .f32⟩ : BufTy).Contents (Elt F)),
    binary main_v114 main_v119 main_v120 (mulf : (⟨S16x20000, .f32⟩ : BufTy).Contents (Elt F) → (⟨S16x20000, .f32⟩ : BufTy).Contents (Elt F) → (⟨S16x20000, .f32⟩ : BufTy).Contents (Elt F)),
    binary main_v79 main_v75 main_v121 (subf : (⟨S16x20000, .f32⟩ : BufTy).Contents (Elt F) → (⟨S16x20000, .f32⟩ : BufTy).Contents (Elt F) → (⟨S16x20000, .f32⟩ : BufTy).Contents (Elt F)),
    binary main_v81 main_v77 main_v122 (subf : (⟨S16x20000, .f32⟩ : BufTy).Contents (Elt F) → (⟨S16x20000, .f32⟩ : BufTy).Contents (Elt F) → (⟨S16x20000, .f32⟩ : BufTy).Contents (Elt F)),
    binary main_v121 main_v122 main_v123 (mulf : (⟨S16x20000, .f32⟩ : BufTy).Contents (Elt F) → (⟨S16x20000, .f32⟩ : BufTy).Contents (Elt F) → (⟨S16x20000, .f32⟩ : BufTy).Contents (Elt F)),
    binary main_v87 main_v83 main_v124 (subf : (⟨S16x20000, .f32⟩ : BufTy).Contents (Elt F) → (⟨S16x20000, .f32⟩ : BufTy).Contents (Elt F) → (⟨S16x20000, .f32⟩ : BufTy).Contents (Elt F)),
    binary main_v89 main_v85 main_v125 (subf : (⟨S16x20000, .f32⟩ : BufTy).Contents (Elt F) → (⟨S16x20000, .f32⟩ : BufTy).Contents (Elt F) → (⟨S16x20000, .f32⟩ : BufTy).Contents (Elt F)),
    binary main_v124 main_v125 main_v126 (mulf : (⟨S16x20000, .f32⟩ : BufTy).Contents (Elt F) → (⟨S16x20000, .f32⟩ : BufTy).Contents (Elt F) → (⟨S16x20000, .f32⟩ : BufTy).Contents (Elt F)),
    binary main_v123 main_v126 main_v127 (addf : (⟨S16x20000, .f32⟩ : BufTy).Contents (Elt F) → (⟨S16x20000, .f32⟩ : BufTy).Contents (Elt F) → (⟨S16x20000, .f32⟩ : BufTy).Contents (Elt F)),
    binary main_v127 main_v120 main_v128 (subf : (⟨S16x20000, .f32⟩ : BufTy).Contents (Elt F) → (⟨S16x20000, .f32⟩ : BufTy).Contents (Elt F) → (⟨S16x20000, .f32⟩ : BufTy).Contents (Elt F)),
    nullary main_cst_11 (constant S_ .f32 0x33D6BF95#32),
    unary main_cst_11 main_v129 (broadcastInDim S16x20000 ![] bcast_S_S16x20000 : (⟨S_, .f32⟩ : BufTy).Contents (Elt F) → (⟨S16x20000, .f32⟩ : BufTy).Contents (Elt F)),
    binary main_v128 main_v129 main_v130 (addf : (⟨S16x20000, .f32⟩ : BufTy).Contents (Elt F) → (⟨S16x20000, .f32⟩ : BufTy).Contents (Elt F) → (⟨S16x20000, .f32⟩ : BufTy).Contents (Elt F)),
    binary main_v120 main_v130 main_v131 (Host.divf : (⟨S16x20000, .f32⟩ : BufTy).Contents (Elt F) → (⟨S16x20000, .f32⟩ : BufTy).Contents (Elt F) → (⟨S16x20000, .f32⟩ : BufTy).Contents (Elt F)),
    nullary main_cst_12 (constant S_ .f32 0x3F800000#32),
    unary main_cst_12 main_v132 (broadcastInDim S16x20000 ![] bcast_S_S16x20000 : (⟨S_, .f32⟩ : BufTy).Contents (Elt F) → (⟨S16x20000, .f32⟩ : BufTy).Contents (Elt F)),
    binary main_v132 main_v131 main_v133 (subf : (⟨S16x20000, .f32⟩ : BufTy).Contents (Elt F) → (⟨S16x20000, .f32⟩ : BufTy).Contents (Elt F) → (⟨S16x20000, .f32⟩ : BufTy).Contents (Elt F)),
    binary main_v96 main_v96 main_v134 (mulf : (⟨S16x20000, .f32⟩ : BufTy).Contents (Elt F) → (⟨S16x20000, .f32⟩ : BufTy).Contents (Elt F) → (⟨S16x20000, .f32⟩ : BufTy).Contents (Elt F)),
    binary main_v103 main_v103 main_v135 (mulf : (⟨S16x20000, .f32⟩ : BufTy).Contents (Elt F) → (⟨S16x20000, .f32⟩ : BufTy).Contents (Elt F) → (⟨S16x20000, .f32⟩ : BufTy).Contents (Elt F)),
    binary main_v134 main_v135 main_v136 (addf : (⟨S16x20000, .f32⟩ : BufTy).Contents (Elt F) → (⟨S16x20000, .f32⟩ : BufTy).Contents (Elt F) → (⟨S16x20000, .f32⟩ : BufTy).Contents (Elt F)),
    binary main_v106 main_v106 main_v137 (mulf : (⟨S16x20000, .f32⟩ : BufTy).Contents (Elt F) → (⟨S16x20000, .f32⟩ : BufTy).Contents (Elt F) → (⟨S16x20000, .f32⟩ : BufTy).Contents (Elt F)),
    binary main_v109 main_v109 main_v138 (mulf : (⟨S16x20000, .f32⟩ : BufTy).Contents (Elt F) → (⟨S16x20000, .f32⟩ : BufTy).Contents (Elt F) → (⟨S16x20000, .f32⟩ : BufTy).Contents (Elt F)),
    binary main_v137 main_v138 main_v139 (addf : (⟨S16x20000, .f32⟩ : BufTy).Contents (Elt F) → (⟨S16x20000, .f32⟩ : BufTy).Contents (Elt F) → (⟨S16x20000, .f32⟩ : BufTy).Contents (Elt F)),
    nullary main_cst_13 (constant S_ .f32 0x33D6BF95#32),
    unary main_cst_13 main_v140 (broadcastInDim S16x20000 ![] bcast_S_S16x20000 : (⟨S_, .f32⟩ : BufTy).Contents (Elt F) → (⟨S16x20000, .f32⟩ : BufTy).Contents (Elt F)),
    binary main_v139 main_v140 main_v141 (addf : (⟨S16x20000, .f32⟩ : BufTy).Contents (Elt F) → (⟨S16x20000, .f32⟩ : BufTy).Contents (Elt F) → (⟨S16x20000, .f32⟩ : BufTy).Contents (Elt F)),
    binary main_v136 main_v141 main_v142 (Host.divf : (⟨S16x20000, .f32⟩ : BufTy).Contents (Elt F) → (⟨S16x20000, .f32⟩ : BufTy).Contents (Elt F) → (⟨S16x20000, .f32⟩ : BufTy).Contents (Elt F)),
    binary main_v133 main_v142 main_v143 (addf : (⟨S16x20000, .f32⟩ : BufTy).Contents (Elt F) → (⟨S16x20000, .f32⟩ : BufTy).Contents (Elt F) → (⟨S16x20000, .f32⟩ : BufTy).Contents (Elt F)),
    binary main_v143 main_v69 main_v144 (mulf : (⟨S16x20000, .f32⟩ : BufTy).Contents (Elt F) → (⟨S16x20000, .f32⟩ : BufTy).Contents (Elt F) → (⟨S16x20000, .f32⟩ : BufTy).Contents (Elt F)),
    nullary main_cst_14 (constant S_ .f32 0x00000000#32),
    binary main_v144 main_cst_14 main_v145 ((fun x v => Host.reduceAdd x v reducesTo_S16x20000_S_d0_1 h_S_) : (⟨S16x20000, .f32⟩ : BufTy).Contents (Elt F) → (⟨S_, .f32⟩ : BufTy).Contents (Elt F) → (⟨S_, .f32⟩ : BufTy).Contents (Elt F)),
    nullary main_cst_15 (constant S_ .f32 0x2B8CBCCC#32),
    unary main_cst_15 main_v146 (broadcastInDim S16x20000 ![] bcast_S_S16x20000 : (⟨S_, .f32⟩ : BufTy).Contents (Elt F) → (⟨S16x20000, .f32⟩ : BufTy).Contents (Elt F)),
    binary main_arg1 main_v146 main_v147 (addf : (⟨S16x20000, .f32⟩ : BufTy).Contents (Elt F) → (⟨S16x20000, .f32⟩ : BufTy).Contents (Elt F) → (⟨S16x20000, .f32⟩ : BufTy).Contents (Elt F)),
    unary main_v147 main_v148 (Host.log : (⟨S16x20000, .f32⟩ : BufTy).Contents (Elt F) → (⟨S16x20000, .f32⟩ : BufTy).Contents (Elt F)),
    binary main_v69 main_v148 main_v149 (mulf : (⟨S16x20000, .f32⟩ : BufTy).Contents (Elt F) → (⟨S16x20000, .f32⟩ : BufTy).Contents (Elt F) → (⟨S16x20000, .f32⟩ : BufTy).Contents (Elt F)),
    nullary main_cst_16 (constant S_ .f32 0x3F800000#32),
    unary main_cst_16 main_v150 (broadcastInDim S16x20000 ![] bcast_S_S16x20000 : (⟨S_, .f32⟩ : BufTy).Contents (Elt F) → (⟨S16x20000, .f32⟩ : BufTy).Contents (Elt F)),
    binary main_v150 main_v69 main_v151 (subf : (⟨S16x20000, .f32⟩ : BufTy).Contents (Elt F) → (⟨S16x20000, .f32⟩ : BufTy).Contents (Elt F) → (⟨S16x20000, .f32⟩ : BufTy).Contents (Elt F)),
    nullary main_cst_17 (constant S_ .f32 0x3F800000#32),
    unary main_cst_17 main_v152 (broadcastInDim S16x20000 ![] bcast_S_S16x20000 : (⟨S_, .f32⟩ : BufTy).Contents (Elt F) → (⟨S16x20000, .f32⟩ : BufTy).Contents (Elt F)),
    binary main_v152 main_arg1 main_v153 (subf : (⟨S16x20000, .f32⟩ : BufTy).Contents (Elt F) → (⟨S16x20000, .f32⟩ : BufTy).Contents (Elt F) → (⟨S16x20000, .f32⟩ : BufTy).Contents (Elt F)),
    nullary main_cst_18 (constant S_ .f32 0x2B8CBCCC#32),
    unary main_cst_18 main_v154 (broadcastInDim S16x20000 ![] bcast_S_S16x20000 : (⟨S_, .f32⟩ : BufTy).Contents (Elt F) → (⟨S16x20000, .f32⟩ : BufTy).Contents (Elt F)),
    binary main_v153 main_v154 main_v155 (addf : (⟨S16x20000, .f32⟩ : BufTy).Contents (Elt F) → (⟨S16x20000, .f32⟩ : BufTy).Contents (Elt F) → (⟨S16x20000, .f32⟩ : BufTy).Contents (Elt F)),
    unary main_v155 main_v156 (Host.log : (⟨S16x20000, .f32⟩ : BufTy).Contents (Elt F) → (⟨S16x20000, .f32⟩ : BufTy).Contents (Elt F)),
    binary main_v151 main_v156 main_v157 (mulf : (⟨S16x20000, .f32⟩ : BufTy).Contents (Elt F) → (⟨S16x20000, .f32⟩ : BufTy).Contents (Elt F) → (⟨S16x20000, .f32⟩ : BufTy).Contents (Elt F)),
    binary main_v149 main_v157 main_v158 (addf : (⟨S16x20000, .f32⟩ : BufTy).Contents (Elt F) → (⟨S16x20000, .f32⟩ : BufTy).Contents (Elt F) → (⟨S16x20000, .f32⟩ : BufTy).Contents (Elt F)) ]

/-- @main's operations 210 … 269 of 349 (window `main_part3`). -/
abbrev ops_part3 : List (HloOp τ sig (Elt F)) :=
  [ unary main_v158 main_v159 (Host.negf : (⟨S16x20000, .f32⟩ : BufTy).Contents (Elt F) → (⟨S16x20000, .f32⟩ : BufTy).Contents (Elt F)),
    nullary main_cst_19 (constant S_ .f32 0x3F800000#32),
    unary main_cst_19 main_v160 (broadcastInDim S16x20000 ![] bcast_S_S16x20000 : (⟨S_, .f32⟩ : BufTy).Contents (Elt F) → (⟨S16x20000, .f32⟩ : BufTy).Contents (Elt F)),
    binary main_v160 main_v69 main_v161 (subf : (⟨S16x20000, .f32⟩ : BufTy).Contents (Elt F) → (⟨S16x20000, .f32⟩ : BufTy).Contents (Elt F) → (⟨S16x20000, .f32⟩ : BufTy).Contents (Elt F)),
    binary main_v159 main_v161 main_v162 (mulf : (⟨S16x20000, .f32⟩ : BufTy).Contents (Elt F) → (⟨S16x20000, .f32⟩ : BufTy).Contents (Elt F) → (⟨S16x20000, .f32⟩ : BufTy).Contents (Elt F)),
    nullary main_c_20 (constantI S_ 32 3#32),
    unary main_c_20 main_v163 (broadcastInDim S16 ![] bcast_S_S16 : (⟨S_, .i32⟩ : BufTy).Contents (Elt F) → (⟨S16, .i32⟩ : BufTy).Contents (Elt F)),
    binary main_v71 main_v163 main_v164 (muli : (⟨S16, .i32⟩ : BufTy).Contents (Elt F) → (⟨S16, .i32⟩ : BufTy).Contents (Elt F) → (⟨S16, .i32⟩ : BufTy).Contents (Elt F)),
    nullary main_c_21 (constantI S_ 32 20000#32),
    unary main_c_21 main_v165 (broadcastInDim S16 ![] bcast_S_S16 : (⟨S_, .i32⟩ : BufTy).Contents (Elt F) → (⟨S16, .i32⟩ : BufTy).Contents (Elt F)),
    binary main_v165 main_v71 main_v166 (subi : (⟨S16, .i32⟩ : BufTy).Contents (Elt F) → (⟨S16, .i32⟩ : BufTy).Contents (Elt F) → (⟨S16, .i32⟩ : BufTy).Contents (Elt F)),
    binary main_v164 main_v166 main_v167 (minsi : (⟨S16, .i32⟩ : BufTy).Contents (Elt F) → (⟨S16, .i32⟩ : BufTy).Contents (Elt F) → (⟨S16, .i32⟩ : BufTy).Contents (Elt F)),
    nullary main_cst_22 (constant S_ .f32 0x3F800000#32),
    unary main_cst_22 main_v168 (broadcastInDim S16x20000 ![] bcast_S_S16x20000 : (⟨S_, .f32⟩ : BufTy).Contents (Elt F) → (⟨S16x20000, .f32⟩ : BufTy).Contents (Elt F)),
    binary main_v168 main_arg1 main_v169 (subf : (⟨S16x20000, .f32⟩ : BufTy).Contents (Elt F) → (⟨S16x20000, .f32⟩ : BufTy).Contents (Elt F) → (⟨S16x20000, .f32⟩ : BufTy).Contents (Elt F)),
    nullary main_cst_23 (constant S_ .f32 0x2EDBE6FF#32),
    unary main_cst_23 main_v170 (broadcastInDim S16x20000 ![] bcast_S_S16x20000 : (⟨S_, .f32⟩ : BufTy).Contents (Elt F) → (⟨S16x20000, .f32⟩ : BufTy).Contents (Elt F)),
    binary main_v169 main_v170 main_v171 (addf : (⟨S16x20000, .f32⟩ : BufTy).Contents (Elt F) → (⟨S16x20000, .f32⟩ : BufTy).Contents (Elt F) → (⟨S16x20000, .f32⟩ : BufTy).Contents (Elt F)),
    binary main_arg1 main_v171 main_v172 (Host.divf : (⟨S16x20000, .f32⟩ : BufTy).Contents (Elt F) → (⟨S16x20000, .f32⟩ : BufTy).Contents (Elt F) → (⟨S16x20000, .f32⟩ : BufTy).Contents (Elt F)),
    unary main_v172 main_v173 (Host.log : (⟨S16x20000, .f32⟩ : BufTy).Contents (Elt F) → (⟨S16x20000, .f32⟩ : BufTy).Contents (Elt F)),
    nullary main_cst_24 (constant S_ .f32 0x3F800000#32),
    unary main_cst_24 main_v174 (broadcastInDim S16x20000 ![] bcast_S_S16x20000 : (⟨S_, .f32⟩ : BufTy).Contents (Elt F) → (⟨S16x20000, .f32⟩ : BufTy).Contents (Elt F)),
    unary main_v173 main_v175 (Host.negf : (⟨S16x20000, .f32⟩ : BufTy).Contents (Elt F) → (⟨S16x20000, .f32⟩ : BufTy).Contents (Elt F)),
    unary main_v175 main_v176 (Host.exp : (⟨S16x20000, .f32⟩ : BufTy).Contents (Elt F) → (⟨S16x20000, .f32⟩ : BufTy).Contents (Elt F)),
    nullary main_cst_25 (constant S_ .f32 0x3F800000#32),
    unary main_cst_25 main_v177 (broadcastInDim S16x20000 ![] bcast_S_S16x20000 : (⟨S_, .f32⟩ : BufTy).Contents (Elt F) → (⟨S16x20000, .f32⟩ : BufTy).Contents (Elt F)),
    binary main_v177 main_v176 main_v178 (addf : (⟨S16x20000, .f32⟩ : BufTy).Contents (Elt F) → (⟨S16x20000, .f32⟩ : BufTy).Contents (Elt F) → (⟨S16x20000, .f32⟩ : BufTy).Contents (Elt F)),
    nullary main_cst_26 (constant S_ .f32 0x3F800000#32),
    unary main_cst_26 main_v179 (broadcastInDim S16x20000 ![] bcast_S_S16x20000 : (⟨S_, .f32⟩ : BufTy).Contents (Elt F) → (⟨S16x20000, .f32⟩ : BufTy).Contents (Elt F)),
    binary main_v179 main_v178 main_v180 (Host.divf : (⟨S16x20000, .f32⟩ : BufTy).Contents (Elt F) → (⟨S16x20000, .f32⟩ : BufTy).Contents (Elt F) → (⟨S16x20000, .f32⟩ : BufTy).Contents (Elt F)),
    nullary main_cst_27 (constant S_ .f32 0x00000000#32),
    unary main_cst_27 main_v181 (broadcastInDim S16x20000 ![] bcast_S_S16x20000 : (⟨S_, .f32⟩ : BufTy).Contents (Elt F) → (⟨S16x20000, .f32⟩ : BufTy).Contents (Elt F)),
    binary main_v173 main_v181 main_v182 (maximumf : (⟨S16x20000, .f32⟩ : BufTy).Contents (Elt F) → (⟨S16x20000, .f32⟩ : BufTy).Contents (Elt F) → (⟨S16x20000, .f32⟩ : BufTy).Contents (Elt F)),
    binary main_v173 main_v174 main_v183 (mulf : (⟨S16x20000, .f32⟩ : BufTy).Contents (Elt F) → (⟨S16x20000, .f32⟩ : BufTy).Contents (Elt F) → (⟨S16x20000, .f32⟩ : BufTy).Contents (Elt F)),
    binary main_v182 main_v183 main_v184 (subf : (⟨S16x20000, .f32⟩ : BufTy).Contents (Elt F) → (⟨S16x20000, .f32⟩ : BufTy).Contents (Elt F) → (⟨S16x20000, .f32⟩ : BufTy).Contents (Elt F)),
    unary main_v173 main_v185 (Host.absf : (⟨S16x20000, .f32⟩ : BufTy).Contents (Elt F) → (⟨S16x20000, .f32⟩ : BufTy).Contents (Elt F)),
    unary main_v185 main_v186 (Host.negf : (⟨S16x20000, .f32⟩ : BufTy).Contents (Elt F) → (⟨S16x20000, .f32⟩ : BufTy).Contents (Elt F)),
    unary main_v186 main_v187 (Host.exp : (⟨S16x20000, .f32⟩ : BufTy).Contents (Elt F) → (⟨S16x20000, .f32⟩ : BufTy).Contents (Elt F)),
    unary main_v187 main_v188 (Host.log1p : (⟨S16x20000, .f32⟩ : BufTy).Contents (Elt F) → (⟨S16x20000, .f32⟩ : BufTy).Contents (Elt F)),
    binary main_v184 main_v188 main_v189 (addf : (⟨S16x20000, .f32⟩ : BufTy).Contents (Elt F) → (⟨S16x20000, .f32⟩ : BufTy).Contents (Elt F) → (⟨S16x20000, .f32⟩ : BufTy).Contents (Elt F)),
    binary main_v180 main_v174 main_v190 (mulf : (⟨S16x20000, .f32⟩ : BufTy).Contents (Elt F) → (⟨S16x20000, .f32⟩ : BufTy).Contents (Elt F) → (⟨S16x20000, .f32⟩ : BufTy).Contents (Elt F)),
    nullary main_cst_28 (constant S_ .f32 0x3F800000#32),
    unary main_cst_28 main_v191 (broadcastInDim S16x20000 ![] bcast_S_S16x20000 : (⟨S_, .f32⟩ : BufTy).Contents (Elt F) → (⟨S16x20000, .f32⟩ : BufTy).Contents (Elt F)),
    binary main_v191 main_v180 main_v192 (subf : (⟨S16x20000, .f32⟩ : BufTy).Contents (Elt F) → (⟨S16x20000, .f32⟩ : BufTy).Contents (Elt F) → (⟨S16x20000, .f32⟩ : BufTy).Contents (Elt F)),
    nullary main_cst_29 (constant S_ .f32 0x3F800000#32),
    unary main_cst_29 main_v193 (broadcastInDim S16x20000 ![] bcast_S_S16x20000 : (⟨S_, .f32⟩ : BufTy).Contents (Elt F) → (⟨S16x20000, .f32⟩ : BufTy).Contents (Elt F)),
    binary main_v193 main_v174 main_v194 (subf : (⟨S16x20000, .f32⟩ : BufTy).Contents (Elt F) → (⟨S16x20000, .f32⟩ : BufTy).Contents (Elt F) → (⟨S16x20000, .f32⟩ : BufTy).Contents (Elt F)),
    binary main_v192 main_v194 main_v195 (mulf : (⟨S16x20000, .f32⟩ : BufTy).Contents (Elt F) → (⟨S16x20000, .f32⟩ : BufTy).Contents (Elt F) → (⟨S16x20000, .f32⟩ : BufTy).Contents (Elt F)),
    binary main_v190 main_v195 main_v196 (addf : (⟨S16x20000, .f32⟩ : BufTy).Contents (Elt F) → (⟨S16x20000, .f32⟩ : BufTy).Contents (Elt F) → (⟨S16x20000, .f32⟩ : BufTy).Contents (Elt F)),
    nullary main_cst_30 (constant S_ .f32 0x3E800000#32),
    unary main_cst_30 main_v197 (broadcastInDim S16x20000 ![] bcast_S_S16x20000 : (⟨S_, .f32⟩ : BufTy).Contents (Elt F) → (⟨S16x20000, .f32⟩ : BufTy).Contents (Elt F)),
    binary main_v197 main_v174 main_v198 (mulf : (⟨S16x20000, .f32⟩ : BufTy).Contents (Elt F) → (⟨S16x20000, .f32⟩ : BufTy).Contents (Elt F) → (⟨S16x20000, .f32⟩ : BufTy).Contents (Elt F)),
    nullary main_cst_31 (constant S_ .f32 0x3F800000#32),
    unary main_cst_31 main_v199 (broadcastInDim S16x20000 ![] bcast_S_S16x20000 : (⟨S_, .f32⟩ : BufTy).Contents (Elt F) → (⟨S16x20000, .f32⟩ : BufTy).Contents (Elt F)),
    binary main_v199 main_v174 main_v200 (subf : (⟨S16x20000, .f32⟩ : BufTy).Contents (Elt F) → (⟨S16x20000, .f32⟩ : BufTy).Contents (Elt F) → (⟨S16x20000, .f32⟩ : BufTy).Contents (Elt F)),
    nullary main_cst_32 (constant S_ .f32 0x3F400000#32),
    unary main_cst_32 main_v201 (broadcastInDim S16x20000 ![] bcast_S_S16x20000 : (⟨S_, .f32⟩ : BufTy).Contents (Elt F) → (⟨S16x20000, .f32⟩ : BufTy).Contents (Elt F)),
    binary main_v201 main_v200 main_v202 (mulf : (⟨S16x20000, .f32⟩ : BufTy).Contents (Elt F) → (⟨S16x20000, .f32⟩ : BufTy).Contents (Elt F) → (⟨S16x20000, .f32⟩ : BufTy).Contents (Elt F)),
    binary main_v198 main_v202 main_v203 (addf : (⟨S16x20000, .f32⟩ : BufTy).Contents (Elt F) → (⟨S16x20000, .f32⟩ : BufTy).Contents (Elt F) → (⟨S16x20000, .f32⟩ : BufTy).Contents (Elt F)),
    nullary main_cst_33 (constant S_ .f32 0x3F800000#32) ]

/-- @main's operations 270 … 329 of 349 (window `main_part4`). -/
abbrev ops_part4 : List (HloOp τ sig (Elt F)) :=
  [ unary main_cst_33 main_v204 (broadcastInDim S16x20000 ![] bcast_S_S16x20000 : (⟨S_, .f32⟩ : BufTy).Contents (Elt F) → (⟨S16x20000, .f32⟩ : BufTy).Contents (Elt F)),
    binary main_v204 main_v196 main_v205 (subf : (⟨S16x20000, .f32⟩ : BufTy).Contents (Elt F) → (⟨S16x20000, .f32⟩ : BufTy).Contents (Elt F) → (⟨S16x20000, .f32⟩ : BufTy).Contents (Elt F)),
    binary main_v205 main_v205 main_v206 (mulf : (⟨S16x20000, .f32⟩ : BufTy).Contents (Elt F) → (⟨S16x20000, .f32⟩ : BufTy).Contents (Elt F) → (⟨S16x20000, .f32⟩ : BufTy).Contents (Elt F)),
    binary main_v203 main_v206 main_v207 (mulf : (⟨S16x20000, .f32⟩ : BufTy).Contents (Elt F) → (⟨S16x20000, .f32⟩ : BufTy).Contents (Elt F) → (⟨S16x20000, .f32⟩ : BufTy).Contents (Elt F)),
    binary main_v207 main_v189 main_v208 (mulf : (⟨S16x20000, .f32⟩ : BufTy).Contents (Elt F) → (⟨S16x20000, .f32⟩ : BufTy).Contents (Elt F) → (⟨S16x20000, .f32⟩ : BufTy).Contents (Elt F)),
    nullary main_cst_34 (constant S_ .f32 0x00000000#32),
    unary main_cst_34 main_v209 (broadcastInDim S16x20000 ![] bcast_S_S16x20000 : (⟨S_, .f32⟩ : BufTy).Contents (Elt F) → (⟨S16x20000, .f32⟩ : BufTy).Contents (Elt F)),
    unary main_v173 main_v210 (Host.negf : (⟨S16x20000, .f32⟩ : BufTy).Contents (Elt F) → (⟨S16x20000, .f32⟩ : BufTy).Contents (Elt F)),
    unary main_v210 main_v211 (Host.exp : (⟨S16x20000, .f32⟩ : BufTy).Contents (Elt F) → (⟨S16x20000, .f32⟩ : BufTy).Contents (Elt F)),
    nullary main_cst_35 (constant S_ .f32 0x3F800000#32),
    unary main_cst_35 main_v212 (broadcastInDim S16x20000 ![] bcast_S_S16x20000 : (⟨S_, .f32⟩ : BufTy).Contents (Elt F) → (⟨S16x20000, .f32⟩ : BufTy).Contents (Elt F)),
    binary main_v212 main_v211 main_v213 (addf : (⟨S16x20000, .f32⟩ : BufTy).Contents (Elt F) → (⟨S16x20000, .f32⟩ : BufTy).Contents (Elt F) → (⟨S16x20000, .f32⟩ : BufTy).Contents (Elt F)),
    nullary main_cst_36 (constant S_ .f32 0x3F800000#32),
    unary main_cst_36 main_v214 (broadcastInDim S16x20000 ![] bcast_S_S16x20000 : (⟨S_, .f32⟩ : BufTy).Contents (Elt F) → (⟨S16x20000, .f32⟩ : BufTy).Contents (Elt F)),
    binary main_v214 main_v213 main_v215 (Host.divf : (⟨S16x20000, .f32⟩ : BufTy).Contents (Elt F) → (⟨S16x20000, .f32⟩ : BufTy).Contents (Elt F) → (⟨S16x20000, .f32⟩ : BufTy).Contents (Elt F)),
    nullary main_cst_37 (constant S_ .f32 0x00000000#32),
    unary main_cst_37 main_v216 (broadcastInDim S16x20000 ![] bcast_S_S16x20000 : (⟨S_, .f32⟩ : BufTy).Contents (Elt F) → (⟨S16x20000, .f32⟩ : BufTy).Contents (Elt F)),
    binary main_v173 main_v216 main_v217 (maximumf : (⟨S16x20000, .f32⟩ : BufTy).Contents (Elt F) → (⟨S16x20000, .f32⟩ : BufTy).Contents (Elt F) → (⟨S16x20000, .f32⟩ : BufTy).Contents (Elt F)),
    binary main_v173 main_v209 main_v218 (mulf : (⟨S16x20000, .f32⟩ : BufTy).Contents (Elt F) → (⟨S16x20000, .f32⟩ : BufTy).Contents (Elt F) → (⟨S16x20000, .f32⟩ : BufTy).Contents (Elt F)),
    binary main_v217 main_v218 main_v219 (subf : (⟨S16x20000, .f32⟩ : BufTy).Contents (Elt F) → (⟨S16x20000, .f32⟩ : BufTy).Contents (Elt F) → (⟨S16x20000, .f32⟩ : BufTy).Contents (Elt F)),
    unary main_v173 main_v220 (Host.absf : (⟨S16x20000, .f32⟩ : BufTy).Contents (Elt F) → (⟨S16x20000, .f32⟩ : BufTy).Contents (Elt F)),
    unary main_v220 main_v221 (Host.negf : (⟨S16x20000, .f32⟩ : BufTy).Contents (Elt F) → (⟨S16x20000, .f32⟩ : BufTy).Contents (Elt F)),
    unary main_v221 main_v222 (Host.exp : (⟨S16x20000, .f32⟩ : BufTy).Contents (Elt F) → (⟨S16x20000, .f32⟩ : BufTy).Contents (Elt F)),
    unary main_v222 main_v223 (Host.log1p : (⟨S16x20000, .f32⟩ : BufTy).Contents (Elt F) → (⟨S16x20000, .f32⟩ : BufTy).Contents (Elt F)),
    binary main_v219 main_v223 main_v224 (addf : (⟨S16x20000, .f32⟩ : BufTy).Contents (Elt F) → (⟨S16x20000, .f32⟩ : BufTy).Contents (Elt F) → (⟨S16x20000, .f32⟩ : BufTy).Contents (Elt F)),
    binary main_v215 main_v209 main_v225 (mulf : (⟨S16x20000, .f32⟩ : BufTy).Contents (Elt F) → (⟨S16x20000, .f32⟩ : BufTy).Contents (Elt F) → (⟨S16x20000, .f32⟩ : BufTy).Contents (Elt F)),
    nullary main_cst_38 (constant S_ .f32 0x3F800000#32),
    unary main_cst_38 main_v226 (broadcastInDim S16x20000 ![] bcast_S_S16x20000 : (⟨S_, .f32⟩ : BufTy).Contents (Elt F) → (⟨S16x20000, .f32⟩ : BufTy).Contents (Elt F)),
    binary main_v226 main_v215 main_v227 (subf : (⟨S16x20000, .f32⟩ : BufTy).Contents (Elt F) → (⟨S16x20000, .f32⟩ : BufTy).Contents (Elt F) → (⟨S16x20000, .f32⟩ : BufTy).Contents (Elt F)),
    nullary main_cst_39 (constant S_ .f32 0x3F800000#32),
    unary main_cst_39 main_v228 (broadcastInDim S16x20000 ![] bcast_S_S16x20000 : (⟨S_, .f32⟩ : BufTy).Contents (Elt F) → (⟨S16x20000, .f32⟩ : BufTy).Contents (Elt F)),
    binary main_v228 main_v209 main_v229 (subf : (⟨S16x20000, .f32⟩ : BufTy).Contents (Elt F) → (⟨S16x20000, .f32⟩ : BufTy).Contents (Elt F) → (⟨S16x20000, .f32⟩ : BufTy).Contents (Elt F)),
    binary main_v227 main_v229 main_v230 (mulf : (⟨S16x20000, .f32⟩ : BufTy).Contents (Elt F) → (⟨S16x20000, .f32⟩ : BufTy).Contents (Elt F) → (⟨S16x20000, .f32⟩ : BufTy).Contents (Elt F)),
    binary main_v225 main_v230 main_v231 (addf : (⟨S16x20000, .f32⟩ : BufTy).Contents (Elt F) → (⟨S16x20000, .f32⟩ : BufTy).Contents (Elt F) → (⟨S16x20000, .f32⟩ : BufTy).Contents (Elt F)),
    nullary main_cst_40 (constant S_ .f32 0x3E800000#32),
    unary main_cst_40 main_v232 (broadcastInDim S16x20000 ![] bcast_S_S16x20000 : (⟨S_, .f32⟩ : BufTy).Contents (Elt F) → (⟨S16x20000, .f32⟩ : BufTy).Contents (Elt F)),
    binary main_v232 main_v209 main_v233 (mulf : (⟨S16x20000, .f32⟩ : BufTy).Contents (Elt F) → (⟨S16x20000, .f32⟩ : BufTy).Contents (Elt F) → (⟨S16x20000, .f32⟩ : BufTy).Contents (Elt F)),
    nullary main_cst_41 (constant S_ .f32 0x3F800000#32),
    unary main_cst_41 main_v234 (broadcastInDim S16x20000 ![] bcast_S_S16x20000 : (⟨S_, .f32⟩ : BufTy).Contents (Elt F) → (⟨S16x20000, .f32⟩ : BufTy).Contents (Elt F)),
    binary main_v234 main_v209 main_v235 (subf : (⟨S16x20000, .f32⟩ : BufTy).Contents (Elt F) → (⟨S16x20000, .f32⟩ : BufTy).Contents (Elt F) → (⟨S16x20000, .f32⟩ : BufTy).Contents (Elt F)),
    nullary main_cst_42 (constant S_ .f32 0x3F400000#32),
    unary main_cst_42 main_v236 (broadcastInDim S16x20000 ![] bcast_S_S16x20000 : (⟨S_, .f32⟩ : BufTy).Contents (Elt F) → (⟨S16x20000, .f32⟩ : BufTy).Contents (Elt F)),
    binary main_v236 main_v235 main_v237 (mulf : (⟨S16x20000, .f32⟩ : BufTy).Contents (Elt F) → (⟨S16x20000, .f32⟩ : BufTy).Contents (Elt F) → (⟨S16x20000, .f32⟩ : BufTy).Contents (Elt F)),
    binary main_v233 main_v237 main_v238 (addf : (⟨S16x20000, .f32⟩ : BufTy).Contents (Elt F) → (⟨S16x20000, .f32⟩ : BufTy).Contents (Elt F) → (⟨S16x20000, .f32⟩ : BufTy).Contents (Elt F)),
    nullary main_cst_43 (constant S_ .f32 0x3F800000#32),
    unary main_cst_43 main_v239 (broadcastInDim S16x20000 ![] bcast_S_S16x20000 : (⟨S_, .f32⟩ : BufTy).Contents (Elt F) → (⟨S16x20000, .f32⟩ : BufTy).Contents (Elt F)),
    binary main_v239 main_v231 main_v240 (subf : (⟨S16x20000, .f32⟩ : BufTy).Contents (Elt F) → (⟨S16x20000, .f32⟩ : BufTy).Contents (Elt F) → (⟨S16x20000, .f32⟩ : BufTy).Contents (Elt F)),
    binary main_v240 main_v240 main_v241 (mulf : (⟨S16x20000, .f32⟩ : BufTy).Contents (Elt F) → (⟨S16x20000, .f32⟩ : BufTy).Contents (Elt F) → (⟨S16x20000, .f32⟩ : BufTy).Contents (Elt F)),
    binary main_v238 main_v241 main_v242 (mulf : (⟨S16x20000, .f32⟩ : BufTy).Contents (Elt F) → (⟨S16x20000, .f32⟩ : BufTy).Contents (Elt F) → (⟨S16x20000, .f32⟩ : BufTy).Contents (Elt F)),
    binary main_v242 main_v224 main_v243 (mulf : (⟨S16x20000, .f32⟩ : BufTy).Contents (Elt F) → (⟨S16x20000, .f32⟩ : BufTy).Contents (Elt F) → (⟨S16x20000, .f32⟩ : BufTy).Contents (Elt F)),
    unary main_v162 main_v244 (Host.negf : (⟨S16x20000, .f32⟩ : BufTy).Contents (Elt F) → (⟨S16x20000, .f32⟩ : BufTy).Contents (Elt F)),
    binary main_v244 main_v243 main_v245_0 ((fun x y => (Host.sort2 S16x20000 1 comparator_f32_f32_d1 x y).1) : (⟨S16x20000, .f32⟩ : BufTy).Contents (Elt F) → (⟨S16x20000, .f32⟩ : BufTy).Contents (Elt F) → (⟨S16x20000, .f32⟩ : BufTy).Contents (Elt F)),
    binary main_v244 main_v243 main_v245_1 ((fun x y => (Host.sort2 S16x20000 1 comparator_f32_f32_d1 x y).2) : (⟨S16x20000, .f32⟩ : BufTy).Contents (Elt F) → (⟨S16x20000, .f32⟩ : BufTy).Contents (Elt F) → (⟨S16x20000, .f32⟩ : BufTy).Contents (Elt F)),
    nullary main_v246 (iotaInDim S20000 32 0),
    unary main_v246 main_v247 (broadcastInDim S1x20000 ![1] bcast_S20000_S1x20000_1 : (⟨S20000, .i32⟩ : BufTy).Contents (Elt F) → (⟨S1x20000, .i32⟩ : BufTy).Contents (Elt F)),
    unary main_v167 main_v248 (broadcastInDim S16x1 ![0] bcast_S16_S16x1_0 : (⟨S16, .i32⟩ : BufTy).Contents (Elt F) → (⟨S16x1, .i32⟩ : BufTy).Contents (Elt F)),
    unary main_v247 main_v249 (broadcastInDim S16x20000 ![0, 1] bcast_S1x20000_S16x20000_0_1 : (⟨S1x20000, .i32⟩ : BufTy).Contents (Elt F) → (⟨S16x20000, .i32⟩ : BufTy).Contents (Elt F)),
    unary main_v248 main_v250 (broadcastInDim S16x20000 ![0, 1] bcast_S16x1_S16x20000_0_1 : (⟨S16x1, .i32⟩ : BufTy).Contents (Elt F) → (⟨S16x20000, .i32⟩ : BufTy).Contents (Elt F)),
    binary main_v249 main_v250 main_v251 (cmpi .slt : (⟨S16x20000, .i32⟩ : BufTy).Contents (Elt F) → (⟨S16x20000, .i32⟩ : BufTy).Contents (Elt F) → (⟨S16x20000, .i1⟩ : BufTy).Contents (Elt F)),
    unary main_v251 main_v252 (uitofp .f32 : (⟨S16x20000, .i1⟩ : BufTy).Contents (Elt F) → (⟨S16x20000, .f32⟩ : BufTy).Contents (Elt F)) ]

/-- @main's operations 330 … 349 of 349 (window `main_part5`). -/
abbrev ops_part5 : List (HloOp τ sig (Elt F)) :=
  [ binary main_v208 main_v69 main_v253 (mulf : (⟨S16x20000, .f32⟩ : BufTy).Contents (Elt F) → (⟨S16x20000, .f32⟩ : BufTy).Contents (Elt F) → (⟨S16x20000, .f32⟩ : BufTy).Contents (Elt F)),
    nullary main_cst_44 (constant S_ .f32 0x00000000#32),
    binary main_v253 main_cst_44 main_v254 ((fun x v => Host.reduceAdd x v reducesTo_S16x20000_S_d0_1 h_S_) : (⟨S16x20000, .f32⟩ : BufTy).Contents (Elt F) → (⟨S_, .f32⟩ : BufTy).Contents (Elt F) → (⟨S_, .f32⟩ : BufTy).Contents (Elt F)),
    binary main_v245_1 main_v252 main_v255 (mulf : (⟨S16x20000, .f32⟩ : BufTy).Contents (Elt F) → (⟨S16x20000, .f32⟩ : BufTy).Contents (Elt F) → (⟨S16x20000, .f32⟩ : BufTy).Contents (Elt F)),
    nullary main_cst_45 (constant S_ .f32 0x00000000#32),
    binary main_v255 main_cst_45 main_v256 ((fun x v => Host.reduceAdd x v reducesTo_S16x20000_S_d0_1 h_S_) : (⟨S16x20000, .f32⟩ : BufTy).Contents (Elt F) → (⟨S_, .f32⟩ : BufTy).Contents (Elt F) → (⟨S_, .f32⟩ : BufTy).Contents (Elt F)),
    binary main_v254 main_v256 main_v257 (addf : (⟨S_, .f32⟩ : BufTy).Contents (Elt F) → (⟨S_, .f32⟩ : BufTy).Contents (Elt F) → (⟨S_, .f32⟩ : BufTy).Contents (Elt F)),
    nullary main_c_46 (constantI S_ 32 0#32),
    binary main_v71 main_c_46 main_v258 ((fun x v => Host.reduce IntOp.addi x v reducesTo_S16_S_d0 h_S_) : (⟨S16, .i32⟩ : BufTy).Contents (Elt F) → (⟨S_, .i32⟩ : BufTy).Contents (Elt F) → (⟨S_, .i32⟩ : BufTy).Contents (Elt F)),
    nullary main_c_47 (constantI S_ 32 1#32),
    binary main_c_47 main_v258 main_v259 (maxsi : (⟨S_, .i32⟩ : BufTy).Contents (Elt F) → (⟨S_, .i32⟩ : BufTy).Contents (Elt F) → (⟨S_, .i32⟩ : BufTy).Contents (Elt F)),
    unary main_v259 main_v260 (sitofp .f32 : (⟨S_, .i32⟩ : BufTy).Contents (Elt F) → (⟨S_, .f32⟩ : BufTy).Contents (Elt F)),
    binary main_v145 main_v260 main_v261 (Host.divf : (⟨S_, .f32⟩ : BufTy).Contents (Elt F) → (⟨S_, .f32⟩ : BufTy).Contents (Elt F) → (⟨S_, .f32⟩ : BufTy).Contents (Elt F)),
    binary main_v257 main_v260 main_v262 (Host.divf : (⟨S_, .f32⟩ : BufTy).Contents (Elt F) → (⟨S_, .f32⟩ : BufTy).Contents (Elt F) → (⟨S_, .f32⟩ : BufTy).Contents (Elt F)),
    nullary main_cst_48 (constant S_ .f32 0x40000000#32),
    binary main_cst_48 main_v261 main_v263 (mulf : (⟨S_, .f32⟩ : BufTy).Contents (Elt F) → (⟨S_, .f32⟩ : BufTy).Contents (Elt F) → (⟨S_, .f32⟩ : BufTy).Contents (Elt F)),
    binary main_v263 main_v262 main_v264 (addf : (⟨S_, .f32⟩ : BufTy).Contents (Elt F) → (⟨S_, .f32⟩ : BufTy).Contents (Elt F) → (⟨S_, .f32⟩ : BufTy).Contents (Elt F)),
    reshape main_v264 main_v265 (rfl : (.f32 : EltTy) = .f32) shapeCasts_S_S1x1,
    reshape main_v262 main_v266 (rfl : (.f32 : EltTy) = .f32) shapeCasts_S_S1x1,
    reshape main_v261 main_v267 (rfl : (.f32 : EltTy) = .f32) shapeCasts_S_S1x1 ]

/-- @main's 349 operations, in order (a called function's operations stand in its call's place, spelt `TRef.…`). -/
abbrev ops : List (HloOp τ sig (Elt F)) :=
  ops_part0 ++ (ops_part1 ++ (ops_part2 ++ (ops_part3 ++ (ops_part4 ++ (ops_part5)))))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_part5_eq (c : Dev nD) : main_part5 (F := F) c = seq ops_part5 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., unary_bufs_sub .., binary_bufs_sub .., unary_bufs_sub .., unary_bufs_sub .., binary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., unary_bufs_sub .., unary_bufs_sub .., binary_bufs_sub .., binary_bufs_sub .., nullary_bufs_sub .., unary_bufs_sub .., binary_bufs_sub .., binary_bufs_sub .., nullary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨nullary_bufs_sub .., nullary_bufs_sub .., quaternary_bufs_sub .., quaternary_bufs_sub ..⟩
set_option maxRecDepth 8192 in
theorem ops_part0_2_fresh : (ops_part0_2 : List (HloOp τ sig (Elt F))).Forall fun op => op.fresh = ∅ :=
  ⟨rfl, rfl, rfl, rfl⟩
set_option maxRecDepth 8192 in
theorem ops_part1_0_sub : (ops_part1_0 : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub .., unary_bufs_sub .., unary_bufs_sub .., unary_bufs_sub .., binary_bufs_sub .., nullary_bufs_sub .., binary_bufs_sub .., nullary_bufs_sub .., binary_bufs_sub .., nullary_bufs_sub .., unary_bufs_sub .., binary_bufs_sub .., binary_bufs_sub .., unary_bufs_sub .., unary_bufs_sub .., nullary_bufs_sub .., binary_bufs_sub .., unary_bufs_sub .., nullary_bufs_sub .., unary_bufs_sub .., binary_bufs_sub .., nullary_bufs_sub .., unary_bufs_sub .., binary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., reshape_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_sub : (ops_part3 : List (HloOp τ sig (Elt F))).Forall fun op => op.bufs ⊆ tcRefs τ sig :=
  ⟨unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., unary_bufs_sub .., nullary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_sub : (ops_part4 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., unary_bufs_sub .., binary_bufs_sub .., binary_bufs_sub .., nullary_bufs_sub .., unary_bufs_sub .., unary_bufs_sub .., unary_bufs_sub .., unary_bufs_sub .., binary_bufs_sub .., unary_bufs_sub ..⟩
set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part5_sub : (ops_part5 : List (HloOp τ sig (Elt F))).Forall fun op => op.bufs ⊆ tcRefs τ sig :=
  ⟨binary_bufs_sub .., nullary_bufs_sub .., binary_bufs_sub .., binary_bufs_sub .., nullary_bufs_sub .., binary_bufs_sub .., binary_bufs_sub .., nullary_bufs_sub .., binary_bufs_sub .., nullary_bufs_sub .., binary_bufs_sub .., unary_bufs_sub .., binary_bufs_sub .., binary_bufs_sub .., nullary_bufs_sub .., binary_bufs_sub .., binary_bufs_sub .., reshape_bufs_sub .., reshape_bufs_sub .., reshape_bufs_sub ..⟩
set_option maxRecDepth 8192 in
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_sub op h, List.forall_iff_forall_mem.mp ops_part3_sub op h, List.forall_iff_forall_mem.mp ops_part4_sub op h, List.forall_iff_forall_mem.mp ops_part5_sub op h]
theorem ops_fresh : ∀ op ∈ (ops : List (HloOp τ sig (Elt F))), op.fresh = ∅ := fun op h => by
    simp only [ops, ops_part0, ops_part1, List.mem_append, or_assoc] at h
    rcases h with h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_fresh op h, List.forall_iff_forall_mem.mp ops_part3_fresh op h, List.forall_iff_forall_mem.mp ops_part4_fresh op h, List.forall_iff_forall_mem.mp ops_part5_fresh op h]

end Cert.ReferenceIdeal.Value

end
-- ==== Proof.RI.Res.lean ====
/- The values of the reference's arrays that are read more than once, named. -/
module

public import proofs.«01_k».proof.Proof.RI.Ops

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v2`'s composed term of the arguments (named: it is used 2 times). -/
def res_main_v2 (V0 : Valuation τ sig (Elt F)) : (Proc.devRef .tc main_v2 : DevRef τ sig).ty.Contents (Elt F) :=
  broadcastInDim S1x20000x1 ![1] bcast_S20000_S1x20000x1_1 (shapeCast _ (extractStridedSlice S20000x1 ![0, 0] (V0 (Proc.devRef .tc main_arg2)) slices_S20000x4_S20000x1_0_0) shapeCasts_S20000x1_S20000)

set_option maxRecDepth 8192 in
/-- `main_v5`'s composed term of the arguments (named: it is used 2 times). -/
def res_main_v5 (V0 : Valuation τ sig (Elt F)) : (Proc.devRef .tc main_v5 : DevRef τ sig).ty.Contents (Elt F) :=
  broadcastInDim S1x20000x1 ![1] bcast_S20000_S1x20000x1_1 (shapeCast _ (extractStridedSlice S20000x1 ![0, 1] (V0 (Proc.devRef .tc main_arg2)) slices_S20000x4_S20000x1_0_1) shapeCasts_S20000x1_S20000)

set_option maxRecDepth 8192 in
/-- `main_v8`'s composed term of the arguments (named: it is used 2 times). -/
def res_main_v8 (V0 : Valuation τ sig (Elt F)) : (Proc.devRef .tc main_v8 : DevRef τ sig).ty.Contents (Elt F) :=
  broadcastInDim S1x20000x1 ![1] bcast_S20000_S1x20000x1_1 (shapeCast _ (extractStridedSlice S20000x1 ![0, 2] (V0 (Proc.devRef .tc main_arg2)) slices_S20000x4_S20000x1_0_2) shapeCasts_S20000x1_S20000)

set_option maxRecDepth 8192 in
/-- `main_v11`'s composed term of the arguments (named: it is used 2 times). -/
def res_main_v11 (V0 : Valuation τ sig (Elt F)) : (Proc.devRef .tc main_v11 : DevRef τ sig).ty.Contents (Elt F) :=
  broadcastInDim S1x20000x1 ![1] bcast_S20000_S1x20000x1_1 (shapeCast _ (extractStridedSlice S20000x1 ![0, 3] (V0 (Proc.devRef .tc main_arg2)) slices_S20000x4_S20000x1_0_3) shapeCasts_S20000x1_S20000)

set_option maxRecDepth 8192 in
/-- `main_v14`'s composed term of the arguments (named: it is used 2 times). -/
def res_main_v14 (V0 : Valuation τ sig (Elt F)) : (Proc.devRef .tc main_v14 : DevRef τ sig).ty.Contents (Elt F) :=
  broadcastInDim S16x1x32 ![0, 2] bcast_S16x32_S16x1x32_0_2 (shapeCast _ (extractStridedSlice S16x32x1 ![0, 0, 0] (V0 (Proc.devRef .tc main_arg3)) slices_S16x32x4_S16x32x1_0_0_0) shapeCasts_S16x32x1_S16x32)

set_option maxRecDepth 8192 in
/-- `main_v17`'s composed term of the arguments (named: it is used 2 times). -/
def res_main_v17 (V0 : Valuation τ sig (Elt F)) : (Proc.devRef .tc main_v17 : DevRef τ sig).ty.Contents (Elt F) :=
  broadcastInDim S16x1x32 ![0, 2] bcast_S16x32_S16x1x32_0_2 (shapeCast _ (extractStridedSlice S16x32x1 ![0, 0, 1] (V0 (Proc.devRef .tc main_arg3)) slices_S16x32x4_S16x32x1_0_0_1) shapeCasts_S16x32x1_S16x32)

set_option maxRecDepth 8192 in
/-- `main_v20`'s composed term of the arguments (named: it is used 2 times). -/
def res_main_v20 (V0 : Valuation τ sig (Elt F)) : (Proc.devRef .tc main_v20 : DevRef τ sig).ty.Contents (Elt F) :=
  broadcastInDim S16x1x32 ![0, 2] bcast_S16x32_S16x1x32_0_2 (shapeCast _ (extractStridedSlice S16x32x1 ![0, 0, 2] (V0 (Proc.devRef .tc main_arg3)) slices_S16x32x4_S16x32x1_0_0_2) shapeCasts_S16x32x1_S16x32)

set_option maxRecDepth 8192 in
/-- `main_v23`'s composed term of the arguments (named: it is used 2 times). -/
def res_main_v23 (V0 : Valuation τ sig (Elt F)) : (Proc.devRef .tc main_v23 : DevRef τ sig).ty.Contents (Elt F) :=
  broadcastInDim S16x1x32 ![0, 2] bcast_S16x32_S16x1x32_0_2 (shapeCast _ (extractStridedSlice S16x32x1 ![0, 0, 3] (V0 (Proc.devRef .tc main_arg3)) slices_S16x32x4_S16x32x1_0_0_3) shapeCasts_S16x32x1_S16x32)

set_option maxRecDepth 8192 in
/-- `main_v42`'s composed term of the arguments (named: it is used 2 times). -/
def res_main_v42 (V0 : Valuation τ sig (Elt F)) : (Proc.devRef .tc main_v42 : DevRef τ sig).ty.Contents (Elt F) :=
  mulf (maximumf (subf (minimumf (broadcastInDim S16x20000x32 ![0, 1, 2] bcast_S1x20000x1_S16x20000x32_0_1_2 (res_main_v8 V0)) (broadcastInDim S16x20000x32 ![0, 1, 2] bcast_S16x1x32_S16x20000x32_0_1_2 (res_main_v20 V0))) (maximumf (broadcastInDim S16x20000x32 ![0, 1, 2] bcast_S1x20000x1_S16x20000x32_0_1_2 (res_main_v2 V0)) (broadcastInDim S16x20000x32 ![0, 1, 2] bcast_S16x1x32_S16x20000x32_0_1_2 (res_main_v14 V0)))) (broadcastInDim S16x20000x32 ![] bcast_S_S16x20000x32 (constant S_ .f32 0x00000000#32))) (maximumf (subf (minimumf (broadcastInDim S16x20000x32 ![0, 1, 2] bcast_S1x20000x1_S16x20000x32_0_1_2 (res_main_v11 V0)) (broadcastInDim S16x20000x32 ![0, 1, 2] bcast_S16x1x32_S16x20000x32_0_1_2 (res_main_v23 V0))) (maximumf (broadcastInDim S16x20000x32 ![0, 1, 2] bcast_S1x20000x1_S16x20000x32_0_1_2 (res_main_v5 V0)) (broadcastInDim S16x20000x32 ![0, 1, 2] bcast_S16x1x32_S16x20000x32_0_1_2 (res_main_v17 V0)))) (broadcastInDim S16x20000x32 ![] bcast_S_S16x20000x32 (constant S_ .f32 0x00000000#32)))

set_option maxRecDepth 8192 in
/-- `main_v55`'s composed term of the arguments (named: it is used 5 times). -/
def res_main_v55 (V0 : Valuation τ sig (Elt F)) : (Proc.devRef .tc main_v55 : DevRef τ sig).ty.Contents (Elt F) :=
  Host.divf (res_main_v42 V0) (addf (subf (addf (broadcastInDim S16x20000x32 ![0, 1, 2] bcast_S1x20000x1_S16x20000x32_0_1_2 (mulf (subf (res_main_v8 V0) (res_main_v2 V0)) (subf (res_main_v11 V0) (res_main_v5 V0)))) (broadcastInDim S16x20000x32 ![0, 1, 2] bcast_S16x1x32_S16x20000x32_0_1_2 (mulf (subf (res_main_v20 V0) (res_main_v14 V0)) (subf (res_main_v23 V0) (res_main_v17 V0))))) (res_main_v42 V0)) (broadcastInDim S16x20000x32 ![] bcast_S_S16x20000x32 (constant S_ .f32 0x33D6BF95#32)))

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S16x20000x32 32 2

set_option maxRecDepth 8192 in
/-- `main_call0_cst`'s composed term of the arguments (named: it is used 2 times). -/
def res_main_call0_cst (V0 : Valuation τ sig (Elt F)) : (Proc.devRef .tc main_call0_cst : DevRef τ sig).ty.Contents (Elt F) :=
  constant S_ .f32 0xFF800000#32

set_option maxRecDepth 8192 in
/-- `main_call0_c`'s composed term of the arguments (named: it is used 2 times). -/
def res_main_call0_c (V0 : Valuation τ sig (Elt F)) : (Proc.devRef .tc main_call0_c : DevRef τ sig).ty.Contents (Elt F) :=
  constantI S_ 32 0#32

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S16x20000x32 32 1

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_v68`'s composed term of the arguments (named: it is used 2 times). -/
def res_main_v68 (V0 : Valuation τ sig (Elt F)) : (Proc.devRef .tc main_v68 : DevRef τ sig).ty.Contents (Elt F) :=
  ori (cmpf .ogt (Host.reduce FloatOps.maximumf (res_main_v55 V0) (constant S_ .f32 0xFF800000#32) reducesTo_S16x20000x32_S16x20000_d2 h_S_) (broadcastInDim S16x20000 ![] bcast_S_S16x20000 (constant S_ .f32 0x3F000000#32))) (Host.reduce IntOp.ori (cmpi .eq (broadcastInDim S16x20000x32 ![0, 1, 2] bcast_S16x1x32_S16x20000x32_0_1_2 (broadcastInDim S16x1x32 ![0, 2] bcast_S16x32_S16x1x32_0_2 ((fun j => (Host.argReduce reducer_argmax_f32_i32 (res_main_v55 V0) (res_main_call1_v0 V0) (res_main_call1_cst V0) (res_main_call1_c V0) reducesTo_S16x20000x32_S16x32_d1 h_S_ j).2)))) (broadcastInDim S16x20000x32 ![0, 1, 2] bcast_S1x20000x1_S16x20000x32_0_1_2 (broadcastInDim S1x20000x1 ![1] bcast_S20000_S1x20000x1_1 (iotaInDim S20000 32 0)))) (constantI S_ 1 0#1) reducesTo_S16x20000x32_S16x20000_d2 h_S_)

set_option maxRecDepth 8192 in
/-- `main_v69`'s composed term of the arguments (named: it is used 5 times). -/
def res_main_v69 (V0 : Valuation τ sig (Elt F)) : (Proc.devRef .tc main_v69 : DevRef τ sig).ty.Contents (Elt F) :=
  uitofp .f32 (res_main_v68 V0)

set_option maxRecDepth 8192 in
/-- `main_v71`'s composed term of the arguments (named: it is used 3 times). -/
def res_main_v71 (V0 : Valuation τ sig (Elt F)) : (Proc.devRef .tc main_v71 : DevRef τ sig).ty.Contents (Elt F) :=
  Host.reduce IntOp.addi (extui 32 (res_main_v68 V0) natLt_1_32) (constantI S_ 32 0#32) reducesTo_S16x20000_S16_d1 h_S_

set_option maxRecDepth 8192 in
/-- `main_v72`'s composed term of the arguments (named: it is used 3 times). -/
def res_main_v72 (V0 : Valuation τ sig (Elt F)) : (Proc.devRef .tc main_v72 : DevRef τ sig).ty.Contents (Elt F) :=
  broadcastInDim S16x20000x1 ![0, 1] bcast_S16x20000_S16x20000x1_0_1 ((fun j => (Host.argReduce reducer_argmax_f32_i32 (res_main_v55 V0) (res_main_call0_v0 V0) (res_main_call0_cst V0) (res_main_call0_c V0) reducesTo_S16x20000x32_S16x20000_d2 h_S_ j).2))

set_option maxRecDepth 8192 in
/-- `main_call2_v4`'s composed term of the arguments (named: it is used 3 times). -/
def res_main_call2_v4 (V0 : Valuation τ sig (Elt F)) : (Proc.devRef .tc main_call2_v4 : DevRef τ sig).ty.Contents (Elt F) :=
  select (cmpi .slt (res_main_v72 V0) (broadcastInDim S16x20000x1 ![] bcast_S_S16x20000x1 (constantI S_ 32 0#32))) (addi (res_main_v72 V0) (broadcastInDim S16x20000x1 ![] bcast_S_S16x20000x1 (constantI S_ 32 32#32))) (res_main_v72 V0)

set_option maxRecDepth 8192 in
/-- `main_v73`'s composed term of the arguments (named: it is used 4 times). -/
def res_main_v73 (V0 : Valuation τ sig (Elt F)) : (Proc.devRef .tc main_v73 : DevRef τ sig).ty.Contents (Elt F) :=
  select (broadcastInDim S16x20000x4 ![0, 1] bcast_S16x20000_S16x20000x4_0_1 (Host.reduce IntOp.andi (andi (cmpi .sge (res_main_call2_v4 V0) (broadcastInDim S16x20000x1 ![] bcast_S_S16x20000x1 (constantI S_ 32 0#32))) (cmpi .sle (res_main_call2_v4 V0) (broadcastInDim S16x20000x1 ![0, 1, 2] bcast_S1x1x1_S16x20000x1_0_1_2 (broadcastInDim S1x1x1 ![2] bcast_S1_S1x1x1_2 (constantI S1 32 31#32))))) (constantI S_ 1 1#1) reducesTo_S16x20000x1_S16x20000_d2 h_S_)) (Host.gather gather_S16x32x4_S16x20000x1_S16x20000x4_2_1_0_0_1_2_114 (V0 (Proc.devRef .tc main_arg3)) (res_main_call2_v4 V0)) (broadcastInDim S16x20000x4 ![] bcast_S_S16x20000x4 (constant S_ .f32 0x7FC00000#32))

set_option maxRecDepth 8192 in
/-- `main_v75`'s composed term of the arguments (named: it is used 4 times). -/
def res_main_v75 (V0 : Valuation τ sig (Elt F)) : (Proc.devRef .tc main_v75 : DevRef τ sig).ty.Contents (Elt F) :=
  shapeCast _ (extractStridedSlice S16x20000x1 ![0, 0, 0] (V0 (Proc.devRef .tc main_arg0)) slices_S16x20000x4_S16x20000x1_0_0_0) shapeCasts_S16x20000x1_S16x20000

set_option maxRecDepth 8192 in
/-- `main_v77`'s composed term of the arguments (named: it is used 4 times). -/
def res_main_v77 (V0 : Valuation τ sig (Elt F)) : (Proc.devRef .tc main_v77 : DevRef τ sig).ty.Contents (Elt F) :=
  shapeCast _ (extractStridedSlice S16x20000x1 ![0, 0, 1] (V0 (Proc.devRef .tc main_arg0)) slices_S16x20000x4_S16x20000x1_0_0_1) shapeCasts_S16x20000x1_S16x20000

set_option maxRecDepth 8192 in
/-- `main_v79`'s composed term of the arguments (named: it is used 4 times). -/
def res_main_v79 (V0 : Valuation τ sig (Elt F)) : (Proc.devRef .tc main_v79 : DevRef τ sig).ty.Contents (Elt F) :=
  shapeCast _ (extractStridedSlice S16x20000x1 ![0, 0, 2] (V0 (Proc.devRef .tc main_arg0)) slices_S16x20000x4_S16x20000x1_0_0_2) shapeCasts_S16x20000x1_S16x20000

set_option maxRecDepth 8192 in
/-- `main_v81`'s composed term of the arguments (named: it is used 4 times). -/
def res_main_v81 (V0 : Valuation τ sig (Elt F)) : (Proc.devRef .tc main_v81 : DevRef τ sig).ty.Contents (Elt F) :=
  shapeCast _ (extractStridedSlice S16x20000x1 ![0, 0, 3] (V0 (Proc.devRef .tc main_arg0)) slices_S16x20000x4_S16x20000x1_0_0_3) shapeCasts_S16x20000x1_S16x20000

set_option maxRecDepth 8192 in
/-- `main_v83`'s composed term of the arguments (named: it is used 4 times). -/
def res_main_v83 (V0 : Valuation τ sig (Elt F)) : (Proc.devRef .tc main_v83 : DevRef τ sig).ty.Contents (Elt F) :=
  shapeCast _ (extractStridedSlice S16x20000x1 ![0, 0, 0] (res_main_v73 V0) slices_S16x20000x4_S16x20000x1_0_0_0) shapeCasts_S16x20000x1_S16x20000

set_option maxRecDepth 8192 in
/-- `main_v85`'s composed term of the arguments (named: it is used 4 times). -/
def res_main_v85 (V0 : Valuation τ sig (Elt F)) : (Proc.devRef .tc main_v85 : DevRef τ sig).ty.Contents (Elt F) :=
  shapeCast _ (extractStridedSlice S16x20000x1 ![0, 0, 1] (res_main_v73 V0) slices_S16x20000x4_S16x20000x1_0_0_1) shapeCasts_S16x20000x1_S16x20000

set_option maxRecDepth 8192 in
/-- `main_v87`'s composed term of the arguments (named: it is used 4 times). -/
def res_main_v87 (V0 : Valuation τ sig (Elt F)) : (Proc.devRef .tc main_v87 : DevRef τ sig).ty.Contents (Elt F) :=
  shapeCast _ (extractStridedSlice S16x20000x1 ![0, 0, 2] (res_main_v73 V0) slices_S16x20000x4_S16x20000x1_0_0_2) shapeCasts_S16x20000x1_S16x20000

set_option maxRecDepth 8192 in
/-- `main_v89`'s composed term of the arguments (named: it is used 4 times). -/
def res_main_v89 (V0 : Valuation τ sig (Elt F)) : (Proc.devRef .tc main_v89 : DevRef τ sig).ty.Contents (Elt F) :=
  shapeCast _ (extractStridedSlice S16x20000x1 ![0, 0, 3] (res_main_v73 V0) slices_S16x20000x4_S16x20000x1_0_0_3) shapeCasts_S16x20000x1_S16x20000

set_option maxRecDepth 8192 in
/-- `main_v96`'s composed term of the arguments (named: it is used 2 times). -/
def res_main_v96 (V0 : Valuation τ sig (Elt F)) : (Proc.devRef .tc main_v96 : DevRef τ sig).ty.Contents (Elt F) :=
  subf (Host.divf (addf (res_main_v75 V0) (res_main_v79 V0)) (broadcastInDim S16x20000 ![] bcast_S_S16x20000 (constant S_ .f32 0x40000000#32))) (Host.divf (addf (res_main_v83 V0) (res_main_v87 V0)) (broadcastInDim S16x20000 ![] bcast_S_S16x20000 (constant S_ .f32 0x40000000#32)))

set_option maxRecDepth 8192 in
/-- `main_v103`'s composed term of the arguments (named: it is used 2 times). -/
def res_main_v103 (V0 : Valuation τ sig (Elt F)) : (Proc.devRef .tc main_v103 : DevRef τ sig).ty.Contents (Elt F) :=
  subf (Host.divf (addf (res_main_v77 V0) (res_main_v81 V0)) (broadcastInDim S16x20000 ![] bcast_S_S16x20000 (constant S_ .f32 0x40000000#32))) (Host.divf (addf (res_main_v85 V0) (res_main_v89 V0)) (broadcastInDim S16x20000 ![] bcast_S_S16x20000 (constant S_ .f32 0x40000000#32)))

set_option maxRecDepth 8192 in
/-- `main_v106`'s composed term of the arguments (named: it is used 2 times). -/
def res_main_v106 (V0 : Valuation τ sig (Elt F)) : (Proc.devRef .tc main_v106 : DevRef τ sig).ty.Contents (Elt F) :=
  subf (maximumf (res_main_v79 V0) (res_main_v87 V0)) (minimumf (res_main_v75 V0) (res_main_v83 V0))

set_option maxRecDepth 8192 in
/-- `main_v109`'s composed term of the arguments (named: it is used 2 times). -/
def res_main_v109 (V0 : Valuation τ sig (Elt F)) : (Proc.devRef .tc main_v109 : DevRef τ sig).ty.Contents (Elt F) :=
  subf (maximumf (res_main_v81 V0) (res_main_v89 V0)) (minimumf (res_main_v77 V0) (res_main_v85 V0))

set_option maxRecDepth 8192 in
/-- `main_v120`'s composed term of the arguments (named: it is used 2 times). -/
def res_main_v120 (V0 : Valuation τ sig (Elt F)) : (Proc.devRef .tc main_v120 : DevRef τ sig).ty.Contents (Elt F) :=
  mulf (maximumf (subf (minimumf (res_main_v79 V0) (res_main_v87 V0)) (maximumf (res_main_v75 V0) (res_main_v83 V0))) (broadcastInDim S16x20000 ![] bcast_S_S16x20000 (constant S_ .f32 0x00000000#32))) (maximumf (subf (minimumf (res_main_v81 V0) (res_main_v89 V0)) (maximumf (res_main_v77 V0) (res_main_v85 V0))) (broadcastInDim S16x20000 ![] bcast_S_S16x20000 (constant S_ .f32 0x00000000#32)))

set_option maxRecDepth 8192 in
/-- `main_v173`'s composed term of the arguments (named: it is used 8 times). -/
def res_main_v173 (V0 : Valuation τ sig (Elt F)) : (Proc.devRef .tc main_v173 : DevRef τ sig).ty.Contents (Elt F) :=
  Host.log (Host.divf (V0 (Proc.devRef .tc main_arg1)) (addf (subf (broadcastInDim S16x20000 ![] bcast_S_S16x20000 (constant S_ .f32 0x3F800000#32)) (V0 (Proc.devRef .tc main_arg1))) (broadcastInDim S16x20000 ![] bcast_S_S16x20000 (constant S_ .f32 0x2EDBE6FF#32))))

set_option maxRecDepth 8192 in
/-- `main_v174`'s composed term of the arguments (named: it is used 5 times). -/
def res_main_v174 (V0 : Valuation τ sig (Elt F)) : (Proc.devRef .tc main_v174 : DevRef τ sig).ty.Contents (Elt F) :=
  broadcastInDim S16x20000 ![] bcast_S_S16x20000 (constant S_ .f32 0x3F800000#32)

set_option maxRecDepth 8192 in
/-- `main_v180`'s composed term of the arguments (named: it is used 2 times). -/
def res_main_v180 (V0 : Valuation τ sig (Elt F)) : (Proc.devRef .tc main_v180 : DevRef τ sig).ty.Contents (Elt F) :=
  Host.divf (broadcastInDim S16x20000 ![] bcast_S_S16x20000 (constant S_ .f32 0x3F800000#32)) (addf (broadcastInDim S16x20000 ![] bcast_S_S16x20000 (constant S_ .f32 0x3F800000#32)) (Host.exp (Host.negf (res_main_v173 V0))))

set_option maxRecDepth 8192 in
/-- `main_v205`'s composed term of the arguments (named: it is used 2 times). -/
def res_main_v205 (V0 : Valuation τ sig (Elt F)) : (Proc.devRef .tc main_v205 : DevRef τ sig).ty.Contents (Elt F) :=
  subf (broadcastInDim S16x20000 ![] bcast_S_S16x20000 (constant S_ .f32 0x3F800000#32)) (addf (mulf (res_main_v180 V0) (res_main_v174 V0)) (mulf (subf (broadcastInDim S16x20000 ![] bcast_S_S16x20000 (constant S_ .f32 0x3F800000#32)) (res_main_v180 V0)) (subf (broadcastInDim S16x20000 ![] bcast_S_S16x20000 (constant S_ .f32 0x3F800000#32)) (res_main_v174 V0))))

set_option maxRecDepth 8192 in
/-- `main_v209`'s composed term of the arguments (named: it is used 5 times). -/
def res_main_v209 (V0 : Valuation τ sig (Elt F)) : (Proc.devRef .tc main_v209 : DevRef τ sig).ty.Contents (Elt F) :=
  broadcastInDim S16x20000 ![] bcast_S_S16x20000 (constant S_ .f32 0x00000000#32)

set_option maxRecDepth 8192 in
/-- `main_v215`'s composed term of the arguments (named: it is used 2 times). -/
def res_main_v215 (V0 : Valuation τ sig (Elt F)) : (Proc.devRef .tc main_v215 : DevRef τ sig).ty.Contents (Elt F) :=
  Host.divf (broadcastInDim S16x20000 ![] bcast_S_S16x20000 (constant S_ .f32 0x3F800000#32)) (addf (broadcastInDim S16x20000 ![] bcast_S_S16x20000 (constant S_ .f32 0x3F800000#32)) (Host.exp (Host.negf (res_main_v173 V0))))

set_option maxRecDepth 8192 in
/-- `main_v240`'s composed term of the arguments (named: it is used 2 times). -/
def res_main_v240 (V0 : Valuation τ sig (Elt F)) : (Proc.devRef .tc main_v240 : DevRef τ sig).ty.Contents (Elt F) :=
  subf (broadcastInDim S16x20000 ![] bcast_S_S16x20000 (constant S_ .f32 0x3F800000#32)) (addf (mulf (res_main_v215 V0) (res_main_v209 V0)) (mulf (subf (broadcastInDim S16x20000 ![] bcast_S_S16x20000 (constant S_ .f32 0x3F800000#32)) (res_main_v215 V0)) (subf (broadcastInDim S16x20000 ![] bcast_S_S16x20000 (constant S_ .f32 0x3F800000#32)) (res_main_v209 V0))))

set_option maxRecDepth 8192 in
/-- `main_v243`'s composed term of the arguments (named: it is used 2 times). -/
def res_main_v243 (V0 : Valuation τ sig (Elt F)) : (Proc.devRef .tc main_v243 : DevRef τ sig).ty.Contents (Elt F) :=
  mulf (mulf (addf (mulf (broadcastInDim S16x20000 ![] bcast_S_S16x20000 (constant S_ .f32 0x3E800000#32)) (res_main_v209 V0)) (mulf (broadcastInDim S16x20000 ![] bcast_S_S16x20000 (constant S_ .f32 0x3F400000#32)) (subf (broadcastInDim S16x20000 ![] bcast_S_S16x20000 (constant S_ .f32 0x3F800000#32)) (res_main_v209 V0)))) (mulf (res_main_v240 V0) (res_main_v240 V0))) (addf (subf (maximumf (res_main_v173 V0) (broadcastInDim S16x20000 ![] bcast_S_S16x20000 (constant S_ .f32 0x00000000#32))) (mulf (res_main_v173 V0) (res_main_v209 V0))) (Host.log1p (Host.exp (Host.negf (Host.absf (res_main_v173 V0))))))

set_option maxRecDepth 8192 in
/-- `main_v244`'s composed term of the arguments (named: it is used 2 times). -/
def res_main_v244 (V0 : Valuation τ sig (Elt F)) : (Proc.devRef .tc main_v244 : DevRef τ sig).ty.Contents (Elt F) :=
  Host.negf (mulf (Host.negf (addf (mulf (res_main_v69 V0) (Host.log (addf (V0 (Proc.devRef .tc main_arg1)) (broadcastInDim S16x20000 ![] bcast_S_S16x20000 (constant S_ .f32 0x2B8CBCCC#32))))) (mulf (subf (broadcastInDim S16x20000 ![] bcast_S_S16x20000 (constant S_ .f32 0x3F800000#32)) (res_main_v69 V0)) (Host.log (addf (subf (broadcastInDim S16x20000 ![] bcast_S_S16x20000 (constant S_ .f32 0x3F800000#32)) (V0 (Proc.devRef .tc main_arg1))) (broadcastInDim S16x20000 ![] bcast_S_S16x20000 (constant S_ .f32 0x2B8CBCCC#32))))))) (subf (broadcastInDim S16x20000 ![] bcast_S_S16x20000 (constant S_ .f32 0x3F800000#32)) (res_main_v69 V0)))

set_option maxRecDepth 8192 in
/-- `main_v260`'s composed term of the arguments (named: it is used 2 times). -/
def res_main_v260 (V0 : Valuation τ sig (Elt F)) : (Proc.devRef .tc main_v260 : DevRef τ sig).ty.Contents (Elt F) :=
  sitofp .f32 (maxsi (constantI S_ 32 1#32) (Host.reduce IntOp.addi (res_main_v71 V0) (constantI S_ 32 0#32) reducesTo_S16_S_d0 h_S_))

set_option maxRecDepth 8192 in
/-- `main_v261`'s composed term of the arguments (named: it is used 2 times). -/
def res_main_v261 (V0 : Valuation τ sig (Elt F)) : (Proc.devRef .tc main_v261 : DevRef τ sig).ty.Contents (Elt F) :=
  Host.divf (Host.reduceAdd (mulf (addf (subf (broadcastInDim S16x20000 ![] bcast_S_S16x20000 (constant S_ .f32 0x3F800000#32)) (Host.divf (res_main_v120 V0) (addf (subf (addf (mulf (subf (res_main_v79 V0) (res_main_v75 V0)) (subf (res_main_v81 V0) (res_main_v77 V0))) (mulf (subf (res_main_v87 V0) (res_main_v83 V0)) (subf (res_main_v89 V0) (res_main_v85 V0)))) (res_main_v120 V0)) (broadcastInDim S16x20000 ![] bcast_S_S16x20000 (constant S_ .f32 0x33D6BF95#32))))) (Host.divf (addf (mulf (res_main_v96 V0) (res_main_v96 V0)) (mulf (res_main_v103 V0) (res_main_v103 V0))) (addf (addf (mulf (res_main_v106 V0) (res_main_v106 V0)) (mulf (res_main_v109 V0) (res_main_v109 V0))) (broadcastInDim S16x20000 ![] bcast_S_S16x20000 (constant S_ .f32 0x33D6BF95#32))))) (res_main_v69 V0)) (constant S_ .f32 0x00000000#32) reducesTo_S16x20000_S_d0_1 h_S_) (res_main_v260 V0)

set_option maxRecDepth 8192 in
/-- `main_v262`'s composed term of the arguments (named: it is used 2 times). -/
def res_main_v262 (V0 : Valuation τ sig (Elt F)) : (Proc.devRef .tc main_v262 : DevRef τ sig).ty.Contents (Elt F) :=
  Host.divf (addf (Host.reduceAdd (mulf (mulf (mulf (addf (mulf (broadcastInDim S16x20000 ![] bcast_S_S16x20000 (constant S_ .f32 0x3E800000#32)) (res_main_v174 V0)) (mulf (broadcastInDim S16x20000 ![] bcast_S_S16x20000 (constant S_ .f32 0x3F400000#32)) (subf (broadcastInDim S16x20000 ![] bcast_S_S16x20000 (constant S_ .f32 0x3F800000#32)) (res_main_v174 V0)))) (mulf (res_main_v205 V0) (res_main_v205 V0))) (addf (subf (maximumf (res_main_v173 V0) (broadcastInDim S16x20000 ![] bcast_S_S16x20000 (constant S_ .f32 0x00000000#32))) (mulf (res_main_v173 V0) (res_main_v174 V0))) (Host.log1p (Host.exp (Host.negf (Host.absf (res_main_v173 V0))))))) (res_main_v69 V0)) (constant S_ .f32 0x00000000#32) reducesTo_S16x20000_S_d0_1 h_S_) (Host.reduceAdd (mulf ((Host.sort2 S16x20000 1 comparator_f32_f32_d1 (res_main_v244 V0) (res_main_v243 V0)).2) (uitofp .f32 (cmpi .slt (broadcastInDim S16x20000 ![0, 1] bcast_S1x20000_S16x20000_0_1 (broadcastInDim S1x20000 ![1] bcast_S20000_S1x20000_1 (iotaInDim S20000 32 0))) (broadcastInDim S16x20000 ![0, 1] bcast_S16x1_S16x20000_0_1 (broadcastInDim S16x1 ![0] bcast_S16_S16x1_0 (minsi (muli (res_main_v71 V0) (broadcastInDim S16 ![] bcast_S_S16 (constantI S_ 32 3#32))) (subi (broadcastInDim S16 ![] bcast_S_S16 (constantI S_ 32 20000#32)) (res_main_v71 V0)))))))) (constant S_ .f32 0x00000000#32) reducesTo_S16x20000_S_d0_1 h_S_)) (res_main_v260 V0)

end Cert.ReferenceIdeal.Value

end
-- ==== Proof.RI.Arg.lean ====
module

public import proofs.«01_k».proof.Proof.RI.Res
public import proofs.«01_k».proof.Proof.M.First
@[expose] public section

set_option maxRecDepth 16384

noncomputable section

namespace Cert.ReferenceIdeal.Value

open Cert.ReferenceIdeal Cert.ReferenceIdeal.Gen Idealize.ShloMosaic Idealize.ShloMosaic.TcCoe

/-- The order the reducer keeps the larger end of: first by value, of equal values the smaller number. -/
def under (a b : EReal × BitVec 32) : Prop := a.1 < b.1 ∨ (a.1 = b.1 ∧ b.2.toInt ≤ a.2.toInt)

theorem reducer_eq (a b : EReal × BitVec 32) :
    reducer_argmax_f32_i32 (F := Ideal) a b = if b.1 < a.1 ∨ (a.1 = b.1 ∧ a.2.toInt < b.2.toInt) then a else b := by
  obtain ⟨a, i⟩ := a
  obtain ⟨b, j⟩ := b
  simp only [reducer_argmax_f32_i32, Ideal.cmpf_def, Ideal.cmp, Scalar.select, IntOp.ori, IntOp.andi, IntOp.cmpi]
  by_cases h1 : b < a <;> by_cases h2 : a = b <;> by_cases h3 : i.toInt < j.toInt <;> simp [h1, h2, h3, BitVec.slt] <;> simp_all

theorem reducer_keeps (l : List (EReal × BitVec 32)) (z : EReal × BitVec 32) :
    (l.foldl (reducer_argmax_f32_i32 (F := Ideal)) z = z ∨ l.foldl (reducer_argmax_f32_i32 (F := Ideal)) z ∈ l) ∧
      under z (l.foldl (reducer_argmax_f32_i32 (F := Ideal)) z) ∧ ∀ a ∈ l, under a (l.foldl (reducer_argmax_f32_i32 (F := Ideal)) z) := by
  refine Cert.Own.foldl_choose (reducer_argmax_f32_i32 (F := Ideal)) under ?_ ?_ ?_ ?_ ?_ l z
  · exact fun a => Or.inr ⟨rfl, le_rfl⟩
  · rintro a b c (h | ⟨h, h'⟩) (k | ⟨k, k'⟩)
    · exact Or.inl (h.trans k)
    · exact Or.inl (k ▸ h)
    · exact Or.inl (h ▸ k)
    · exact Or.inr ⟨h.trans k, k'.trans h'⟩
  · intro a b; rw [reducer_eq]; split_ifs <;> simp
  · intro a b; rw [reducer_eq]; split_ifs with h
    · exact Or.inr ⟨rfl, le_rfl⟩
    · rw [not_or, not_and] at h
      rcases lt_or_eq_of_le (not_lt.1 h.1) with e | e
      · exact Or.inl e
      · exact Or.inr ⟨e, not_lt.1 (h.2 e)⟩
  · intro a b; rw [reducer_eq]; split_ifs with h
    · rcases h with h | ⟨h, h'⟩
      · exact Or.inl h
      · exact Or.inr ⟨h.symm, h'.le⟩
    · exact Or.inr ⟨rfl, le_rfl⟩

theorem toInt_ofNat_small (k : ℕ) (h : k < 2 ^ 31) : (BitVec.ofNat 32 k).toInt = k := by
  rw [BitVec.toInt_ofNat', Int.bmod_eq_of_le] <;> omega

/-- The number the reducer's fold leaves at a place, the values on its fiber not all the bottom. -/
theorem arg_ap {s t u : Shape} {axes : List (Fin s.rank)} {m : ℕ} [NeZero m] (hm : m < 2 ^ 31) (x : s.Idx → EReal) (y : s.Idx → BitVec 32)
    (ix : u.Idx → EReal) (iy : u.Idx → BitVec 32) (h : s.ReducesTo axes t) (hu : 0 < u.numel) (j : t.Idx)
    (e : Fin m → s.Idx) (he : ∀ i, h.drop i = j ↔ ∃ k, i = e k) (hy : ∀ k, y (e k) = BitVec.ofNat 32 k)
    (hx : ∀ k, x (e k) ≠ ⊥) (hi : ix (Shape.Idx.first hu) = ⊥) :
    (Host.argReduce (F := Ideal) (φ := .f32) reducer_argmax_f32_i32 x y ix iy h hu j).2 = BitVec.ofNat 32 (Cert.Own.first fun k : Fin m => x (e k)).val := by
  rw [Ideal.argReduce_eq_reduce2, Host.reduce2_eq_foldl_fiber]
  obtain ⟨h1, -, h3⟩ := reducer_keeps (Host.argReduceFiber x y h j) (ix (Shape.Idx.first hu), iy (Shape.Idx.first hu))
  have hmem : ∀ p : EReal × BitVec 32, p ∈ Host.argReduceFiber x y h j ↔ ∃ k, p = (x (e k), BitVec.ofNat 32 k) := by
    intro p
    simp only [Host.argReduceFiber, List.mem_map, List.mem_filter, List.mem_finRange, true_and, decide_eq_true_eq]
    constructor
    · rintro ⟨n, hn, rfl⟩
      obtain ⟨k, hk⟩ := (he _).1 hn
      exact ⟨k, by rw [hk, hy]⟩
    · rintro ⟨k, rfl⟩
      exact ⟨s.rowMajor (e k), by simpa using (he _).2 ⟨k, rfl⟩, by simp [hy]⟩
  generalize (Host.argReduceFiber x y h j).foldl (reducer_argmax_f32_i32 (F := Ideal)) (ix (Shape.Idx.first hu), iy (Shape.Idx.first hu)) = q at *
  have hq : ∃ k, q = (x (e k), BitVec.ofNat 32 k) := by
    rcases h1 with h1 | h1
    · exfalso
      have h0 := h3 _ ((hmem _).2 ⟨0, rfl⟩)
      rw [h1, hi] at h0
      rcases h0 with h0 | ⟨h0, -⟩
      · exact not_lt_bot h0
      · exact hx _ h0
    · exact (hmem _).1 h1
  obtain ⟨k, rfl⟩ := hq
  have hk : Cert.Own.IsFirst (fun k => x (e k)) k := by
    refine ⟨fun l => ?_, fun l hl => ?_⟩
    · rcases h3 _ ((hmem _).2 ⟨l, rfl⟩) with h | ⟨h, -⟩
      · exact h.le
      · exact h.le
    · rcases h3 _ ((hmem _).2 ⟨l, rfl⟩) with h | ⟨-, h⟩
      · exact absurd hl h.ne
      · simp only at h
        rw [toInt_ofNat_small _ (by omega), toInt_ofNat_small _ (by omega)] at h
        exact_mod_cast h
  rw [← hk.eq_first]

end Cert.ReferenceIdeal.Value

end
-- ==== Proof.RI.Read.lean ====
module

public import proofs.«01_k».proof.Proof.RI.Arg
public import proofs.«01_k».proof.Proof.M.Spec
@[expose] public section

set_option maxRecDepth 16384

noncomputable section

namespace Cert.ReferenceIdeal.Value

open Cert.ReferenceIdeal Cert.ReferenceIdeal.Gen Idealize.ShloMosaic Idealize.ShloMosaic.TcCoe Finset

variable (V0 : Valuation τ sig (Elt Ideal))

/-- A reduction over one fiber, listed by a number. -/
theorem reduce_fiber {α : Type} {s t u : Shape} {axes : List (Fin s.rank)} {m : ℕ} (f : α → α → α) [Std.Commutative f] [Std.Associative f]
    (x : s.Idx → α) (init : u.Idx → α) (h : s.ReducesTo axes t) (hu : 0 < u.numel) (j : t.Idx) (e : Fin m → s.Idx)
    (he : ∀ i, h.drop i = j ↔ ∃ k, i = e k) (hinj : Function.Injective e) :
    Host.reduce f x init h hu j = (univ : Finset (Fin m)).fold f (init (Shape.Idx.first hu)) fun k => x (e k) := by
  classical
  rw [Host.reduce_eq_fold]
  have hs : (univ.filter fun i => h.drop i = j) = univ.image e := by
    ext i
    simp only [mem_filter, mem_univ, true_and, mem_image, he, eq_comm]
  rw [hs, Finset.fold_image fun a _ b _ h => hinj h]
  rfl

theorem fiber_d2 (b : Fin 16) (n : Fin 20000) (i : S16x20000x32.Idx) :
    reducesTo_S16x20000x32_S16x20000_d2.drop i = ix2 b n ↔ ∃ k : Fin 32, i = ix3 b n k := by
  constructor
  · intro h
    have h0 : (i 0 : Nat) = b := (Shape.ReducesTo.drop_apply_val_of_eq reducesTo_S16x20000x32_S16x20000_d2 i 0 0).symm.trans (by rw [h]; rfl)
    have h1 : (i 1 : Nat) = n := (Shape.ReducesTo.drop_apply_val_of_eq reducesTo_S16x20000x32_S16x20000_d2 i 1 1).symm.trans (by rw [h]; rfl)
    refine ⟨i 2, ?_⟩
    funext k
    fin_cases k
    · exact Fin.ext h0
    · exact Fin.ext h1
    · rfl
  · rintro ⟨k, rfl⟩
    funext l
    fin_cases l
    · exact Fin.ext (Shape.ReducesTo.drop_apply_val_of_eq reducesTo_S16x20000x32_S16x20000_d2 (ix3 b n k) 0 0)
    · exact Fin.ext (Shape.ReducesTo.drop_apply_val_of_eq reducesTo_S16x20000x32_S16x20000_d2 (ix3 b n k) 1 1)

theorem fiber_d1 (b : Fin 16) (g : Fin 32) (i : S16x20000x32.Idx) :
    reducesTo_S16x20000x32_S16x32_d1.drop i = ix2 b g ↔ ∃ k : Fin 20000, i = ix3 b k g := by
  constructor
  · intro h
    have h0 : (i 0 : Nat) = b := (Shape.ReducesTo.drop_apply_val_of_eq reducesTo_S16x20000x32_S16x32_d1 i 0 0).symm.trans (by rw [h]; rfl)
    have h1 : (i 2 : Nat) = g := (Shape.ReducesTo.drop_apply_val_of_eq reducesTo_S16x20000x32_S16x32_d1 i 1 2).symm.trans (by rw [h]; rfl)
    refine ⟨i 1, ?_⟩
    funext k
    fin_cases k
    · exact Fin.ext h0
    · rfl
    · exact Fin.ext h1
  · rintro ⟨k, rfl⟩
    funext l
    fin_cases l
    · exact Fin.ext (Shape.ReducesTo.drop_apply_val_of_eq reducesTo_S16x20000x32_S16x32_d1 (ix3 b k g) 0 0)
    · exact Fin.ext (Shape.ReducesTo.drop_apply_val_of_eq reducesTo_S16x20000x32_S16x32_d1 (ix3 b k g) 1 2)

theorem fiber_p (b : Fin 16) (i : S16x20000.Idx) :
    reducesTo_S16x20000_S16_d1.drop i = ix1 b ↔ ∃ k : Fin 20000, i = ix2 b k := by
  constructor
  · intro h
    have h0 : (i 0 : Nat) = b := (Shape.ReducesTo.drop_apply_val_of_eq reducesTo_S16x20000_S16_d1 i 0 0).symm.trans (by rw [h]; rfl)
    refine ⟨i 1, ?_⟩
    funext k
    fin_cases k
    · exact Fin.ext h0
    · rfl
  · rintro ⟨k, rfl⟩
    funext l
    fin_cases l
    exact Fin.ext (Shape.ReducesTo.drop_apply_val_of_eq reducesTo_S16x20000_S16_d1 (ix2 b k) 0 0)

/-- The anchors, the boxes of a batch, the predicted boxes and confidences of a batch. -/
def anchorsR (n : Fin 20000) (k : Fin 4) : EReal := V0 (Proc.tc.devRef main_arg2) (ix2 n k)
def boxesR (b : Fin 16) (g : Fin 32) (k : Fin 4) : EReal := V0 (Proc.tc.devRef main_arg3) (ix3 b g k)
def predR (b : Fin 16) (n : Fin 20000) (k : Fin 4) : EReal := V0 (Proc.tc.devRef main_arg0) (ix3 b n k)
def confR (b : Fin 16) (n : Fin 20000) : EReal := V0 (Proc.tc.devRef main_arg1) (ix2 b n)

theorem v42_ap (b : Fin 16) (n : Fin 20000) (g : Fin 32) :
    @Eq EReal (res_main_v42 V0 (ix3 b n g)) (Cert.Own.meet (anchorsR V0 n) (boxesR V0 b g)) := by
  pointwise [res_main_v42, res_main_v2, res_main_v5, res_main_v8, res_main_v11, res_main_v14, res_main_v17, res_main_v20, res_main_v23]
  rfl
theorem v55_ap (b : Fin 16) (n : Fin 20000) (g : Fin 32) :
    @Eq EReal (res_main_v55 V0 (ix3 b n g)) (Cert.Own.iou (anchorsR V0 n) (boxesR V0 b g)) := by
  pointwise [res_main_v55, res_main_v2, res_main_v5, res_main_v8, res_main_v11, res_main_v14, res_main_v17, res_main_v20, res_main_v23]
  rw [v42_ap]
  rfl

/-- Anchors and boxes in order. -/
structure Good : Prop where
  anch : ∀ n, Cert.Own.Ordered (anchorsR V0 n)
  box : ∀ b g, Cert.Own.Ordered (boxesR V0 b g)

variable {V0}

theorem Good.ne_bot (H : Good V0) (b : Fin 16) (n : Fin 20000) (g : Fin 32) : @Ne EReal (res_main_v55 V0 (ix3 b n g)) ⊥ := by
  rw [v55_ap]
  obtain ⟨x, -, hx⟩ := Cert.Own.iou_real (H.anch n) (H.box b g)
  rw [hx]; exact EReal.coe_ne_bot x

theorem bot_word : @Eq EReal (Ideal.ofBits .f32 0xFF800000#32) ⊥ := by
  simp [Ideal.ofBits, Ideal.ieee]

theorem argG_ap (H : Good V0) (b : Fin 16) (n : Fin 20000) :
    (Host.argReduce reducer_argmax_f32_i32 (res_main_v55 V0) (res_main_call0_v0 V0) (res_main_call0_cst V0) (res_main_call0_c V0) reducesTo_S16x20000x32_S16x20000_d2 h_S_ (ix2 b n)).2
      = BitVec.ofNat 32 (Cert.Own.gOf (anchorsR V0) (boxesR V0 b) n).val := by
  refine (arg_ap (m := 32) (by norm_num) _ _ _ _ _ _ _ (fun g => ix3 b n g) (fiber_d2 b n) ?_ ?_ ?_).trans ?_
  · intro k; pointwise [res_main_call0_v0]
  · exact fun k => H.ne_bot b n k
  · pointwise [res_main_call0_cst]; exact bot_word
  · simp only [v55_ap]; rfl

theorem widen_ap {α : Type} (f : S16x20000.Idx → α) (b : Fin 16) (n : Fin 20000) :
    broadcastInDim S16x20000x1 ![0, 1] bcast_S16x20000_S16x20000x1_0_1 f (ix3 b n 0) = f (ix2 b n) := by
  pointwise

theorem v72_ap (H : Good V0) (b : Fin 16) (n : Fin 20000) :
    @Eq (BitVec 32) (res_main_v72 V0 (ix3 b n 0)) (BitVec.ofNat 32 (Cert.Own.gOf (anchorsR V0) (boxesR V0 b) n).val) :=
  (widen_ap _ b n).trans (argG_ap H b n)

theorem argN_ap (H : Good V0) (b : Fin 16) (g : Fin 32) :
    (Host.argReduce reducer_argmax_f32_i32 (res_main_v55 V0) (res_main_call1_v0 V0) (res_main_call1_cst V0) (res_main_call1_c V0) reducesTo_S16x20000x32_S16x32_d1 h_S_ (ix2 b g)).2
      = BitVec.ofNat 32 (Cert.Own.nOf (anchorsR V0) (boxesR V0 b) g).val := by
  refine (arg_ap (m := 20000) (by norm_num) _ _ _ _ _ _ _ (fun n => ix3 b n g) (fiber_d1 b g) ?_ ?_ ?_).trans ?_
  · intro k; pointwise [res_main_call1_v0]
  · exact fun k => H.ne_bot b k g
  · pointwise [res_main_call1_cst]; exact bot_word
  · simp only [v55_ap]; rfl

/-- The boxes gathered at a row whose index is a number in range. -/
theorem gather_ap {α : Type} (x : S16x32x4.Idx → α) (idx : S16x20000x1.Idx → BitVec 32) (b : Fin 16) (n : Fin 20000) (k : Fin 4) (g : Fin 32)
    (hg : idx (ix3 b n 0) = BitVec.ofNat 32 g.val) :
    Host.gather gather_S16x32x4_S16x20000x1_S16x20000x4_2_1_0_0_1_2_114 x idx (ix3 b n k) = x (ix3 b g k) := by
  unfold Host.gather
  congr 1
  funext a
  refine Fin.ext ?_
  change (gather_S16x32x4_S16x20000x1_S16x20000x4_2_1_0_0_1_2_114).start (ix3 b n k) idx a
    + (gather_S16x32x4_S16x20000x1_S16x20000x4_2_1_0_0_1_2_114).batchCoord (ix3 b n k) a
    + (gather_S16x32x4_S16x20000x1_S16x20000x4_2_1_0_0_1_2_114).offCoord (ix3 b n k) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (gather_S16x32x4_S16x20000x1_S16x20000x4_2_1_0_0_1_2_114).operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (gather_S16x32x4_S16x20000x1_S16x20000x4_2_1_0_0_1_2_114).startIndexMap from List.mem_singleton.mpr rfl)]
    have hsi : (gather_S16x32x4_S16x20000x1_S16x20000x4_2_1_0_0_1_2_114).siIdx (ix3 b n k) ⟨List.idxOf (1 : Fin 3) (gather_S16x32x4_S16x20000x1_S16x20000x4_2_1_0_0_1_2_114).startIndexMap,
        List.idxOf_lt_length_iff.2 (List.mem_singleton.mpr rfl)⟩ = ix3 b n (0 : Fin 1) := by
      funext b; refine Fin.ext ?_
      match b with
      | ⟨0, _⟩ => rfl
      | ⟨1, _⟩ => rfl
      | ⟨2, _⟩ => rfl
    rw [hsi, hg, toInt_ofNat_small _ (by omega)]
    change min g.val (32 - 1) = g.val
    omega
  · have hs : (2 : Fin 3) ∉ (gather_S16x32x4_S16x20000x1_S16x20000x4_2_1_0_0_1_2_114).startIndexMap := fun h => absurd (List.mem_singleton.mp h) (by decide)
    rw [GatherDims.batchCoord_eq_zero _ _ _ (fun h => absurd (List.mem_singleton.mp h) (by decide))]
    unfold GatherDims.start
    rw [dif_neg hs]
    simp only [Nat.zero_add, Nat.add_zero]
    unfold GatherDims.offCoord
    rw [dif_pos ((GatherDims.mem_sKept _ _).mpr ⟨fun h => absurd (List.mem_singleton.mp h) (by decide), fun h => absurd (List.mem_singleton.mp h) (by decide)⟩)]
    rfl

theorem fiber_one (b : Fin 16) (n : Fin 20000) (i : S16x20000x1.Idx) :
    reducesTo_S16x20000x1_S16x20000_d2.drop i = ix2 b n ↔ ∃ k : Fin 1, i = ix3 b n k := by
  constructor
  · intro h
    have h0 : (i 0 : Nat) = b := (Shape.ReducesTo.drop_apply_val_of_eq reducesTo_S16x20000x1_S16x20000_d2 i 0 0).symm.trans (by rw [h]; rfl)
    have h1 : (i 1 : Nat) = n := (Shape.ReducesTo.drop_apply_val_of_eq reducesTo_S16x20000x1_S16x20000_d2 i 1 1).symm.trans (by rw [h]; rfl)
    refine ⟨i 2, ?_⟩
    funext k
    fin_cases k
    · exact Fin.ext h0
    · exact Fin.ext h1
    · rfl
  · rintro ⟨k, rfl⟩
    funext l
    fin_cases l
    · exact Fin.ext (Shape.ReducesTo.drop_apply_val_of_eq reducesTo_S16x20000x1_S16x20000_d2 (ix3 b n k) 0 0)
    · exact Fin.ext (Shape.ReducesTo.drop_apply_val_of_eq reducesTo_S16x20000x1_S16x20000_d2 (ix3 b n k) 1 1)

theorem call2_ap (H : Good V0) (b : Fin 16) (n : Fin 20000) :
    @Eq (BitVec 32) (res_main_call2_v4 V0 (ix3 b n 0)) (BitVec.ofNat 32 (Cert.Own.gOf (anchorsR V0) (boxesR V0 b) n).val) := by
  unfold res_main_call2_v4
  generalize hu : res_main_v72 V0 = u
  have hb : @Eq (BitVec 32) (u (ix3 b n 0)) (BitVec.ofNat 32 (Cert.Own.gOf (anchorsR V0) (boxesR V0 b) n).val) := by rw [← hu]; exact v72_ap H b n
  pointwise
  rw [hb]
  generalize (Cert.Own.gOf (anchorsR V0) (boxesR V0 b) n) = g
  revert g
  decide

theorem select_ap {α : Type} {s : Shape} (c : s.Idx → BitVec 1) (x y : s.Idx → α) (i : s.Idx) :
    select c x y i = Scalar.select (c i) (x i) (y i) := rfl

theorem maskSpread_ap {α : Type} (f : S16x20000.Idx → α) (b : Fin 16) (n : Fin 20000) (k : Fin 4) :
    broadcastInDim S16x20000x4 ![0, 1] bcast_S16x20000_S16x20000x4_0_1 f (ix3 b n k) = f (ix2 b n) := by
  pointwise

theorem v73_ap (H : Good V0) (b : Fin 16) (n : Fin 20000) (k : Fin 4) :
    @Eq EReal (res_main_v73 V0 (ix3 b n k)) (boxesR V0 b (Cert.Own.gOf (anchorsR V0) (boxesR V0 b) n) k) := by
  unfold res_main_v73
  generalize hu : res_main_call2_v4 V0 = u
  have hb : @Eq (BitVec 32) (u (ix3 b n 0)) (BitVec.ofNat 32 (Cert.Own.gOf (anchorsR V0) (boxesR V0 b) n).val) := by rw [← hu]; exact call2_ap H b n
  rw [select_ap, maskSpread_ap, gather_ap _ _ b n k _ hb, reduce_fiber _ _ _ _ _ _ _ (fiber_one b n) (fun a c _ => Subsingleton.elim a c)]
  have hm : @Eq (BitVec 1) ((univ : Finset (Fin 1)).fold IntOp.andi 1#1 fun k => (andi (cmpi .sge u (broadcastInDim S16x20000x1 ![] bcast_S_S16x20000x1 (constantI S_ 32 0#32))) (cmpi .sle u (broadcastInDim S16x20000x1 ![0, 1, 2] bcast_S1x1x1_S16x20000x1_0_1_2 (broadcastInDim S1x1x1 ![2] bcast_S1_S1x1x1_2 (constantI S1 32 31#32))))) (ix3 b n k)) 1#1 := by
    rw [show (univ : Finset (Fin 1)) = {0} from rfl, Finset.fold_singleton]
    pointwise
    rw [hb]
    generalize (Cert.Own.gOf (anchorsR V0) (boxesR V0 b) n) = g
    revert g
    decide
  refine (congrArg (fun t => Scalar.select t _ _) hm).trans ?_
  rfl

open Classical in
theorem fold_ori {m : ℕ} (P : Fin m → Prop) : (univ : Finset (Fin m)).fold IntOp.ori (0#1) (fun g => if P g then 1#1 else 0#1) = if ∃ g, P g then 1#1 else 0#1 := by
  have h : ∀ t : Finset (Fin m), t.fold IntOp.ori (0#1) (fun g => if P g then 1#1 else 0#1) = if ∃ g ∈ t, P g then 1#1 else 0#1 := by
    intro t
    induction t using Finset.induction_on with
    | empty => simp
    | insert a t ha ih =>
      rw [Finset.fold_insert ha, ih]
      by_cases h1 : P a <;> by_cases h2 : ∃ g ∈ t, P g <;> simp [h1, h2, IntOp.ori]
  simpa using h univ

theorem best_ap (H : Good V0) (b : Fin 16) (n : Fin 20000) :
    @Eq EReal (Host.reduce (α := Ideal .f32) FloatOps.maximumf (res_main_v55 V0) (constant S_ .f32 0xFF800000#32) reducesTo_S16x20000x32_S16x20000_d2 h_S_ (ix2 b n))
      (Cert.Own.iou (anchorsR V0 n) (boxesR V0 b (Cert.Own.gOf (anchorsR V0) (boxesR V0 b) n))) := by
  rw [reduce_fiber _ _ _ _ _ _ _ (fiber_d2 b n) (fun a c h => congrFun h 2)]
  refine Eq.trans ?_ (Cert.Own.fold_max_eq fun g => Cert.Own.iou (anchorsR V0 n) (boxesR V0 b g))
  simp only [v55_ap]
  rw [show (constant S_ .f32 0xFF800000#32 : FVec Ideal S_ .f32) (Shape.Idx.first h_S_) = (⊥ : EReal) from bot_word]
  rfl

theorem eqWord (a n : Fin 20000) : IntOp.cmpi .eq (BitVec.ofNat 32 a.val) (BitVec.ofNat 32 n.val) = if a = n then 1#1 else 0#1 := by
  have : (BitVec.ofNat 32 a.val = BitVec.ofNat 32 n.val) ↔ a = n := by
    rw [← BitVec.toNat_inj, BitVec.toNat_ofNat, BitVec.toNat_ofNat, Nat.mod_eq_of_lt (by omega), Nat.mod_eq_of_lt (by omega), Fin.ext_iff]
  by_cases h : a = n
  · subst h; simp [IntOp.cmpi]
  · have h' := fun e => h (this.1 e)
    rw [if_neg h]
    change BitVec.ofBool (BitVec.ofNat 32 a.val == BitVec.ofNat 32 n.val) = 0#1
    rw [beq_eq_false_iff_ne.2 h']; rfl

open Classical in
theorem forced_ap (b : Fin 16) (n : Fin 20000) (w : S16x32.Idx → BitVec 32) (m : Fin 32 → Fin 20000) (hw : ∀ g, w (ix2 b g) = BitVec.ofNat 32 (m g).val) :
    @Eq (BitVec 1) (Host.reduce IntOp.ori (cmpi .eq (broadcastInDim S16x20000x32 ![0, 1, 2] bcast_S16x1x32_S16x20000x32_0_1_2 (broadcastInDim S16x1x32 ![0, 2] bcast_S16x32_S16x1x32_0_2 w)) (broadcastInDim S16x20000x32 ![0, 1, 2] bcast_S1x20000x1_S16x20000x32_0_1_2 (broadcastInDim S1x20000x1 ![1] bcast_S20000_S1x20000x1_1 (iotaInDim S20000 32 0)))) (constantI S_ 1 0#1) reducesTo_S16x20000x32_S16x20000_d2 h_S_ (ix2 b n))
      (if ∃ g, m g = n then 1#1 else 0#1) := by
  rw [reduce_fiber _ _ _ _ _ _ _ (fiber_d2 b n) (fun a c h => congrFun h 2)]
  refine Eq.trans ?_ ((fold_ori fun g => m g = n).trans (by congr))
  refine congrArg (fun f => (univ : Finset (Fin 32)).fold IntOp.ori (0#1) f) (funext fun g => ?_)
  pointwise
  rw [hw, eqWord]
  by_cases h : m g = n <;> simp [h]

theorem ori_ap {s : Shape} (x y : s.Idx → BitVec 1) (i : s.Idx) : ori x y i = IntOp.ori (x i) (y i) := rfl
theorem cmpf_ap {s : Shape} (p : CmpFPredicate) (x y : FVec Ideal s .f32) (i : s.Idx) : cmpf p x y i = Ideal.cmp p (x i) (y i) := rfl
theorem halves_ap (i : S16x20000.Idx) :
    @Eq EReal ((broadcastInDim S16x20000 ![] bcast_S_S16x20000 (constant S_ .f32 0x3F000000#32) : FVec Ideal S16x20000 .f32) i) Cert.Own.halfI := rfl

instance : Std.Commutative (IntOp.addi (w := 32)) := ⟨fun a b => BitVec.add_comm a b⟩
instance : Std.Associative (IntOp.addi (w := 32)) := ⟨fun a b c => BitVec.add_assoc a b c⟩

open Classical in
theorem v68_ap (H : Good V0) (b : Fin 16) (n : Fin 20000) :
    @Eq (BitVec 1) (res_main_v68 V0 (ix2 b n)) (if Cert.Own.isPos (anchorsR V0) (boxesR V0 b) n then 1#1 else 0#1) := by
  have h1 := best_ap H b n
  have h2 := forced_ap b n (fun j => (Host.argReduce reducer_argmax_f32_i32 (res_main_v55 V0) (res_main_call1_v0 V0) (res_main_call1_cst V0) (res_main_call1_c V0) reducesTo_S16x20000x32_S16x32_d1 h_S_ j).2)
    (Cert.Own.nOf (anchorsR V0) (boxesR V0 b)) (argN_ap H b)
  unfold res_main_v68
  rw [ori_ap, cmpf_ap, halves_ap, h2, h1]
  by_cases p1 : Cert.Own.near (anchorsR V0) (boxesR V0 b) n <;> by_cases p2 : ∃ g, Cert.Own.nOf (anchorsR V0) (boxesR V0 b) g = n <;>
    simp only [Cert.Own.isPos, p1, p2, true_or, or_true, if_true, or_self, if_false] <;> rw [Cert.Own.near] at p1 <;> simp [Ideal.cmp, p1, IntOp.ori]

open Classical in
theorem v69_ap (H : Good V0) (b : Fin 16) (n : Fin 20000) :
    @Eq EReal (res_main_v69 V0 (ix2 b n)) (if Cert.Own.isPos (anchorsR V0) (boxesR V0 b) n then 1 else 0) := by
  refine (congrArg (fun c : BitVec 1 => (((c.toNat : ℕ) : ℝ) : EReal)) (v68_ap H b n)).trans ?_
  split_ifs <;> simp

theorem toInt_ofNat_sum (k : ℕ) : ∀ x : BitVec 32, x = BitVec.ofNat 32 k → k < 2 ^ 31 → x.toInt = k := by
  rintro x rfl h; exact toInt_ofNat_small k h

theorem fold_addi {m : ℕ} (f : Fin m → BitVec 32) (c : Fin m → ℕ) (h : ∀ i, f i = BitVec.ofNat 32 (c i)) :
    (univ : Finset (Fin m)).fold IntOp.addi (0#32) f = BitVec.ofNat 32 (∑ i, c i) := by
  have h : ∀ t : Finset (Fin m), t.fold IntOp.addi (0#32) f = BitVec.ofNat 32 (∑ i ∈ t, c i) := by
    intro t
    induction t using Finset.induction_on with
    | empty => simp
    | insert a t ha ih => rw [Finset.fold_insert ha, ih, Finset.sum_insert ha, h, IntOp.addi, BitVec.ofNat_add]
  exact h univ

theorem v71_ap (H : Good V0) (b : Fin 16) :
    @Eq (BitVec 32) (res_main_v71 V0 (ix1 b)) (BitVec.ofNat 32 (Cert.Own.posSet (anchorsR V0) (boxesR V0 b)).card) := by
  classical
  unfold res_main_v71
  rw [reduce_fiber (α := BitVec 32) _ _ _ _ _ _ _ (fiber_p b) (fun a c h => congrFun h 1)]
  refine (fold_addi _ (fun n => if Cert.Own.isPos (anchorsR V0) (boxesR V0 b) n then 1 else 0) fun n => ?_).trans ?_
  · refine (congrArg (fun c : BitVec 1 => c.setWidth 32) (v68_ap H b n)).trans ?_
    split_ifs <;> rfl
  · rw [← Finset.card_filter]; rfl

end Cert.ReferenceIdeal.Value

end
-- ==== Proof.RI.Loc.lean ====
module

public import proofs.«01_k».proof.Proof.RI.Read
@[expose] public section

set_option maxRecDepth 16384

noncomputable section

namespace Cert.ReferenceIdeal.Value

open Cert.ReferenceIdeal Cert.ReferenceIdeal.Gen Idealize.ShloMosaic Idealize.ShloMosaic.TcCoe Finset

variable {V0 : Valuation τ sig (Elt Ideal)}

/-- The divisor: the number of positive anchors over all batches, at least one. -/
def total (A : Fin 20000 → Fin 4 → EReal) (G : Fin 16 → Fin 32 → Fin 4 → EReal) : EReal :=
  (((max 1 (∑ b, (Cert.Own.posSet A (G b)).card) : ℕ) : ℝ) : EReal)

theorem fiber_all (i : S16.Idx) : reducesTo_S16_S_d0.drop i = ix0 ↔ ∃ k : Fin 16, i = ix1 k := by
  constructor
  · intro _
    refine ⟨i 0, ?_⟩
    funext k
    fin_cases k
    rfl
  · rintro ⟨k, rfl⟩
    funext l
    exact l.elim0

theorem card_le (A : Fin 20000 → Fin 4 → EReal) (G : Fin 16 → Fin 32 → Fin 4 → EReal) (b : Fin 16) : (Cert.Own.posSet A (G b)).card ≤ 20000 := by
  refine (Finset.card_le_univ _).trans ?_
  rw [Fintype.card_fin]

theorem sitofp_ap {s : Shape} (x : s.Idx → BitVec 32) (i : s.Idx) : @Eq EReal ((sitofp .f32 x : FVec Ideal s .f32) i) (((x i).toInt : ℝ) : EReal) := rfl
theorem constantI_ap {s : Shape} {w : ℕ} (c : BitVec w) (i : s.Idx) : constantI s w c i = c := rfl
theorem maxsi_ap {s : Shape} (x y : s.Idx → BitVec 32) (i : s.Idx) : maxsi x y i = IntOp.maxsi (x i) (y i) := rfl

theorem maxsi_one (k : ℕ) (h : k < 2 ^ 31) : (IntOp.maxsi 1#32 (BitVec.ofNat 32 k)).toInt = ((max 1 k : ℕ) : ℤ) := by
  have hk := toInt_ofNat_small k h
  have h1 : (1#32).toInt = 1 := rfl
  unfold IntOp.maxsi
  rw [BitVec.slt, hk, h1]
  split_ifs with h2
  · rw [h1]; simp at h2; omega
  · rw [hk]; simp at h2; omega

theorem v260_ap (H : Good V0) : @Eq EReal (res_main_v260 V0 ix0) (total (anchorsR V0) (boxesR V0)) := by
  have hle : (∑ b, (Cert.Own.posSet (anchorsR V0) (boxesR V0 b)).card) ≤ 320000 := by
    refine (Finset.sum_le_card_nsmul _ _ 20000 fun b _ => card_le _ _ b).trans ?_
    simp
  unfold res_main_v260
  rw [sitofp_ap, maxsi_ap, reduce_fiber (α := BitVec 32) _ _ _ _ _ _ _ fiber_all (fun a c h => congrFun h 0)]
  rw [constantI_ap, constantI_ap, fold_addi _ _ fun b => v71_ap H b, maxsi_one _ (by omega), total, Int.cast_natCast]

theorem v75_ap (b : Fin 16) (n : Fin 20000) : @Eq EReal (res_main_v75 V0 (ix2 b n)) (predR V0 b n 0) := by
  pointwise [res_main_v75]
  rfl
theorem v77_ap (b : Fin 16) (n : Fin 20000) : @Eq EReal (res_main_v77 V0 (ix2 b n)) (predR V0 b n 1) := by
  pointwise [res_main_v77]
  rfl
theorem v79_ap (b : Fin 16) (n : Fin 20000) : @Eq EReal (res_main_v79 V0 (ix2 b n)) (predR V0 b n 2) := by
  pointwise [res_main_v79]
  rfl
theorem v81_ap (b : Fin 16) (n : Fin 20000) : @Eq EReal (res_main_v81 V0 (ix2 b n)) (predR V0 b n 3) := by
  pointwise [res_main_v81]
  rfl
theorem col0_ap {α : Type} (x : S16x20000x4.Idx → α) (b : Fin 16) (n : Fin 20000) :
    shapeCast S16x20000 (extractStridedSlice S16x20000x1 ![0, 0, 0] x slices_S16x20000x4_S16x20000x1_0_0_0) shapeCasts_S16x20000x1_S16x20000 (ix2 b n) = x (ix3 b n 0) := by
  pointwise
theorem v83_ap (H : Good V0) (b : Fin 16) (n : Fin 20000) :
    @Eq EReal (res_main_v83 V0 (ix2 b n)) (boxesR V0 b (Cert.Own.gOf (anchorsR V0) (boxesR V0 b) n) 0) :=
  (col0_ap _ b n).trans (v73_ap H b n 0)
theorem col1_ap {α : Type} (x : S16x20000x4.Idx → α) (b : Fin 16) (n : Fin 20000) :
    shapeCast S16x20000 (extractStridedSlice S16x20000x1 ![0, 0, 1] x slices_S16x20000x4_S16x20000x1_0_0_1) shapeCasts_S16x20000x1_S16x20000 (ix2 b n) = x (ix3 b n 1) := by
  pointwise
theorem v85_ap (H : Good V0) (b : Fin 16) (n : Fin 20000) :
    @Eq EReal (res_main_v85 V0 (ix2 b n)) (boxesR V0 b (Cert.Own.gOf (anchorsR V0) (boxesR V0 b) n) 1) :=
  (col1_ap _ b n).trans (v73_ap H b n 1)
theorem col2_ap {α : Type} (x : S16x20000x4.Idx → α) (b : Fin 16) (n : Fin 20000) :
    shapeCast S16x20000 (extractStridedSlice S16x20000x1 ![0, 0, 2] x slices_S16x20000x4_S16x20000x1_0_0_2) shapeCasts_S16x20000x1_S16x20000 (ix2 b n) = x (ix3 b n 2) := by
  pointwise
theorem v87_ap (H : Good V0) (b : Fin 16) (n : Fin 20000) :
    @Eq EReal (res_main_v87 V0 (ix2 b n)) (boxesR V0 b (Cert.Own.gOf (anchorsR V0) (boxesR V0 b) n) 2) :=
  (col2_ap _ b n).trans (v73_ap H b n 2)
theorem col3_ap {α : Type} (x : S16x20000x4.Idx → α) (b : Fin 16) (n : Fin 20000) :
    shapeCast S16x20000 (extractStridedSlice S16x20000x1 ![0, 0, 3] x slices_S16x20000x4_S16x20000x1_0_0_3) shapeCasts_S16x20000x1_S16x20000 (ix2 b n) = x (ix3 b n 3) := by
  pointwise
theorem v89_ap (H : Good V0) (b : Fin 16) (n : Fin 20000) :
    @Eq EReal (res_main_v89 V0 (ix2 b n)) (boxesR V0 b (Cert.Own.gOf (anchorsR V0) (boxesR V0 b) n) 3) :=
  (col3_ap _ b n).trans (v73_ap H b n 3)

theorem v261_ap (H : Good V0) :
    @Eq EReal (res_main_v261 V0 ix0) (Ideal.div (∑ b, Cert.Own.locOf (anchorsR V0) (boxesR V0 b) (predR V0 b)) (total (anchorsR V0) (boxesR V0))) := by
  classical
  pointwise [res_main_v261]
  simp only [v260_ap H, v69_ap H]
  pointwise [res_main_v96, res_main_v103, res_main_v106, res_main_v109, res_main_v120]
  simp only [v75_ap, v77_ap, v79_ap, v81_ap, v83_ap H, v85_ap H, v87_ap H, v89_ap H]
  unfold Cert.Own.locOf
  refine congrArg₂ Ideal.div ?_ rfl
  refine Finset.sum_congr rfl ?_
  intro b _
  refine Finset.sum_congr rfl ?_
  intro n _
  by_cases h : Cert.Own.isPos (anchorsR V0) (boxesR V0 b) n
  · rw [if_pos h, if_pos h, mul_one]; rfl
  · rw [if_neg h, if_neg h, mul_zero]

end Cert.ReferenceIdeal.Value

end
-- ==== Proof.RI.Conf.lean ====
/- The class losses as the reference adds them: over the positive anchors, and over the first of the sorted row. -/
module

public import proofs.«01_k».proof.Proof.RI.Loc
public import proofs.«01_k».proof.Proof.M.Focal
public import proofs.«01_k».proof.Proof.M.Top
public import Idealize.ShloMosaic.Lib.SortFacts
@[expose] public section

set_option maxRecDepth 16384

noncomputable section

namespace Cert.ReferenceIdeal.Value

open Cert.ReferenceIdeal Cert.ReferenceIdeal.Gen Idealize.ShloMosaic Idealize.ShloMosaic.TcCoe Finset
open Cert.Own (isPos posSet logit flP flN flT keyT lossN Grid kOf negs mem_negs)

variable {V0 : Valuation τ sig (Elt Ideal)}

/-- The order of the sort is that of the keys. -/
theorem before_ap (l r : EReal × EReal) : (comparator_f32_f32_d1 (F := Ideal) l r == 1#1) = decide (l.1 < r.1) := by
  have z : Ideal.ofBits .f32 0x00000000#32 = 0 := by simp [Ideal.ofBits, Ideal.ieee]
  have k : ∀ x : EReal, @Eq EReal (Scalar.select (Ideal.cmp .une x x) (Ideal.ofBits .f32 0x7FC00000#32) (Scalar.select (Ideal.cmp .oeq x (Ideal.ofBits .f32 0x00000000#32)) (Ideal.ofBits .f32 0x00000000#32) x)) x := by
    intro x
    have h1 : Ideal.cmp .une x x = 0#1 := by simp [Ideal.cmp]
    rw [h1, z]
    by_cases h : x = 0
    · have h2 : Ideal.cmp .oeq x 0 = 1#1 := by simp [Ideal.cmp, h]
      rw [h2, h]; rfl
    · have h2 : Ideal.cmp .oeq x 0 = 0#1 := by simp [Ideal.cmp, h]
      rw [h2]; rfl
  have e : comparator_f32_f32_d1 (F := Ideal) l r = Ideal.cmp .olt
      (Scalar.select (Ideal.cmp .une l.1 l.1) (Ideal.ofBits .f32 0x7FC00000#32) (Scalar.select (Ideal.cmp .oeq l.1 (Ideal.ofBits .f32 0x00000000#32)) (Ideal.ofBits .f32 0x00000000#32) l.1))
      (Scalar.select (Ideal.cmp .une r.1 r.1) (Ideal.ofBits .f32 0x7FC00000#32) (Scalar.select (Ideal.cmp .oeq r.1 (Ideal.ofBits .f32 0x00000000#32)) (Ideal.ofBits .f32 0x00000000#32) r.1)) := rfl
  rw [e, k, k]
  by_cases h : l.1 < r.1 <;> simp [Ideal.cmp, h]

/-- The order of a sorted row. -/
def perm (key : Fin 20000 → EReal) : Fin 20000 → Fin 20000 := sortedFrom fun k k' => decide (key k < key k')

theorem perm_inj (key : Fin 20000 → EReal) : Function.Injective (perm key) := sortedFrom_injective _

theorem perm_mono (key : Fin 20000 → EReal) (i j : Fin 20000) (h : i ≤ j) : key (perm key i) ≤ key (perm key j) := by
  rcases h.lt_or_eq with h | h
  · have s := sortedFrom_noInversion (fun k k' => decide (key k < key k')) (fun k k' => decide (key k < key k'))
      (fun a b h => by simp only [decide_eq_true_eq, decide_eq_false_iff_not] at h ⊢; exact not_lt.2 h.le) (fun a b h => h)
      (fun a b c h1 h2 => by simp only [decide_eq_false_iff_not, not_lt] at h1 h2 ⊢; exact h2.trans h1) i j h
    simp only [decide_eq_false_iff_not, not_lt] at s
    exact s
  · rw [h]

/-- The second row of a sort, by the order of the first. -/
theorem sort_ap (x y : FVec Ideal S16x20000 .f32) (key : Fin 20000 → EReal) (b : Fin 16) (hx : ∀ n, @Eq EReal (x (ix2 b n)) (key n)) (i : Fin 20000) :
    @Eq EReal ((Host.sort2 S16x20000 1 (comparator_f32_f32_d1 (F := Ideal)) x y).2 (ix2 b i)) (y (ix2 b (perm key i))) := by
  have hd : 1 < S16x20000.rank := by decide
  have al : ∀ f : Fin 20000 → S16x20000.Idx, f = (fun k => ix2 b k) →
      @Eq EReal (y (f (sortedFrom (fun k k' => comparator_f32_f32_d1 (F := Ideal) (x (f k), y (f k)) (x (f k'), y (f k')) == 1#1) i))) (y (ix2 b (perm key i))) := by
    rintro _ rfl
    have e : (fun k k' : Fin 20000 => comparator_f32_f32_d1 (F := Ideal) (x (ix2 b k), y (ix2 b k)) (x (ix2 b k'), y (ix2 b k')) == 1#1) = fun k k' => decide (key k < key k') := by
      funext k k'
      rw [← hx k, ← hx k']
      exact before_ap _ _
    rw [e]; rfl
  unfold Host.sort2
  rw [dif_pos hd]
  refine al (fun k => (ix2 b i).along (⟨1, hd⟩ : Fin S16x20000.rank) k) ?_
  funext k l
  fin_cases l <;> rfl

theorem v244_ap (H : Good V0) (b : Fin 16) (n : Fin 20000) [Decidable (isPos (anchorsR V0) (boxesR V0 b) n)] :
    @Eq EReal (res_main_v244 V0 (ix2 b n)) (keyT (confR V0 b n) (if isPos (anchorsR V0) (boxesR V0 b) n then 1 else 0)) := by
  have h := v69_ap H b n
  pointwise [res_main_v244]
  rw [h, keyT]
  by_cases p : isPos (anchorsR V0) (boxesR V0 b) n <;> simp only [p, if_true, if_false] <;> rfl

theorem v173_ap (b : Fin 16) (n : Fin 20000) : @Eq EReal (res_main_v173 V0 (ix2 b n)) (logit (confR V0 b n)) := by
  pointwise [res_main_v173, logit]
  rfl

theorem v243_ap (b : Fin 16) (n : Fin 20000) : @Eq EReal (res_main_v243 V0 (ix2 b n)) (flT (logit (confR V0 b n)) 0) := by
  rw [← v173_ap]
  pointwise [res_main_v243, res_main_v240, res_main_v209, res_main_v215]
  simp only [flT, Cert.Own.share, sub_zero, mul_one]
  rfl

/-- The losses at a target of one. -/
def posLoss (V0 : Valuation τ sig (Elt Ideal)) : FVec Ideal S16x20000 .f32 :=
  mulf (mulf (addf (mulf (broadcastInDim S16x20000 ![] bcast_S_S16x20000 (constant S_ .f32 0x3E800000#32)) (res_main_v174 V0)) (mulf (broadcastInDim S16x20000 ![] bcast_S_S16x20000 (constant S_ .f32 0x3F400000#32)) (subf (broadcastInDim S16x20000 ![] bcast_S_S16x20000 (constant S_ .f32 0x3F800000#32)) (res_main_v174 V0)))) (mulf (res_main_v205 V0) (res_main_v205 V0))) (addf (subf (maximumf (res_main_v173 V0) (broadcastInDim S16x20000 ![] bcast_S_S16x20000 (constant S_ .f32 0x00000000#32))) (mulf (res_main_v173 V0) (res_main_v174 V0))) (Host.log1p (Host.exp (Host.negf (Host.absf (res_main_v173 V0))))))

/-- Which places of the sorted row are taken, by the number of positive anchors. -/
def taken (w : IVec S16 32) : FVec Ideal S16x20000 .f32 :=
  uitofp .f32 (cmpi .slt (broadcastInDim S16x20000 ![0, 1] bcast_S1x20000_S16x20000_0_1 (broadcastInDim S1x20000 ![1] bcast_S20000_S1x20000_1 (iotaInDim S20000 32 0))) (broadcastInDim S16x20000 ![0, 1] bcast_S16x1_S16x20000_0_1 (broadcastInDim S16x1 ![0] bcast_S16_S16x1_0 (minsi (muli w (broadcastInDim S16 ![] bcast_S_S16 (constantI S_ 32 3#32))) (subi (broadcastInDim S16 ![] bcast_S_S16 (constantI S_ 32 20000#32)) w)))))

theorem posLoss_ap (b : Fin 16) (n : Fin 20000) : @Eq EReal (posLoss V0 (ix2 b n)) (flP (logit (confR V0 b n))) := by
  rw [← v173_ap, ← Cert.Own.flT_one]
  pointwise [posLoss, res_main_v205, res_main_v174, res_main_v180]
  simp only [flT, Cert.Own.share, sub_zero, mul_one]
  rfl

theorem word_min (c i : ℕ) (hc : c ≤ 20000) (hi : i < 20000) :
    IntOp.cmpi .slt (BitVec.ofNat 32 i) (IntOp.minsi (IntOp.muli (BitVec.ofNat 32 c) 3#32) (IntOp.subi 20000#32 (BitVec.ofNat 32 c)))
      = if i < min (3 * c) (20000 - c) then 1#1 else 0#1 := by
  have e1 : IntOp.muli (BitVec.ofNat 32 c) 3#32 = BitVec.ofNat 32 (3 * c) := by
    unfold IntOp.muli
    apply BitVec.eq_of_toNat_eq
    simp only [BitVec.toNat_mul, BitVec.toNat_ofNat]
    omega
  have e2 : IntOp.subi 20000#32 (BitVec.ofNat 32 c) = BitVec.ofNat 32 (20000 - c) := by
    unfold IntOp.subi
    apply BitVec.eq_of_toNat_eq
    simp only [BitVec.toNat_sub, BitVec.toNat_ofNat]
    omega
  have e3 : IntOp.minsi (BitVec.ofNat 32 (3 * c)) (BitVec.ofNat 32 (20000 - c)) = BitVec.ofNat 32 (min (3 * c) (20000 - c)) := by
    unfold IntOp.minsi
    rw [BitVec.slt, toInt_ofNat_small _ (by omega), toInt_ofNat_small _ (by omega)]
    by_cases h : 3 * c < 20000 - c
    · rw [if_pos (by simp; omega), min_eq_left h.le]
    · rw [if_neg (by simp; omega), min_eq_right (not_lt.1 h)]
  rw [e1, e2, e3]
  change BitVec.ofBool (BitVec.slt (BitVec.ofNat 32 i) _) = _
  rw [BitVec.slt, toInt_ofNat_small _ (by omega), toInt_ofNat_small _ (by omega)]
  by_cases h : i < min (3 * c) (20000 - c)
  · rw [if_pos h, decide_eq_true (by exact_mod_cast h)]; rfl
  · rw [if_neg h, decide_eq_false (by exact_mod_cast h)]; rfl

theorem taken_ap (w : IVec S16 32) (b : Fin 16) (n : Fin 20000) (c : ℕ) (hc : c ≤ 20000) (hw : @Eq (BitVec 32) (w (ix1 b)) (BitVec.ofNat 32 c)) :
    @Eq EReal (taken w (ix2 b n)) (if n.val < min (3 * c) (20000 - c) then 1 else 0) := by
  have e : @Eq EReal (taken w (ix2 b n)) ((((IntOp.cmpi .slt (BitVec.ofNat 32 n.val) (IntOp.minsi (IntOp.muli (w (ix1 b)) 3#32) (IntOp.subi 20000#32 (w (ix1 b))))).toNat : ℕ) : ℝ) : EReal) := by
    pointwise [taken]
    rfl
  rw [e, hw, word_min c n.val hc n.isLt]
  split_ifs <;> simp

theorem addAll_ap (x : FVec Ideal S16x20000 .f32) : @Eq EReal (Host.reduceAdd x (constant S_ .f32 0x00000000#32) reducesTo_S16x20000_S_d0_1 h_S_ ix0) (∑ b : Fin 16, ∑ n : Fin 20000, x (ix2 b n)) := by
  pointwise

theorem v262_parts : res_main_v262 V0 = Host.divf (addf (Host.reduceAdd (mulf (posLoss V0) (res_main_v69 V0)) (constant S_ .f32 0x00000000#32) reducesTo_S16x20000_S_d0_1 h_S_)
    (Host.reduceAdd (mulf ((Host.sort2 S16x20000 1 comparator_f32_f32_d1 (res_main_v244 V0) (res_main_v243 V0)).2) (taken (res_main_v71 V0))) (constant S_ .f32 0x00000000#32) reducesTo_S16x20000_S_d0_1 h_S_)) (res_main_v260 V0) := rfl

theorem over_ap (x y z : FVec Ideal S_ .f32) : @Eq EReal (Host.divf (addf x y) z ix0) (Ideal.div ((x ix0 : EReal) + y ix0) (z ix0)) := rfl

theorem times_ap (x y : FVec Ideal S16x20000 .f32) (i : S16x20000.Idx) : @Eq EReal (mulf x y i) ((x i : EReal) * y i) := rfl

/-- The sum over the first of a batch's sorted row, by any bound that parts the taken from the left. -/
theorem rowTop {A : Fin 20000 → Fin 4 → EReal} {G : Fin 32 → Fin 4 → EReal} {C : Fin 20000 → EReal} {q : Fin 20000 → ℝ} (Q : Grid C q) (key : Fin 20000 → EReal)
    (h1 : ∀ n, isPos A G n → key n = 0) (h0 : ∀ n, ¬ isPos A G n → key n = keyT (q n : EReal) 0) (t : ℝ)
    (hA : (negs A G fun n => t < q n).card ≤ kOf A G) (hB : kOf A G ≤ (negs A G fun n => t ≤ q n).card) :
    (∑ i : Fin 20000, if i.val < kOf A G then lossN (q (perm key i)) else 0)
      = ∑ n ∈ negs A G fun n => t < q n, lossN (q n) + ((kOf A G : ℝ) - (negs A G fun n => t < q n).card) * lossN t := by
  have before : ∀ a j, ¬ isPos A G a → (isPos A G j ∨ q j < q a) → key a < key j := by
    intro a j ha hj
    rw [h0 a ha]
    by_cases p : isPos A G j
    · rw [h1 j p]; exact Cert.Own.key_neg (Q.least a) (Q.lt a)
    · rw [h0 j p]; exact Cert.Own.key_lt (Q.lt a) (hj.resolve_left p)
  refine Cert.Own.top_sum key (perm key) (perm_inj key) (perm_mono key) _ _ ?_ ?_ _ hA hB (fun n => lossN (q n)) _ ?_
  · intro a ha j hj
    rw [mem_negs] at ha hj
    refine before a j ha.1 ?_
    by_cases p : isPos A G j
    · exact Or.inl p
    · exact Or.inr (lt_of_le_of_lt (not_lt.1 fun x => hj ⟨p, x⟩) ha.2)
  · intro a ha j hj
    rw [mem_negs] at ha hj
    refine before a j ha.1 ?_
    by_cases p : isPos A G j
    · exact Or.inl p
    · exact Or.inr (lt_of_lt_of_le (not_le.1 fun x => hj ⟨p, x⟩) ha.2)
  · intro i hi hn
    rw [mem_negs] at hi hn
    have : q i = t := le_antisymm (not_lt.1 fun x => hn ⟨hi.1, x⟩) hi.2
    show lossN (q i) = lossN t
    rw [this]

open Classical in
/-- The losses of the positive anchors, added. -/
def posOf (A : Fin 20000 → Fin 4 → EReal) (G : Fin 32 → Fin 4 → EReal) (C : Fin 20000 → EReal) : EReal := ∑ n, if isPos A G n then flP (logit (C n)) else 0

theorem posRow_ap (H : Good V0) (b : Fin 16) :
    (∑ n : Fin 20000, (mulf (posLoss V0) (res_main_v69 V0) (ix2 b n) : EReal)) = posOf (anchorsR V0) (boxesR V0 b) (confR V0 b) := by
  classical
  unfold posOf
  refine Finset.sum_congr rfl fun n _ => ?_
  refine (times_ap _ _ _).trans ?_
  rw [posLoss_ap, v69_ap H]
  by_cases p : isPos (anchorsR V0) (boxesR V0 b) n
  · rw [if_pos p, if_pos p, mul_one]
  · rw [if_neg p, if_neg p, mul_zero]

open Classical in
/-- The key of an anchor in the sort: nought at the positives. -/
def keyOf (A : Fin 20000 → Fin 4 → EReal) (G : Fin 32 → Fin 4 → EReal) (q : Fin 20000 → ℝ) (n : Fin 20000) : EReal := if isPos A G n then 0 else keyT (q n : EReal) 0

/-- The losses of the first of the sorted row, added. -/
def topOf (A : Fin 20000 → Fin 4 → EReal) (G : Fin 32 → Fin 4 → EReal) (q : Fin 20000 → ℝ) : ℝ :=
  ∑ i : Fin 20000, if i.val < kOf A G then lossN (q (perm (keyOf A G q) i)) else 0

/-- The same by any bound that parts the taken from the left. -/
theorem topOf_cut {A : Fin 20000 → Fin 4 → EReal} {G : Fin 32 → Fin 4 → EReal} {C : Fin 20000 → EReal} {q : Fin 20000 → ℝ} (Q : Grid C q) (t : ℝ)
    (hA : (negs A G fun n => t < q n).card ≤ kOf A G) (hB : kOf A G ≤ (negs A G fun n => t ≤ q n).card) :
    topOf A G q = ∑ n ∈ negs A G fun n => t < q n, lossN (q n) + ((kOf A G : ℝ) - (negs A G fun n => t < q n).card) * lossN t :=
  rowTop Q _ (fun n p => if_pos p) (fun n p => if_neg p) t hA hB

theorem topRow_ap (H : Good V0) (b : Fin 16) {q : Fin 20000 → ℝ} (Q : Grid (confR V0 b) q) :
    (∑ i : Fin 20000, (mulf ((Host.sort2 S16x20000 1 comparator_f32_f32_d1 (res_main_v244 V0) (res_main_v243 V0)).2) (taken (res_main_v71 V0)) (ix2 b i) : EReal))
      = (topOf (anchorsR V0) (boxesR V0 b) q : EReal) := by
  classical
  have hk : ∀ n, @Eq EReal (res_main_v244 V0 (ix2 b n)) (keyOf (anchorsR V0) (boxesR V0 b) q n) := by
    intro n
    rw [v244_ap H b n, keyOf, Q.eq]
    by_cases p : isPos (anchorsR V0) (boxesR V0 b) n
    · rw [if_pos p, if_pos p, Cert.Own.keyT_one]
    · rw [if_neg p, if_neg p]
  rw [topOf, Cert.Own.coe_sum]
  refine Finset.sum_congr rfl fun i _ => ?_
  refine (times_ap _ _ _).trans ?_
  rw [sort_ap _ _ _ b hk i, v243_ap, taken_ap _ b i _ (card_le _ _ b) (v71_ap H b), Q.eq]
  generalize perm (keyOf (anchorsR V0) (boxesR V0 b) q) i = j
  obtain ⟨l, hl⟩ := Cert.Own.logit_real (Q.pos j) (Q.lt j)
  have hf : flT (logit (q j : EReal)) 0 = (lossN (q j) : EReal) := by
    rw [← Cert.Own.flN_logit (Q.pos _) (Q.lt _), hl, Cert.Own.flT_zero]
  rw [hf]
  by_cases h : i.val < kOf (anchorsR V0) (boxesR V0 b)
  · rw [if_pos h, if_pos (show _ < min _ _ from h), mul_one]
  · rw [if_neg h, if_neg (show ¬ _ < min _ _ from h), mul_zero]; rfl

/-- The class loss: both parts over the number of positive anchors. -/
theorem v262_ap (H : Good V0) {q : Fin 16 → Fin 20000 → ℝ} (Q : ∀ b, Grid (confR V0 b) (q b)) :
    @Eq EReal (res_main_v262 V0 ix0) (Ideal.div (∑ b, (posOf (anchorsR V0) (boxesR V0 b) (confR V0 b) + (topOf (anchorsR V0) (boxesR V0 b) (q b) : EReal))) (total (anchorsR V0) (boxesR V0))) := by
  rw [v262_parts]
  refine (over_ap _ _ _).trans ?_
  rw [v260_ap H, addAll_ap, addAll_ap, Finset.sum_add_distrib]
  refine congrArg₂ Ideal.div (congrArg₂ _ ?_ ?_) rfl
  · exact Finset.sum_congr rfl fun b _ => posRow_ap H b
  · exact Finset.sum_congr rfl fun b _ => topRow_ap H b (Q b)

end Cert.ReferenceIdeal.Value

end
-- ==== Proof.KI.Both.lean ====
/- The middle cell after the last point: the class losses of all batches, as the reference adds them. -/
module

public import proofs.«01_k».proof.Proof.KI.Total
public import proofs.«01_k».proof.Proof.KI.ConfC
public import proofs.«01_k».proof.Proof.RI.Conf

@[expose] public section

set_option maxRecDepth 16384

noncomputable section

namespace Cert.KernelIdeal.Own

open Cert.KernelIdeal Cert.KernelIdeal.Gen Idealize.ShloMosaic Idealize.ShloMosaic.TcCoe Idealize.SL Idealize.SL.Sem
open Cert.Own (Grid)
open Cert.ReferenceIdeal.Value (posOf topOf)

variable {L : Blk Ideal} {A D : Fin 20000 → Fin 4 → EReal} {G : Fin 32 → Fin 4 → EReal} {C : Fin 20000 → EReal} {q : Fin 20000 → ℝ}

theorem posS_eq (H : Holds L A D G C) (Q : Grid C q) : @Eq EReal (posS L) (posOf A G C) := posS_ap H Q

theorem topS_eq (H : Holds L A D G C) (Q : Grid C q) : @Eq EReal (topS L) (topOf A G q : EReal) := by
  obtain ⟨t, hA, hB, e⟩ := topS_ap H Q
  rw [e, Cert.ReferenceIdeal.Value.topOf_cut Q t hA hB]

/-- Four batches' parts, added up one after another. -/
theorem eight (a p0 t0 p1 t1 p2 t2 p3 t3 : EReal) :
    a + ((((((((0 + p0) + t0) + p1) + t1) + p2) + t2) + p3) + t3) = a + ((((p0 + t0) + (p1 + t1)) + (p2 + t2)) + (p3 + t3)) := by
  rw [zero_add]; simp only [add_assoc]

theorem scalar_eight (a p0 t0 p1 t1 p2 t2 p3 t3 : EReal) :
    @Eq EReal (Scalar.addf (F := Ideal) (φ := .f32) a (Scalar.addf (F := Ideal) (φ := .f32) (Scalar.addf (F := Ideal) (φ := .f32) (Scalar.addf (F := Ideal) (φ := .f32) (Scalar.addf (F := Ideal) (φ := .f32) (Scalar.addf (F := Ideal) (φ := .f32) (Scalar.addf (F := Ideal) (φ := .f32) (Scalar.addf (F := Ideal) (φ := .f32) (Scalar.addf (F := Ideal) (φ := .f32) (0 : EReal) p0) t0) p1) t1) p2) t2) p3) t3))
      (a + ((((((((0 + p0) + t0) + p1) + t1) + p2) + t2) + p3) + t3)) := rfl

variable {m : (ℓ : Loc nD τ sig) → Buf (Elt Ideal) ℓ} {c : Dev nD} {r : Fin 16 → Fin 20000 → ℝ}

theorem step_confs (H : InOrder m c) (Q : ∀ b, Grid (confK m c b) (r b)) (t : Fin cfg0.N) (a : EReal × EReal × EReal) :
    (pointStep (F := Ideal) m c t a).2.1 = @HAdd.hAdd EReal EReal EReal _ a.2.1 (∑ j, (posOf (anchorsK m c) (boxesK m c (batch t j)) (confK m c (batch t j)) + (topOf (anchorsK m c) (boxesK m c (batch t j)) (r (batch t j)) : EReal))) := by
  have e := step_conf c (mem0 t) (mem0_whole t) (mem1 t) (mem1_whole t) (mem2 t) (mem2_whole t) (mem3 t) (mem3_whole t) (iblk m c 0 t) (iblk m c 1 t) (iblk m c 2 t) (iblk m c 3 t) a
  have s0 := holds0 (mem0 t) (mem0_whole t) (mem1 t) (mem1_whole t) (mem2 t) (mem2_whole t) (mem3 t) (mem3_whole t) (stage H t)
  have s1 := holds1 (mem0 t) (mem0_whole t) (mem1 t) (mem1_whole t) (mem2 t) (mem2_whole t) (mem3 t) (mem3_whole t) (stage H t)
  have s2 := holds2 (mem0 t) (mem0_whole t) (mem1 t) (mem1_whole t) (mem2 t) (mem2_whole t) (mem3 t) (mem3_whole t) (stage H t)
  have s3 := holds3 (mem0 t) (mem0_whole t) (mem1 t) (mem1_whole t) (mem2 t) (mem2_whole t) (mem3 t) (mem3_whole t) (stage H t)
  rw [posS_eq s0 (Q _), posS_eq s1 (Q _), posS_eq s2 (Q _), posS_eq s3 (Q _), topS_eq s0 (Q _), topS_eq s1 (Q _), topS_eq s2 (Q _), topS_eq s3 (Q _), zero_word] at e
  refine e.trans ((scalar_eight _ _ _ _ _ _ _ _ _).trans ?_)
  rw [eight]
  simp only [Fin.sum_univ_four]

theorem end_conf (H : InOrder m c) (Q : ∀ b, Grid (confK m c b) (r b)) :
    @Eq EReal (atEnd m c).2.1 (∑ b, (posOf (anchorsK m c) (boxesK m c b) (confK m c b) + (topOf (anchorsK m c) (boxesK m c b) (r b) : EReal))) :=
  sum_up (fun a => a.2.1) _ zero_word (step_confs H Q)

end Cert.KernelIdeal.Own

end
-- ==== Proof.KI.Ordered.lean ====
/- The stated condition on the boxes and the confidences, read entry by entry. -/
module

public import proofs.«01_k».proof.Pre_well_posed
public import proofs.«01_k».proof.Proof.M.Spec
public import proofs.«01_k».proof.Proof.M.Focal
public import Idealize.ShloMosaic.Lib.Pointwise

@[expose] public section

set_option maxRecDepth 16384

noncomputable section

namespace Cert.Pre_well_posed.Own

open Cert.Pre_well_posed Idealize.ShloMosaic

instance given : Facts where
  bcast_S_S16x20000 := by decide
  reducesTo_S16x20000_S_d0_1 := by decide
  bcast_S_S20000x4 := by decide
  reducesTo_S20000x4_S_d0_1 := by decide
  h_S_ := by decide
  slices_S20000x4_S20000x1_0_0 := by decide
  shapeCasts_S20000x1_S20000 := by decide
  slices_S20000x4_S20000x1_0_2 := by decide
  reducesTo_S20000_S_d0 := by decide
  slices_S20000x4_S20000x1_0_1 := by decide
  slices_S20000x4_S20000x1_0_3 := by decide
  bcast_S_S16x32x4 := by decide
  reducesTo_S16x32x4_S_d0_1_2 := by decide
  slices_S16x32x4_S16x32x1_0_0_0 := by decide
  shapeCasts_S16x32x1_S16x32 := by decide
  slices_S16x32x4_S16x32x1_0_0_2 := by decide
  reducesTo_S16x32_S_d0_1 := by decide
  slices_S16x32x4_S16x32x1_0_0_1 := by decide
  slices_S16x32x4_S16x32x1_0_0_3 := by decide

theorem and_one (a b : BitVec 1) : IntOp.andi a b = 1#1 ↔ a = 1#1 ∧ b = 1#1 := by revert a b; decide

theorem of_bool (b : Bool) : BitVec.ofBool b = 1#1 ↔ b = true := by revert b; decide

theorem and_fold {β : Type} (f : β → BitVec 1) (l : List β) (z : BitVec 1) (h : l.foldl (fun r n => IntOp.andi r (f n)) z = 1#1) :
    z = 1#1 ∧ ∀ n ∈ l, f n = 1#1 := by
  induction l generalizing z with
  | nil => exact ⟨h, by simp⟩
  | cons a l ih =>
    obtain ⟨h1, h2⟩ := ih _ h
    obtain ⟨h3, h4⟩ := (and_one _ _).1 h1
    refine ⟨h3, fun n hn => ?_⟩
    rcases List.mem_cons.1 hn with rfl | hn
    · exact h4
    · exact h2 n hn

/-- A reduction by «and» down to a scalar that ends true had every entry true. -/
theorem all_true {s : Shape} {axes : List (Fin s.rank)} (x : s.Idx → BitVec 1) (init : S_.Idx → BitVec 1) (h : s.ReducesTo axes S_) (hu : 0 < S_.numel)
    (j : S_.Idx) (e : Host.reduce IntOp.andi x init h hu j = 1#1) (i : s.Idx) : x i = 1#1 := by
  have := (and_fold (fun n => x (s.rowMajor.symm n)) _ _ e).2 (s.rowMajor i) (by
    simp only [List.mem_filter, List.mem_finRange, true_and, decide_eq_true_eq]
    funext a; exact a.elim0)
  simpa using this

theorem inf_word : @Eq EReal (Ideal.ofBits .f32 0x7F800000#32) ⊤ := by simp [Ideal.ofBits, Ideal.ieee]

theorem finite_of (x : EReal) (h : @Eq (BitVec 1) (FloatOps.cmpf (F := Ideal) (φ := .f32) .olt (FloatOps.absf x) (Ideal.ofBits .f32 0x7F800000#32)) 1#1) : ∃ r : ℝ, x = r := by
  rw [inf_word, Ideal.cmpf_def] at h
  replace h := of_decide_eq_true ((of_bool _).1 h)
  induction x using EReal.rec with
  | coe r => exact ⟨r, rfl⟩
  | bot => exact absurd (show (⊤ : EReal) < ⊤ from h) (lt_irrefl _)
  | top => exact absurd (show (⊤ : EReal) < ⊤ from h) (lt_irrefl _)

theorem le_of (x y : EReal) (h : @Eq (BitVec 1) (FloatOps.cmpf (F := Ideal) (φ := .f32) .ole x y) 1#1) : x ≤ y := by
  simpa [Ideal.cmpf_def, Ideal.cmp, of_bool] using h

theorem ordered_of (a : Fin 4 → EReal) (h : ∀ k, ∃ r : ℝ, a k = r) (h0 : a 0 ≤ a 2) (h1 : a 1 ≤ a 3) : Cert.Own.Ordered a := by
  choose r hr using h
  refine ⟨r, hr, ?_, ?_⟩
  · rw [hr, hr] at h0; exact_mod_cast h0
  · rw [hr, hr] at h1; exact_mod_cast h1

theorem lt_of (x y : EReal) (h : @Eq (BitVec 1) (FloatOps.cmpf (F := Ideal) (φ := .f32) .olt x y) 1#1) : x < y := by
  simpa [Ideal.cmpf_def, Ideal.cmp, of_bool] using h

theorem gt_of (x y : EReal) (h : @Eq (BitVec 1) (FloatOps.cmpf (F := Ideal) (φ := .f32) .ogt x y) 1#1) : y < x := by
  simpa [Ideal.cmpf_def, Ideal.cmp, of_bool] using h

theorem eq_of (x y : EReal) (h : @Eq (BitVec 1) (FloatOps.cmpf (F := Ideal) (φ := .f32) .oeq x y) 1#1) : x = y := by
  simpa [Ideal.cmpf_def, Ideal.cmp, of_bool] using h

theorem nought_word : @Eq EReal (Ideal.ofBits .f32 0x00000000#32) 0 := by simp [Ideal.ofBits, Ideal.ieee]

theorem one_word : @Eq EReal (Ideal.ofBits .f32 0x3F800000#32) 1 := by
  simp [Ideal.ofBits, Ideal.ieee]; rw [← EReal.coe_mul]; norm_num

theorem scale_word : @Eq EReal (Ideal.ofBits .f32 0x50800000#32) ((2 ^ 34 : ℝ) : EReal) := by
  have e : @Eq EReal (Ideal.ofBits .f32 0x50800000#32) ((8388608 : ℝ) * (2 ^ 11 : ℝ) : ℝ) := by
    simp [Ideal.ofBits, Ideal.ieee]
  rw [e]; exact congrArg Real.toEReal (by norm_num)

/-- A number between nought and one whose multiple by 2^34 is its own floor is a whole number over 2^34. -/
theorem stepped (x : EReal) (h0 : 0 < x) (h1 : x < 1) (h : @Eq EReal (FloatOps.hostUnary (F := Ideal) (φ := .f32) .floor (x * ((2 ^ 34 : ℝ) : EReal))) (x * ((2 ^ 34 : ℝ) : EReal))) :
    ∃ q : ℝ, x = q ∧ 0 < q ∧ q < 1 ∧ ∃ w : ℕ, q = w / 2 ^ 34 := by
  induction x using EReal.rec with
  | bot => exact absurd h0 (by simp)
  | top => exact absurd h1 (by simp)
  | coe r =>
    have r0 : 0 < r := by exact_mod_cast h0
    have r1 : r < 1 := by exact_mod_cast h1
    refine ⟨r, rfl, r0, r1, ⌊r * 2 ^ 34⌋.toNat, ?_⟩
    rw [← EReal.coe_mul] at h
    have e : ((⌊r * 2 ^ 34⌋ : ℤ) : ℝ) = r * 2 ^ 34 := EReal.coe_injective h
    have p : 0 ≤ ⌊r * 2 ^ 34⌋ := Int.floor_nonneg.2 (mul_nonneg r0.le (pow_nonneg (by norm_num) _))
    have c : ((⌊r * 2 ^ 34⌋.toNat : ℕ) : ℝ) = r * 2 ^ 34 := by
      exact (congrArg (Int.cast : ℤ → ℝ) (Int.toNat_of_nonneg p)).trans e
    rw [c, mul_div_assoc, div_self (pow_ne_zero _ (by norm_num)), mul_one]

variable (x0 : FVec Ideal S16x20000x4 .f32) (x1 : FVec Ideal S16x20000 .f32) (x2 : FVec Ideal S20000x4 .f32) (x3 : FVec Ideal S16x32x4 .f32)

/-- What the condition says: whole boxes in order, confidences on the steps. -/
theorem ordered (h : fn (F := Ideal) x0 x1 x2 x3 = fun _ => 1#1) :
    (∀ n : Fin 20000, Cert.Own.Ordered fun k => x2 (ix2 n k)) ∧ (∀ (b : Fin 16) (g : Fin 32), Cert.Own.Ordered fun k => x3 (ix3 b g k))
      ∧ ∀ b : Fin 16, ∃ q : Fin 20000 → ℝ, Cert.Own.Grid (fun n => x1 (ix2 b n)) q := by
  have e := congrFun h ix0
  simp only [fn, fn_part1, fn_part2] at e
  obtain ⟨e1, e2⟩ := (and_one _ _).1 e
  obtain ⟨e0, e1⟩ := (and_one _ _).1 e1
  obtain ⟨e1, f1⟩ := (and_one _ _).1 e1
  obtain ⟨e1, g1⟩ := (and_one _ _).1 e1
  obtain ⟨e2, f2⟩ := (and_one _ _).1 e2
  obtain ⟨e2, g2⟩ := (and_one _ _).1 e2
  refine ⟨fun n => ordered_of _ (fun k => finite_of _ (all_true _ _ _ _ _ e1 (ix2 n k))) ?_ ?_, fun b g => ordered_of _ (fun k => finite_of _ (all_true _ _ _ _ _ e2 (ix3 b g k))) ?_ ?_, fun b => ?_⟩
  · have q := le_of _ _ (all_true _ _ _ _ _ g1 (ix1 n))
    pointwise at q
    exact q
  · have q := le_of _ _ (all_true _ _ _ _ _ f1 (ix1 n))
    pointwise at q
    exact q
  · have q := le_of _ _ (all_true _ _ _ _ _ g2 (ix2 b g))
    pointwise at q
    exact q
  · have q := le_of _ _ (all_true _ _ _ _ _ f2 (ix2 b g))
    pointwise at q
    exact q
  · have each : ∀ n : Fin 20000, ∃ q : ℝ, @Eq EReal (x1 (ix2 b n)) q ∧ 0 < q ∧ q < 1 ∧ ∃ w : ℕ, q = w / 2 ^ 34 := by
      intro n
      obtain ⟨p, s⟩ := (and_one _ _).1 (all_true _ _ _ _ _ e0 (ix2 b n))
      obtain ⟨p, u⟩ := (and_one _ _).1 p
      have p := gt_of _ _ p
      have u := lt_of _ _ u
      have s := eq_of _ _ s
      exact stepped _ (nought_word ▸ p) (one_word ▸ u) (scale_word ▸ s)
    choose q e p u w using each
    exact ⟨q, e, p, u, w⟩

end Cert.Pre_well_posed.Own
-- ==== Proof.KI.Boxes.lean ====
/- The stated condition on the boxes alone, read entry by entry. -/
module

public import proofs.«01_k».proof.Pre_boxes_in_order
public import proofs.«01_k».proof.On_third_result
public import proofs.«01_k».proof.Proof.KI.Ordered
public import Idealize.ShloMosaic.Lib.Pointwise

@[expose] public section

set_option maxRecDepth 16384

noncomputable section

namespace Cert.Pre_boxes_in_order.Own

open Cert.Pre_boxes_in_order Idealize.ShloMosaic

instance given : Facts where
  bcast_S_S20000x4 := by decide
  reducesTo_S20000x4_S_d0_1 := by decide
  h_S_ := by decide
  slices_S20000x4_S20000x1_0_0 := by decide
  shapeCasts_S20000x1_S20000 := by decide
  slices_S20000x4_S20000x1_0_2 := by decide
  reducesTo_S20000_S_d0 := by decide
  slices_S20000x4_S20000x1_0_1 := by decide
  slices_S20000x4_S20000x1_0_3 := by decide
  bcast_S_S16x32x4 := by decide
  reducesTo_S16x32x4_S_d0_1_2 := by decide
  slices_S16x32x4_S16x32x1_0_0_0 := by decide
  shapeCasts_S16x32x1_S16x32 := by decide
  slices_S16x32x4_S16x32x1_0_0_2 := by decide
  reducesTo_S16x32_S_d0_1 := by decide
  slices_S16x32x4_S16x32x1_0_0_1 := by decide
  slices_S16x32x4_S16x32x1_0_0_3 := by decide

instance chosen : Cert.On_third_result.Facts where
  bcast_S_S1x1 := by decide

open Cert.Pre_well_posed.Own (and_one all_true finite_of le_of ordered_of)

variable (x0 : FVec Ideal S16x20000x4 .f32) (x1 : FVec Ideal S16x20000 .f32) (x2 : FVec Ideal S20000x4 .f32) (x3 : FVec Ideal S16x32x4 .f32)

theorem ordered (h : fn (F := Ideal) x0 x1 x2 x3 = fun _ => 1#1) :
    (∀ n : Fin 20000, Cert.Own.Ordered fun k => x2 (ix2 n k)) ∧ ∀ (b : Fin 16) (g : Fin 32), Cert.Own.Ordered fun k => x3 (ix3 b g k) := by
  have e := congrFun h ix0
  simp only [fn, fn_part1] at e
  obtain ⟨e1, e2⟩ := (and_one _ _).1 e
  obtain ⟨e1, f1⟩ := (and_one _ _).1 e1
  obtain ⟨e1, g1⟩ := (and_one _ _).1 e1
  obtain ⟨e2, f2⟩ := (and_one _ _).1 e2
  obtain ⟨e2, g2⟩ := (and_one _ _).1 e2
  refine ⟨fun n => ordered_of _ (fun k => finite_of _ (all_true _ _ _ _ _ e1 (ix2 n k))) ?_ ?_, fun b g => ordered_of _ (fun k => finite_of _ (all_true _ _ _ _ _ e2 (ix3 b g k))) ?_ ?_⟩
  · have q := le_of _ _ (all_true _ _ _ _ _ g1 (ix1 n))
    pointwise at q
    exact q
  · have q := le_of _ _ (all_true _ _ _ _ _ f1 (ix1 n))
    pointwise at q
    exact q
  · have q := le_of _ _ (all_true _ _ _ _ _ g2 (ix2 b g))
    pointwise at q
    exact q
  · have q := le_of _ _ (all_true _ _ _ _ _ f2 (ix2 b g))
    pointwise at q
    exact q

end Cert.Pre_boxes_in_order.Own
-- ==== Proof.RI.Run.lean ====
/- The reference run from first to last operation: what its three results hold at the end. -/
module

public import proofs.«01_k».proof.Proof.RI.Res

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
set_option maxRecDepth 8192 in
set_option maxHeartbeats 2000000 in
theorem val0_1_main_v2 (V0 : Valuation τ sig (Elt F)) : val0_1 V0 (no_index (Proc.devRef .tc main_v2)) = res_main_v2 V0 := by
  unfold val0_1
  simp only [ops_part0_0]
  after_results_simp
  simp only [val0_main_arg2] <;> rfl
set_option maxRecDepth 8192 in
set_option maxHeartbeats 2000000 in
theorem val0_1_main_v5 (V0 : Valuation τ sig (Elt F)) : val0_1 V0 (no_index (Proc.devRef .tc main_v5)) = res_main_v5 V0 := by
  unfold val0_1
  simp only [ops_part0_0]
  after_results_simp
  simp only [val0_main_arg2] <;> rfl
set_option maxRecDepth 8192 in
set_option maxHeartbeats 2000000 in
theorem val0_1_main_v8 (V0 : Valuation τ sig (Elt F)) : val0_1 V0 (no_index (Proc.devRef .tc main_v8)) = res_main_v8 V0 := by
  unfold val0_1
  simp only [ops_part0_0]
  after_results_simp
  simp only [val0_main_arg2] <;> rfl
set_option maxRecDepth 8192 in
set_option maxHeartbeats 2000000 in
theorem val0_1_main_v11 (V0 : Valuation τ sig (Elt F)) : val0_1 V0 (no_index (Proc.devRef .tc main_v11)) = res_main_v11 V0 := by
  unfold val0_1
  simp only [ops_part0_0]
  after_results_simp
  simp only [val0_main_arg2] <;> rfl
set_option maxRecDepth 8192 in
set_option maxHeartbeats 2000000 in
theorem val0_1_main_v14 (V0 : Valuation τ sig (Elt F)) : val0_1 V0 (no_index (Proc.devRef .tc main_v14)) = res_main_v14 V0 := by
  unfold val0_1
  simp only [ops_part0_0]
  after_results_simp
  simp only [val0_main_arg3] <;> rfl
set_option maxRecDepth 8192 in
set_option maxHeartbeats 2000000 in
theorem val0_1_main_v17 (V0 : Valuation τ sig (Elt F)) : val0_1 V0 (no_index (Proc.devRef .tc main_v17)) = res_main_v17 V0 := by
  unfold val0_1
  simp only [ops_part0_0]
  after_results_simp
  simp only [val0_main_arg3] <;> rfl
set_option maxRecDepth 8192 in
set_option maxHeartbeats 2000000 in
theorem val0_1_main_v20 (V0 : Valuation τ sig (Elt F)) : val0_1 V0 (no_index (Proc.devRef .tc main_v20)) = res_main_v20 V0 := by
  unfold val0_1
  simp only [ops_part0_0]
  after_results_simp
  simp only [val0_main_arg3] <;> rfl
set_option maxRecDepth 8192 in
set_option maxHeartbeats 2000000 in
theorem val0_1_main_v23 (V0 : Valuation τ sig (Elt F)) : val0_1 V0 (no_index (Proc.devRef .tc main_v23)) = res_main_v23 V0 := by
  unfold val0_1
  simp only [ops_part0_0]
  after_results_simp
  simp only [val0_main_arg3] <;> rfl
set_option maxRecDepth 8192 in
set_option maxHeartbeats 2000000 in
theorem val0_1_main_v26 (V0 : Valuation τ sig (Elt F)) : val0_1 V0 (no_index (Proc.devRef .tc main_v26)) = minimumf (broadcastInDim S16x20000x32 ![0, 1, 2] bcast_S1x20000x1_S16x20000x32_0_1_2 (res_main_v8 V0)) (broadcastInDim S16x20000x32 ![0, 1, 2] bcast_S16x1x32_S16x20000x32_0_1_2 (res_main_v20 V0)) := by
  unfold val0_1
  simp only [ops_part0_0]
  after_results_simp
  simp only [val0_main_arg3, val0_main_arg2] <;> rfl
set_option maxRecDepth 8192 in
set_option maxHeartbeats 2000000 in
theorem val0_1_main_v29 (V0 : Valuation τ sig (Elt F)) : val0_1 V0 (no_index (Proc.devRef .tc main_v29)) = maximumf (broadcastInDim S16x20000x32 ![0, 1, 2] bcast_S1x20000x1_S16x20000x32_0_1_2 (res_main_v2 V0)) (broadcastInDim S16x20000x32 ![0, 1, 2] bcast_S16x1x32_S16x20000x32_0_1_2 (res_main_v14 V0)) := by
  unfold val0_1
  simp only [ops_part0_0]
  after_results_simp
  simp only [val0_main_arg3, val0_main_arg2] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v30, main_cst, main_v31, main_v32, main_v33, main_v34, main_v35, main_v36, main_v37, main_v38, main_v39, main_cst_0, main_v40, main_v41, main_v42, main_v43, main_v44, main_v45, main_v46, main_v47, main_v48, main_v49, main_v50, main_v51, main_v52, main_cst_1, main_v53, main_v54, main_v55, main_call0_v0]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
set_option maxRecDepth 8192 in
set_option maxHeartbeats 2000000 in
theorem val0_2_main_v55 (V0 : Valuation τ sig (Elt F)) : val0_2 V0 (no_index (Proc.devRef .tc main_v55)) = res_main_v55 V0 := by
  unfold val0_2
  simp only [ops_part0_1, TRef.nullary, TRef.toBuf, TRef.ofBuf, cast_eq]
  after_results_simp
  simp only [val0_1_main_v17, val0_1_main_v23, val0_1_main_v14, val0_1_main_v20, val0_1_main_v5, val0_1_main_v11, val0_1_main_v2, val0_1_main_v8, val0_1_main_v29, val0_1_main_v26] <;> rfl
set_option maxRecDepth 8192 in
set_option maxHeartbeats 2000000 in
theorem val0_2_main_call0_v0 (V0 : Valuation τ sig (Elt F)) : val0_2 V0 (no_index (Proc.devRef .tc main_call0_v0)) = res_main_call0_v0 V0 := by
  unfold val0_2
  simp only [ops_part0_1, TRef.nullary, TRef.toBuf, TRef.ofBuf, cast_eq]
  after_results_simp
  all_goals rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_call0_cst, main_call0_c, main_call0_v1_0, main_v56]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_v55 (V0 : Valuation τ sig (Elt F)) : val1 V0 (no_index (Proc.devRef .tc main_v55)) = res_main_v55 V0 :=
  (val1_keep V0 main_v55 (by decide)).trans (val0_2_main_v55 V0)
set_option maxRecDepth 8192 in
theorem val1_main_v56 (V0 : Valuation τ sig (Elt F)) : val1 V0 (no_index (Proc.devRef .tc main_v56)) = (fun j => (Host.argReduce reducer_argmax_f32_i32 (res_main_v55 V0) (res_main_call0_v0 V0) (res_main_call0_cst V0) (res_main_call0_c V0) reducesTo_S16x20000x32_S16x20000_d2 h_S_ j).2) := by
  unfold val1
  simp only [ops_part0_2, TRef.nullary, TRef.quaternary, TRef.toBuf, TRef.ofBuf, cast_eq]
  after_results_simp
  simp only [val0_2_main_call0_v0, val0_2_main_v55] <;> rfl

/-- The device's buffer contents after @main's first 94 operations. -/
def val1_1 (V0 : Valuation τ sig (Elt F)) : Valuation τ sig (Elt F) := after ops_part1_0 (val1 V0)
/-- The buffers that window `ops_part1_0`'s operations write. -/
abbrev ops_part1_0_W : List (Ref sig .tc) := [main_call1_v0, main_call1_cst, main_call1_c, main_call1_v1_0, main_v57, main_v58, main_v59, main_v60, main_v61, main_v62, main_v63, main_c, main_v64, main_cst_2, main_v65, main_cst_3, main_v66, main_v67, main_v68, main_v69, main_v70, main_c_4, main_v71, main_v72, main_call2_c, main_call2_v0, main_call2_v1, main_call2_c_0, main_call2_v2, main_call2_v3]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
set_option maxRecDepth 8192 in
set_option maxHeartbeats 2000000 in
theorem val1_1_main_v69 (V0 : Valuation τ sig (Elt F)) : val1_1 V0 (no_index (Proc.devRef .tc main_v69)) = res_main_v69 V0 := by
  unfold val1_1
  simp only [ops_part1_0, TRef.binary, TRef.nullary, TRef.quaternary, TRef.unary, TRef.toBuf, TRef.ofBuf, cast_eq]
  after_results_simp
  simp only [val1_main_v55] <;> rfl
set_option maxRecDepth 8192 in
set_option maxHeartbeats 2000000 in
theorem val1_1_main_v71 (V0 : Valuation τ sig (Elt F)) : val1_1 V0 (no_index (Proc.devRef .tc main_v71)) = res_main_v71 V0 := by
  unfold val1_1
  simp only [ops_part1_0, TRef.binary, TRef.nullary, TRef.quaternary, TRef.unary, TRef.toBuf, TRef.ofBuf, cast_eq]
  after_results_simp
  simp only [val1_main_v55] <;> rfl
set_option maxRecDepth 8192 in
set_option maxHeartbeats 2000000 in
theorem val1_1_main_v72 (V0 : Valuation τ sig (Elt F)) : val1_1 V0 (no_index (Proc.devRef .tc main_v72)) = res_main_v72 V0 := by
  unfold val1_1
  simp only [ops_part1_0, TRef.binary, TRef.nullary, TRef.quaternary, TRef.unary, TRef.toBuf, TRef.ofBuf, cast_eq]
  after_results_simp
  simp only [val1_main_v56] <;> rfl
set_option maxRecDepth 8192 in
set_option maxHeartbeats 2000000 in
theorem val1_1_main_call2_v1 (V0 : Valuation τ sig (Elt F)) : val1_1 V0 (no_index (Proc.devRef .tc main_call2_v1)) = cmpi .slt (res_main_v72 V0) (broadcastInDim S16x20000x1 ![] bcast_S_S16x20000x1 (constantI S_ 32 0#32)) := by
  unfold val1_1
  simp only [ops_part1_0, TRef.binary, TRef.nullary, TRef.quaternary, TRef.unary, TRef.toBuf, TRef.ofBuf, cast_eq]
  after_results_simp
  simp only [val1_main_v56] <;> rfl
set_option maxRecDepth 8192 in
set_option maxHeartbeats 2000000 in
theorem val1_1_main_call2_v3 (V0 : Valuation τ sig (Elt F)) : val1_1 V0 (no_index (Proc.devRef .tc main_call2_v3)) = addi (res_main_v72 V0) (broadcastInDim S16x20000x1 ![] bcast_S_S16x20000x1 (constantI S_ 32 32#32)) := by
  unfold val1_1
  simp only [ops_part1_0, TRef.binary, TRef.nullary, TRef.quaternary, TRef.unary, TRef.toBuf, TRef.ofBuf, cast_eq]
  after_results_simp
  simp only [val1_main_v56] <;> rfl

/-- The device's buffer contents after @main's first 124 operations. -/
def val1_2 (V0 : Valuation τ sig (Elt F)) : Valuation τ sig (Elt F) := after ops_part1_1 (val1_1 V0)
/-- The buffers that window `ops_part1_1`'s operations write. -/
abbrev ops_part1_1_W : List (Ref sig .tc) := [main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v73, main_v74, main_v75, main_v76, main_v77, main_v78, main_v79, main_v80, main_v81, main_v82, main_v83, main_v84, main_v85, main_v86, main_v87]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_v69 (V0 : Valuation τ sig (Elt F)) : val1_2 V0 (no_index (Proc.devRef .tc main_v69)) = res_main_v69 V0 :=
  (val1_2_keep V0 main_v69 (by decide)).trans (val1_1_main_v69 V0)
theorem val1_2_main_v71 (V0 : Valuation τ sig (Elt F)) : val1_2 V0 (no_index (Proc.devRef .tc main_v71)) = res_main_v71 V0 :=
  (val1_2_keep V0 main_v71 (by decide)).trans (val1_1_main_v71 V0)
set_option maxRecDepth 8192 in
set_option maxHeartbeats 2000000 in
theorem val1_2_main_v73 (V0 : Valuation τ sig (Elt F)) : val1_2 V0 (no_index (Proc.devRef .tc main_v73)) = res_main_v73 V0 := by
  unfold val1_2
  simp only [ops_part1_1, TRef.binary, TRef.nullary, TRef.ternary, TRef.unary, TRef.toBuf, TRef.ofBuf, cast_eq]
  after_results_simp
  simp only [val1_1_main_v72, val1_1_main_call2_v3, val1_1_main_call2_v1, val1_1_main_arg3] <;> rfl
set_option maxRecDepth 8192 in
set_option maxHeartbeats 2000000 in
theorem val1_2_main_v75 (V0 : Valuation τ sig (Elt F)) : val1_2 V0 (no_index (Proc.devRef .tc main_v75)) = res_main_v75 V0 := by
  unfold val1_2
  simp only [ops_part1_1, TRef.binary, TRef.nullary, TRef.ternary, TRef.unary, TRef.toBuf, TRef.ofBuf, cast_eq]
  after_results_simp
  simp only [val1_1_main_arg0] <;> rfl
set_option maxRecDepth 8192 in
set_option maxHeartbeats 2000000 in
theorem val1_2_main_v77 (V0 : Valuation τ sig (Elt F)) : val1_2 V0 (no_index (Proc.devRef .tc main_v77)) = res_main_v77 V0 := by
  unfold val1_2
  simp only [ops_part1_1, TRef.binary, TRef.nullary, TRef.ternary, TRef.unary, TRef.toBuf, TRef.ofBuf, cast_eq]
  after_results_simp
  simp only [val1_1_main_arg0] <;> rfl
set_option maxRecDepth 8192 in
set_option maxHeartbeats 2000000 in
theorem val1_2_main_v79 (V0 : Valuation τ sig (Elt F)) : val1_2 V0 (no_index (Proc.devRef .tc main_v79)) = res_main_v79 V0 := by
  unfold val1_2
  simp only [ops_part1_1, TRef.binary, TRef.nullary, TRef.ternary, TRef.unary, TRef.toBuf, TRef.ofBuf, cast_eq]
  after_results_simp
  simp only [val1_1_main_arg0] <;> rfl
set_option maxRecDepth 8192 in
set_option maxHeartbeats 2000000 in
theorem val1_2_main_v81 (V0 : Valuation τ sig (Elt F)) : val1_2 V0 (no_index (Proc.devRef .tc main_v81)) = res_main_v81 V0 := by
  unfold val1_2
  simp only [ops_part1_1, TRef.binary, TRef.nullary, TRef.ternary, TRef.unary, TRef.toBuf, TRef.ofBuf, cast_eq]
  after_results_simp
  simp only [val1_1_main_arg0] <;> rfl
set_option maxRecDepth 8192 in
set_option maxHeartbeats 2000000 in
theorem val1_2_main_v83 (V0 : Valuation τ sig (Elt F)) : val1_2 V0 (no_index (Proc.devRef .tc main_v83)) = res_main_v83 V0 := by
  unfold val1_2
  simp only [ops_part1_1, TRef.binary, TRef.nullary, TRef.ternary, TRef.unary, TRef.toBuf, TRef.ofBuf, cast_eq]
  after_results_simp
  simp only [val1_1_main_v72, val1_1_main_call2_v3, val1_1_main_call2_v1, val1_1_main_arg3] <;> rfl
set_option maxRecDepth 8192 in
set_option maxHeartbeats 2000000 in
theorem val1_2_main_v85 (V0 : Valuation τ sig (Elt F)) : val1_2 V0 (no_index (Proc.devRef .tc main_v85)) = res_main_v85 V0 := by
  unfold val1_2
  simp only [ops_part1_1, TRef.binary, TRef.nullary, TRef.ternary, TRef.unary, TRef.toBuf, TRef.ofBuf, cast_eq]
  after_results_simp
  simp only [val1_1_main_v72, val1_1_main_call2_v3, val1_1_main_call2_v1, val1_1_main_arg3] <;> rfl
set_option maxRecDepth 8192 in
set_option maxHeartbeats 2000000 in
theorem val1_2_main_v87 (V0 : Valuation τ sig (Elt F)) : val1_2 V0 (no_index (Proc.devRef .tc main_v87)) = res_main_v87 V0 := by
  unfold val1_2
  simp only [ops_part1_1, TRef.binary, TRef.nullary, TRef.ternary, TRef.unary, TRef.toBuf, TRef.ofBuf, cast_eq]
  after_results_simp
  simp only [val1_1_main_v72, val1_1_main_call2_v3, val1_1_main_call2_v1, val1_1_main_arg3] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v88, main_v89, main_v90, main_cst_5, main_v91, main_v92, main_v93, main_cst_6, main_v94, main_v95, main_v96, main_v97, main_cst_7, main_v98, main_v99, main_v100, main_cst_8, main_v101, main_v102, main_v103, main_v104, main_v105, main_v106, main_v107, main_v108]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_v69 (V0 : Valuation τ sig (Elt F)) : val2 V0 (no_index (Proc.devRef .tc main_v69)) = res_main_v69 V0 :=
  (val2_keep V0 main_v69 (by decide)).trans (val1_2_main_v69 V0)
theorem val2_main_v71 (V0 : Valuation τ sig (Elt F)) : val2 V0 (no_index (Proc.devRef .tc main_v71)) = res_main_v71 V0 :=
  (val2_keep V0 main_v71 (by decide)).trans (val1_2_main_v71 V0)
theorem val2_main_v75 (V0 : Valuation τ sig (Elt F)) : val2 V0 (no_index (Proc.devRef .tc main_v75)) = res_main_v75 V0 :=
  (val2_keep V0 main_v75 (by decide)).trans (val1_2_main_v75 V0)
theorem val2_main_v77 (V0 : Valuation τ sig (Elt F)) : val2 V0 (no_index (Proc.devRef .tc main_v77)) = res_main_v77 V0 :=
  (val2_keep V0 main_v77 (by decide)).trans (val1_2_main_v77 V0)
theorem val2_main_v79 (V0 : Valuation τ sig (Elt F)) : val2 V0 (no_index (Proc.devRef .tc main_v79)) = res_main_v79 V0 :=
  (val2_keep V0 main_v79 (by decide)).trans (val1_2_main_v79 V0)
theorem val2_main_v81 (V0 : Valuation τ sig (Elt F)) : val2 V0 (no_index (Proc.devRef .tc main_v81)) = res_main_v81 V0 :=
  (val2_keep V0 main_v81 (by decide)).trans (val1_2_main_v81 V0)
theorem val2_main_v83 (V0 : Valuation τ sig (Elt F)) : val2 V0 (no_index (Proc.devRef .tc main_v83)) = res_main_v83 V0 :=
  (val2_keep V0 main_v83 (by decide)).trans (val1_2_main_v83 V0)
theorem val2_main_v85 (V0 : Valuation τ sig (Elt F)) : val2 V0 (no_index (Proc.devRef .tc main_v85)) = res_main_v85 V0 :=
  (val2_keep V0 main_v85 (by decide)).trans (val1_2_main_v85 V0)
theorem val2_main_v87 (V0 : Valuation τ sig (Elt F)) : val2 V0 (no_index (Proc.devRef .tc main_v87)) = res_main_v87 V0 :=
  (val2_keep V0 main_v87 (by decide)).trans (val1_2_main_v87 V0)
set_option maxRecDepth 8192 in
set_option maxHeartbeats 2000000 in
theorem val2_main_v89 (V0 : Valuation τ sig (Elt F)) : val2 V0 (no_index (Proc.devRef .tc main_v89)) = res_main_v89 V0 := by
  unfold val2
  simp only [ops_part1_2]
  after_results_simp
  simp only [val1_2_main_v73] <;> rfl
set_option maxRecDepth 8192 in
set_option maxHeartbeats 2000000 in
theorem val2_main_v96 (V0 : Valuation τ sig (Elt F)) : val2 V0 (no_index (Proc.devRef .tc main_v96)) = res_main_v96 V0 := by
  unfold val2
  simp only [ops_part1_2]
  after_results_simp
  simp only [val1_2_main_v87, val1_2_main_v83, val1_2_main_v79, val1_2_main_v75] <;> rfl
set_option maxRecDepth 8192 in
set_option maxHeartbeats 2000000 in
theorem val2_main_v103 (V0 : Valuation τ sig (Elt F)) : val2 V0 (no_index (Proc.devRef .tc main_v103)) = res_main_v103 V0 := by
  unfold val2
  simp only [ops_part1_2]
  after_results_simp
  simp only [val1_2_main_v73, val1_2_main_v85, val1_2_main_v81, val1_2_main_v77] <;> rfl
set_option maxRecDepth 8192 in
set_option maxHeartbeats 2000000 in
theorem val2_main_v106 (V0 : Valuation τ sig (Elt F)) : val2 V0 (no_index (Proc.devRef .tc main_v106)) = res_main_v106 V0 := by
  unfold val2
  simp only [ops_part1_2]
  after_results_simp
  simp only [val1_2_main_v83, val1_2_main_v75, val1_2_main_v87, val1_2_main_v79] <;> rfl
set_option maxRecDepth 8192 in
set_option maxHeartbeats 2000000 in
theorem val2_main_v107 (V0 : Valuation τ sig (Elt F)) : val2 V0 (no_index (Proc.devRef .tc main_v107)) = maximumf (res_main_v81 V0) (res_main_v89 V0) := by
  unfold val2
  simp only [ops_part1_2]
  after_results_simp
  simp only [val1_2_main_v73, val1_2_main_v81] <;> rfl
set_option maxRecDepth 8192 in
set_option maxHeartbeats 2000000 in
theorem val2_main_v108 (V0 : Valuation τ sig (Elt F)) : val2 V0 (no_index (Proc.devRef .tc main_v108)) = minimumf (res_main_v77 V0) (res_main_v85 V0) := by
  unfold val2
  simp only [ops_part1_2]
  after_results_simp
  simp only [val1_2_main_v85, val1_2_main_v77] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v109, main_v110, main_v111, main_v112, main_cst_9, main_v113, main_v114, main_v115, main_v116, main_v117, main_cst_10, main_v118, main_v119, main_v120, main_v121, main_v122, main_v123, main_v124, main_v125, main_v126, main_v127, main_v128, main_cst_11, main_v129, main_v130, main_v131, main_cst_12, main_v132, main_v133, main_v134, main_v135, main_v136, main_v137, main_v138, main_v139, main_cst_13, main_v140, main_v141, main_v142, main_v143, main_v144, main_cst_14, main_v145, main_cst_15, main_v146, main_v147, main_v148, main_v149, main_cst_16, main_v150, main_v151, main_cst_17, main_v152, main_v153, main_cst_18, main_v154, main_v155, main_v156, main_v157, main_v158]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_v69 (V0 : Valuation τ sig (Elt F)) : val3 V0 (no_index (Proc.devRef .tc main_v69)) = res_main_v69 V0 :=
  (val3_keep V0 main_v69 (by decide)).trans (val2_main_v69 V0)
theorem val3_main_v71 (V0 : Valuation τ sig (Elt F)) : val3 V0 (no_index (Proc.devRef .tc main_v71)) = res_main_v71 V0 :=
  (val3_keep V0 main_v71 (by decide)).trans (val2_main_v71 V0)
set_option maxRecDepth 8192 in
set_option maxHeartbeats 2000000 in
theorem val3_main_v145 (V0 : Valuation τ sig (Elt F)) : val3 V0 (no_index (Proc.devRef .tc main_v145)) = Host.reduceAdd (mulf (addf (subf (broadcastInDim S16x20000 ![] bcast_S_S16x20000 (constant S_ .f32 0x3F800000#32)) (Host.divf (res_main_v120 V0) (addf (subf (addf (mulf (subf (res_main_v79 V0) (res_main_v75 V0)) (subf (res_main_v81 V0) (res_main_v77 V0))) (mulf (subf (res_main_v87 V0) (res_main_v83 V0)) (subf (res_main_v89 V0) (res_main_v85 V0)))) (res_main_v120 V0)) (broadcastInDim S16x20000 ![] bcast_S_S16x20000 (constant S_ .f32 0x33D6BF95#32))))) (Host.divf (addf (mulf (res_main_v96 V0) (res_main_v96 V0)) (mulf (res_main_v103 V0) (res_main_v103 V0))) (addf (addf (mulf (res_main_v106 V0) (res_main_v106 V0)) (mulf (res_main_v109 V0) (res_main_v109 V0))) (broadcastInDim S16x20000 ![] bcast_S_S16x20000 (constant S_ .f32 0x33D6BF95#32))))) (res_main_v69 V0)) (constant S_ .f32 0x00000000#32) reducesTo_S16x20000_S_d0_1 h_S_ := by
  unfold val3
  simp only [ops_part2]
  after_results_simp
  simp only [val2_main_v69, val2_main_v108, val2_main_v107, val2_main_v106, val2_main_v103, val2_main_v96, val2_main_v85, val2_main_v89, val2_main_v83, val2_main_v87, val2_main_v77, val2_main_v81, val2_main_v75, val2_main_v79] <;> rfl
set_option maxRecDepth 8192 in
set_option maxHeartbeats 2000000 in
theorem val3_main_v158 (V0 : Valuation τ sig (Elt F)) : val3 V0 (no_index (Proc.devRef .tc main_v158)) = addf (mulf (res_main_v69 V0) (Host.log (addf (V0 (Proc.devRef .tc main_arg1)) (broadcastInDim S16x20000 ![] bcast_S_S16x20000 (constant S_ .f32 0x2B8CBCCC#32))))) (mulf (subf (broadcastInDim S16x20000 ![] bcast_S_S16x20000 (constant S_ .f32 0x3F800000#32)) (res_main_v69 V0)) (Host.log (addf (subf (broadcastInDim S16x20000 ![] bcast_S_S16x20000 (constant S_ .f32 0x3F800000#32)) (V0 (Proc.devRef .tc main_arg1))) (broadcastInDim S16x20000 ![] bcast_S_S16x20000 (constant S_ .f32 0x2B8CBCCC#32))))) := by
  unfold val3
  simp only [ops_part2]
  after_results_simp
  simp only [val2_main_arg1, val2_main_v69] <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v159, main_cst_19, main_v160, main_v161, main_v162, main_c_20, main_v163, main_v164, main_c_21, main_v165, main_v166, main_v167, main_cst_22, main_v168, main_v169, main_cst_23, main_v170, main_v171, main_v172, main_v173, main_cst_24, main_v174, main_v175, main_v176, main_cst_25, main_v177, main_v178, main_cst_26, main_v179, main_v180, main_cst_27, main_v181, main_v182, main_v183, main_v184, main_v185, main_v186, main_v187, main_v188, main_v189, main_v190, main_cst_28, main_v191, main_v192, main_cst_29, main_v193, main_v194, main_v195, main_v196, main_cst_30, main_v197, main_v198, main_cst_31, main_v199, main_v200, main_cst_32, main_v201, main_v202, main_v203, main_cst_33]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_v69 (V0 : Valuation τ sig (Elt F)) : val4 V0 (no_index (Proc.devRef .tc main_v69)) = res_main_v69 V0 :=
  (val4_keep V0 main_v69 (by decide)).trans (val3_main_v69 V0)
theorem val4_main_v71 (V0 : Valuation τ sig (Elt F)) : val4 V0 (no_index (Proc.devRef .tc main_v71)) = res_main_v71 V0 :=
  (val4_keep V0 main_v71 (by decide)).trans (val3_main_v71 V0)
theorem val4_main_v145 (V0 : Valuation τ sig (Elt F)) : val4 V0 (no_index (Proc.devRef .tc main_v145)) = Host.reduceAdd (mulf (addf (subf (broadcastInDim S16x20000 ![] bcast_S_S16x20000 (constant S_ .f32 0x3F800000#32)) (Host.divf (res_main_v120 V0) (addf (subf (addf (mulf (subf (res_main_v79 V0) (res_main_v75 V0)) (subf (res_main_v81 V0) (res_main_v77 V0))) (mulf (subf (res_main_v87 V0) (res_main_v83 V0)) (subf (res_main_v89 V0) (res_main_v85 V0)))) (res_main_v120 V0)) (broadcastInDim S16x20000 ![] bcast_S_S16x20000 (constant S_ .f32 0x33D6BF95#32))))) (Host.divf (addf (mulf (res_main_v96 V0) (res_main_v96 V0)) (mulf (res_main_v103 V0) (res_main_v103 V0))) (addf (addf (mulf (res_main_v106 V0) (res_main_v106 V0)) (mulf (res_main_v109 V0) (res_main_v109 V0))) (broadcastInDim S16x20000 ![] bcast_S_S16x20000 (constant S_ .f32 0x33D6BF95#32))))) (res_main_v69 V0)) (constant S_ .f32 0x00000000#32) reducesTo_S16x20000_S_d0_1 h_S_ :=
  (val4_keep V0 main_v145 (by decide)).trans (val3_main_v145 V0)
set_option maxRecDepth 8192 in
set_option maxHeartbeats 2000000 in
theorem val4_main_v162 (V0 : Valuation τ sig (Elt F)) : val4 V0 (no_index (Proc.devRef .tc main_v162)) = mulf (Host.negf (addf (mulf (res_main_v69 V0) (Host.log (addf (V0 (Proc.devRef .tc main_arg1)) (broadcastInDim S16x20000 ![] bcast_S_S16x20000 (constant S_ .f32 0x2B8CBCCC#32))))) (mulf (subf (broadcastInDim S16x20000 ![] bcast_S_S16x20000 (constant S_ .f32 0x3F800000#32)) (res_main_v69 V0)) (Host.log (addf (subf (broadcastInDim S16x20000 ![] bcast_S_S16x20000 (constant S_ .f32 0x3F800000#32)) (V0 (Proc.devRef .tc main_arg1))) (broadcastInDim S16x20000 ![] bcast_S_S16x20000 (constant S_ .f32 0x2B8CBCCC#32))))))) (subf (broadcastInDim S16x20000 ![] bcast_S_S16x20000 (constant S_ .f32 0x3F800000#32)) (res_main_v69 V0)) := by
  unfold val4
  simp only [ops_part3]
  after_results_simp
  simp only [val3_main_v69, val3_main_v158] <;> rfl
set_option maxRecDepth 8192 in
set_option maxHeartbeats 2000000 in
theorem val4_main_v167 (V0 : Valuation τ sig (Elt F)) : val4 V0 (no_index (Proc.devRef .tc main_v167)) = minsi (muli (res_main_v71 V0) (broadcastInDim S16 ![] bcast_S_S16 (constantI S_ 32 3#32))) (subi (broadcastInDim S16 ![] bcast_S_S16 (constantI S_ 32 20000#32)) (res_main_v71 V0)) := by
  unfold val4
  simp only [ops_part3]
  after_results_simp
  simp only [val3_main_v71] <;> rfl
set_option maxRecDepth 8192 in
set_option maxHeartbeats 2000000 in
theorem val4_main_v173 (V0 : Valuation τ sig (Elt F)) : val4 V0 (no_index (Proc.devRef .tc main_v173)) = res_main_v173 V0 := by
  unfold val4
  simp only [ops_part3]
  after_results_simp
  simp only [val3_main_arg1] <;> rfl
set_option maxRecDepth 8192 in
set_option maxHeartbeats 2000000 in
theorem val4_main_v189 (V0 : Valuation τ sig (Elt F)) : val4 V0 (no_index (Proc.devRef .tc main_v189)) = addf (subf (maximumf (res_main_v173 V0) (broadcastInDim S16x20000 ![] bcast_S_S16x20000 (constant S_ .f32 0x00000000#32))) (mulf (res_main_v173 V0) (res_main_v174 V0))) (Host.log1p (Host.exp (Host.negf (Host.absf (res_main_v173 V0))))) := by
  unfold val4
  simp only [ops_part3]
  after_results_simp
  simp only [val3_main_arg1] <;> rfl
set_option maxRecDepth 8192 in
set_option maxHeartbeats 2000000 in
theorem val4_main_v196 (V0 : Valuation τ sig (Elt F)) : val4 V0 (no_index (Proc.devRef .tc main_v196)) = addf (mulf (res_main_v180 V0) (res_main_v174 V0)) (mulf (subf (broadcastInDim S16x20000 ![] bcast_S_S16x20000 (constant S_ .f32 0x3F800000#32)) (res_main_v180 V0)) (subf (broadcastInDim S16x20000 ![] bcast_S_S16x20000 (constant S_ .f32 0x3F800000#32)) (res_main_v174 V0))) := by
  unfold val4
  simp only [ops_part3]
  after_results_simp
  simp only [val3_main_arg1] <;> rfl
set_option maxRecDepth 8192 in
set_option maxHeartbeats 2000000 in
theorem val4_main_v203 (V0 : Valuation τ sig (Elt F)) : val4 V0 (no_index (Proc.devRef .tc main_v203)) = addf (mulf (broadcastInDim S16x20000 ![] bcast_S_S16x20000 (constant S_ .f32 0x3E800000#32)) (res_main_v174 V0)) (mulf (broadcastInDim S16x20000 ![] bcast_S_S16x20000 (constant S_ .f32 0x3F400000#32)) (subf (broadcastInDim S16x20000 ![] bcast_S_S16x20000 (constant S_ .f32 0x3F800000#32)) (res_main_v174 V0))) := by
  unfold val4
  simp only [ops_part3]
  after_results_simp
  all_goals rfl
set_option maxRecDepth 8192 in
set_option maxHeartbeats 2000000 in
theorem val4_main_cst_33 (V0 : Valuation τ sig (Elt F)) : val4 V0 (no_index (Proc.devRef .tc main_cst_33)) = constant S_ .f32 0x3F800000#32 := by
  unfold val4
  simp only [ops_part3]
  after_results_simp
  all_goals rfl

/-- The device's buffer contents after @main's first 5 windows. -/
def val5 (V0 : Valuation τ sig (Elt F)) : Valuation τ sig (Elt F) := after ops_part4 (val4 V0)
/-- The buffers that window `main_part4`'s operations write. -/
abbrev ops_part4_W : List (Ref sig .tc) := [main_v204, main_v205, main_v206, main_v207, main_v208, main_cst_34, main_v209, main_v210, main_v211, main_cst_35, main_v212, main_v213, main_cst_36, main_v214, main_v215, main_cst_37, main_v216, main_v217, main_v218, main_v219, main_v220, main_v221, main_v222, main_v223, main_v224, main_v225, main_cst_38, main_v226, main_v227, main_cst_39, main_v228, main_v229, main_v230, main_v231, main_cst_40, main_v232, main_v233, main_cst_41, main_v234, main_v235, main_cst_42, main_v236, main_v237, main_v238, main_cst_43, main_v239, main_v240, main_v241, main_v242, main_v243, main_v244, main_v245_0, main_v245_1, main_v246, main_v247, main_v248, main_v249, main_v250, main_v251, main_v252]
set_option maxRecDepth 8192 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part4` does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_v69 (V0 : Valuation τ sig (Elt F)) : val5 V0 (no_index (Proc.devRef .tc main_v69)) = res_main_v69 V0 :=
  (val5_keep V0 main_v69 (by decide)).trans (val4_main_v69 V0)
theorem val5_main_v71 (V0 : Valuation τ sig (Elt F)) : val5 V0 (no_index (Proc.devRef .tc main_v71)) = res_main_v71 V0 :=
  (val5_keep V0 main_v71 (by decide)).trans (val4_main_v71 V0)
theorem val5_main_v145 (V0 : Valuation τ sig (Elt F)) : val5 V0 (no_index (Proc.devRef .tc main_v145)) = Host.reduceAdd (mulf (addf (subf (broadcastInDim S16x20000 ![] bcast_S_S16x20000 (constant S_ .f32 0x3F800000#32)) (Host.divf (res_main_v120 V0) (addf (subf (addf (mulf (subf (res_main_v79 V0) (res_main_v75 V0)) (subf (res_main_v81 V0) (res_main_v77 V0))) (mulf (subf (res_main_v87 V0) (res_main_v83 V0)) (subf (res_main_v89 V0) (res_main_v85 V0)))) (res_main_v120 V0)) (broadcastInDim S16x20000 ![] bcast_S_S16x20000 (constant S_ .f32 0x33D6BF95#32))))) (Host.divf (addf (mulf (res_main_v96 V0) (res_main_v96 V0)) (mulf (res_main_v103 V0) (res_main_v103 V0))) (addf (addf (mulf (res_main_v106 V0) (res_main_v106 V0)) (mulf (res_main_v109 V0) (res_main_v109 V0))) (broadcastInDim S16x20000 ![] bcast_S_S16x20000 (constant S_ .f32 0x33D6BF95#32))))) (res_main_v69 V0)) (constant S_ .f32 0x00000000#32) reducesTo_S16x20000_S_d0_1 h_S_ :=
  (val5_keep V0 main_v145 (by decide)).trans (val4_main_v145 V0)
set_option maxRecDepth 8192 in
set_option maxHeartbeats 2000000 in
theorem val5_main_v208 (V0 : Valuation τ sig (Elt F)) : val5 V0 (no_index (Proc.devRef .tc main_v208)) = mulf (mulf (addf (mulf (broadcastInDim S16x20000 ![] bcast_S_S16x20000 (constant S_ .f32 0x3E800000#32)) (res_main_v174 V0)) (mulf (broadcastInDim S16x20000 ![] bcast_S_S16x20000 (constant S_ .f32 0x3F400000#32)) (subf (broadcastInDim S16x20000 ![] bcast_S_S16x20000 (constant S_ .f32 0x3F800000#32)) (res_main_v174 V0)))) (mulf (res_main_v205 V0) (res_main_v205 V0))) (addf (subf (maximumf (res_main_v173 V0) (broadcastInDim S16x20000 ![] bcast_S_S16x20000 (constant S_ .f32 0x00000000#32))) (mulf (res_main_v173 V0) (res_main_v174 V0))) (Host.log1p (Host.exp (Host.negf (Host.absf (res_main_v173 V0)))))) := by
  unfold val5
  simp only [ops_part4]
  after_results_simp
  simp only [val4_main_v189, val4_main_v196, val4_main_cst_33, val4_main_v203] <;> rfl
set_option maxRecDepth 8192 in
set_option maxHeartbeats 2000000 in
theorem val5_main_v245_1 (V0 : Valuation τ sig (Elt F)) : val5 V0 (no_index (Proc.devRef .tc main_v245_1)) = (Host.sort2 S16x20000 1 comparator_f32_f32_d1 (res_main_v244 V0) (res_main_v243 V0)).2 := by
  unfold val5
  simp only [ops_part4]
  after_results_simp
  simp only [val4_main_v173, val4_main_v162] <;> rfl
set_option maxRecDepth 8192 in
set_option maxHeartbeats 2000000 in
theorem val5_main_v252 (V0 : Valuation τ sig (Elt F)) : val5 V0 (no_index (Proc.devRef .tc main_v252)) = uitofp .f32 (cmpi .slt (broadcastInDim S16x20000 ![0, 1] bcast_S1x20000_S16x20000_0_1 (broadcastInDim S1x20000 ![1] bcast_S20000_S1x20000_1 (iotaInDim S20000 32 0))) (broadcastInDim S16x20000 ![0, 1] bcast_S16x1_S16x20000_0_1 (broadcastInDim S16x1 ![0] bcast_S16_S16x1_0 (minsi (muli (res_main_v71 V0) (broadcastInDim S16 ![] bcast_S_S16 (constantI S_ 32 3#32))) (subi (broadcastInDim S16 ![] bcast_S_S16 (constantI S_ 32 20000#32)) (res_main_v71 V0)))))) := by
  unfold val5
  simp only [ops_part4]
  after_results_simp
  simp only [val4_main_v167] <;> rfl

/-- The device's buffer contents after @main's first 6 windows. -/
def val6 (V0 : Valuation τ sig (Elt F)) : Valuation τ sig (Elt F) := after ops_part5 (val5 V0)
/-- The buffers that window `main_part5`'s operations write. -/
abbrev ops_part5_W : List (Ref sig .tc) := [main_v253, main_cst_44, main_v254, main_v255, main_cst_45, main_v256, main_v257, main_c_46, main_v258, main_c_47, main_v259, main_v260, main_v261, main_v262, main_cst_48, main_v263, main_v264, main_v265, main_v266, main_v267]
set_option maxRecDepth 8192 in
theorem ops_part5_writes : (ops_part5 : List (HloOp τ sig (Elt F))).Forall fun op => op.writes ⊆ (ops_part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part5` does not write keeps its contents through it. -/
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
set_option maxRecDepth 8192 in
set_option maxHeartbeats 2000000 in
theorem val6_main_v265 (V0 : Valuation τ sig (Elt F)) : val6 V0 (no_index (Proc.devRef .tc main_v265)) = shapeCast _ (addf (mulf (constant S_ .f32 0x40000000#32) (res_main_v261 V0)) (res_main_v262 V0)) shapeCasts_S_S1x1 := by
  unfold val6
  simp only [ops_part5]
  after_results_simp
  simp only [val5_main_v71, val5_main_v252, val5_main_v245_1, val5_main_v69, val5_main_v208, val5_main_v145] <;> rfl
set_option maxRecDepth 8192 in
set_option maxHeartbeats 2000000 in
theorem val6_main_v266 (V0 : Valuation τ sig (Elt F)) : val6 V0 (no_index (Proc.devRef .tc main_v266)) = shapeCast _ (res_main_v262 V0) shapeCasts_S_S1x1 := by
  unfold val6
  simp only [ops_part5]
  after_results_simp
  simp only [val5_main_v71, val5_main_v252, val5_main_v245_1, val5_main_v69, val5_main_v208] <;> rfl
set_option maxRecDepth 8192 in
set_option maxHeartbeats 2000000 in
theorem val6_main_v267 (V0 : Valuation τ sig (Elt F)) : val6 V0 (no_index (Proc.devRef .tc main_v267)) = shapeCast _ (res_main_v261 V0) shapeCasts_S_S1x1 := by
  unfold val6
  simp only [ops_part5]
  after_results_simp
  simp only [val5_main_v71, val5_main_v145] <;> rfl

theorem after_ops (V0 : Valuation τ sig (Elt F)) : after ops V0 = val6 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v265) = shapeCast _ (addf (mulf (constant S_ .f32 0x40000000#32) (res_main_v261 (launchContents m c))) (res_main_v262 (launchContents m c))) shapeCasts_S_S1x1
      ∧ r.2.mem ((c.tc : Thread nD τ).loc main_v266) = shapeCast _ (res_main_v262 (launchContents m c)) shapeCasts_S_S1x1
      ∧ r.2.mem ((c.tc : Thread nD τ).loc main_v267) = shapeCast _ (res_main_v261 (launchContents m c)) shapeCasts_S_S1x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v265).trans ((congrFun (after_ops (launchContents m c)) (Proc.devRef .tc main_v265)).trans (val6_main_v265 (launchContents m c))),
      (h c main_v266).trans ((congrFun (after_ops (launchContents m c)) (Proc.devRef .tc main_v266)).trans (val6_main_v266 (launchContents m c))),
      (h c main_v267).trans ((congrFun (after_ops (launchContents m c)) (Proc.devRef .tc main_v267)).trans (val6_main_v267 (launchContents m c))),
      (h c main_arg0).trans ((congrFun (after_ops (launchContents m c)) (Proc.devRef .tc main_arg0)).trans (val6_main_arg0 (launchContents m c))),
      (h c main_arg1).trans ((congrFun (after_ops (launchContents m c)) (Proc.devRef .tc main_arg1)).trans (val6_main_arg1 (launchContents m c))),
      (h c main_arg2).trans ((congrFun (after_ops (launchContents m c)) (Proc.devRef .tc main_arg2)).trans (val6_main_arg2 (launchContents m c))),
      (h c main_arg3).trans ((congrFun (after_ops (launchContents m c)) (Proc.devRef .tc main_arg3)).trans (val6_main_arg3 (launchContents m c)))⟩)
    (run_seq scopedRefs_eq scopedSems_eq defs main (fun _ => ops) main_eq (fun _ => ops_sub) m ρ fun _ => ops_fresh)

end Cert.ReferenceIdeal.Value

end
-- ==== Proof.KI.Results.lean ====
/- The three results of the kernel are the three results of the reference. -/
module

public import proofs.«01_k».proof.Defs
public import proofs.«01_k».proof.Proof.KI.Total
public import proofs.«01_k».proof.Proof.KI.Both
public import proofs.«01_k».proof.Proof.KI.Ordered
public import proofs.«01_k».proof.Proof.KI.Boxes
public import proofs.«01_k».proof.Proof.RI.Loc
public import proofs.«01_k».proof.Proof.RI.Conf
public import proofs.«01_k».proof.Proof.RI.Run
public import Idealize.ShloMosaic.Lib.Quiescent

@[expose] public section

set_option maxRecDepth 16384

noncomputable section

namespace Cert.Proof

open Idealize.ShloMosaic Idealize.ShloMosaic.TcCoe Idealize.SL.Sem

theorem inOrder (m : (ℓ : Loc Cert.KernelIdeal.nD Cert.KernelIdeal.τ Cert.KernelIdeal.sig) → Buf (Elt Ideal) ℓ)
    (h : Cert.Pre_KernelIdeal_well_posed m) (c : Dev Cert.KernelIdeal.nD) : Cert.KernelIdeal.Own.InOrder m c :=
  ⟨(Cert.Pre_well_posed.Own.ordered _ _ _ _ (h c)).1, (Cert.Pre_well_posed.Own.ordered _ _ _ _ (h c)).2.1⟩

theorem inOrder_alone (m : (ℓ : Loc Cert.KernelIdeal.nD Cert.KernelIdeal.τ Cert.KernelIdeal.sig) → Buf (Elt Ideal) ℓ)
    (h : Cert.Pre_KernelIdeal_boxes_in_order m) (c : Dev Cert.KernelIdeal.nD) : Cert.KernelIdeal.Own.InOrder m c :=
  ⟨(Cert.Pre_boxes_in_order.Own.ordered _ _ _ _ (h c)).1, (Cert.Pre_boxes_in_order.Own.ordered _ _ _ _ (h c)).2⟩

theorem onSteps (m : (ℓ : Loc Cert.KernelIdeal.nD Cert.KernelIdeal.τ Cert.KernelIdeal.sig) → Buf (Elt Ideal) ℓ)
    (h : Cert.Pre_KernelIdeal_well_posed m) (c : Dev Cert.KernelIdeal.nD) (b : Fin 16) :
    ∃ q : Fin 20000 → ℝ, Cert.Own.Grid (Cert.KernelIdeal.Own.confK m c b) q :=
  (Cert.Pre_well_posed.Own.ordered _ _ _ _ (h c)).2.2 b

/-- The reference ends, its arguments unchanged, every counter at zero. -/
theorem quietR (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2, sem_eq_zero_of_no_sems rfl _⟩) (Cert.ReferenceIdeal.Value.run m ρ)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Both memories hold the same arguments. -/
def SameArgs : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

variable {m m' c}

theorem same_anchors (e : SameArgs m m' c) : Cert.ReferenceIdeal.Value.anchorsR (StableHlo.launchContents m' c) = Cert.KernelIdeal.Own.anchorsK m c := by
  funext n k; exact congrFun e.2.2.1 (ix2 n k)

theorem same_boxes (e : SameArgs m m' c) : Cert.ReferenceIdeal.Value.boxesR (StableHlo.launchContents m' c) = Cert.KernelIdeal.Own.boxesK m c := by
  funext b g k; exact congrFun e.2.2.2 (ix3 b g k)

theorem same_pred (e : SameArgs m m' c) : Cert.ReferenceIdeal.Value.predR (StableHlo.launchContents m' c) = Cert.KernelIdeal.Own.predK m c := by
  funext b n k; exact congrFun e.1 (ix3 b n k)

theorem same_conf (e : SameArgs m m' c) : Cert.ReferenceIdeal.Value.confR (StableHlo.launchContents m' c) = Cert.KernelIdeal.Own.confK m c := by
  funext b n; exact congrFun e.2.1 (ix2 b n)

theorem good (H : Cert.KernelIdeal.Own.InOrder m c) (e : SameArgs m m' c) : Cert.ReferenceIdeal.Value.Good (StableHlo.launchContents m' c) where
  anch n := by rw [same_anchors e]; exact H.anch n
  box b g := by rw [same_boxes e]; exact H.box b g

theorem same_total (e : SameArgs m m' c) :
    Cert.ReferenceIdeal.Value.total (Cert.ReferenceIdeal.Value.anchorsR (StableHlo.launchContents m' c)) (Cert.ReferenceIdeal.Value.boxesR (StableHlo.launchContents m' c))
      = Cert.KernelIdeal.Own.totalK m c := by
  rw [same_anchors e, same_boxes e]; rfl

theorem third_eq (H : Cert.KernelIdeal.Own.InOrder m c) (e : SameArgs m m' c) (i : Cert.KernelIdeal.S1x1.Idx) :
    @Eq EReal (Cert.ReferenceIdeal.Value.res_main_v261 (StableHlo.launchContents m' c) ix0) (Cert.KernelIdeal.Own.totLoc (Cert.KernelIdeal.Own.atEnd m c) i) := by
  rw [Cert.ReferenceIdeal.Value.v261_ap (good H e), Cert.KernelIdeal.Own.totLoc_ap H, same_total e, same_anchors e, same_boxes e, same_pred e]

theorem second_eq (H : Cert.KernelIdeal.Own.InOrder m c) {q : Fin 16 → Fin 20000 → ℝ} (Q : ∀ b, Cert.Own.Grid (Cert.KernelIdeal.Own.confK m c b) (q b))
    (e : SameArgs m m' c) (i : Cert.KernelIdeal.S1x1.Idx) :
    @Eq EReal (Cert.ReferenceIdeal.Value.res_main_v262 (StableHlo.launchContents m' c) ix0) (Cert.KernelIdeal.Own.totConf (Cert.KernelIdeal.Own.atEnd m c) i) := by
  rw [Cert.ReferenceIdeal.Value.v262_ap (good H e) (q := q) (fun b => by rw [same_conf e]; exact Q b), Cert.KernelIdeal.Own.totConf_ap H, same_total e, same_anchors e, same_boxes e, same_conf e,
    Cert.KernelIdeal.Own.end_conf H Q]

theorem first_eq (H : Cert.KernelIdeal.Own.InOrder m c) {q : Fin 16 → Fin 20000 → ℝ} (Q : ∀ b, Cert.Own.Grid (Cert.KernelIdeal.Own.confK m c b) (q b))
    (e : SameArgs m m' c) (i : Cert.KernelIdeal.S1x1.Idx) :
    @Eq EReal (addf (mulf (constant Cert.ReferenceIdeal.S_ .f32 0x40000000#32) (Cert.ReferenceIdeal.Value.res_main_v261 (StableHlo.launchContents m' c))) (Cert.ReferenceIdeal.Value.res_main_v262 (StableHlo.launchContents m' c)) ix0)
      (Cert.KernelIdeal.Own.totLoss (Cert.KernelIdeal.Own.atEnd m c) i) := by
  rw [Cert.KernelIdeal.Own.totLoss_ap H, ← third_eq H e i, ← second_eq H Q e i]
  rfl

end

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KB.Whole
public import proofs.«01_k».proof.Proof.KI.Whole
public import proofs.«01_k».proof.Proof.KI.Results

@[expose] public section

noncomputable section

namespace Cert.Proof

open Idealize.ShloMosaic Idealize.ShloMosaic.TcCoe Idealize.SL.Sem

/-- A scalar laid out as a block of one place holds the scalar. -/
theorem cast_scalar (x : FVec Ideal Cert.ReferenceIdeal.S_ .f32) (h : Cert.ReferenceIdeal.S_.ShapeCasts Cert.ReferenceIdeal.S1x1) (i : Cert.ReferenceIdeal.S1x1.Idx) :
    shapeCast Cert.ReferenceIdeal.S1x1 x h i = x ix0 :=
  congrArg x (funext fun a => a.elim0)

/-- The results of the two programs are equal. -/
theorem equal : Cert.algebraic_KernelIdeal_ReferenceIdeal_pre_well_posed := by
  intro m g m' g' hp e
  have H := inOrder m hp
  refine ⟨fun c => Cert.KernelIdeal.Own.totLoss (Cert.KernelIdeal.Own.atEnd m c), fun c => Cert.KernelIdeal.Own.totConf (Cert.KernelIdeal.Own.atEnd m c),
    fun c => Cert.KernelIdeal.Own.totLoc (Cert.KernelIdeal.Own.atEnd m c), Cert.KernelIdeal.Own.results m g, ?_⟩
  refine (θ_run _ _ _).mono (fun r h c => ?_) (Cert.ReferenceIdeal.Value.run m' g')
  obtain ⟨h0, h1, h2, h3⟩ := h c
  choose q Q using onSteps m hp c
  refine ⟨h0.trans (funext fun i => ?_), h1.trans (funext fun i => ?_), h2.trans (funext fun i => ?_), h3⟩
  · exact (cast_scalar _ _ i).trans (first_eq (H c) Q (e c) i)
  · exact (cast_scalar _ _ i).trans (second_eq (H c) Q (e c) i)
  · exact (cast_scalar _ _ i).trans (third_eq (H c) (e c) i)

/-- The third results of the two programs are equal whatever the confidences. -/
theorem equal_third : Cert.algebraic_KernelIdeal_ReferenceIdeal_on_third_result_pre_boxes_in_order := by
  intro m g m' g' hp e
  have H := inOrder_alone m hp
  refine ⟨fun c => Cert.KernelIdeal.Own.totLoss (Cert.KernelIdeal.Own.atEnd m c), fun c => Cert.KernelIdeal.Own.totConf (Cert.KernelIdeal.Own.atEnd m c),
    fun c => Cert.KernelIdeal.Own.totLoc (Cert.KernelIdeal.Own.atEnd m c), ?_, ?_⟩
  · refine (θ_run _ _ _).mono (fun r h c => ?_) (Cert.KernelIdeal.Own.results m g)
    obtain ⟨h0, h1, h2, h3⟩ := h c
    exact ⟨fun i _ => congrFun h0 i, fun i _ => congrFun h1 i, fun i _ => congrFun h2 i, h3⟩
  · refine (θ_run _ _ _).mono (fun r h c => ?_) (Cert.ReferenceIdeal.Value.run m' g')
    obtain ⟨h0, h1, h2, h3⟩ := h c
    refine ⟨fun i hi => absurd (show (0#1 : BitVec 1) = 1#1 from hi) (by decide), fun i hi => absurd (show (0#1 : BitVec 1) = 1#1 from hi) (by decide), fun i _ => ?_, h3⟩
    exact (congrFun h2 i).trans ((cast_scalar _ _ i).trans (third_eq (H c) (e c) i))

/-- All programs run and are quiet at the end; the ideal one is the printed one read at exact numbers; its results are the reference's, the third whatever the confidences. -/
theorem claim : Cert.Claim :=
  ⟨Cert.Kernel.Gen.facts, Cert.KernelIdeal.Gen.facts, Cert.ReferenceIdeal.Gen.facts, Cert.Pre_well_posed.Own.given, Cert.Pre_boxes_in_order.Own.given, Cert.Pre_boxes_in_order.Own.chosen,
    fun m ρ _ => Cert.Kernel.Own.quiet m ρ, fun m ρ _ => Cert.KernelIdeal.Own.quiet m ρ, fun m ρ _ => Cert.KernelIdeal.Own.quiet m ρ, fun m ρ _ => Cert.KernelIdeal.Own.quiet m ρ,
    fun m ρ _ => quietR m ρ, fun m ρ _ => quietR m ρ, fun m ρ _ => quietR m ρ, trivial, equal, equal_third⟩

end Cert.Proof

end
